-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones [hPre_finite_with_ones : Cert.Pre_finite_with_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones [hPre_finite_with_ones : Cert.Pre_finite_with_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_nonneg_gates [hPre_nonneg_gates : Cert.Pre_nonneg_gates.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_nonneg_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_nonneg_gates [hPre_nonneg_gates : Cert.Pre_nonneg_gates.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_nonneg_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_maps [hPre_finite_maps : Cert.Pre_finite_maps.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_maps.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_maps [hPre_finite_maps : Cert.Pre_finite_maps.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_maps.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_with_ones [hKernelIdeal : Cert.KernelIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_with_ones [hReferenceIdeal : Cert.ReferenceIdeal.Facts] [hPre_finite_with_ones : Cert.Pre_finite_with_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_nonneg_gates [hKernel2Ideal : Cert.Kernel2Ideal.Facts] [hPre_nonneg_gates : Cert.Pre_nonneg_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_nonneg_gates m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_nonneg_gates [hReference2Ideal : Cert.Reference2Ideal.Facts] [hPre_nonneg_gates : Cert.Pre_nonneg_gates.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_nonneg_gates m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_maps [hKernel3Ideal : Cert.Kernel3Ideal.Facts] [hPre_finite_maps : Cert.Pre_finite_maps.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_maps m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_maps [hReference3Ideal : Cert.Reference3Ideal.Facts] [hPre_finite_maps : Cert.Pre_finite_maps.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_maps m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite_with_ones [hKernelIdeal : Cert.KernelIdeal.Facts] [hReferenceIdeal : Cert.ReferenceIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_nonneg_gates [hKernel2Ideal : Cert.Kernel2Ideal.Facts] [hReference2Ideal : Cert.Reference2Ideal.Facts] [hPre_nonneg_gates : Cert.Pre_nonneg_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_nonneg_gates m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite_maps [hKernel3Ideal : Cert.Kernel3Ideal.Facts] [hReference3Ideal : Cert.Reference3Ideal.Facts] [hPre_finite_maps : Cert.Pre_finite_maps.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_maps m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_4)) (v2 : (c : Dev Cert.Kernel4Ideal.nD) → Buf (Elt Ideal) ((c.tc : Thread Cert.Kernel4Ideal.nD Cert.Kernel4Ideal.τ).loc Cert.Kernel4Ideal.main_v46_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_4) = v1 c
          ∧ r.2.mem ((c.tc : Thread Cert.Kernel4Ideal.nD Cert.Kernel4Ideal.τ).loc Cert.Kernel4Ideal.main_v46_7) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v99) = v0 c
          ∧ r.2.mem ((c.tc : Thread Cert.Reference4Ideal.nD Cert.Reference4Ideal.τ).loc Cert.Reference4Ideal.main_v100) = v1 c
          ∧ r.2.mem ((c.tc : Thread Cert.Reference4Ideal.nD Cert.Reference4Ideal.τ).loc Cert.Reference4Ideal.main_v110) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_with_ones : Cert.Pre_finite_with_ones.Facts) (hPre_nonneg_gates : Cert.Pre_nonneg_gates.Facts) (hPre_finite_maps : Cert.Pre_finite_maps.Facts),
    quiescent_Kernel (hKernel := hKernel)
    ∧ quiescent_KernelIdeal (hKernelIdeal := hKernelIdeal)
    ∧ quiescent_KernelIdeal_pre_finite_with_ones (hKernelIdeal := hKernelIdeal) (hPre_finite_with_ones := hPre_finite_with_ones)
    ∧ quiescent_ReferenceIdeal (hReferenceIdeal := hReferenceIdeal)
    ∧ quiescent_ReferenceIdeal_pre_finite_with_ones (hReferenceIdeal := hReferenceIdeal) (hPre_finite_with_ones := hPre_finite_with_ones)
    ∧ quiescent_Kernel2 (hKernel2 := hKernel2)
    ∧ quiescent_Kernel2Ideal (hKernel2Ideal := hKernel2Ideal)
    ∧ quiescent_Kernel2Ideal_pre_nonneg_gates (hKernel2Ideal := hKernel2Ideal) (hPre_nonneg_gates := hPre_nonneg_gates)
    ∧ quiescent_Reference2Ideal (hReference2Ideal := hReference2Ideal)
    ∧ quiescent_Reference2Ideal_pre_nonneg_gates (hReference2Ideal := hReference2Ideal) (hPre_nonneg_gates := hPre_nonneg_gates)
    ∧ quiescent_Kernel3 (hKernel3 := hKernel3)
    ∧ quiescent_Kernel3Ideal (hKernel3Ideal := hKernel3Ideal)
    ∧ quiescent_Kernel3Ideal_pre_finite_maps (hKernel3Ideal := hKernel3Ideal) (hPre_finite_maps := hPre_finite_maps)
    ∧ quiescent_Reference3Ideal (hReference3Ideal := hReference3Ideal)
    ∧ quiescent_Reference3Ideal_pre_finite_maps (hReference3Ideal := hReference3Ideal) (hPre_finite_maps := hPre_finite_maps)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_with_ones (hKernelIdeal := hKernelIdeal) (hReferenceIdeal := hReferenceIdeal) (hPre_finite_with_ones := hPre_finite_with_ones)
    ∧ preserves_Kernel2_Kernel2Ideal
    ∧ algebraic_Kernel2Ideal_Reference2Ideal_pre_nonneg_gates (hKernel2Ideal := hKernel2Ideal) (hReference2Ideal := hReference2Ideal) (hPre_nonneg_gates := hPre_nonneg_gates)
    ∧ preserves_Kernel3_Kernel3Ideal
    ∧ algebraic_Kernel3Ideal_Reference3Ideal_pre_finite_maps (hKernel3Ideal := hKernel3Ideal) (hReference3Ideal := hReference3Ideal) (hPre_finite_maps := hPre_finite_maps)
    ∧ preserves_Kernel4_Kernel4Ideal
    ∧ algebraic_Kernel4Ideal_Reference4Ideal (hKernel4Ideal := hKernel4Ideal) (hReference4Ideal := hReference4Ideal)
-- ==== Pre_finite_maps.lean ====
abbrev S8x8192x2048 : Shape := ⟨3, ![8, 8192, 2048]⟩
abbrev S8x128 : Shape := ⟨2, ![8, 128]⟩
abbrev S128x1 : Shape := ⟨2, ![128, 1]⟩
abbrev S8x8192x512 : Shape := ⟨3, ![8, 8192, 512]⟩
abbrev S8x8192x4x128 : Shape := ⟨4, ![8, 8192, 4, 128]⟩
abbrev S8x8192x1024 : Shape := ⟨3, ![8, 8192, 1024]⟩
abbrev S8x8192x4x256 : Shape := ⟨4, ![8, 8192, 4, 256]⟩
abbrev S_ : Shape := ⟨0, ![]⟩
abbrev S8x8192x4x1 : Shape := ⟨4, ![8, 8192, 4, 1]⟩
abbrev S4x128 : Shape := ⟨2, ![4, 128]⟩
abbrev S1x1x4x128 : Shape := ⟨4, ![1, 1, 4, 128]⟩

class Facts : Prop where
  slices_S8x8192x2048_S8x8192x512_0_0_0 : S8x8192x2048.Slices ![0, 0, 0] S8x8192x512
  shapeCasts_S8x8192x512_S8x8192x4x128 : S8x8192x512.ShapeCasts S8x8192x4x128
  slices_S8x8192x2048_S8x8192x512_0_0_512 : S8x8192x2048.Slices ![0, 0, 512] S8x8192x512
  slices_S8x8192x2048_S8x8192x1024_0_0_1024 : S8x8192x2048.Slices ![0, 0, 1024] S8x8192x1024
  shapeCasts_S8x8192x1024_S8x8192x4x256 : S8x8192x1024.ShapeCasts S8x8192x4x256
  bcast_S_S8x8192x4x128 : S_.BroadcastsInDim S8x8192x4x128 (![] : Fin 0 → Fin S8x8192x4x128.rank)
  slices_S8x8192x4x256_S8x8192x4x128_0_0_0_0 : S8x8192x4x256.Slices ![0, 0, 0, 0] S8x8192x4x128
  slices_S8x8192x4x256_S8x8192x4x1_0_0_0_128 : S8x8192x4x256.Slices ![0, 0, 0, 128] S8x8192x4x1
  bcast_S_S8x8192x4x1 : S_.BroadcastsInDim S8x8192x4x1 (![] : Fin 0 → Fin S8x8192x4x1.rank)
  bcast_S8x8192x4x1_S8x8192x4x128_0_1_2_3 : S8x8192x4x1.BroadcastsInDim S8x8192x4x128 (![0, 1, 2, 3] : Fin 4 → Fin S8x8192x4x128.rank)
  slices_S8x128_S4x128_0_0 : S8x128.Slices ![0, 0] S4x128
  bcast_S_S4x128 : S_.BroadcastsInDim S4x128 (![] : Fin 0 → Fin S4x128.rank)
  bcast_S4x128_S1x1x4x128_2_3 : S4x128.BroadcastsInDim S1x1x4x128 (![2, 3] : Fin 2 → Fin S1x1x4x128.rank)
  bcast_S1x1x4x128_S8x8192x4x128_0_1_2_3 : S1x1x4x128.BroadcastsInDim S8x8192x4x128 (![0, 1, 2, 3] : Fin 4 → Fin S8x8192x4x128.rank)

variable [Facts]

def fn_part1 {F : FTy → Type} [FloatOps F] (main_arg1 : FVec F S8x128 .f32) (main_v17 : IVec S8x8192x4x128 1) (main_v18 : FVec F S8x8192x4x1 .bf16) (main_v19 : FVec F S8x8192x4x1 .bf16) : IVec S8x8192x4x128 1 :=
  let main_v20 : IVec S8x8192x4x1 1 := cmpf .oeq main_v18 main_v19
  let main_v21 : IVec S8x8192x4x128 1 := broadcastInDim S8x8192x4x128 ![0, 1, 2, 3] bcast_S8x8192x4x1_S8x8192x4x128_0_1_2_3 main_v20
  let main_v22 : IVec S8x8192x4x128 1 := andi main_v17 main_v21
  let main_v23 : FVec F S4x128 .f32 := (extractStridedSlice S4x128 ![0, 0] · slices_S8x128_S4x128_0_0) main_arg1
  let main_v24 : FVec F S4x128 .f32 := Host.absf main_v23
  let main_cst_3 : FVec F S_ .f32 := constant S_ .f32 0x7F800000#32
  let main_v25 : FVec F S4x128 .f32 := broadcastInDim S4x128 ![] bcast_S_S4x128 main_cst_3
  let main_v26 : IVec S4x128 1 := cmpf .olt main_v24 main_v25
  let main_v27 : IVec S1x1x4x128 1 := broadcastInDim S1x1x4x128 ![2, 3] bcast_S4x128_S1x1x4x128_2_3 main_v26
  let main_v28 : IVec S8x8192x4x128 1 := broadcastInDim S8x8192x4x128 ![0, 1, 2, 3] bcast_S1x1x4x128_S8x8192x4x128_0_1_2_3 main_v27
  let main_v29 : IVec S8x8192x4x128 1 := andi main_v22 main_v28
  main_v29

def fn {F : FTy → Type} [FloatOps F] (main_arg0 : FVec F S8x8192x2048 .bf16) (main_arg1 : FVec F S8x128 .f32) (main_arg2 : FVec F S128x1 .f32) : IVec S8x8192x4x128 1 :=
  let main_v0 : FVec F S8x8192x512 .bf16 := (extractStridedSlice S8x8192x512 ![0, 0, 0] · slices_S8x8192x2048_S8x8192x512_0_0_0) main_arg0
  let main_v1 : FVec F S8x8192x4x128 .bf16 := shapeCast S8x8192x4x128 main_v0 shapeCasts_S8x8192x512_S8x8192x4x128
  let main_v2 : FVec F S8x8192x512 .bf16 := (extractStridedSlice S8x8192x512 ![0, 0, 512] · slices_S8x8192x2048_S8x8192x512_0_0_512) main_arg0
  let main_v3 : FVec F S8x8192x4x128 .bf16 := shapeCast S8x8192x4x128 main_v2 shapeCasts_S8x8192x512_S8x8192x4x128
  let main_v4 : FVec F S8x8192x1024 .bf16 := (extractStridedSlice S8x8192x1024 ![0, 0, 1024] · slices_S8x8192x2048_S8x8192x1024_0_0_1024) main_arg0
  let main_v5 : FVec F S8x8192x4x256 .bf16 := shapeCast S8x8192x4x256 main_v4 shapeCasts_S8x8192x1024_S8x8192x4x256
  let main_v6 : FVec F S8x8192x4x128 .bf16 := Host.absf main_v1
  let main_cst : FVec F S_ .bf16 := constant S_ .bf16 0x7F80#16
  let main_v7 : FVec F S8x8192x4x128 .bf16 := broadcastInDim S8x8192x4x128 ![] bcast_S_S8x8192x4x128 main_cst
  let main_v8 : IVec S8x8192x4x128 1 := cmpf .olt main_v6 main_v7
  let main_v9 : FVec F S8x8192x4x128 .bf16 := Host.absf main_v3
  let main_cst_0 : FVec F S_ .bf16 := constant S_ .bf16 0x7F80#16
  let main_v10 : FVec F S8x8192x4x128 .bf16 := broadcastInDim S8x8192x4x128 ![] bcast_S_S8x8192x4x128 main_cst_0
  let main_v11 : IVec S8x8192x4x128 1 := cmpf .olt main_v9 main_v10
  let main_v12 : IVec S8x8192x4x128 1 := andi main_v8 main_v11
  let main_v13 : FVec F S8x8192x4x128 .bf16 := (extractStridedSlice S8x8192x4x128 ![0, 0, 0, 0] · slices_S8x8192x4x256_S8x8192x4x128_0_0_0_0) main_v5
  let main_v14 : FVec F S8x8192x4x128 .bf16 := Host.absf main_v13
  let main_cst_1 : FVec F S_ .bf16 := constant S_ .bf16 0x7F80#16
  let main_v15 : FVec F S8x8192x4x128 .bf16 := broadcastInDim S8x8192x4x128 ![] bcast_S_S8x8192x4x128 main_cst_1
  let main_v16 : IVec S8x8192x4x128 1 := cmpf .olt main_v14 main_v15
  let main_v17 : IVec S8x8192x4x128 1 := andi main_v12 main_v16
  let main_v18 : FVec F S8x8192x4x1 .bf16 := (extractStridedSlice S8x8192x4x1 ![0, 0, 0, 128] · slices_S8x8192x4x256_S8x8192x4x1_0_0_0_128) main_v5
  let main_cst_2 : FVec F S_ .bf16 := constant S_ .bf16 0x3F80#16
  let main_v19 : FVec F S8x8192x4x1 .bf16 := broadcastInDim S8x8192x4x1 ![] bcast_S_S8x8192x4x1 main_cst_2
  fn_part1 (F := F) main_arg1 main_v17 main_v18 main_v19
-- ==== Pre_finite_with_ones.lean ====
abbrev S8x8192x1024 : Shape := ⟨3, ![8, 8192, 1024]⟩
abbrev S_ : Shape := ⟨0, ![]⟩
abbrev S8x8192x8x128 : Shape := ⟨4, ![8, 8192, 8, 128]⟩
abbrev S8x8192x8x1 : Shape := ⟨4, ![8, 8192, 8, 1]⟩

class Facts : Prop where
  bcast_S_S8x8192x1024 : S_.BroadcastsInDim S8x8192x1024 (![] : Fin 0 → Fin S8x8192x1024.rank)
  shapeCasts_S8x8192x1024_S8x8192x8x128 : S8x8192x1024.ShapeCasts S8x8192x8x128
  slices_S8x8192x8x128_S8x8192x8x1_0_0_0_64 : S8x8192x8x128.Slices ![0, 0, 0, 64] S8x8192x8x1
  bcast_S_S8x8192x8x1 : S_.BroadcastsInDim S8x8192x8x1 (![] : Fin 0 → Fin S8x8192x8x1.rank)
  bcast_S8x8192x8x1_S8x8192x8x128_0_1_2_3 : S8x8192x8x1.BroadcastsInDim S8x8192x8x128 (![0, 1, 2, 3] : Fin 4 → Fin S8x8192x8x128.rank)

variable [Facts]

def fn {F : FTy → Type} [FloatOps F] (main_arg0 : FVec F S8x8192x1024 .bf16) (main_arg1 : FVec F S8x8192x1024 .bf16) (main_arg2 : FVec F S8x8192x1024 .bf16) : IVec S8x8192x8x128 1 :=
  let main_v0 : FVec F S8x8192x1024 .bf16 := Host.absf main_arg0
  let main_cst : FVec F S_ .bf16 := constant S_ .bf16 0x7F80#16
  let main_v1 : FVec F S8x8192x1024 .bf16 := broadcastInDim S8x8192x1024 ![] bcast_S_S8x8192x1024 main_cst
  let main_v2 : IVec S8x8192x1024 1 := cmpf .olt main_v0 main_v1
  let main_v3 : FVec F S8x8192x1024 .bf16 := Host.absf main_arg1
  let main_cst_0 : FVec F S_ .bf16 := constant S_ .bf16 0x7F80#16
  let main_v4 : FVec F S8x8192x1024 .bf16 := broadcastInDim S8x8192x1024 ![] bcast_S_S8x8192x1024 main_cst_0
  let main_v5 : IVec S8x8192x1024 1 := cmpf .olt main_v3 main_v4
  let main_v6 : IVec S8x8192x1024 1 := andi main_v2 main_v5
  let main_v7 : FVec F S8x8192x8x128 .bf16 := shapeCast S8x8192x8x128 main_arg2 shapeCasts_S8x8192x1024_S8x8192x8x128
  let main_v8 : FVec F S8x8192x8x1 .bf16 := (extractStridedSlice S8x8192x8x1 ![0, 0, 0, 64] · slices_S8x8192x8x128_S8x8192x8x1_0_0_0_64) main_v7
  let main_cst_1 : FVec F S_ .bf16 := constant S_ .bf16 0x3F80#16
  let main_v9 : FVec F S8x8192x8x1 .bf16 := broadcastInDim S8x8192x8x1 ![] bcast_S_S8x8192x8x1 main_cst_1
  let main_v10 : IVec S8x8192x8x1 1 := cmpf .oeq main_v8 main_v9
  let main_v11 : IVec S8x8192x8x128 1 := shapeCast S8x8192x8x128 main_v6 shapeCasts_S8x8192x1024_S8x8192x8x128
  let main_v12 : IVec S8x8192x8x128 1 := broadcastInDim S8x8192x8x128 ![0, 1, 2, 3] bcast_S8x8192x8x1_S8x8192x8x128_0_1_2_3 main_v10
  let main_v13 : IVec S8x8192x8x128 1 := andi main_v11 main_v12
  main_v13
-- ==== Pre_nonneg_gates.lean ====
abbrev S65536x1024 : Shape := ⟨2, ![65536, 1024]⟩
abbrev S16x65536 : Shape := ⟨2, ![16, 65536]⟩
abbrev S16x1024x256 : Shape := ⟨3, ![16, 1024, 256]⟩
abbrev S16x256x1024 : Shape := ⟨3, ![16, 256, 1024]⟩
abbrev S1024x256 : Shape := ⟨2, ![1024, 256]⟩
abbrev S256x1024 : Shape := ⟨2, ![256, 1024]⟩
abbrev S1024 : Shape := ⟨1, ![1024]⟩
abbrev S_ : Shape := ⟨0, ![]⟩

class Facts : Prop where
  bcast_S_S16x65536 : S_.BroadcastsInDim S16x65536 (![] : Fin 0 → Fin S16x65536.rank)

variable [Facts]

def fn {F : FTy → Type} [FloatOps F] (main_arg0 : FVec F S65536x1024 .f32) (main_arg1 : FVec F S16x65536 .f32) (main_arg2 : FVec F S16x1024x256 .f32) (main_arg3 : FVec F S16x1024x256 .f32) (main_arg4 : FVec F S16x256x1024 .f32) (main_arg5 : FVec F S1024x256 .f32) (main_arg6 : FVec F S1024x256 .f32) (main_arg7 : FVec F S256x1024 .f32) (main_arg8 : FVec F S1024 .f32) (main_arg9 : FVec F S1024 .f32) : IVec S16x65536 1 :=
  let main_cst : FVec F S_ .f32 := constant S_ .f32 0x00000000#32
  let main_v0 : FVec F S16x65536 .f32 := broadcastInDim S16x65536 ![] bcast_S_S16x65536 main_cst
  let main_v1 : IVec S16x65536 1 := cmpf .oge main_arg1 main_v0
  let main_cst_0 : FVec F S_ .f32 := constant S_ .f32 0x7F800000#32
  let main_v2 : FVec F S16x65536 .f32 := broadcastInDim S16x65536 ![] bcast_S_S16x65536 main_cst_0
  let main_v3 : IVec S16x65536 1 := cmpf .olt main_arg1 main_v2
  let main_v4 : IVec S16x65536 1 := andi main_v1 main_v3
  main_v4
-- ==== Kernel.lean ====
abbrev S8x8192x1024 : Shape := ⟨3, ![8, 8192, 1024]⟩
abbrev S1x1024x128 : Shape := ⟨3, ![1, 1024, 128]⟩
abbrev S1x8192x128 : Shape := ⟨3, ![1, 8192, 128]⟩
abbrev S2x128x1024 : Shape := ⟨3, ![2, 128, 1024]⟩
abbrev S1x1024 : Shape := ⟨2, ![1, 1024]⟩
abbrev S80x1024 : Shape := ⟨2, ![80, 1024]⟩
abbrev S2x512x1024 : Shape := ⟨3, ![2, 512, 1024]⟩
abbrev S2x1x1024 : Shape := ⟨3, ![2, 1, 1024]⟩
abbrev S1024x128 : Shape := ⟨2, ![1024, 128]⟩
abbrev S128x1024 : Shape := ⟨2, ![128, 1024]⟩
abbrev S1x128x1024 : Shape := ⟨3, ![1, 128, 1024]⟩
abbrev S1x512x128 : Shape := ⟨3, ![1, 512, 128]⟩
abbrev S512x128 : Shape := ⟨2, ![512, 128]⟩
abbrev S512x1024 : Shape := ⟨2, ![512, 1024]⟩
abbrev S1x512x1024 : Shape := ⟨3, ![1, 512, 1024]⟩
abbrev S1024 : Shape := ⟨1, ![1024]⟩
abbrev S1x1x1024 : Shape := ⟨3, ![1, 1, 1024]⟩
abbrev S1x512x80 : Shape := ⟨3, ![1, 512, 80]⟩
abbrev S512x80 : Shape := ⟨2, ![512, 80]⟩
abbrev S64x1024 : Shape := ⟨2, ![64, 1024]⟩

abbrev nBuf : Space → Nat
  | .hbm => 4
  | .vmem => 15
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S2x128x1024, .bf16⟩
  | .local _ .vmem, ⟨11, _⟩ => ⟨S1x1024, .f32⟩
  | .local _ .vmem, ⟨12, _⟩ => ⟨S80x1024, .f32⟩
  | .local _ .vmem, ⟨13, _⟩ => ⟨S2x512x1024, .f32⟩
  | .local _ .vmem, ⟨14, _⟩ => ⟨S2x1x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def k0_cond1 (i : grid0.Coords) : BitVec 1 :=
  let arg2 : BitVec 32 := BitVec.ofNat 32 (i 2).val
  let c0_i32_4 : BitVec 32 := 0#32
  let v11 : BitVec 1 := Scalar.cmpi .eq arg2 c0_i32_4
  let v12 : BitVec 32 := Scalar.extui v11
  let c0_i32_5 : BitVec 32 := 0#32
  let v13 : BitVec 1 := Scalar.cmpi .ne v12 c0_i32_5
  v13

def k0_off1 (i : grid0.Coords) : Fin 3 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v775 : Index := Scalar.indexCast v9
  let c0_531 : Index := 0#32
  let c0_532 : Index := 0#32
  ![v775.toNat, 0, 0]
def k0_mult1 : BitVec 32 :=
  let c0_i32_533 : BitVec 32 := 0#32
  c0_i32_533
def k0_off2 (i : grid0.Coords) : Fin 3 → Nat :=
  let c1_i32_3 : BitVec 32 := 1#32
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v19 : Index := Scalar.indexCast v10
  let c0_8 : Index := 0#32
  let c0_9 : Index := 0#32
  ![v19.toNat, 0, 0]
def k0_mult2 : BitVec 32 :=
  let c8_i32 : BitVec 32 := 8#32
  let c0_i32_15 : BitVec 32 := 0#32
  let v31 : BitVec 32 := Scalar.muli c8_i32 c0_i32_15
  let c0_i32_16 : BitVec 32 := 0#32
  let v32 : BitVec 32 := Scalar.addi v31 c0_i32_16
  let c1_i32_17 : BitVec 32 := 1#32
  let v33 : BitVec 32 := Scalar.addi v32 c1_i32_17
  let c512_i32 : BitVec 32 := 512#32
  let v34 : BitVec 32 := Scalar.muli v33 c512_i32
  v34
def k0_off3 (c0_i32_16 : BitVec 32) : Fin 3 → Nat :=
  let c0_18 : Index := 0#32
  let c8_i32 : BitVec 32 := 8#32
  let c0_i32_15 : BitVec 32 := 0#32
  let v31 : BitVec 32 := Scalar.muli c8_i32 c0_i32_15
  let v32 : BitVec 32 := Scalar.addi v31 c0_i32_16
  let c1_i32_17 : BitVec 32 := 1#32
  let v33 : BitVec 32 := Scalar.addi v32 c1_i32_17
  let c512_i32 : BitVec 32 := 512#32
  let v34 : BitVec 32 := Scalar.muli v33 c512_i32
  let v35 : BitVec 32 := v34
  let v36 : Index := Scalar.indexCast v35
  let c0_19 : Index := 0#32
  ![0, v36.toNat, 0]
def k0_off4 (i : grid0.Coords) : Fin 3 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c0_20 : Index := 0#32
  let c0_21 : Index := 0#32
  ![v39.toNat, 0, 0]
def k0_mult3 : BitVec 32 :=
  let c8_i32 : BitVec 32 := 8#32
  let c0_i32_15 : BitVec 32 := 0#32
  let v31 : BitVec 32 := Scalar.muli c8_i32 c0_i32_15
  let c0_i32_16 : BitVec 32 := 0#32
  let v32 : BitVec 32 := Scalar.addi v31 c0_i32_16
  let c512_i32_29 : BitVec 32 := 512#32
  let v51 : BitVec 32 := Scalar.muli v32 c512_i32_29
  v51
def k0_off5 (c0_i32_16 : BitVec 32) : Fin 3 → Nat :=
  let c0_38 : Index := 0#32
  let c8_i32 : BitVec 32 := 8#32
  let c0_i32_15 : BitVec 32 := 0#32
  let v31 : BitVec 32 := Scalar.muli c8_i32 c0_i32_15
  let v32 : BitVec 32 := Scalar.addi v31 c0_i32_16
  let c512_i32_29 : BitVec 32 := 512#32
  let v51 : BitVec 32 := Scalar.muli v32 c512_i32_29
  let v52 : BitVec 32 := v51
  let v64 : Index := Scalar.indexCast v52
  let c0_39 : Index := 0#32
  ![0, v64.toNat, 0]
def k0_mult4 : BitVec 32 :=
  let c8_i32_47 : BitVec 32 := 8#32
  let c0_i32_15 : BitVec 32 := 0#32
  let v79 : BitVec 32 := Scalar.muli c8_i32_47 c0_i32_15
  let c1_i32_48 : BitVec 32 := 1#32
  let v80 : BitVec 32 := Scalar.addi v79 c1_i32_48
  let c1_i32_49 : BitVec 32 := 1#32
  let v81 : BitVec 32 := Scalar.addi v80 c1_i32_49
  let c512_i32_50 : BitVec 32 := 512#32
  let v82 : BitVec 32 := Scalar.muli v81 c512_i32_50
  v82
def k0_mult5 : BitVec 32 :=
  let c8_i32_47 : BitVec 32 := 8#32
  let c0_i32_15 : BitVec 32 := 0#32
  let v79 : BitVec 32 := Scalar.muli c8_i32_47 c0_i32_15
  let c1_i32_48 : BitVec 32 := 1#32
  let v80 : BitVec 32 := Scalar.addi v79 c1_i32_48
  let c512_i32_63 : BitVec 32 := 512#32
  let v99 : BitVec 32 := Scalar.muli v80 c512_i32_63
  v99
def k0_mult6 : BitVec 32 :=
  let c8_i32_81 : BitVec 32 := 8#32
  let c0_i32_15 : BitVec 32 := 0#32
  let v127 : BitVec 32 := Scalar.muli c8_i32_81 c0_i32_15
  let c2_i32_82 : BitVec 32 := 2#32
  let v128 : BitVec 32 := Scalar.addi v127 c2_i32_82
  let c1_i32_83 : BitVec 32 := 1#32
  let v129 : BitVec 32 := Scalar.addi v128 c1_i32_83
  let c512_i32_84 : BitVec 32 := 512#32
  let v130 : BitVec 32 := Scalar.muli v129 c512_i32_84
  v130
def k0_mult7 : BitVec 32 :=
  let c8_i32_81 : BitVec 32 := 8#32
  let c0_i32_15 : BitVec 32 := 0#32
  let v127 : BitVec 32 := Scalar.muli c8_i32_81 c0_i32_15
  let c2_i32_82 : BitVec 32 := 2#32
  let v128 : BitVec 32 := Scalar.addi v127 c2_i32_82
  let c512_i32_97 : BitVec 32 := 512#32
  let v147 : BitVec 32 := Scalar.muli v128 c512_i32_97
  v147
def k0_mult8 : BitVec 32 :=
  let c8_i32_115 : BitVec 32 := 8#32
  let c0_i32_15 : BitVec 32 := 0#32
  let v175 : BitVec 32 := Scalar.muli c8_i32_115 c0_i32_15
  let c3_i32 : BitVec 32 := 3#32
  let v176 : BitVec 32 := Scalar.addi v175 c3_i32
  let c1_i32_116 : BitVec 32 := 1#32
  let v177 : BitVec 32 := Scalar.addi v176 c1_i32_116
  let c512_i32_117 : BitVec 32 := 512#32
  let v178 : BitVec 32 := Scalar.muli v177 c512_i32_117
  v178
def k0_mult9 : BitVec 32 :=
  let c8_i32_115 : BitVec 32 := 8#32
  let c0_i32_15 : BitVec 32 := 0#32
  let v175 : BitVec 32 := Scalar.muli c8_i32_115 c0_i32_15
  let c3_i32 : BitVec 32 := 3#32
  let v176 : BitVec 32 := Scalar.addi v175 c3_i32
  let c512_i32_130 : BitVec 32 := 512#32
  let v195 : BitVec 32 := Scalar.muli v176 c512_i32_130
  v195
def k0_mult10 : BitVec 32 :=
  let c8_i32_148 : BitVec 32 := 8#32
  let c0_i32_15 : BitVec 32 := 0#32
  let v223 : BitVec 32 := Scalar.muli c8_i32_148 c0_i32_15
  let c4_i32 : BitVec 32 := 4#32
  let v224 : BitVec 32 := Scalar.addi v223 c4_i32
  let c1_i32_149 : BitVec 32 := 1#32
  let v225 : BitVec 32 := Scalar.addi v224 c1_i32_149
  let c512_i32_150 : BitVec 32 := 512#32
  let v226 : BitVec 32 := Scalar.muli v225 c512_i32_150
  v226
def k0_mult11 : BitVec 32 :=
  let c8_i32_148 : BitVec 32 := 8#32
  let c0_i32_15 : BitVec 32 := 0#32
  let v223 : BitVec 32 := Scalar.muli c8_i32_148 c0_i32_15
  let c4_i32 : BitVec 32 := 4#32
  let v224 : BitVec 32 := Scalar.addi v223 c4_i32
  let c512_i32_163 : BitVec 32 := 512#32
  let v243 : BitVec 32 := Scalar.muli v224 c512_i32_163
  v243
def k0_mult12 : BitVec 32 :=
  let c8_i32_181 : BitVec 32 := 8#32
  let c0_i32_15 : BitVec 32 := 0#32
  let v271 : BitVec 32 := Scalar.muli c8_i32_181 c0_i32_15
  let c5_i32 : BitVec 32 := 5#32
  let v272 : BitVec 32 := Scalar.addi v271 c5_i32
  let c1_i32_182 : BitVec 32 := 1#32
  let v273 : BitVec 32 := Scalar.addi v272 c1_i32_182
  let c512_i32_183 : BitVec 32 := 512#32
  let v274 : BitVec 32 := Scalar.muli v273 c512_i32_183
  v274
def k0_mult13 : BitVec 32 :=
  let c8_i32_181 : BitVec 32 := 8#32
  let c0_i32_15 : BitVec 32 := 0#32
  let v271 : BitVec 32 := Scalar.muli c8_i32_181 c0_i32_15
  let c5_i32 : BitVec 32 := 5#32
  let v272 : BitVec 32 := Scalar.addi v271 c5_i32
  let c512_i32_196 : BitVec 32 := 512#32
  let v291 : BitVec 32 := Scalar.muli v272 c512_i32_196
  v291
def k0_mult14 : BitVec 32 :=
  let c8_i32_214 : BitVec 32 := 8#32
  let c0_i32_15 : BitVec 32 := 0#32
  let v319 : BitVec 32 := Scalar.muli c8_i32_214 c0_i32_15
  let c6_i32 : BitVec 32 := 6#32
  let v320 : BitVec 32 := Scalar.addi v319 c6_i32
  let c1_i32_215 : BitVec 32 := 1#32
  let v321 : BitVec 32 := Scalar.addi v320 c1_i32_215
  let c512_i32_216 : BitVec 32 := 512#32
  let v322 : BitVec 32 := Scalar.muli v321 c512_i32_216
  v322
def k0_mult15 : BitVec 32 :=
  let c8_i32_214 : BitVec 32 := 8#32
  let c0_i32_15 : BitVec 32 := 0#32
  let v319 : BitVec 32 := Scalar.muli c8_i32_214 c0_i32_15
  let c6_i32 : BitVec 32 := 6#32
  let v320 : BitVec 32 := Scalar.addi v319 c6_i32
  let c512_i32_229 : BitVec 32 := 512#32
  let v339 : BitVec 32 := Scalar.muli v320 c512_i32_229
  v339
def k0_mult16 : BitVec 32 :=
  let c8_i32_247 : BitVec 32 := 8#32
  let c0_i32_15 : BitVec 32 := 0#32
  let v367 : BitVec 32 := Scalar.muli c8_i32_247 c0_i32_15
  let c7_i32 : BitVec 32 := 7#32
  let v368 : BitVec 32 := Scalar.addi v367 c7_i32
  let c1_i32_248 : BitVec 32 := 1#32
  let v369 : BitVec 32 := Scalar.addi v368 c1_i32_248
  let c512_i32_249 : BitVec 32 := 512#32
  let v370 : BitVec 32 := Scalar.muli v369 c512_i32_249
  v370
def k0_mult17 : BitVec 32 :=
  let c8_i32_247 : BitVec 32 := 8#32
  let c0_i32_15 : BitVec 32 := 0#32
  let v367 : BitVec 32 := Scalar.muli c8_i32_247 c0_i32_15
  let c7_i32 : BitVec 32 := 7#32
  let v368 : BitVec 32 := Scalar.addi v367 c7_i32
  let c512_i32_262 : BitVec 32 := 512#32
  let v387 : BitVec 32 := Scalar.muli v368 c512_i32_262
  v387
def k0_mult18 : BitVec 32 :=
  let c4608_i32 : BitVec 32 := 4608#32
  c4608_i32
def k0_mult19 : BitVec 32 :=
  let c4096_i32 : BitVec 32 := 4096#32
  c4096_i32
def k0_mult20 : BitVec 32 :=
  let c5120_i32 : BitVec 32 := 5120#32
  c5120_i32
def k0_mult21 : BitVec 32 :=
  let c4608_i32_322 : BitVec 32 := 4608#32
  c4608_i32_322
def k0_mult22 : BitVec 32 :=
  let c5632_i32 : BitVec 32 := 5632#32
  c5632_i32
def k0_mult23 : BitVec 32 :=
  let c5120_i32_352 : BitVec 32 := 5120#32
  c5120_i32_352
def k0_mult24 : BitVec 32 :=
  let c6144_i32 : BitVec 32 := 6144#32
  c6144_i32
def k0_mult25 : BitVec 32 :=
  let c5632_i32_382 : BitVec 32 := 5632#32
  c5632_i32_382
def k0_mult26 : BitVec 32 :=
  let c6656_i32 : BitVec 32 := 6656#32
  c6656_i32
def k0_mult27 : BitVec 32 :=
  let c6144_i32_412 : BitVec 32 := 6144#32
  c6144_i32_412
def k0_mult28 : BitVec 32 :=
  let c7168_i32 : BitVec 32 := 7168#32
  c7168_i32
def k0_mult29 : BitVec 32 :=
  let c6656_i32_442 : BitVec 32 := 6656#32
  c6656_i32_442
def k0_mult30 : BitVec 32 :=
  let c7680_i32 : BitVec 32 := 7680#32
  c7680_i32
def k0_mult31 : BitVec 32 :=
  let c7168_i32_472 : BitVec 32 := 7168#32
  c7168_i32_472
def k0_mult32 : BitVec 32 :=
  let c0_i32_490 : BitVec 32 := 0#32
  c0_i32_490
def k0_mult33 : BitVec 32 :=
  let c7680_i32_503 : BitVec 32 := 7680#32
  c7680_i32_503
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c7_i32 : BitVec 32 := 7#32
  let v1 : BitVec 32 := Scalar.minsi v0 c7_i32
  let c0_i32 : BitVec 32 := 0#32
  let v2 : BitVec 32 := Scalar.addi c0_i32 arg1
  let c0_i32_0 : BitVec 32 := 0#32
  ![arg0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x8192x1024 : Shape := ⟨3, ![8, 8192, 1024]⟩
abbrev S8x8192x8x128 : Shape := ⟨4, ![8, 8192, 8, 128]⟩
abbrev S8x8192x8x64 : Shape := ⟨4, ![8, 8192, 8, 64]⟩
abbrev S8x8x8192x8192 : Shape := ⟨4, ![8, 8, 8192, 8192]⟩
abbrev S_ : Shape := ⟨0, ![]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .f32⟩
  | .hbm, ⟨4, _⟩ => ⟨S8x8192x8x128, .f32⟩
  | .hbm, ⟨5, _⟩ => ⟨S8x8192x1024, .f32⟩
  | .hbm, ⟨6, _⟩ => ⟨S8x8192x8x128, .f32⟩
  | .hbm, ⟨7, _⟩ => ⟨S8x8192x1024, .f32⟩
  | .hbm, ⟨8, _⟩ => ⟨S8x8192x8x128, .f32⟩
  | .hbm, ⟨9, _⟩ => ⟨S8x8192x8x64, .f32⟩
  | .hbm, ⟨10, _⟩ => ⟨S8x8x8192x8192, .f32⟩
  | .hbm, ⟨11, _⟩ => ⟨S_, .f32⟩
  | .hbm, ⟨12, _⟩ => ⟨S_, .f32⟩
  | .hbm, ⟨13, _⟩ => ⟨S8x8x8192x8192, .f32⟩
  | .hbm, ⟨14, _⟩ => ⟨S8x8x8192x8192, .f32⟩
  | .hbm, ⟨15, _⟩ => ⟨S_, .f32⟩
  | .hbm, ⟨16, _⟩ => ⟨S8x8x8192, .f32⟩
  | .hbm, ⟨17, _⟩ => ⟨S_, .f32⟩
  | .hbm, ⟨18, _⟩ => ⟨S8x8x8192, .f32⟩
  | .hbm, ⟨19, _⟩ => ⟨S8x8x8192, .f32⟩
  | .hbm, ⟨20, _⟩ => ⟨S8x8x8192x1, .f32⟩
  | .hbm, ⟨21, _⟩ => ⟨S8x8x8192x8192, .f32⟩
  | .hbm, ⟨22, _⟩ => ⟨S8x8x8192x8192, .f32⟩
  | .hbm, ⟨23, _⟩ => ⟨S8x8x8192x8192, .f32⟩
  | .hbm, ⟨24, _⟩ => ⟨S_, .f32⟩
  | .hbm, ⟨25, _⟩ => ⟨S8x8x8192, .f32⟩
  | .hbm, ⟨26, _⟩ => ⟨S8x8x8192x1, .f32⟩
  | .hbm, ⟨27, _⟩ => ⟨S8x8x8192x8192, .f32⟩
  | .hbm, ⟨28, _⟩ => ⟨S8x8x8192x8192, .f32⟩
  | .hbm, ⟨29, _⟩ => ⟨S8x8x64x8192, .f32⟩
  | .hbm, ⟨30, _⟩ => ⟨S8x8192x8x64, .f32⟩
  | .hbm, ⟨31, _⟩ => ⟨S_, .i32⟩
  | .hbm, ⟨32, _⟩ => ⟨S_, .f32⟩
  | .hbm, ⟨33, _⟩ => ⟨S8x8192x8x128, .f32⟩
  | .hbm, ⟨34, _⟩ => ⟨S8x8192x1024, .f32⟩
  | .hbm, ⟨35, _⟩ => ⟨S8x8192x1024, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel2.lean ====
abbrev S65536x1024 : Shape := ⟨2, ![65536, 1024]⟩
abbrev S16x65536 : Shape := ⟨2, ![16, 65536]⟩
abbrev S16x1024x256 : Shape := ⟨3, ![16, 1024, 256]⟩
abbrev S16x256x1024 : Shape := ⟨3, ![16, 256, 1024]⟩
abbrev S1024x256 : Shape := ⟨2, ![1024, 256]⟩
abbrev S256x1024 : Shape := ⟨2, ![256, 1024]⟩
abbrev S1024 : Shape := ⟨1, ![1024]⟩
abbrev S4096x1024 : Shape := ⟨2, ![4096, 1024]⟩
abbrev S4x4x65536 : Shape := ⟨3, ![4, 4, 65536]⟩
abbrev S4x65536x4 : Shape := ⟨3, ![4, 65536, 4]⟩
abbrev S1x1024 : Shape := ⟨2, ![1, 1024]⟩
abbrev S1024x1024 : Shape := ⟨2, ![1024, 1024]⟩
abbrev S1x1024x4 : Shape := ⟨3, ![1, 1024, 4]⟩
abbrev S4x1024x256 : Shape := ⟨3, ![4, 1024, 256]⟩
abbrev S1024x4 : Shape := ⟨2, ![1024, 4]⟩
abbrev S1x1024x256 : Shape := ⟨3, ![1, 1024, 256]⟩
abbrev S1024x1 : Shape := ⟨2, ![1024, 1]⟩

abbrev nBuf : Space → Nat
  | .hbm => 24
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S16x65536, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S1024, .f32⟩
  | .hbm, ⟨9, _⟩ => ⟨S1024, .f32⟩
  | .hbm, ⟨10, _⟩ => ⟨S65536x1024, .bf16⟩
  | .hbm, ⟨11, _⟩ => ⟨S16x1024x256, .bf16⟩
  | .hbm, ⟨12, _⟩ => ⟨S16x1024x256, .bf16⟩
  | .hbm, ⟨13, _⟩ => ⟨S4096x1024, .f32⟩
  | .hbm, ⟨14, _⟩ => ⟨S4096x1024, .bf16⟩
  | .hbm, ⟨15, _⟩ => ⟨S1024x256, .bf16⟩
  | .hbm, ⟨16, _⟩ => ⟨S1024x256, .bf16⟩
  | .hbm, ⟨17, _⟩ => ⟨S256x1024, .bf16⟩
  | .hbm, ⟨18, _⟩ => ⟨S4x4x65536, .f32⟩
  | .hbm, ⟨19, _⟩ => ⟨S4x65536x4, .f32⟩
  | .hbm, ⟨20, _⟩ => ⟨S1x1024, .f32⟩
  | .hbm, ⟨21, _⟩ => ⟨S1x1024, .f32⟩
  | .hbm, ⟨22, _⟩ => ⟨S65536x1024, .f32⟩
  | .hbm, ⟨23, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x4, .f32⟩
  | .local _ .vmem, ⟨5, _⟩ => ⟨S1x1024x4, .f32⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x1024x256, .bf16⟩
  | .local _ .vmem, ⟨10, _⟩ => ⟨S1024x1024, .bf16⟩
  | .local _ .vmem, ⟨11, _⟩ => ⟨S1024x1024, .bf16⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v68 : BitVec 1 := Scalar.cmpi .eq arg1 c3_i32
  let v69 : BitVec 32 := Scalar.extui v68
  let c0_i32_40 : BitVec 32 := 0#32
  let v70 : BitVec 1 := Scalar.cmpi .ne v69 c0_i32_40
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference2Ideal.lean ====
abbrev S65536x1024 : Shape := ⟨2, ![65536, 1024]⟩
abbrev S16x65536 : Shape := ⟨2, ![16, 65536]⟩
abbrev S16x1024x256 : Shape := ⟨3, ![16, 1024, 256]⟩
abbrev S16x256x1024 : Shape := ⟨3, ![16, 256, 1024]⟩
abbrev S1024x256 : Shape := ⟨2, ![1024, 256]⟩
abbrev S256x1024 : Shape := ⟨2, ![256, 1024]⟩
abbrev S1024 : Shape := ⟨1, ![1024]⟩
abbrev S16x256x65536 : Shape := ⟨3, ![16, 256, 65536]⟩
abbrev S16x65536x256 : Shape := ⟨3, ![16, 65536, 256]⟩
abbrev S_ : Shape := ⟨0, ![]⟩
abbrev S16x65536x1 : Shape := ⟨3, ![16, 65536, 1]⟩
abbrev S16x65536x1024 : Shape := ⟨3, ![16, 65536, 1024]⟩
abbrev S65536x256 : Shape := ⟨2, ![65536, 256]⟩
abbrev S65536 : Shape := ⟨1, ![65536]⟩
abbrev S65536x1 : Shape := ⟨2, ![65536, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x65536, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S1024, .f32⟩
  | .hbm, ⟨9, _⟩ => ⟨S1024, .f32⟩
  | .hbm, ⟨10, _⟩ => ⟨S16x256x65536, .f32⟩
  | .hbm, ⟨11, _⟩ => ⟨S16x65536x256, .f32⟩
  | .hbm, ⟨12, _⟩ => ⟨S16x65536x256, .f32⟩
  | .hbm, ⟨13, _⟩ => ⟨S16x65536x256, .f32⟩
  | .hbm, ⟨14, _⟩ => ⟨S_, .f32⟩
  | .hbm, ⟨15, _⟩ => ⟨S16x65536x256, .f32⟩
  | .hbm, ⟨16, _⟩ => ⟨S16x65536x256, .f32⟩
  | .hbm, ⟨17, _⟩ => ⟨S_, .f32⟩
  | .hbm, ⟨18, _⟩ => ⟨S16x65536x256, .f32⟩
  | .hbm, ⟨19, _⟩ => ⟨S16x65536x256, .f32⟩
  | .hbm, ⟨20, _⟩ => ⟨S16x65536x256, .f32⟩
  | .hbm, ⟨21, _⟩ => ⟨S16x256x65536, .f32⟩
  | .hbm, ⟨22, _⟩ => ⟨S16x65536x256, .f32⟩
  | .hbm, ⟨23, _⟩ => ⟨S16x65536x256, .f32⟩
  | .hbm, ⟨24, _⟩ => ⟨S16x65536x1, .f32⟩
  | .hbm, ⟨25, _⟩ => ⟨S16x65536x1024, .f32⟩
  | .hbm, ⟨26, _⟩ => ⟨S16x65536x1024, .f32⟩
  | .hbm, ⟨27, _⟩ => ⟨S16x65536x1024, .f32⟩
  | .hbm, ⟨28, _⟩ => ⟨S_, .f32⟩
  | .hbm, ⟨29, _⟩ => ⟨S65536x1024, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S_, .f32⟩
  | .hbm, ⟨37, _⟩ => ⟨S65536x256, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x1024, .f32⟩
  | .hbm, ⟨43, _⟩ => ⟨S_, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1024, .f32⟩
  | .hbm, ⟨55, _⟩ => ⟨S65536x1024, .f32⟩
  | .hbm, ⟨56, _⟩ => ⟨S65536x1024, .f32⟩
  | .hbm, ⟨57, _⟩ => ⟨S_, .f32⟩
  | .hbm, ⟨58, _⟩ => ⟨S65536, .f32⟩
  | .hbm, ⟨59, _⟩ => ⟨S65536x1, .f32⟩
  | .hbm, ⟨60, _⟩ => ⟨S_, .f32⟩
  | .hbm, ⟨61, _⟩ => ⟨S65536x1, .f32⟩
  | .hbm, ⟨62, _⟩ => ⟨S65536x1, .f32⟩
  | .hbm, ⟨63, _⟩ => ⟨S65536x1024, .f32⟩
  | .hbm, ⟨64, _⟩ => ⟨S65536x1024, .f32⟩
  | .hbm, ⟨65, _⟩ => ⟨S_, .f32⟩
  | .hbm, ⟨66, _⟩ => ⟨S65536x1, .f32⟩
  | .hbm, ⟨67, _⟩ => ⟨S65536x1, .f32⟩
  | .hbm, ⟨68, _⟩ => ⟨S65536x1, .f32⟩
  | .hbm, ⟨69, _⟩ => ⟨S65536x1024, .f32⟩
  | .hbm, ⟨70, _⟩ => ⟨S65536x1024, .f32⟩
  | .hbm, ⟨71, _⟩ => ⟨S1x1024, .f32⟩
  | .hbm, ⟨72, _⟩ => ⟨S65536x1024, .f32⟩
  | .hbm, ⟨73, _⟩ => ⟨S65536x1024, .f32⟩
  | .hbm, ⟨74, _⟩ => ⟨S1x1024, .f32⟩
  | .hbm, ⟨75, _⟩ => ⟨S65536x1024, .f32⟩
  | .hbm, ⟨76, _⟩ => ⟨S65536x1024, .f32⟩
  | .hbm, ⟨77, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_0 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_1 : Ref sig .tc := ⟨.hbm, 48, rfl⟩
abbrev main_v20 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_3 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩

abbrev nD : Nat := 1
abbrev τ : Topo := Topo.v7x

variable {F : FTy → Type} [FloatOps F]
-- ==== Kernel3.lean ====
abbrev S8x8192x2048 : Shape := ⟨3, ![8, 8192, 2048]⟩
abbrev S8x128 : Shape := ⟨2, ![8, 128]⟩
abbrev S128x1 : Shape := ⟨2, ![128, 1]⟩
abbrev S8x8192x512 : Shape := ⟨3, ![8, 8192, 512]⟩
abbrev S1x512x128 : Shape := ⟨3, ![1, 512, 128]⟩
abbrev S1x8192x128 : Shape := ⟨3, ![1, 8192, 128]⟩
abbrev S1x8192x256 : Shape := ⟨3, ![1, 8192, 256]⟩
abbrev S2x128x1024 : Shape := ⟨3, ![2, 128, 1024]⟩
abbrev S1x1024 : Shape := ⟨2, ![1, 1024]⟩
abbrev S144x1024 : Shape := ⟨2, ![144, 1024]⟩
abbrev S2x512x1024 : Shape := ⟨3, ![2, 512, 1024]⟩
abbrev S2x1x1024 : Shape := ⟨3, ![2, 1, 1024]⟩
abbrev S512x128 : Shape := ⟨2, ![512, 128]⟩
abbrev S1024x128 : Shape := ⟨2, ![1024, 128]⟩
abbrev S128x1024 : Shape := ⟨2, ![128, 1024]⟩
abbrev S1x128x1024 : Shape := ⟨3, ![1, 128, 1024]⟩
abbrev S512x1024 : Shape := ⟨2, ![512, 1024]⟩
abbrev S1x512x1024 : Shape := ⟨3, ![1, 512, 1024]⟩
abbrev S1024 : Shape := ⟨1, ![1024]⟩
abbrev S1x1x1024 : Shape := ⟨3, ![1, 1, 1024]⟩
abbrev S1x512x144 : Shape := ⟨3, ![1, 512, 144]⟩
abbrev S512x144 : Shape := ⟨2, ![512, 144]⟩
abbrev S1x128 : Shape := ⟨2, ![1, 128]⟩
abbrev S1 : Shape := ⟨1, ![1]⟩
abbrev S1x1 : Shape := ⟨2, ![1, 1]⟩
abbrev S128x512 : Shape := ⟨2, ![128, 512]⟩
abbrev S512 : Shape := ⟨1, ![512]⟩
abbrev S1x512 : Shape := ⟨2, ![1, 512]⟩

abbrev nBuf : Space → Nat
  | .hbm => 4
  | .vmem => 17
  | .smem => 0
  | _ => 0

abbrev bufTy : (tb : Table) → Fin (tcTables nBuf tb) → BufTy
  | .hbm, ⟨0, _⟩ => ⟨S8x8192x2048, .bf16⟩
  | .hbm, ⟨1, _⟩ => ⟨S8x128, .f32⟩
  | .hbm, ⟨2, _⟩ => ⟨S128x1, .f32⟩
  | .hbm, ⟨3, _⟩ => ⟨S8x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x256, .bf16⟩
  | .local _ .vmem, ⟨7, _⟩ => ⟨S1x8192x256, .bf16⟩
  | .local _ .vmem, ⟨8, _⟩ => ⟨S8x128, .f32⟩
  | .local _ .vmem, ⟨9, _⟩ => ⟨S128x1, .f32⟩
  | .local _ .vmem, ⟨10, _⟩ => ⟨S1x512x128, .bf16⟩
  | .local _ .vmem, ⟨11, _⟩ => ⟨S1x512x128, .bf16⟩
  | .local _ .vmem, ⟨12, _⟩ => ⟨S2x128x1024, .bf16⟩
  | .local _ .vmem, ⟨13, _⟩ => ⟨S1x1024, .f32⟩
  | .local _ .vmem, ⟨14, _⟩ => ⟨S144x1024, .f32⟩
  | .local _ .vmem, ⟨15, _⟩ => ⟨S2x512x1024, .f32⟩
  | .local _ .vmem, ⟨16, _⟩ => ⟨S2x1x1024, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 16], ![false, false, false]⟩

def k0_cond1 (i : grid0.Coords) : BitVec 1 :=
  let arg2 : BitVec 32 := BitVec.ofNat 32 (i 2).val
  let c0_i32_4 : BitVec 32 := 0#32
  let v11 : BitVec 1 := Scalar.cmpi .eq arg2 c0_i32_4
  let v12 : BitVec 32 := Scalar.extui v11
  let c0_i32_5 : BitVec 32 := 0#32
  let v13 : BitVec 1 := Scalar.cmpi .ne v12 c0_i32_5
  v13

def k0_off1 (i : grid0.Coords) : Fin 3 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v827 : Index := Scalar.indexCast v9
  let c0_546 : Index := 0#32
  let c0_547 : Index := 0#32
  ![v827.toNat, 0, 0]
def k0_mult1 : BitVec 32 :=
  let c0_i32_548 : BitVec 32 := 0#32
  c0_i32_548
def k0_off2 (i : grid0.Coords) : Fin 3 → Nat :=
  let c1_i32_3 : BitVec 32 := 1#32
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v28 : Index := Scalar.indexCast v10
  let c0_9 : Index := 0#32
  let c0_10 : Index := 0#32
  ![v28.toNat, 0, 0]
def k0_mult2 : BitVec 32 :=
  let c8_i32 : BitVec 32 := 8#32
  let c0_i32_17 : BitVec 32 := 0#32
  let v40 : BitVec 32 := Scalar.muli c8_i32 c0_i32_17
  let c0_i32_18 : BitVec 32 := 0#32
  let v41 : BitVec 32 := Scalar.addi v40 c0_i32_18
  let c1_i32_19 : BitVec 32 := 1#32
  let v42 : BitVec 32 := Scalar.addi v41 c1_i32_19
  let c512_i32 : BitVec 32 := 512#32
  let v43 : BitVec 32 := Scalar.muli v42 c512_i32
  v43
def k0_off3 (c0_i32_18 : BitVec 32) : Fin 3 → Nat :=
  let c0_20 : Index := 0#32
  let c8_i32 : BitVec 32 := 8#32
  let c0_i32_17 : BitVec 32 := 0#32
  let v40 : BitVec 32 := Scalar.muli c8_i32 c0_i32_17
  let v41 : BitVec 32 := Scalar.addi v40 c0_i32_18
  let c1_i32_19 : BitVec 32 := 1#32
  let v42 : BitVec 32 := Scalar.addi v41 c1_i32_19
  let c512_i32 : BitVec 32 := 512#32
  let v43 : BitVec 32 := Scalar.muli v42 c512_i32
  let v44 : BitVec 32 := v43
  let v45 : Index := Scalar.indexCast v44
  let c0_21 : Index := 0#32
  ![0, v45.toNat, 0]
def k0_off4 (i : grid0.Coords) : Fin 3 → Nat :=
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v48 : Index := Scalar.indexCast v9
  let c0_22 : Index := 0#32
  let c0_23 : Index := 0#32
  ![v48.toNat, 0, 0]
def k0_mult3 : BitVec 32 :=
  let c8_i32 : BitVec 32 := 8#32
  let c0_i32_17 : BitVec 32 := 0#32
  let v40 : BitVec 32 := Scalar.muli c8_i32 c0_i32_17
  let c0_i32_18 : BitVec 32 := 0#32
  let v41 : BitVec 32 := Scalar.addi v40 c0_i32_18
  let c512_i32_31 : BitVec 32 := 512#32
  let v60 : BitVec 32 := Scalar.muli v41 c512_i32_31
  v60
def k0_off5 (c0_i32_18 : BitVec 32) : Fin 3 → Nat :=
  let c0_40 : Index := 0#32
  let c8_i32 : BitVec 32 := 8#32
  let c0_i32_17 : BitVec 32 := 0#32
  let v40 : BitVec 32 := Scalar.muli c8_i32 c0_i32_17
  let v41 : BitVec 32 := Scalar.addi v40 c0_i32_18
  let c512_i32_31 : BitVec 32 := 512#32
  let v60 : BitVec 32 := Scalar.muli v41 c512_i32_31
  let v61 : BitVec 32 := v60
  let v73 : Index := Scalar.indexCast v61
  let c0_41 : Index := 0#32
  ![0, v73.toNat, 0]
def k0_mult4 : BitVec 32 :=
  let c8_i32_49 : BitVec 32 := 8#32
  let c0_i32_17 : BitVec 32 := 0#32
  let v88 : BitVec 32 := Scalar.muli c8_i32_49 c0_i32_17
  let c1_i32_50 : BitVec 32 := 1#32
  let v89 : BitVec 32 := Scalar.addi v88 c1_i32_50
  let c1_i32_51 : BitVec 32 := 1#32
  let v90 : BitVec 32 := Scalar.addi v89 c1_i32_51
  let c512_i32_52 : BitVec 32 := 512#32
  let v91 : BitVec 32 := Scalar.muli v90 c512_i32_52
  v91
def k0_mult5 : BitVec 32 :=
  let c8_i32_49 : BitVec 32 := 8#32
  let c0_i32_17 : BitVec 32 := 0#32
  let v88 : BitVec 32 := Scalar.muli c8_i32_49 c0_i32_17
  let c1_i32_50 : BitVec 32 := 1#32
  let v89 : BitVec 32 := Scalar.addi v88 c1_i32_50
  let c512_i32_65 : BitVec 32 := 512#32
  let v108 : BitVec 32 := Scalar.muli v89 c512_i32_65
  v108
def k0_mult6 : BitVec 32 :=
  let c8_i32_83 : BitVec 32 := 8#32
  let c0_i32_17 : BitVec 32 := 0#32
  let v136 : BitVec 32 := Scalar.muli c8_i32_83 c0_i32_17
  let c2_i32_84 : BitVec 32 := 2#32
  let v137 : BitVec 32 := Scalar.addi v136 c2_i32_84
  let c1_i32_85 : BitVec 32 := 1#32
  let v138 : BitVec 32 := Scalar.addi v137 c1_i32_85
  let c512_i32_86 : BitVec 32 := 512#32
  let v139 : BitVec 32 := Scalar.muli v138 c512_i32_86
  v139
def k0_mult7 : BitVec 32 :=
  let c8_i32_83 : BitVec 32 := 8#32
  let c0_i32_17 : BitVec 32 := 0#32
  let v136 : BitVec 32 := Scalar.muli c8_i32_83 c0_i32_17
  let c2_i32_84 : BitVec 32 := 2#32
  let v137 : BitVec 32 := Scalar.addi v136 c2_i32_84
  let c512_i32_99 : BitVec 32 := 512#32
  let v156 : BitVec 32 := Scalar.muli v137 c512_i32_99
  v156
def k0_mult8 : BitVec 32 :=
  let c8_i32_117 : BitVec 32 := 8#32
  let c0_i32_17 : BitVec 32 := 0#32
  let v184 : BitVec 32 := Scalar.muli c8_i32_117 c0_i32_17
  let c3_i32 : BitVec 32 := 3#32
  let v185 : BitVec 32 := Scalar.addi v184 c3_i32
  let c1_i32_118 : BitVec 32 := 1#32
  let v186 : BitVec 32 := Scalar.addi v185 c1_i32_118
  let c512_i32_119 : BitVec 32 := 512#32
  let v187 : BitVec 32 := Scalar.muli v186 c512_i32_119
  v187
def k0_mult9 : BitVec 32 :=
  let c8_i32_117 : BitVec 32 := 8#32
  let c0_i32_17 : BitVec 32 := 0#32
  let v184 : BitVec 32 := Scalar.muli c8_i32_117 c0_i32_17
  let c3_i32 : BitVec 32 := 3#32
  let v185 : BitVec 32 := Scalar.addi v184 c3_i32
  let c512_i32_132 : BitVec 32 := 512#32
  let v204 : BitVec 32 := Scalar.muli v185 c512_i32_132
  v204
def k0_mult10 : BitVec 32 :=
  let c8_i32_150 : BitVec 32 := 8#32
  let c0_i32_17 : BitVec 32 := 0#32
  let v232 : BitVec 32 := Scalar.muli c8_i32_150 c0_i32_17
  let c4_i32 : BitVec 32 := 4#32
  let v233 : BitVec 32 := Scalar.addi v232 c4_i32
  let c1_i32_151 : BitVec 32 := 1#32
  let v234 : BitVec 32 := Scalar.addi v233 c1_i32_151
  let c512_i32_152 : BitVec 32 := 512#32
  let v235 : BitVec 32 := Scalar.muli v234 c512_i32_152
  v235
def k0_mult11 : BitVec 32 :=
  let c8_i32_150 : BitVec 32 := 8#32
  let c0_i32_17 : BitVec 32 := 0#32
  let v232 : BitVec 32 := Scalar.muli c8_i32_150 c0_i32_17
  let c4_i32 : BitVec 32 := 4#32
  let v233 : BitVec 32 := Scalar.addi v232 c4_i32
  let c512_i32_165 : BitVec 32 := 512#32
  let v252 : BitVec 32 := Scalar.muli v233 c512_i32_165
  v252
def k0_mult12 : BitVec 32 :=
  let c8_i32_183 : BitVec 32 := 8#32
  let c0_i32_17 : BitVec 32 := 0#32
  let v280 : BitVec 32 := Scalar.muli c8_i32_183 c0_i32_17
  let c5_i32 : BitVec 32 := 5#32
  let v281 : BitVec 32 := Scalar.addi v280 c5_i32
  let c1_i32_184 : BitVec 32 := 1#32
  let v282 : BitVec 32 := Scalar.addi v281 c1_i32_184
  let c512_i32_185 : BitVec 32 := 512#32
  let v283 : BitVec 32 := Scalar.muli v282 c512_i32_185
  v283
def k0_mult13 : BitVec 32 :=
  let c8_i32_183 : BitVec 32 := 8#32
  let c0_i32_17 : BitVec 32 := 0#32
  let v280 : BitVec 32 := Scalar.muli c8_i32_183 c0_i32_17
  let c5_i32 : BitVec 32 := 5#32
  let v281 : BitVec 32 := Scalar.addi v280 c5_i32
  let c512_i32_198 : BitVec 32 := 512#32
  let v300 : BitVec 32 := Scalar.muli v281 c512_i32_198
  v300
def k0_mult14 : BitVec 32 :=
  let c8_i32_216 : BitVec 32 := 8#32
  let c0_i32_17 : BitVec 32 := 0#32
  let v328 : BitVec 32 := Scalar.muli c8_i32_216 c0_i32_17
  let c6_i32 : BitVec 32 := 6#32
  let v329 : BitVec 32 := Scalar.addi v328 c6_i32
  let c1_i32_217 : BitVec 32 := 1#32
  let v330 : BitVec 32 := Scalar.addi v329 c1_i32_217
  let c512_i32_218 : BitVec 32 := 512#32
  let v331 : BitVec 32 := Scalar.muli v330 c512_i32_218
  v331
def k0_mult15 : BitVec 32 :=
  let c8_i32_216 : BitVec 32 := 8#32
  let c0_i32_17 : BitVec 32 := 0#32
  let v328 : BitVec 32 := Scalar.muli c8_i32_216 c0_i32_17
  let c6_i32 : BitVec 32 := 6#32
  let v329 : BitVec 32 := Scalar.addi v328 c6_i32
  let c512_i32_231 : BitVec 32 := 512#32
  let v348 : BitVec 32 := Scalar.muli v329 c512_i32_231
  v348
def k0_mult16 : BitVec 32 :=
  let c8_i32_249 : BitVec 32 := 8#32
  let c0_i32_17 : BitVec 32 := 0#32
  let v376 : BitVec 32 := Scalar.muli c8_i32_249 c0_i32_17
  let c7_i32 : BitVec 32 := 7#32
  let v377 : BitVec 32 := Scalar.addi v376 c7_i32
  let c1_i32_250 : BitVec 32 := 1#32
  let v378 : BitVec 32 := Scalar.addi v377 c1_i32_250
  let c512_i32_251 : BitVec 32 := 512#32
  let v379 : BitVec 32 := Scalar.muli v378 c512_i32_251
  v379
def k0_mult17 : BitVec 32 :=
  let c8_i32_249 : BitVec 32 := 8#32
  let c0_i32_17 : BitVec 32 := 0#32
  let v376 : BitVec 32 := Scalar.muli c8_i32_249 c0_i32_17
  let c7_i32 : BitVec 32 := 7#32
  let v377 : BitVec 32 := Scalar.addi v376 c7_i32
  let c512_i32_264 : BitVec 32 := 512#32
  let v396 : BitVec 32 := Scalar.muli v377 c512_i32_264
  v396
def k0_mult18 : BitVec 32 :=
  let c4608_i32 : BitVec 32 := 4608#32
  c4608_i32
def k0_mult19 : BitVec 32 :=
  let c4096_i32 : BitVec 32 := 4096#32
  c4096_i32
def k0_mult20 : BitVec 32 :=
  let c5120_i32 : BitVec 32 := 5120#32
  c5120_i32
def k0_mult21 : BitVec 32 :=
  let c4608_i32_324 : BitVec 32 := 4608#32
  c4608_i32_324
def k0_mult22 : BitVec 32 :=
  let c5632_i32 : BitVec 32 := 5632#32
  c5632_i32
def k0_mult23 : BitVec 32 :=
  let c5120_i32_354 : BitVec 32 := 5120#32
  c5120_i32_354
def k0_mult24 : BitVec 32 :=
  let c6144_i32 : BitVec 32 := 6144#32
  c6144_i32
def k0_mult25 : BitVec 32 :=
  let c5632_i32_384 : BitVec 32 := 5632#32
  c5632_i32_384
def k0_mult26 : BitVec 32 :=
  let c6656_i32 : BitVec 32 := 6656#32
  c6656_i32
def k0_mult27 : BitVec 32 :=
  let c6144_i32_414 : BitVec 32 := 6144#32
  c6144_i32_414
def k0_mult28 : BitVec 32 :=
  let c7168_i32 : BitVec 32 := 7168#32
  c7168_i32
def k0_mult29 : BitVec 32 :=
  let c6656_i32_444 : BitVec 32 := 6656#32
  c6656_i32_444
def k0_mult30 : BitVec 32 :=
  let c7680_i32 : BitVec 32 := 7680#32
  c7680_i32
def k0_mult31 : BitVec 32 :=
  let c7168_i32_474 : BitVec 32 := 7168#32
  c7168_i32_474
def k0_mult32 : BitVec 32 :=
  let c0_i32_492 : BitVec 32 := 0#32
  c0_i32_492
def k0_mult33 : BitVec 32 :=
  let c7680_i32_505 : BitVec 32 := 7680#32
  c7680_i32_505
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let v2 : BitVec 32 := Scalar.addi c0_i32 arg1
  let c0_i32_0 : BitVec 32 := 0#32
  ![arg0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference3Ideal.lean ====
abbrev S8x8192x2048 : Shape := ⟨3, ![8, 8192, 2048]⟩
abbrev S8x128 : Shape := ⟨2, ![8, 128]⟩
abbrev S128x1 : Shape := ⟨2, ![128, 1]⟩
abbrev S8x8192x512 : Shape := ⟨3, ![8, 8192, 512]⟩
abbrev S8x8192x4x2x64 : Shape := ⟨5, ![8, 8192, 4, 2, 64]⟩
abbrev S8x8192x1024 : Shape := ⟨3, ![8, 8192, 1024]⟩
abbrev S8x8192x4x256 : Shape := ⟨4, ![8, 8192, 4, 256]⟩
abbrev S8x8192x4x128 : Shape := ⟨4, ![8, 8192, 4, 128]⟩
abbrev S1x128 : Shape := ⟨2, ![1, 128]⟩
abbrev S128 : Shape := ⟨1, ![128]⟩
abbrev S_ : Shape := ⟨0, ![]⟩
abbrev S8x4x2x8192x8192 : Shape := ⟨5, ![8, 4, 2, 8192, 8192]⟩
abbrev S8x4x2x8192 : Shape := ⟨4, ![8, 4, 2, 8192]⟩
abbrev S8x4x2x8192x1 : Shape := ⟨5, ![8, 4, 2, 8192, 1]⟩
abbrev S8x4x1x8192x8192 : Shape := ⟨5, ![8, 4, 1, 8192, 8192]⟩
abbrev S8x4x8192x8192 : Shape := ⟨4, ![8, 4, 8192, 8192]⟩
abbrev S8x4x128x8192 : Shape := ⟨4, ![8, 4, 128, 8192]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8x8192x2048, .bf16⟩
  | .hbm, ⟨1, _⟩ => ⟨S8x128, .f32⟩
  | .hbm, ⟨2, _⟩ => ⟨S128x1, .f32⟩
  | .hbm, ⟨3, _⟩ => ⟨S8x8192x2048, .f32⟩
  | .hbm, ⟨4, _⟩ => ⟨S8x8192x512, .f32⟩
  | .hbm, ⟨5, _⟩ => ⟨S8x8192x4x2x64, .f32⟩
  | .hbm, ⟨6, _⟩ => ⟨S8x8192x512, .f32⟩
  | .hbm, ⟨7, _⟩ => ⟨S8x8192x4x2x64, .f32⟩
  | .hbm, ⟨8, _⟩ => ⟨S8x8192x1024, .f32⟩
  | .hbm, ⟨9, _⟩ => ⟨S8x8192x4x256, .f32⟩
  | .hbm, ⟨10, _⟩ => ⟨S8x8192x4x128, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x4x2x8192x8192, .f32⟩
  | .hbm, ⟨31, _⟩ => ⟨S_, .f32⟩
  | .hbm, ⟨32, _⟩ => ⟨S_, .f32⟩
  | .hbm, ⟨33, _⟩ => ⟨S8x4x2x8192x8192, .f32⟩
  | .hbm, ⟨34, _⟩ => ⟨S8x4x2x8192x8192, .f32⟩
  | .hbm, ⟨35, _⟩ => ⟨S_, .f32⟩
  | .hbm, ⟨36, _⟩ => ⟨S8x4x2x8192, .f32⟩
  | .hbm, ⟨37, _⟩ => ⟨S_, .f32⟩
  | .hbm, ⟨38, _⟩ => ⟨S8x4x2x8192, .f32⟩
  | .hbm, ⟨39, _⟩ => ⟨S8x4x2x8192, .f32⟩
  | .hbm, ⟨40, _⟩ => ⟨S8x4x2x8192x1, .f32⟩
  | .hbm, ⟨41, _⟩ => ⟨S8x4x2x8192x8192, .f32⟩
  | .hbm, ⟨42, _⟩ => ⟨S8x4x2x8192x8192, .f32⟩
  | .hbm, ⟨43, _⟩ => ⟨S8x4x2x8192x8192, .f32⟩
  | .hbm, ⟨44, _⟩ => ⟨S_, .f32⟩
  | .hbm, ⟨45, _⟩ => ⟨S8x4x2x8192, .f32⟩
  | .hbm, ⟨46, _⟩ => ⟨S8x4x2x8192x1, .f32⟩
  | .hbm, ⟨47, _⟩ => ⟨S8x4x2x8192x8192, .f32⟩
  | .hbm, ⟨48, _⟩ => ⟨S8x4x2x8192x8192, .f32⟩
  | .hbm, ⟨49, _⟩ => ⟨S8x4x1x8192x8192, .f32⟩
  | .hbm, ⟨50, _⟩ => ⟨S8x4x8192x8192, .f32⟩
  | .hbm, ⟨51, _⟩ => ⟨S8x4x1x8192x8192, .f32⟩
  | .hbm, ⟨52, _⟩ => ⟨S8x4x8192x8192, .f32⟩
  | .hbm, ⟨53, _⟩ => ⟨S8x4x8192x8192, .f32⟩
  | .hbm, ⟨54, _⟩ => ⟨S8x4x8192x8192, .f32⟩
  | .hbm, ⟨55, _⟩ => ⟨S8x4x8192x8192, .f32⟩
  | .hbm, ⟨56, _⟩ => ⟨S8x4x128x8192, .f32⟩
  | .hbm, ⟨57, _⟩ => ⟨S8x8192x4x128, .f32⟩
  | .hbm, ⟨58, _⟩ => ⟨S8x8192x4x128, .f32⟩
  | .hbm, ⟨59, _⟩ => ⟨S_, .f32⟩
  | .hbm, ⟨60, _⟩ => ⟨S8x8192x4, .f32⟩
  | .hbm, ⟨61, _⟩ => ⟨S8x8192x4x1, .f32⟩
  | .hbm, ⟨62, _⟩ => ⟨S_, .f32⟩
  | .hbm, ⟨63, _⟩ => ⟨S8x8192x4x1, .f32⟩
  | .hbm, ⟨64, _⟩ => ⟨S8x8192x4x1, .f32⟩
  | .hbm, ⟨65, _⟩ => ⟨S_, .f32⟩
  | .hbm, ⟨66, _⟩ => ⟨S8x8192x4x1, .f32⟩
  | .hbm, ⟨67, _⟩ => ⟨S8x8192x4x1, .f32⟩
  | .hbm, ⟨68, _⟩ => ⟨S8x8192x4x1, .f32⟩
  | .hbm, ⟨69, _⟩ => ⟨S8x8192x4x128, .f32⟩
  | .hbm, ⟨70, _⟩ => ⟨S8x8192x4x128, .f32⟩
  | .hbm, ⟨71, _⟩ => ⟨S128, .f32⟩
  | .hbm, ⟨72, _⟩ => ⟨S1x1x1x128, .f32⟩
  | .hbm, ⟨73, _⟩ => ⟨S8x8192x4x128, .f32⟩
  | .hbm, ⟨74, _⟩ => ⟨S8x8192x4x128, .f32⟩
  | .hbm, ⟨75, _⟩ => ⟨S_, .f32⟩
  | .hbm, ⟨76, _⟩ => ⟨S8x8192x4x128, .f32⟩
  | .hbm, ⟨77, _⟩ => ⟨S8x8192x4x128, .f32⟩
  | .hbm, ⟨78, _⟩ => ⟨S8x8192x512, .f32⟩
  | .hbm, ⟨79, _⟩ => ⟨S8x8192x512, .bf16⟩
  | _, _ => ⟨S8x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Kernel4.lean ====
abbrev S65536x1024 : Shape := ⟨2, ![65536, 1024]⟩
abbrev S1024x8352 : Shape := ⟨2, ![1024, 8352]⟩
abbrev S3072 : Shape := ⟨1, ![3072]⟩
abbrev S65536x8 : Shape := ⟨2, ![65536, 8]⟩
abbrev S65536x128 : Shape := ⟨2, ![65536, 128]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S65536x48 : Shape := ⟨2, ![65536, 48]⟩
abbrev S1024x512 : Shape := ⟨2, ![1024, 512]⟩
abbrev S1024x384 : Shape := ⟨2, ![1024, 384]⟩
abbrev S1024x256 : Shape := ⟨2, ![1024, 256]⟩
abbrev S1024x32 : Shape := ⟨2, ![1024, 32]⟩
abbrev S1024x768 : Shape := ⟨2, ![1024, 768]⟩
abbrev S1024x1536 : Shape := ⟨2, ![1024, 1536]⟩
abbrev S1024x3072 : Shape := ⟨2, ![1024, 3072]⟩
abbrev S1024x64 : Shape := ⟨2, ![1024, 64]⟩
abbrev S1024x128 : Shape := ⟨2, ![1024, 128]⟩
abbrev S1024x8448 : Shape := ⟨2, ![1024, 8448]⟩
abbrev S1x3072 : Shape := ⟨2, ![1, 3072]⟩
abbrev S1x384 : Shape := ⟨2, ![1, 384]⟩
abbrev S1x256 : Shape := ⟨2, ![1, 256]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S65536x2048 : Shape := ⟨2, ![65536, 2048]⟩
abbrev S8x1x8192x1024 : Shape := ⟨4, ![8, 1, 8192, 1024]⟩
abbrev S8x4x2048x1024 : Shape := ⟨4, ![8, 4, 2048, 1024]⟩
abbrev S8x16x512x1024 : Shape := ⟨4, ![8, 16, 512, 1024]⟩
abbrev S65536x3072 : Shape := ⟨2, ![65536, 3072]⟩
abbrev S256x128 : Shape := ⟨2, ![256, 128]⟩
abbrev S256x2048 : Shape := ⟨2, ![256, 2048]⟩
abbrev S1x1x256x1024 : Shape := ⟨4, ![1, 1, 256, 1024]⟩
abbrev S1x4x64x1024 : Shape := ⟨4, ![1, 4, 64, 1024]⟩
abbrev S1x16x16x1024 : Shape := ⟨4, ![1, 16, 16, 1024]⟩
abbrev S256x3072 : Shape := ⟨2, ![256, 3072]⟩
abbrev S4x256x128 : Shape := ⟨3, ![4, 256, 128]⟩
abbrev S256x256 : Shape := ⟨2, ![256, 256]⟩
abbrev S256x512 : Shape := ⟨2, ![256, 512]⟩
abbrev S256x768 : Shape := ⟨2, ![256, 768]⟩
abbrev S1x1x256x256 : Shape := ⟨4, ![1, 1, 256, 256]⟩
abbrev S1x1x256x512 : Shape := ⟨4, ![1, 1, 256, 512]⟩
abbrev S1x256x128 : Shape := ⟨3, ![1, 256, 128]⟩
abbrev S1x64x128 : Shape := ⟨3, ![1, 64, 128]⟩
abbrev S64x128 : Shape := ⟨2, ![64, 128]⟩
abbrev S64x256 : Shape := ⟨2, ![64, 256]⟩
abbrev S1x1x64x256 : Shape := ⟨4, ![1, 1, 64, 256]⟩
abbrev S64x512 : Shape := ⟨2, ![64, 512]⟩
abbrev S1x1x64x512 : Shape := ⟨4, ![1, 1, 64, 512]⟩
abbrev S1x16x128 : Shape := ⟨3, ![1, 16, 128]⟩
abbrev S16x128 : Shape := ⟨2, ![16, 128]⟩
abbrev S16x256 : Shape := ⟨2, ![16, 256]⟩
abbrev S1x1x16x256 : Shape := ⟨4, ![1, 1, 16, 256]⟩
abbrev S16x512 : Shape := ⟨2, ![16, 512]⟩
abbrev S1x1x16x512 : Shape := ⟨4, ![1, 1, 16, 512]⟩
abbrev S1x512 : Shape := ⟨2, ![1, 512]⟩
abbrev S256x1 : Shape := ⟨2, ![256, 1]⟩
abbrev S256x384 : Shape := ⟨2, ![256, 384]⟩

abbrev nBuf : Space → Nat
  | .hbm => 75
  | .vmem => 34
  | .smem => 0
  | _ => 0

abbrev bufTy : (tb : Table) → Fin (tcTables nBuf tb) → BufTy
  | .hbm, ⟨0, _⟩ => ⟨S65536x1024, .bf16⟩
  | .hbm, ⟨1, _⟩ => ⟨S1024x8352, .f32⟩
  | .hbm, ⟨2, _⟩ => ⟨S3072, .f32⟩
  | .hbm, ⟨3, _⟩ => ⟨S65536x8, .f32⟩
  | .hbm, ⟨4, _⟩ => ⟨S65536x8, .f32⟩
  | .hbm, ⟨5, _⟩ => ⟨S65536x128, .f32⟩
  | .hbm, ⟨6, _⟩ => ⟨S65536x128, .f32⟩
  | .hbm, ⟨7, _⟩ => ⟨S384, .f32⟩
  | .hbm, ⟨8, _⟩ => ⟨S256, .f32⟩
  | .hbm, ⟨9, _⟩ => ⟨S384x768, .f32⟩
  | .hbm, ⟨10, _⟩ => ⟨S256x1024, .f32⟩
  | .hbm, ⟨11, _⟩ => ⟨S_, .f32⟩
  | .hbm, ⟨12, _⟩ => ⟨S65536x48, .f32⟩
  | .hbm, ⟨13, _⟩ => ⟨S65536x128, .f32⟩
  | .hbm, ⟨14, _⟩ => ⟨S65536x8, .f32⟩
  | .hbm, ⟨15, _⟩ => ⟨S_, .f32⟩
  | .hbm, ⟨16, _⟩ => ⟨S65536x48, .f32⟩
  | .hbm, ⟨17, _⟩ => ⟨S65536x128, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x384, .f32⟩
  | .hbm, ⟨22, _⟩ => ⟨S1024x256, .f32⟩
  | .hbm, ⟨23, _⟩ => ⟨S1024x32, .f32⟩
  | .hbm, ⟨24, _⟩ => ⟨S1024x768, .f32⟩
  | .hbm, ⟨25, _⟩ => ⟨S1024x768, .f32⟩
  | .hbm, ⟨26, _⟩ => ⟨S1024x1536, .f32⟩
  | .hbm, ⟨27, _⟩ => ⟨S1024x3072, .f32⟩
  | .hbm, ⟨28, _⟩ => ⟨S_, .f32⟩
  | .hbm, ⟨29, _⟩ => ⟨S1024x64, .f32⟩
  | .hbm, ⟨30, _⟩ => ⟨S_, .f32⟩
  | .hbm, ⟨31, _⟩ => ⟨S1024x32, .f32⟩
  | .hbm, ⟨32, _⟩ => ⟨S1024x128, .f32⟩
  | .hbm, ⟨33, _⟩ => ⟨S1024x256, .f32⟩
  | .hbm, ⟨34, _⟩ => ⟨S1024x256, .f32⟩
  | .hbm, ⟨35, _⟩ => ⟨S1024x512, .f32⟩
  | .hbm, ⟨36, _⟩ => ⟨S1024x256, .f32⟩
  | .hbm, ⟨37, _⟩ => ⟨S1024x256, .f32⟩
  | .hbm, ⟨38, _⟩ => ⟨S1024x512, .f32⟩
  | .hbm, ⟨39, _⟩ => ⟨S1024x256, .f32⟩
  | .hbm, ⟨40, _⟩ => ⟨S1024x256, .f32⟩
  | .hbm, ⟨41, _⟩ => ⟨S1024x512, .f32⟩
  | .hbm, ⟨42, _⟩ => ⟨S1024x8448, .f32⟩
  | .hbm, ⟨43, _⟩ => ⟨S1024x8448, .bf16⟩
  | .hbm, ⟨44, _⟩ => ⟨S1x3072, .f32⟩
  | .hbm, ⟨45, _⟩ => ⟨S1x384, .f32⟩
  | .hbm, ⟨46, _⟩ => ⟨S1x256, .f32⟩
  | .hbm, ⟨47, _⟩ => ⟨S384x8x96, .f32⟩
  | .hbm, ⟨48, _⟩ => ⟨S_, .i32⟩
  | .hbm, ⟨49, _⟩ => ⟨S_, .f32⟩
  | .hbm, ⟨50, _⟩ => ⟨S384x8x128, .f32⟩
  | .hbm, ⟨51, _⟩ => ⟨S384x1024, .f32⟩
  | .hbm, ⟨52, _⟩ => ⟨S384x1024, .bf16⟩
  | .hbm, ⟨53, _⟩ => ⟨S256x8x128, .f32⟩
  | .hbm, ⟨54, _⟩ => ⟨S256x8x64, .f32⟩
  | .hbm, ⟨55, _⟩ => ⟨S_, .i32⟩
  | .hbm, ⟨56, _⟩ => ⟨S_, .f32⟩
  | .hbm, ⟨57, _⟩ => ⟨S256x8x128, .f32⟩
  | .hbm, ⟨58, _⟩ => ⟨S256x1024, .f32⟩
  | .hbm, ⟨59, _⟩ => ⟨S256x1024, .bf16⟩
  | .hbm, ⟨60, _⟩ => ⟨S256x8x128, .f32⟩
  | .hbm, ⟨61, _⟩ => ⟨S256x8x64, .f32⟩
  | .hbm, ⟨62, _⟩ => ⟨S_, .i32⟩
  | .hbm, ⟨63, _⟩ => ⟨S_, .f32⟩
  | .hbm, ⟨64, _⟩ => ⟨S256x8x128, .f32⟩
  | .hbm, ⟨65, _⟩ => ⟨S256x1024, .f32⟩
  | .hbm, ⟨66, _⟩ => ⟨S256x1024, .bf16⟩
  | .hbm, ⟨67, _⟩ => ⟨S65536x2048, .bf16⟩
  | .hbm, ⟨68, _⟩ => ⟨S65536x1024, .bf16⟩
  | .hbm, ⟨69, _⟩ => ⟨S65536x1024, .bf16⟩
  | .hbm, ⟨70, _⟩ => ⟨S65536x1024, .bf16⟩
  | .hbm, ⟨71, _⟩ => ⟨S8x1x8192x1024, .bf16⟩
  | .hbm, ⟨72, _⟩ => ⟨S8x4x2048x1024, .bf16⟩
  | .hbm, ⟨73, _⟩ => ⟨S8x16x512x1024, .bf16⟩
  | .hbm, ⟨74, _⟩ => ⟨S65536x3072, .bf16⟩
  | .local _ .vmem, ⟨0, _⟩ => ⟨S256x1024, .bf16⟩
  | .local _ .vmem, ⟨1, _⟩ => ⟨S256x1024, .bf16⟩
  | .local _ .vmem, ⟨2, _⟩ => ⟨S1024x8448, .bf16⟩
  | .local _ .vmem, ⟨3, _⟩ => ⟨S1x3072, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x384, .f32⟩
  | .local _ .vmem, ⟨13, _⟩ => ⟨S1x256, .f32⟩
  | .local _ .vmem, ⟨14, _⟩ => ⟨S384x1024, .bf16⟩
  | .local _ .vmem, ⟨15, _⟩ => ⟨S256x1024, .bf16⟩
  | .local _ .vmem, ⟨16, _⟩ => ⟨S256x1024, .bf16⟩
  | .local _ .vmem, ⟨17, _⟩ => ⟨S256x2048, .bf16⟩
  | .local _ .vmem, ⟨18, _⟩ => ⟨S256x2048, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S1x1x256x1024, .bf16⟩
  | .local _ .vmem, ⟨26, _⟩ => ⟨S1x1x256x1024, .bf16⟩
  | .local _ .vmem, ⟨27, _⟩ => ⟨S1x4x64x1024, .bf16⟩
  | .local _ .vmem, ⟨28, _⟩ => ⟨S1x4x64x1024, .bf16⟩
  | .local _ .vmem, ⟨29, _⟩ => ⟨S1x16x16x1024, .bf16⟩
  | .local _ .vmem, ⟨30, _⟩ => ⟨S1x16x16x1024, .bf16⟩
  | .local _ .vmem, ⟨31, _⟩ => ⟨S256x3072, .bf16⟩
  | .local _ .vmem, ⟨32, _⟩ => ⟨S256x3072, .bf16⟩
  | .local _ .vmem, ⟨33, _⟩ => ⟨S4x256x128, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_3 : Ref sig .tc := ⟨.hbm, 55, rfl⟩
abbrev main_call1_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_4 : Ref sig .tc := ⟨.hbm, 62, rfl⟩
abbrev main_call2_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev main_v46_2 : Ref sig .tc := ⟨.hbm, 69, rfl⟩
abbrev main_v46_3 : Ref sig .tc := ⟨.hbm, 70, rfl⟩
abbrev main_v46_4 : Ref sig .tc := ⟨.hbm, 71, rfl⟩
abbrev main_v46_5 : Ref sig .tc := ⟨.hbm, 72, rfl⟩
abbrev main_v46_6 : Ref sig .tc := ⟨.hbm, 73, rfl⟩
abbrev main_v46_7 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x8448 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x64x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x16x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S65536x1024 : Shape := ⟨2, ![65536, 1024]⟩
abbrev S1024x8352 : Shape := ⟨2, ![1024, 8352]⟩
abbrev S3072 : Shape := ⟨1, ![3072]⟩
abbrev S65536x8 : Shape := ⟨2, ![65536, 8]⟩
abbrev S65536x128 : Shape := ⟨2, ![65536, 128]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S65536x8352 : Shape := ⟨2, ![65536, 8352]⟩
abbrev S65536x512 : Shape := ⟨2, ![65536, 512]⟩
abbrev S65536x384 : Shape := ⟨2, ![65536, 384]⟩
abbrev S65536x256 : Shape := ⟨2, ![65536, 256]⟩
abbrev S65536x32 : Shape := ⟨2, ![65536, 32]⟩
abbrev S65536x768 : Shape := ⟨2, ![65536, 768]⟩
abbrev S65536x1536 : Shape := ⟨2, ![65536, 1536]⟩
abbrev S65536x3072 : Shape := ⟨2, ![65536, 3072]⟩
abbrev S65536x8x64 : Shape := ⟨3, ![65536, 8, 64]⟩
abbrev S65536x8x8 : Shape := ⟨3, ![65536, 8, 8]⟩
abbrev S65536x1x8 : Shape := ⟨3, ![65536, 1, 8]⟩
abbrev S65536x8x48 : Shape := ⟨3, ![65536, 8, 48]⟩
abbrev S_ : Shape := ⟨0, ![]⟩
abbrev S65536x4x1 : Shape := ⟨3, ![65536, 4, 1]⟩
abbrev S65536x4x127 : Shape := ⟨3, ![65536, 4, 127]⟩
abbrev S65536x4x128 : Shape := ⟨3, ![65536, 4, 128]⟩
abbrev S65536x4x256 : Shape := ⟨3, ![65536, 4, 256]⟩
abbrev S65536x2048 : Shape := ⟨2, ![65536, 2048]⟩
abbrev S65536x12x64 : Shape := ⟨3, ![65536, 12, 64]⟩
abbrev S65536x12x8 : Shape := ⟨3, ![65536, 12, 8]⟩
abbrev S65536x12x48 : Shape := ⟨3, ![65536, 12, 48]⟩
abbrev S8x1x8192x1024 : Shape := ⟨4, ![8, 1, 8192, 1024]⟩
abbrev S1x3072 : Shape := ⟨2, ![1, 3072]⟩

abbrev nBuf : Space → Nat
  | .hbm => 128
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x8352, .f32⟩
  | .hbm, ⟨2, _⟩ => ⟨S3072, .f32⟩
  | .hbm, ⟨3, _⟩ => ⟨S65536x8, .f32⟩
  | .hbm, ⟨4, _⟩ => ⟨S65536x8, .f32⟩
  | .hbm, ⟨5, _⟩ => ⟨S65536x128, .f32⟩
  | .hbm, ⟨6, _⟩ => ⟨S65536x128, .f32⟩
  | .hbm, ⟨7, _⟩ => ⟨S384, .f32⟩
  | .hbm, ⟨8, _⟩ => ⟨S256, .f32⟩
  | .hbm, ⟨9, _⟩ => ⟨S384x768, .f32⟩
  | .hbm, ⟨10, _⟩ => ⟨S256x1024, .f32⟩
  | .hbm, ⟨11, _⟩ => ⟨S65536x1024, .f32⟩
  | .hbm, ⟨12, _⟩ => ⟨S65536x8352, .f32⟩
  | .hbm, ⟨13, _⟩ => ⟨S65536x512, .f32⟩
  | .hbm, ⟨14, _⟩ => ⟨S65536x512, .f32⟩
  | .hbm, ⟨15, _⟩ => ⟨S65536x512, .f32⟩
  | .hbm, ⟨16, _⟩ => ⟨S65536x384, .f32⟩
  | .hbm, ⟨17, _⟩ => ⟨S65536x256, .f32⟩
  | .hbm, ⟨18, _⟩ => ⟨S65536x32, .f32⟩
  | .hbm, ⟨19, _⟩ => ⟨S65536x768, .f32⟩
  | .hbm, ⟨20, _⟩ => ⟨S65536x768, .f32⟩
  | .hbm, ⟨21, _⟩ => ⟨S65536x1536, .f32⟩
  | .hbm, ⟨22, _⟩ => ⟨S65536x3072, .f32⟩
  | .hbm, ⟨23, _⟩ => ⟨S65536x8x64, .f32⟩
  | .hbm, ⟨24, _⟩ => ⟨S65536x8x8, .f32⟩
  | .hbm, ⟨25, _⟩ => ⟨S65536x8x8, .f32⟩
  | .hbm, ⟨26, _⟩ => ⟨S65536x1x8, .f32⟩
  | .hbm, ⟨27, _⟩ => ⟨S65536x1x8, .f32⟩
  | .hbm, ⟨28, _⟩ => ⟨S65536x8x8, .f32⟩
  | .hbm, ⟨29, _⟩ => ⟨S65536x8x8, .f32⟩
  | .hbm, ⟨30, _⟩ => ⟨S65536x8x8, .f32⟩
  | .hbm, ⟨31, _⟩ => ⟨S65536x8x8, .f32⟩
  | .hbm, ⟨32, _⟩ => ⟨S65536x8x8, .f32⟩
  | .hbm, ⟨33, _⟩ => ⟨S65536x8x8, .f32⟩
  | .hbm, ⟨34, _⟩ => ⟨S65536x8x8, .f32⟩
  | .hbm, ⟨35, _⟩ => ⟨S65536x8x8, .f32⟩
  | .hbm, ⟨36, _⟩ => ⟨S65536x8x8, .f32⟩
  | .hbm, ⟨37, _⟩ => ⟨S65536x8x8, .f32⟩
  | .hbm, ⟨38, _⟩ => ⟨S65536x8x48, .f32⟩
  | .hbm, ⟨39, _⟩ => ⟨S65536x8x64, .f32⟩
  | .hbm, ⟨40, _⟩ => ⟨S65536x512, .f32⟩
  | .hbm, ⟨41, _⟩ => ⟨S_, .f32⟩
  | .hbm, ⟨42, _⟩ => ⟨S65536x512, .f32⟩
  | .hbm, ⟨43, _⟩ => ⟨S65536x512, .f32⟩
  | .hbm, ⟨44, _⟩ => ⟨S65536x8x64, .f32⟩
  | .hbm, ⟨45, _⟩ => ⟨S65536x8x8, .f32⟩
  | .hbm, ⟨46, _⟩ => ⟨S65536x8x8, .f32⟩
  | .hbm, ⟨47, _⟩ => ⟨S65536x1x8, .f32⟩
  | .hbm, ⟨48, _⟩ => ⟨S65536x1x8, .f32⟩
  | .hbm, ⟨49, _⟩ => ⟨S65536x8x8, .f32⟩
  | .hbm, ⟨50, _⟩ => ⟨S65536x8x8, .f32⟩
  | .hbm, ⟨51, _⟩ => ⟨S65536x8x8, .f32⟩
  | .hbm, ⟨52, _⟩ => ⟨S65536x8x8, .f32⟩
  | .hbm, ⟨53, _⟩ => ⟨S65536x8x8, .f32⟩
  | .hbm, ⟨54, _⟩ => ⟨S65536x8x8, .f32⟩
  | .hbm, ⟨55, _⟩ => ⟨S65536x8x8, .f32⟩
  | .hbm, ⟨56, _⟩ => ⟨S65536x8x8, .f32⟩
  | .hbm, ⟨57, _⟩ => ⟨S65536x8x8, .f32⟩
  | .hbm, ⟨58, _⟩ => ⟨S65536x8x8, .f32⟩
  | .hbm, ⟨59, _⟩ => ⟨S65536x8x48, .f32⟩
  | .hbm, ⟨60, _⟩ => ⟨S65536x8x64, .f32⟩
  | .hbm, ⟨61, _⟩ => ⟨S65536x512, .f32⟩
  | .hbm, ⟨62, _⟩ => ⟨S_, .f32⟩
  | .hbm, ⟨63, _⟩ => ⟨S65536x4x1, .f32⟩
  | .hbm, ⟨64, _⟩ => ⟨S_, .f32⟩
  | .hbm, ⟨65, _⟩ => ⟨S65536x4x127, .f32⟩
  | .hbm, ⟨66, _⟩ => ⟨S65536x4x128, .f32⟩
  | .hbm, ⟨67, _⟩ => ⟨S65536x4x256, .f32⟩
  | .hbm, ⟨68, _⟩ => ⟨S65536x1024, .f32⟩
  | .hbm, ⟨69, _⟩ => ⟨S65536x2048, .f32⟩
  | .hbm, ⟨70, _⟩ => ⟨S65536x12x64, .f32⟩
  | .hbm, ⟨71, _⟩ => ⟨S65536x12x8, .f32⟩
  | .hbm, ⟨72, _⟩ => ⟨S65536x12x8, .f32⟩
  | .hbm, ⟨73, _⟩ => ⟨S65536x1x8, .f32⟩
  | .hbm, ⟨74, _⟩ => ⟨S65536x1x8, .f32⟩
  | .hbm, ⟨75, _⟩ => ⟨S65536x12x8, .f32⟩
  | .hbm, ⟨76, _⟩ => ⟨S65536x12x8, .f32⟩
  | .hbm, ⟨77, _⟩ => ⟨S65536x12x8, .f32⟩
  | .hbm, ⟨78, _⟩ => ⟨S65536x12x8, .f32⟩
  | .hbm, ⟨79, _⟩ => ⟨S65536x12x8, .f32⟩
  | .hbm, ⟨80, _⟩ => ⟨S65536x12x8, .f32⟩
  | .hbm, ⟨81, _⟩ => ⟨S65536x12x8, .f32⟩
  | .hbm, ⟨82, _⟩ => ⟨S65536x12x8, .f32⟩
  | .hbm, ⟨83, _⟩ => ⟨S65536x12x8, .f32⟩
  | .hbm, ⟨84, _⟩ => ⟨S65536x12x8, .f32⟩
  | .hbm, ⟨85, _⟩ => ⟨S65536x12x48, .f32⟩
  | .hbm, ⟨86, _⟩ => ⟨S65536x12x64, .f32⟩
  | .hbm, ⟨87, _⟩ => ⟨S65536x768, .f32⟩
  | .hbm, ⟨88, _⟩ => ⟨S65536x256, .f32⟩
  | .hbm, ⟨89, _⟩ => ⟨S_, .f32⟩
  | .hbm, ⟨90, _⟩ => ⟨S65536x256, .f32⟩
  | .hbm, ⟨91, _⟩ => ⟨S65536x256, .f32⟩
  | .hbm, ⟨92, _⟩ => ⟨S65536x12x64, .f32⟩
  | .hbm, ⟨93, _⟩ => ⟨S65536x12x8, .f32⟩
  | .hbm, ⟨94, _⟩ => ⟨S65536x12x8, .f32⟩
  | .hbm, ⟨95, _⟩ => ⟨S65536x1x8, .f32⟩
  | .hbm, ⟨96, _⟩ => ⟨S65536x1x8, .f32⟩
  | .hbm, ⟨97, _⟩ => ⟨S65536x12x8, .f32⟩
  | .hbm, ⟨98, _⟩ => ⟨S65536x12x8, .f32⟩
  | .hbm, ⟨99, _⟩ => ⟨S65536x12x8, .f32⟩
  | .hbm, ⟨100, _⟩ => ⟨S65536x12x8, .f32⟩
  | .hbm, ⟨101, _⟩ => ⟨S65536x12x8, .f32⟩
  | .hbm, ⟨102, _⟩ => ⟨S65536x12x8, .f32⟩
  | .hbm, ⟨103, _⟩ => ⟨S65536x12x8, .f32⟩
  | .hbm, ⟨104, _⟩ => ⟨S65536x12x8, .f32⟩
  | .hbm, ⟨105, _⟩ => ⟨S65536x12x8, .f32⟩
  | .hbm, ⟨106, _⟩ => ⟨S65536x12x8, .f32⟩
  | .hbm, ⟨107, _⟩ => ⟨S65536x12x48, .f32⟩
  | .hbm, ⟨108, _⟩ => ⟨S65536x12x64, .f32⟩
  | .hbm, ⟨109, _⟩ => ⟨S65536x768, .f32⟩
  | .hbm, ⟨110, _⟩ => ⟨S65536x256, .f32⟩
  | .hbm, ⟨111, _⟩ => ⟨S65536x512, .f32⟩
  | .hbm, ⟨112, _⟩ => ⟨S65536x1024, .f32⟩
  | .hbm, ⟨113, _⟩ => ⟨S8x1x8192x1024, .f32⟩
  | .hbm, ⟨114, _⟩ => ⟨S65536x2048, .bf16⟩
  | .hbm, ⟨115, _⟩ => ⟨S8x1x8192x1024, .bf16⟩
  | .hbm, ⟨116, _⟩ => ⟨S1x3072, .f32⟩
  | .hbm, ⟨117, _⟩ => ⟨S65536x3072, .f32⟩
  | .hbm, ⟨118, _⟩ => ⟨S65536x3072, .f32⟩
  | .hbm, ⟨119, _⟩ => ⟨S65536x3072, .f32⟩
  | .hbm, ⟨120, _⟩ => ⟨S65536x3072, .f32⟩
  | .hbm, ⟨121, _⟩ => ⟨S_, .f32⟩
  | .hbm, ⟨122, _⟩ => ⟨S65536x3072, .f32⟩
  | .hbm, ⟨123, _⟩ => ⟨S65536x3072, .f32⟩
  | .hbm, ⟨124, _⟩ => ⟨S_, .f32⟩
  | .hbm, ⟨125, _⟩ => ⟨S65536x3072, .f32⟩
  | .hbm, ⟨126, _⟩ => ⟨S65536x3072, .f32⟩
  | .hbm, ⟨127, _⟩ => ⟨S65536x3072, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_0 : Ref sig .tc := ⟨.hbm, 62, rfl⟩
abbrev main_v50 : Ref sig .tc := ⟨.hbm, 63, rfl⟩
abbrev main_cst_1 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_2 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_cst_3 : Ref sig .tc := ⟨.hbm, 121, rfl⟩
abbrev main_v106 : Ref sig .tc := ⟨.hbm, 122, rfl⟩
abbrev main_v107 : Ref sig .tc := ⟨.hbm, 123, rfl⟩
abbrev main_cst_4 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩

abbrev nD : Nat := 1
abbrev τ : Topo := Topo.v7x

variable {F : FTy → Type} [FloatOps F]
-- ==== Proof.OwnsRules.lean ====
/- Loads and stores at the head of a program, of a memref held by the values it reads (`owns`): a load at a unit-stride
   rectangle gives the window of the values there (`VecWindow.window`), an unmasked store leaves the values with the payload
   put over that window (`VecWindow.put`). With these two rules a body is followed without naming a buffer's raw contents. -/
module

public import Idealize.ShloMosaic.Lib.VecWindow

@[expose] public section

noncomputable section

namespace Cert.Owns

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of a memref held at the values `x` gives their window at the load's rectangle. -/
theorem wp_load_owns {cs : CoreSpace} {m : Memref sig c.2.kind cs s e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α}
    {q : PosShare TreeShare} {x : s.Idx → Val e} :
    (owns c m q x : sProp (MT nD τ sig Ix Val Name U Lvl))
      ⊢ iprop((owns c m q x -∗ wp frame (wpE defs 𝒱 c bd) E (k (VecWindow.window x off size inb)) Q)
        -∗ wp frame (wpE defs 𝒱 c bd) E (.op (.load m (Rect.unit off size inb).toLoadRect hl) k) Q) := by
  unfold owns
  iintro ⟨%f, %hf, H⟩ Hk
  subst hf
  iapply (wp_load 𝒱 c bd E (hl := hl) (k := k) (q := q) (Q := Q) (View.setOn_subset_set (v := m.view) _)) $$ H
  iintro H
  iapply Hk
  iexists f
  isplitr
  · ipureintro; rfl
  · iexact H

/-- An unmasked store into a memref held at the values `x` leaves `x` with the payload put over the store's rectangle. -/
theorem wp_store_owns {cs : CoreSpace} {m : Memref sig c.2.kind cs s e} {off size : Fin s.rank → ℕ} {inb : ∀ a, off a + size a ≤ s.size a}
    {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} {x : s.Idx → Val e} :
    (owns c m fullShare x : sProp (MT nD τ sig Ix Val Name U Lvl))
      ⊢ iprop((owns c m fullShare (VecWindow.put x off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  iapply (wp_store_writes₀ 𝒱 c bd E (hx := hx) (hm := hm) (k := k) (Q := Q) (View.set_slice_subset (v := m.view) _)) $$ H
  iintro H
  iapply Hk
  iexists _
  isplitr
  swap
  · iexact H
  · ipureintro; exact View.read_writes_cons_put m.view f inb w [] rfl

end Cert.Owns

end
-- ==== Proof.MlaKernelIdealBody.lean ====
/- The body of the attention kernel `mla_attn` (KernelIdeal) as a chain of named pieces: the start of a head (`startThen`, taken at a
   head's first query block: its transposed queries and its first score tile), the preparation of the next query block and of the
   running maximum and sums (`prepThen`), sixteen equal steps over the key blocks (`stepThen`: the NEXT tile of scores, then the
   current tile's exponentials, sums and maximum), and the division (`finishThen`). The printed body is this chain
   (`body_eq_first`, `body_eq_rest`, by definitional unfolding), and each piece acts on the buffers' values as a plain function of
   them (`start`, `prep`, `step`, `finish`). -/
module

public import proofs.«01_k».proof.Proof.Gen.KernelIdeal.Skeleton
public import proofs.«01_k».proof.Proof.OwnsRules
public import Idealize.ShloMosaic.Lib.Pipeline.Regions

@[expose] public section

set_option maxRecDepth 65536

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- A program of the kernel that returns nothing. -/
abbrev KProg (F : FTy → Type) [FloatOps F] : Type 1 := Prog (TpuEff nD τ sig (Elt F) Λ₀ .tc) PUnit.{1}

/-! ## What the pieces compute -/

/-- A query block transposed, the queries along the lanes. -/
def qT (x : Vec F S1x1024x128 .bf16) : FVec F S1x128x1024 .bf16 := k0_pay6 x
/-- A tile of scores: a block of keys against the transposed queries. -/
def sc (k : Vec F S1x512x128 .bf16) (q : Vec F S1x128x1024 .bf16) : FVec F S1x512x1024 .f32 := k0_pay10 k q
/-- The largest score of the tile, for each query. -/
def scMax (k : Vec F S1x512x128 .bf16) (q : Vec F S1x128x1024 .bf16) : FVec F S1x1x1024 .f32 := k0_pay11 k q
/-- The running maximum with a tile's. -/
def mNew (m : Vec F S1x1024 .f32) (mc : Vec F S1x1x1024 .f32) : FVec F S1x1024 .f32 := k0_pay16 (k0_pay12 m mc)
/-- The sums rescaled to the new maximum, with the tile's exponentials times the values added. -/
def accNew (m : Vec F S1x1024 .f32) (mc : Vec F S1x1x1024 .f32) (s : Vec F S1x512x1024 .f32) (v : Vec F S1x512x80 .bf16)
    (a : Vec F S80x1024 .f32) : FVec F S80x1024 .f32 := k0_pay15 (k0_pay13 m mc s) (k0_pay14 m mc) v a
/-- The output block: the value sums over the sum of the exponentials, the unused lanes zero. -/
def outBlk (a : Vec F S64x1024 .f32) (l : Vec F S1x1024 .f32) : FVec F S1x1024x128 .bf16 := k0_pay1 (k0_pay119 a l)

/-- The values of the kernel's scratch buffers: two slots of transposed queries, the running maximum, the running sums, two
    tiles of scores and the two tiles' maxima. -/
structure St (F : FTy → Type) [FloatOps F] where
  q : Vec F S2x128x1024 .bf16
  m : Vec F S1x1024 .f32
  a : Vec F S80x1024 .f32
  s : Vec F S2x512x1024 .f32
  c : Vec F S2x1x1024 .f32

open VecWindow in
/-- The start of a head: its first queries into slot `o`, its first tile of scores into tile 0. -/
def start (o : Fin 3 → ℕ) (ho : ∀ a, o a + S1x128x1024.size a ≤ S2x128x1024.size a)
    (xq : Vec F S1x1024x128 .bf16) (xk : Vec F S1x8192x128 .bf16) (z : St F) : St F :=
  let q' := put (s := S2x128x1024) z.q o S1x128x1024.size (qT (window (s := S1x1024x128) xq ![0, 0, 0] S1x1024x128.size inb_S1x1024x128_S1x1024x128_0_0_0))
  let k := window (s := S1x8192x128) xk ![0, 0, 0] S1x512x128.size inb_S1x8192x128_S1x512x128_0_0_0
  let qw := window (s := S2x128x1024) q' o S1x128x1024.size ho
  { z with
    q := q'
    s := put (s := S2x512x1024) z.s ![0, 0, 0] S1x512x1024.size (sc k qw)
    c := put (s := S2x1x1024) z.c ![0, 0, 0] S1x1x1024.size (scMax k qw) }

open VecWindow in
/-- The preparation of a point: the next queries into slot `o`, the running maximum at `-∞`, the running sums at zero. -/
def prep (o : Fin 3 → ℕ) (xn : Vec F S1x1024x128 .bf16) (z : St F) : St F :=
  { z with
    q := put (s := S2x128x1024) z.q o S1x128x1024.size (qT (window (s := S1x1024x128) xn ![0, 0, 0] S1x1024x128.size inb_S1x1024x128_S1x1024x128_0_0_0))
    m := put (s := S1x1024) z.m ![0, 0] S1x1024.size (k0_pay7 (F := F))
    a := put (s := S80x1024) z.a ![0, 0] S80x1024.size (k0_pay8 (F := F)) }

open VecWindow in
/-- One step: the scores of the keys at `ok` against the queries in slot `oq` into tile `w`, then tile `r`, with the values at
    `ov`, into the running maximum and sums. -/
def step (ok : Fin 3 → ℕ) (hok : ∀ a, ok a + S1x512x128.size a ≤ S1x8192x128.size a)
    (oq : Fin 3 → ℕ) (hoq : ∀ a, oq a + S1x128x1024.size a ≤ S2x128x1024.size a)
    (w : Fin 3 → ℕ) (r : Fin 3 → ℕ) (hr : ∀ a, r a + S1x512x1024.size a ≤ S2x512x1024.size a) (hr1 : ∀ a, r a + S1x1x1024.size a ≤ S2x1x1024.size a)
    (ov : Fin 3 → ℕ) (hov : ∀ a, ov a + S1x512x80.size a ≤ S1x8192x128.size a)
    (xk xv : Vec F S1x8192x128 .bf16) (z : St F) : St F :=
  let k := window (s := S1x8192x128) xk ok S1x512x128.size hok
  let qw := window (s := S2x128x1024) z.q oq S1x128x1024.size hoq
  let s' := put (s := S2x512x1024) z.s w S1x512x1024.size (sc k qw)
  let c' := put (s := S2x1x1024) z.c w S1x1x1024.size (scMax k qw)
  let m := window (s := S1x1024) z.m ![0, 0] S1x1024.size inb_S1x1024_S1x1024_0_0
  let mc := window (s := S2x1x1024) c' r S1x1x1024.size hr1
  let s := window (s := S2x512x1024) s' r S1x512x1024.size hr
  let v := window (s := S1x8192x128) xv ov S1x512x80.size hov
  let a := window (s := S80x1024) z.a ![0, 0] S80x1024.size inb_S80x1024_S80x1024_0_0
  { q := z.q
    m := put (s := S1x1024) z.m ![0, 0] S1x1024.size (mNew m mc)
    a := put (s := S80x1024) z.a ![0, 0] S80x1024.size (accNew m mc s v a)
    s := s'
    c := c' }

open VecWindow in
/-- What the point leaves in the output block's buffer. -/
def finish (z : St F) (y : Vec F S1x1024x128 .bf16) : Vec F S1x1024x128 .bf16 :=
  put (s := S1x1024x128) y ![0, 0, 0] S1x1024x128.size
    (outBlk (window (s := S80x1024) z.a ![0, 0] S64x1024.size inb_S80x1024_S64x1024_0_0) (window (s := S80x1024) z.a ![64, 0] S1x1024.size inb_S80x1024_S1x1024_64_0))

/-! ## The pieces as programs, each before a rest `K` -/

/-- `start` as a program. -/
def startThen (arg3 : Memref sig .tc .vmem S1x1024x128 .bf16) (arg5 : Memref sig .tc .vmem S1x8192x128 .bf16) (arg8 : Memref sig .tc .vmem S2x128x1024 .bf16) (harg8 : arg8.IsWhole) (arg11 : Memref sig .tc .vmem S2x512x1024 .f32) (arg12 : Memref sig .tc .vmem S2x1x1024 .f32)
    (o : Fin 3 → ℕ) (ho : ∀ a, o a + S1x128x1024.size a ≤ S2x128x1024.size a) (pk : (Rect.unit (s := S2x128x1024) o S1x128x1024.size ho).PackedRows (EltTy.packing .bf16)) (K : KProg F) : KProg F :=
  .op (.load arg3 (Rect.unit (s := S1x1024x128) ![0, 0, 0] S1x1024x128.size inb_S1x1024x128_S1x1024x128_0_0_0).toLoadRect (View.loadsAt_vmem h_S1x1024x128)) fun x =>
  .op (.load arg8 (Rect.unit (s := S2x128x1024) o S1x128x1024.size ho).toLoadRect (View.loadsAt_vmem h_S1x128x1024)) fun _ =>
  .op (.store arg8 (Rect.unit (s := S2x128x1024) o S1x128x1024.size ho) (qT x) Finset.univ (View.stores_vmem h_S1x128x1024 (harg8.storeExact_slice rfl _ pk) (fun _ => rfl)) (.inl rfl)) fun _ =>
  .op (.load arg5 (Rect.unit (s := S1x8192x128) ![0, 0, 0] S1x512x128.size inb_S1x8192x128_S1x512x128_0_0_0).toLoadRect (View.loadsAt_vmem h_S1x512x128)) fun k =>
  .op (.load arg8 (Rect.unit (s := S2x128x1024) o S1x128x1024.size ho).toLoadRect (View.loadsAt_vmem h_S1x128x1024)) fun q =>
  .op (.load arg11 (Rect.unit (s := S2x512x1024) ![0, 0, 0] S1x512x1024.size inb_S2x512x1024_S1x512x1024_0_0_0).toLoadRect (View.loadsAt_vmem h_S1x512x1024)) fun _ =>
  .op (.store arg11 (Rect.unit (s := S2x512x1024) ![0, 0, 0] S1x512x1024.size inb_S2x512x1024_S1x512x1024_0_0_0) (sc k q) Finset.univ (View.stores_vmem_bits_univ h_S1x512x1024 rfl) (.inl rfl)) fun _ =>
  .op (.load arg12 (Rect.unit (s := S2x1x1024) ![0, 0, 0] S1x1x1024.size inb_S2x1x1024_S1x1x1024_0_0_0).toLoadRect (View.loadsAt_vmem h_S1x1x1024)) fun _ =>
  .op (.store arg12 (Rect.unit (s := S2x1x1024) ![0, 0, 0] S1x1x1024.size inb_S2x1x1024_S1x1x1024_0_0_0) (scMax k q) Finset.univ (View.stores_vmem_bits_univ h_S1x1x1024 rfl) (.inl rfl)) fun _ => K

/-- `prep` as a program. -/
def prepThen (arg4 : Memref sig .tc .vmem S1x1024x128 .bf16) (arg8 : Memref sig .tc .vmem S2x128x1024 .bf16) (harg8 : arg8.IsWhole) (arg9 : Memref sig .tc .vmem S1x1024 .f32) (arg10 : Memref sig .tc .vmem S80x1024 .f32)
    (o : Fin 3 → ℕ) (ho : ∀ a, o a + S1x128x1024.size a ≤ S2x128x1024.size a) (pk : (Rect.unit (s := S2x128x1024) o S1x128x1024.size ho).PackedRows (EltTy.packing .bf16)) (K : KProg F) : KProg F :=
  .op (.load arg4 (Rect.unit (s := S1x1024x128) ![0, 0, 0] S1x1024x128.size inb_S1x1024x128_S1x1024x128_0_0_0).toLoadRect (View.loadsAt_vmem h_S1x1024x128)) fun x =>
  .op (.load arg8 (Rect.unit (s := S2x128x1024) o S1x128x1024.size ho).toLoadRect (View.loadsAt_vmem h_S1x128x1024)) fun _ =>
  .op (.store arg8 (Rect.unit (s := S2x128x1024) o S1x128x1024.size ho) (qT x) Finset.univ (View.stores_vmem h_S1x128x1024 (harg8.storeExact_slice rfl _ pk) (fun _ => rfl)) (.inl rfl)) fun _ =>
  .op (.load arg9 (Rect.unit (s := S1x1024) ![0, 0] S1x1024.size inb_S1x1024_S1x1024_0_0).toLoadRect (View.loadsAt_vmem h_S1x1024)) fun _ =>
  .op (.store arg9 (Rect.unit (s := S1x1024) ![0, 0] S1x1024.size inb_S1x1024_S1x1024_0_0) (k0_pay7 (F := F)) Finset.univ (View.stores_vmem_bits_univ h_S1x1024 rfl) (.inl rfl)) fun _ =>
  .op (.load arg10 (Rect.unit (s := S80x1024) ![0, 0] S80x1024.size inb_S80x1024_S80x1024_0_0).toLoadRect (View.loadsAt_vmem h_S80x1024)) fun _ =>
  .op (.store arg10 (Rect.unit (s := S80x1024) ![0, 0] S80x1024.size inb_S80x1024_S80x1024_0_0) (k0_pay8 (F := F)) Finset.univ (View.stores_vmem_bits_univ h_S80x1024 rfl) (.inl rfl)) fun _ => K

/-- `step` as a program. -/
def stepThen (arg5 : Memref sig .tc .vmem S1x8192x128 .bf16) (arg6 : Memref sig .tc .vmem S1x8192x128 .bf16) (arg8 : Memref sig .tc .vmem S2x128x1024 .bf16) (arg9 : Memref sig .tc .vmem S1x1024 .f32) (arg10 : Memref sig .tc .vmem S80x1024 .f32) (arg11 : Memref sig .tc .vmem S2x512x1024 .f32) (arg12 : Memref sig .tc .vmem S2x1x1024 .f32)
    (ok : Fin 3 → ℕ) (hok : ∀ a, ok a + S1x512x128.size a ≤ S1x8192x128.size a)
    (oq : Fin 3 → ℕ) (hoq : ∀ a, oq a + S1x128x1024.size a ≤ S2x128x1024.size a)
    (w : Fin 3 → ℕ) (hw : ∀ a, w a + S1x512x1024.size a ≤ S2x512x1024.size a) (hw1 : ∀ a, w a + S1x1x1024.size a ≤ S2x1x1024.size a)
    (r : Fin 3 → ℕ) (hr : ∀ a, r a + S1x512x1024.size a ≤ S2x512x1024.size a) (hr1 : ∀ a, r a + S1x1x1024.size a ≤ S2x1x1024.size a)
    (ov : Fin 3 → ℕ) (hov : ∀ a, ov a + S1x512x80.size a ≤ S1x8192x128.size a) (K : KProg F) : KProg F :=
  .op (.load arg5 (Rect.unit (s := S1x8192x128) ok S1x512x128.size hok).toLoadRect (View.loadsAt_vmem h_S1x512x128)) fun k =>
  .op (.load arg8 (Rect.unit (s := S2x128x1024) oq S1x128x1024.size hoq).toLoadRect (View.loadsAt_vmem h_S1x128x1024)) fun q =>
  .op (.load arg11 (Rect.unit (s := S2x512x1024) w S1x512x1024.size hw).toLoadRect (View.loadsAt_vmem h_S1x512x1024)) fun _ =>
  .op (.store arg11 (Rect.unit (s := S2x512x1024) w S1x512x1024.size hw) (sc k q) Finset.univ (View.stores_vmem_bits_univ h_S1x512x1024 rfl) (.inl rfl)) fun _ =>
  .op (.load arg12 (Rect.unit (s := S2x1x1024) w S1x1x1024.size hw1).toLoadRect (View.loadsAt_vmem h_S1x1x1024)) fun _ =>
  .op (.store arg12 (Rect.unit (s := S2x1x1024) w S1x1x1024.size hw1) (scMax k q) Finset.univ (View.stores_vmem_bits_univ h_S1x1x1024 rfl) (.inl rfl)) fun _ =>
  .op (.load arg9 (Rect.unit (s := S1x1024) ![0, 0] S1x1024.size inb_S1x1024_S1x1024_0_0).toLoadRect (View.loadsAt_vmem h_S1x1024)) fun m =>
  .op (.load arg12 (Rect.unit (s := S2x1x1024) r S1x1x1024.size hr1).toLoadRect (View.loadsAt_vmem h_S1x1x1024)) fun mc =>
  .op (.load arg11 (Rect.unit (s := S2x512x1024) r S1x512x1024.size hr).toLoadRect (View.loadsAt_vmem h_S1x512x1024)) fun s =>
  .op (.load arg6 (Rect.unit (s := S1x8192x128) ov S1x512x80.size hov).toLoadRect (View.loadsAt_vmem h_S1x512x80)) fun v =>
  .op (.load arg10 (Rect.unit (s := S80x1024) ![0, 0] S80x1024.size inb_S80x1024_S80x1024_0_0).toLoadRect (View.loadsAt_vmem h_S80x1024)) fun a =>
  .op (.load arg10 (Rect.unit (s := S80x1024) ![0, 0] S80x1024.size inb_S80x1024_S80x1024_0_0).toLoadRect (View.loadsAt_vmem h_S80x1024)) fun _ =>
  .op (.store arg10 (Rect.unit (s := S80x1024) ![0, 0] S80x1024.size inb_S80x1024_S80x1024_0_0) (accNew m mc s v a) Finset.univ (View.stores_vmem_bits_univ h_S80x1024 rfl) (.inl rfl)) fun _ =>
  .op (.load arg9 (Rect.unit (s := S1x1024) ![0, 0] S1x1024.size inb_S1x1024_S1x1024_0_0).toLoadRect (View.loadsAt_vmem h_S1x1024)) fun _ =>
  .op (.store arg9 (Rect.unit (s := S1x1024) ![0, 0] S1x1024.size inb_S1x1024_S1x1024_0_0) (mNew m mc) Finset.univ (View.stores_vmem_bits_univ h_S1x1024 rfl) (.inl rfl)) fun _ => K

/-- `finish` as a program: the end of the body. -/
def finishProg (arg7 : Memref sig .tc .vmem S1x1024x128 .bf16) (harg7 : arg7.IsWhole) (arg10 : Memref sig .tc .vmem S80x1024 .f32) : KProg F :=
  .op (.load arg10 (Rect.unit (s := S80x1024) ![0, 0] S64x1024.size inb_S80x1024_S64x1024_0_0).toLoadRect (View.loadsAt_vmem h_S64x1024)) fun a =>
  .op (.load arg10 (Rect.unit (s := S80x1024) ![64, 0] S1x1024.size inb_S80x1024_S1x1024_64_0).toLoadRect (View.loadsAt_vmem h_S1x1024)) fun l =>
  .op (.load arg7 (Rect.unit (s := S1x1024x128) ![0, 0, 0] S1x1024x128.size inb_S1x1024x128_S1x1024x128_0_0_0).toLoadRect (View.loadsAt_vmem h_S1x1024x128)) fun _ =>
  .op (.store arg7 (Rect.unit (s := S1x1024x128) ![0, 0, 0] S1x1024x128.size inb_S1x1024x128_S1x1024x128_0_0_0) (outBlk a l) Finset.univ (View.stores_vmem h_S1x1024x128 (harg7.storeExact_slice rfl _ packedbf16_S1x1024x128_S1x1024x128_0_0_0) (fun _ => rfl)) (.inl rfl)) fun _ => .ret ⟨⟩

/-- The body without the start of a head: the preparation, sixteen steps over the key blocks (the last one's scores are the next
    query block's first), the division. -/
def restProg (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .bf16) (harg7 : arg7.IsWhole) (arg8 : Memref sig .tc .vmem S2x128x1024 .bf16) (harg8 : arg8.IsWhole) (arg9 : Memref sig .tc .vmem S1x1024 .f32) (harg9 : arg9.IsWhole) (arg10 : Memref sig .tc .vmem S80x1024 .f32) (harg10 : arg10.IsWhole) (arg11 : Memref sig .tc .vmem S2x512x1024 .f32) (harg11 : arg11.IsWhole) (arg12 : Memref sig .tc .vmem S2x1x1024 .f32) (harg12 : arg12.IsWhole) : KProg F :=
  prepThen arg4 arg8 harg8 arg9 arg10 (k0_off2 i) (k0_off2_inb i) (k0_off2_packedbf16 i) <|
  stepThen arg5 arg6 arg8 arg9 arg10 arg11 arg12 (k0_off3 0#32) (k0_off3_inb 0) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 0#32) (k0_off5_inb 0) <|
  stepThen arg5 arg6 arg8 arg9 arg10 arg11 arg12 (k0_off3 1#32) (k0_off3_inb 1) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 1#32) (k0_off5_inb 1) <|
  stepThen arg5 arg6 arg8 arg9 arg10 arg11 arg12 (k0_off3 2#32) (k0_off3_inb 2) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 2#32) (k0_off5_inb 2) <|
  stepThen arg5 arg6 arg8 arg9 arg10 arg11 arg12 (k0_off3 3#32) (k0_off3_inb 3) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 3#32) (k0_off5_inb 3) <|
  stepThen arg5 arg6 arg8 arg9 arg10 arg11 arg12 (k0_off3 4#32) (k0_off3_inb 4) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 4#32) (k0_off5_inb 4) <|
  stepThen arg5 arg6 arg8 arg9 arg10 arg11 arg12 (k0_off3 5#32) (k0_off3_inb 5) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 5#32) (k0_off5_inb 5) <|
  stepThen arg5 arg6 arg8 arg9 arg10 arg11 arg12 (k0_off3 6#32) (k0_off3_inb 6) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 6#32) (k0_off5_inb 6) <|
  stepThen arg5 arg6 arg8 arg9 arg10 arg11 arg12 (k0_off3 7#32) (k0_off3_inb 7) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 7#32) (k0_off5_inb 7) <|
  stepThen arg5 arg6 arg8 arg9 arg10 arg11 arg12 ![0, 4608, 0] inb_S1x8192x128_S1x512x128_0_4608_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 4096, 0] inb_S1x8192x128_S1x512x80_0_4096_0 <|
  stepThen arg5 arg6 arg8 arg9 arg10 arg11 arg12 ![0, 5120, 0] inb_S1x8192x128_S1x512x128_0_5120_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 4608, 0] inb_S1x8192x128_S1x512x80_0_4608_0 <|
  stepThen arg5 arg6 arg8 arg9 arg10 arg11 arg12 ![0, 5632, 0] inb_S1x8192x128_S1x512x128_0_5632_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 5120, 0] inb_S1x8192x128_S1x512x80_0_5120_0 <|
  stepThen arg5 arg6 arg8 arg9 arg10 arg11 arg12 ![0, 6144, 0] inb_S1x8192x128_S1x512x128_0_6144_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 5632, 0] inb_S1x8192x128_S1x512x80_0_5632_0 <|
  stepThen arg5 arg6 arg8 arg9 arg10 arg11 arg12 ![0, 6656, 0] inb_S1x8192x128_S1x512x128_0_6656_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 6144, 0] inb_S1x8192x128_S1x512x80_0_6144_0 <|
  stepThen arg5 arg6 arg8 arg9 arg10 arg11 arg12 ![0, 7168, 0] inb_S1x8192x128_S1x512x128_0_7168_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 6656, 0] inb_S1x8192x128_S1x512x80_0_6656_0 <|
  stepThen arg5 arg6 arg8 arg9 arg10 arg11 arg12 ![0, 7680, 0] inb_S1x8192x128_S1x512x128_0_7680_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 7168, 0] inb_S1x8192x128_S1x512x80_0_7168_0 <|
  stepThen arg5 arg6 arg8 arg9 arg10 arg11 arg12 ![0, 0, 0] inb_S1x8192x128_S1x512x128_0_0_0 (k0_off2 i) (k0_off2_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 7680, 0] inb_S1x8192x128_S1x512x80_0_7680_0 <|
  finishProg arg7 harg7 arg10

/-- Step `n` of a point. -/
def stepAt (i : grid0.Coords) (xk xv : Vec F S1x8192x128 .bf16) (n : ℕ) (z : St F) : St F :=
  match n with
  | 0 => step (k0_off3 0#32) (k0_off3_inb 0) (k0_off4 i) (k0_off4_inb i) ![1, 0, 0] ![0, 0, 0] inb_S2x512x1024_S1x512x1024_0_0_0 inb_S2x1x1024_S1x1x1024_0_0_0 (k0_off5 0#32) (k0_off5_inb 0) xk xv z
  | 1 => step (k0_off3 1#32) (k0_off3_inb 1) (k0_off4 i) (k0_off4_inb i) ![0, 0, 0] ![1, 0, 0] inb_S2x512x1024_S1x512x1024_1_0_0 inb_S2x1x1024_S1x1x1024_1_0_0 (k0_off5 1#32) (k0_off5_inb 1) xk xv z
  | 2 => step (k0_off3 2#32) (k0_off3_inb 2) (k0_off4 i) (k0_off4_inb i) ![1, 0, 0] ![0, 0, 0] inb_S2x512x1024_S1x512x1024_0_0_0 inb_S2x1x1024_S1x1x1024_0_0_0 (k0_off5 2#32) (k0_off5_inb 2) xk xv z
  | 3 => step (k0_off3 3#32) (k0_off3_inb 3) (k0_off4 i) (k0_off4_inb i) ![0, 0, 0] ![1, 0, 0] inb_S2x512x1024_S1x512x1024_1_0_0 inb_S2x1x1024_S1x1x1024_1_0_0 (k0_off5 3#32) (k0_off5_inb 3) xk xv z
  | 4 => step (k0_off3 4#32) (k0_off3_inb 4) (k0_off4 i) (k0_off4_inb i) ![1, 0, 0] ![0, 0, 0] inb_S2x512x1024_S1x512x1024_0_0_0 inb_S2x1x1024_S1x1x1024_0_0_0 (k0_off5 4#32) (k0_off5_inb 4) xk xv z
  | 5 => step (k0_off3 5#32) (k0_off3_inb 5) (k0_off4 i) (k0_off4_inb i) ![0, 0, 0] ![1, 0, 0] inb_S2x512x1024_S1x512x1024_1_0_0 inb_S2x1x1024_S1x1x1024_1_0_0 (k0_off5 5#32) (k0_off5_inb 5) xk xv z
  | 6 => step (k0_off3 6#32) (k0_off3_inb 6) (k0_off4 i) (k0_off4_inb i) ![1, 0, 0] ![0, 0, 0] inb_S2x512x1024_S1x512x1024_0_0_0 inb_S2x1x1024_S1x1x1024_0_0_0 (k0_off5 6#32) (k0_off5_inb 6) xk xv z
  | 7 => step (k0_off3 7#32) (k0_off3_inb 7) (k0_off4 i) (k0_off4_inb i) ![0, 0, 0] ![1, 0, 0] inb_S2x512x1024_S1x512x1024_1_0_0 inb_S2x1x1024_S1x1x1024_1_0_0 (k0_off5 7#32) (k0_off5_inb 7) xk xv z
  | 8 => step ![0, 4608, 0] inb_S1x8192x128_S1x512x128_0_4608_0 (k0_off4 i) (k0_off4_inb i) ![1, 0, 0] ![0, 0, 0] inb_S2x512x1024_S1x512x1024_0_0_0 inb_S2x1x1024_S1x1x1024_0_0_0 ![0, 4096, 0] inb_S1x8192x128_S1x512x80_0_4096_0 xk xv z
  | 9 => step ![0, 5120, 0] inb_S1x8192x128_S1x512x128_0_5120_0 (k0_off4 i) (k0_off4_inb i) ![0, 0, 0] ![1, 0, 0] inb_S2x512x1024_S1x512x1024_1_0_0 inb_S2x1x1024_S1x1x1024_1_0_0 ![0, 4608, 0] inb_S1x8192x128_S1x512x80_0_4608_0 xk xv z
  | 10 => step ![0, 5632, 0] inb_S1x8192x128_S1x512x128_0_5632_0 (k0_off4 i) (k0_off4_inb i) ![1, 0, 0] ![0, 0, 0] inb_S2x512x1024_S1x512x1024_0_0_0 inb_S2x1x1024_S1x1x1024_0_0_0 ![0, 5120, 0] inb_S1x8192x128_S1x512x80_0_5120_0 xk xv z
  | 11 => step ![0, 6144, 0] inb_S1x8192x128_S1x512x128_0_6144_0 (k0_off4 i) (k0_off4_inb i) ![0, 0, 0] ![1, 0, 0] inb_S2x512x1024_S1x512x1024_1_0_0 inb_S2x1x1024_S1x1x1024_1_0_0 ![0, 5632, 0] inb_S1x8192x128_S1x512x80_0_5632_0 xk xv z
  | 12 => step ![0, 6656, 0] inb_S1x8192x128_S1x512x128_0_6656_0 (k0_off4 i) (k0_off4_inb i) ![1, 0, 0] ![0, 0, 0] inb_S2x512x1024_S1x512x1024_0_0_0 inb_S2x1x1024_S1x1x1024_0_0_0 ![0, 6144, 0] inb_S1x8192x128_S1x512x80_0_6144_0 xk xv z
  | 13 => step ![0, 7168, 0] inb_S1x8192x128_S1x512x128_0_7168_0 (k0_off4 i) (k0_off4_inb i) ![0, 0, 0] ![1, 0, 0] inb_S2x512x1024_S1x512x1024_1_0_0 inb_S2x1x1024_S1x1x1024_1_0_0 ![0, 6656, 0] inb_S1x8192x128_S1x512x80_0_6656_0 xk xv z
  | 14 => step ![0, 7680, 0] inb_S1x8192x128_S1x512x128_0_7680_0 (k0_off4 i) (k0_off4_inb i) ![1, 0, 0] ![0, 0, 0] inb_S2x512x1024_S1x512x1024_0_0_0 inb_S2x1x1024_S1x1x1024_0_0_0 ![0, 7168, 0] inb_S1x8192x128_S1x512x80_0_7168_0 xk xv z
  | 15 => step ![0, 0, 0] inb_S1x8192x128_S1x512x128_0_0_0 (k0_off2 i) (k0_off2_inb i) ![0, 0, 0] ![1, 0, 0] inb_S2x512x1024_S1x512x1024_1_0_0 inb_S2x1x1024_S1x1x1024_1_0_0 ![0, 7680, 0] inb_S1x8192x128_S1x512x80_0_7680_0 xk xv z
  | _ => z

/-- The scratch values before step `n` of a point that starts at `z`. -/
def stAt (i : grid0.Coords) (xn : Vec F S1x1024x128 .bf16) (xk xv : Vec F S1x8192x128 .bf16) (z : St F) : ℕ → St F
  | 0 => prep (k0_off2 i) xn z
  | n + 1 => stepAt i xk xv n (stAt i xn xk xv z n)

/-! ## The printed body is the chain -/

/-- At a head's first query block the body is the start and the rest. -/
theorem body_eq_first (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .bf16) (harg7 : arg7.IsWhole) (arg8 : Memref sig .tc .vmem S2x128x1024 .bf16) (harg8 : arg8.IsWhole) (arg9 : Memref sig .tc .vmem S1x1024 .f32) (harg9 : arg9.IsWhole) (arg10 : Memref sig .tc .vmem S80x1024 .f32) (harg10 : arg10.IsWhole) (arg11 : Memref sig .tc .vmem S2x512x1024 .f32) (harg11 : arg11.IsWhole) (arg12 : Memref sig .tc .vmem S2x1x1024 .f32) (harg12 : arg12.IsWhole) (h : k0_cond1 i = 1#1) :
    cc0_mla_attn (F := F) i arg3 harg3 arg4 harg4 arg5 harg5 arg6 harg6 arg7 harg7 arg8 harg8 arg9 harg9 arg10 harg10 arg11 harg11 arg12 harg12
      = startThen arg3 arg5 arg8 harg8 arg11 arg12 (k0_off1 i) (k0_off1_inb i h) (k0_off1_packedbf16 i h) (restProg i arg3 harg3 arg4 harg4 arg5 harg5 arg6 harg6 arg7 harg7 arg8 harg8 arg9 harg9 arg10 harg10 arg11 harg11 arg12 harg12) := by
  rw [cc0_mla_attn_eq_skeleton]
  unfold cc0_mla_attn_skel
  rw [k0_part1_eq_skeleton]
  unfold k0_part1_skel
  simp only [dif_pos h]
  chain_rfl

/-- At any other it is the rest. -/
theorem body_eq_rest (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .bf16) (harg7 : arg7.IsWhole) (arg8 : Memref sig .tc .vmem S2x128x1024 .bf16) (harg8 : arg8.IsWhole) (arg9 : Memref sig .tc .vmem S1x1024 .f32) (harg9 : arg9.IsWhole) (arg10 : Memref sig .tc .vmem S80x1024 .f32) (harg10 : arg10.IsWhole) (arg11 : Memref sig .tc .vmem S2x512x1024 .f32) (harg11 : arg11.IsWhole) (arg12 : Memref sig .tc .vmem S2x1x1024 .f32) (harg12 : arg12.IsWhole) (h : ¬ k0_cond1 i = 1#1) :
    cc0_mla_attn (F := F) i arg3 harg3 arg4 harg4 arg5 harg5 arg6 harg6 arg7 harg7 arg8 harg8 arg9 harg9 arg10 harg10 arg11 harg11 arg12 harg12 = restProg i arg3 harg3 arg4 harg4 arg5 harg5 arg6 harg6 arg7 harg7 arg8 harg8 arg9 harg9 arg10 harg10 arg11 harg11 arg12 harg12 := by
  rw [cc0_mla_attn_eq_skeleton]
  unfold cc0_mla_attn_skel
  rw [k0_part1_eq_skeleton]
  unfold k0_part1_skel
  simp only [dif_neg h]
  chain_rfl

end Cert.KernelIdeal.Mla

end
-- ==== Proof.MlaKernelIdealWp.lean ====
/- The pieces of the attention kernel's body (KernelIdeal) over its buffers: each, run before a rest, turns the values its buffers
   hold into the piece's function of them (`start`, `prep`, `step`, `finish`); and the whole body (`wp_rest`, `wp_first`). -/
module

public import proofs.«01_k».proof.Proof.MlaKernelIdealBody
public import proofs.«01_k».proof.Proof.Gen.KernelIdeal.Frame

@[expose] public section

set_option maxRecDepth 65536

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Owns

variable {F : FTy → Type} [FloatOps F]

local notation "𝕄" => MT nD τ sig Unit (Elt F) ℕ (UR sig nD τ) ℕ

variable (𝒱₀ : Variants) (c : Dev nD) {K : KProg F}

/-- The start of a head. -/
theorem wp_start {Q : PUnit.{1} → sProp 𝕄} {arg9 : Memref sig .tc .vmem S1x1024 .f32} {arg10 : Memref sig .tc .vmem S80x1024 .f32} {arg3 : Memref sig .tc .vmem S1x1024x128 .bf16} {arg5 : Memref sig .tc .vmem S1x8192x128 .bf16} {arg8 : Memref sig .tc .vmem S2x128x1024 .bf16} {harg8 : arg8.IsWhole} {arg11 : Memref sig .tc .vmem S2x512x1024 .f32} {arg12 : Memref sig .tc .vmem S2x1x1024 .f32} {q3 q5 : PosShare TreeShare} {o : Fin 3 → ℕ} {ho : ∀ a, o a + S1x128x1024.size a ≤ S2x128x1024.size a} {pk : (Rect.unit (s := S2x128x1024) o S1x128x1024.size ho).PackedRows (EltTy.packing .bf16)} {xq : Vec F S1x1024x128 .bf16} {xk : Vec F S1x8192x128 .bf16} (z z' : St F) (hz : start o ho xq xk z = z') :
    (owns (c : Thread nD τ) arg3 q3 (xq) : sProp 𝕄) ⊢ iprop(owns (c : Thread nD τ) arg5 q5 (xk) -∗ owns (c : Thread nD τ) arg8 fullShare (z.q) -∗ owns (c : Thread nD τ) arg9 fullShare (z.m) -∗ owns (c : Thread nD τ) arg10 fullShare (z.a) -∗ owns (c : Thread nD τ) arg11 fullShare (z.s) -∗ owns (c : Thread nD τ) arg12 fullShare (z.c)
      -∗ (owns (c : Thread nD τ) arg3 q3 (xq) -∗ owns (c : Thread nD τ) arg5 q5 (xk) -∗ owns (c : Thread nD τ) arg8 fullShare (z'.q) -∗ owns (c : Thread nD τ) arg9 fullShare (z'.m) -∗ owns (c : Thread nD τ) arg10 fullShare (z'.a) -∗ owns (c : Thread nD τ) arg11 fullShare (z'.s) -∗ owns (c : Thread nD τ) arg12 fullShare (z'.c) -∗ wp frame (wpE defs₀ 𝒱₀ (c : Thread nD τ) none) Set.univ K Q)
      -∗ wp frame (wpE defs₀ 𝒱₀ (c : Thread nD τ) none) Set.univ (startThen arg3 arg5 arg8 harg8 arg11 arg12 o ho pk K) Q) := by
  subst hz
  unfold startThen
  dsimp only [start]
  iintro H3 H5 H8 H9 H10 H11 H12 Hk
  iapply (wp_load_owns 𝒱₀ (c : Thread nD τ) none Set.univ) $$ H3
  iintro H3
  iapply (wp_load_owns 𝒱₀ (c : Thread nD τ) none Set.univ) $$ H8
  iintro H8
  iapply (wp_store_owns 𝒱₀ (c : Thread nD τ) none Set.univ) $$ H8
  iintro H8
  iapply (wp_load_owns 𝒱₀ (c : Thread nD τ) none Set.univ) $$ H5
  iintro H5
  iapply (wp_load_owns 𝒱₀ (c : Thread nD τ) none Set.univ) $$ H8
  iintro H8
  iapply (wp_load_owns 𝒱₀ (c : Thread nD τ) none Set.univ) $$ H11
  iintro H11
  iapply (wp_store_owns 𝒱₀ (c : Thread nD τ) none Set.univ) $$ H11
  iintro H11
  iapply (wp_load_owns 𝒱₀ (c : Thread nD τ) none Set.univ) $$ H12
  iintro H12
  iapply (wp_store_owns 𝒱₀ (c : Thread nD τ) none Set.univ) $$ H12
  iintro H12
  iapply Hk $$ H3 H5 H8 H9 H10 H11 H12

/-- The preparation of a point. -/
theorem wp_prep {Q : PUnit.{1} → sProp 𝕄} {arg4 : Memref sig .tc .vmem S1x1024x128 .bf16} {arg8 : Memref sig .tc .vmem S2x128x1024 .bf16} {harg8 : arg8.IsWhole} {arg9 : Memref sig .tc .vmem S1x1024 .f32} {arg10 : Memref sig .tc .vmem S80x1024 .f32} {arg11 : Memref sig .tc .vmem S2x512x1024 .f32} {arg12 : Memref sig .tc .vmem S2x1x1024 .f32} {q4 : PosShare TreeShare} {o : Fin 3 → ℕ} {ho : ∀ a, o a + S1x128x1024.size a ≤ S2x128x1024.size a} {pk : (Rect.unit (s := S2x128x1024) o S1x128x1024.size ho).PackedRows (EltTy.packing .bf16)} {xn : Vec F S1x1024x128 .bf16} (z z' : St F) (hz : prep o xn z = z') :
    (owns (c : Thread nD τ) arg4 q4 (xn) : sProp 𝕄) ⊢ iprop(owns (c : Thread nD τ) arg8 fullShare (z.q) -∗ owns (c : Thread nD τ) arg9 fullShare (z.m) -∗ owns (c : Thread nD τ) arg10 fullShare (z.a) -∗ owns (c : Thread nD τ) arg11 fullShare (z.s) -∗ owns (c : Thread nD τ) arg12 fullShare (z.c)
      -∗ (owns (c : Thread nD τ) arg4 q4 (xn) -∗ owns (c : Thread nD τ) arg8 fullShare (z'.q) -∗ owns (c : Thread nD τ) arg9 fullShare (z'.m) -∗ owns (c : Thread nD τ) arg10 fullShare (z'.a) -∗ owns (c : Thread nD τ) arg11 fullShare (z'.s) -∗ owns (c : Thread nD τ) arg12 fullShare (z'.c) -∗ wp frame (wpE defs₀ 𝒱₀ (c : Thread nD τ) none) Set.univ K Q)
      -∗ wp frame (wpE defs₀ 𝒱₀ (c : Thread nD τ) none) Set.univ (prepThen arg4 arg8 harg8 arg9 arg10 o ho pk K) Q) := by
  subst hz
  unfold prepThen
  dsimp only [prep]
  iintro H4 H8 H9 H10 H11 H12 Hk
  iapply (wp_load_owns 𝒱₀ (c : Thread nD τ) none Set.univ) $$ H4
  iintro H4
  iapply (wp_load_owns 𝒱₀ (c : Thread nD τ) none Set.univ) $$ H8
  iintro H8
  iapply (wp_store_owns 𝒱₀ (c : Thread nD τ) none Set.univ) $$ H8
  iintro H8
  iapply (wp_load_owns 𝒱₀ (c : Thread nD τ) none Set.univ) $$ H9
  iintro H9
  iapply (wp_store_owns 𝒱₀ (c : Thread nD τ) none Set.univ) $$ H9
  iintro H9
  iapply (wp_load_owns 𝒱₀ (c : Thread nD τ) none Set.univ) $$ H10
  iintro H10
  iapply (wp_store_owns 𝒱₀ (c : Thread nD τ) none Set.univ) $$ H10
  iintro H10
  iapply Hk $$ H4 H8 H9 H10 H11 H12

/-- One step. -/
theorem wp_step {Q : PUnit.{1} → sProp 𝕄} {arg5 : Memref sig .tc .vmem S1x8192x128 .bf16} {arg6 : Memref sig .tc .vmem S1x8192x128 .bf16} {arg8 : Memref sig .tc .vmem S2x128x1024 .bf16} {arg9 : Memref sig .tc .vmem S1x1024 .f32} {arg10 : Memref sig .tc .vmem S80x1024 .f32} {arg11 : Memref sig .tc .vmem S2x512x1024 .f32} {arg12 : Memref sig .tc .vmem S2x1x1024 .f32} {q5 q6 : PosShare TreeShare} (ok : Fin 3 → ℕ) (hok : ∀ a, ok a + S1x512x128.size a ≤ S1x8192x128.size a)
    (oq : Fin 3 → ℕ) (hoq : ∀ a, oq a + S1x128x1024.size a ≤ S2x128x1024.size a)
    (w : Fin 3 → ℕ) (hw : ∀ a, w a + S1x512x1024.size a ≤ S2x512x1024.size a) (hw1 : ∀ a, w a + S1x1x1024.size a ≤ S2x1x1024.size a)
    (r : Fin 3 → ℕ) (hr : ∀ a, r a + S1x512x1024.size a ≤ S2x512x1024.size a) (hr1 : ∀ a, r a + S1x1x1024.size a ≤ S2x1x1024.size a)
    (ov : Fin 3 → ℕ) (hov : ∀ a, ov a + S1x512x80.size a ≤ S1x8192x128.size a) {xk xv : Vec F S1x8192x128 .bf16} (z z' : St F) (hz : step ok hok oq hoq w r hr hr1 ov hov xk xv z = z') :
    (owns (c : Thread nD τ) arg5 q5 (xk) : sProp 𝕄) ⊢ iprop(owns (c : Thread nD τ) arg6 q6 (xv) -∗ owns (c : Thread nD τ) arg8 fullShare (z.q) -∗ owns (c : Thread nD τ) arg9 fullShare (z.m) -∗ owns (c : Thread nD τ) arg10 fullShare (z.a) -∗ owns (c : Thread nD τ) arg11 fullShare (z.s) -∗ owns (c : Thread nD τ) arg12 fullShare (z.c)
      -∗ (owns (c : Thread nD τ) arg5 q5 (xk) -∗ owns (c : Thread nD τ) arg6 q6 (xv) -∗ owns (c : Thread nD τ) arg8 fullShare (z'.q) -∗ owns (c : Thread nD τ) arg9 fullShare (z'.m) -∗ owns (c : Thread nD τ) arg10 fullShare (z'.a) -∗ owns (c : Thread nD τ) arg11 fullShare (z'.s) -∗ owns (c : Thread nD τ) arg12 fullShare (z'.c) -∗ wp frame (wpE defs₀ 𝒱₀ (c : Thread nD τ) none) Set.univ K Q)
      -∗ wp frame (wpE defs₀ 𝒱₀ (c : Thread nD τ) none) Set.univ (stepThen arg5 arg6 arg8 arg9 arg10 arg11 arg12 ok hok oq hoq w hw hw1 r hr hr1 ov hov K) Q) := by
  subst hz
  unfold stepThen
  dsimp only [step]
  iintro H5 H6 H8 H9 H10 H11 H12 Hk
  iapply (wp_load_owns 𝒱₀ (c : Thread nD τ) none Set.univ) $$ H5
  iintro H5
  iapply (wp_load_owns 𝒱₀ (c : Thread nD τ) none Set.univ) $$ H8
  iintro H8
  iapply (wp_load_owns 𝒱₀ (c : Thread nD τ) none Set.univ) $$ H11
  iintro H11
  iapply (wp_store_owns 𝒱₀ (c : Thread nD τ) none Set.univ) $$ H11
  iintro H11
  iapply (wp_load_owns 𝒱₀ (c : Thread nD τ) none Set.univ) $$ H12
  iintro H12
  iapply (wp_store_owns 𝒱₀ (c : Thread nD τ) none Set.univ) $$ H12
  iintro H12
  iapply (wp_load_owns 𝒱₀ (c : Thread nD τ) none Set.univ) $$ H9
  iintro H9
  iapply (wp_load_owns 𝒱₀ (c : Thread nD τ) none Set.univ) $$ H12
  iintro H12
  iapply (wp_load_owns 𝒱₀ (c : Thread nD τ) none Set.univ) $$ H11
  iintro H11
  iapply (wp_load_owns 𝒱₀ (c : Thread nD τ) none Set.univ) $$ H6
  iintro H6
  iapply (wp_load_owns 𝒱₀ (c : Thread nD τ) none Set.univ) $$ H10
  iintro H10
  iapply (wp_load_owns 𝒱₀ (c : Thread nD τ) none Set.univ) $$ H10
  iintro H10
  iapply (wp_store_owns 𝒱₀ (c : Thread nD τ) none Set.univ) $$ H10
  iintro H10
  iapply (wp_load_owns 𝒱₀ (c : Thread nD τ) none Set.univ) $$ H9
  iintro H9
  iapply (wp_store_owns 𝒱₀ (c : Thread nD τ) none Set.univ) $$ H9
  iintro H9
  iapply Hk $$ H5 H6 H8 H9 H10 H11 H12

/-- The division, the end of the body. -/
theorem wp_finish {Q : PUnit.{1} → sProp 𝕄} {arg7 : Memref sig .tc .vmem S1x1024x128 .bf16} {harg7 : arg7.IsWhole} {arg10 : Memref sig .tc .vmem S80x1024 .f32} {y : Vec F S1x1024x128 .bf16} (z : St F) :
    (owns (c : Thread nD τ) arg7 fullShare (y) : sProp 𝕄) ⊢ iprop(owns (c : Thread nD τ) arg10 fullShare (z.a)
      -∗ (owns (c : Thread nD τ) arg7 fullShare (finish z y) -∗ owns (c : Thread nD τ) arg10 fullShare (z.a) -∗ Q ⟨⟩)
      -∗ wp frame (wpE defs₀ 𝒱₀ (c : Thread nD τ) none) Set.univ (finishProg arg7 harg7 arg10) Q) := by
  unfold finishProg
  dsimp only [finish]
  iintro H7 H10 Hk
  iapply (wp_load_owns 𝒱₀ (c : Thread nD τ) none Set.univ) $$ H10
  iintro H10
  iapply (wp_load_owns 𝒱₀ (c : Thread nD τ) none Set.univ) $$ H10
  iintro H10
  iapply (wp_load_owns 𝒱₀ (c : Thread nD τ) none Set.univ) $$ H7
  iintro H7
  iapply (wp_store_owns 𝒱₀ (c : Thread nD τ) none Set.univ) $$ H7
  iintro H7
  iapply (le_wp_ret _ _ _ _ _)
  iapply Hk $$ H7 H10

/-- The body of a point that is not a head's first, from scratch values `z`. -/
theorem wp_rest {Q : PUnit.{1} → sProp 𝕄} {q3 q4 q5 q6 : PosShare TreeShare} (i : grid0.Coords) {arg3 : Memref sig .tc .vmem S1x1024x128 .bf16} {harg3 : arg3.IsWhole} {arg4 : Memref sig .tc .vmem S1x1024x128 .bf16} {harg4 : arg4.IsWhole} {arg5 : Memref sig .tc .vmem S1x8192x128 .bf16} {harg5 : arg5.IsWhole} {arg6 : Memref sig .tc .vmem S1x8192x128 .bf16} {harg6 : arg6.IsWhole} {arg7 : Memref sig .tc .vmem S1x1024x128 .bf16} {harg7 : arg7.IsWhole} {arg8 : Memref sig .tc .vmem S2x128x1024 .bf16} {harg8 : arg8.IsWhole} {arg9 : Memref sig .tc .vmem S1x1024 .f32} {harg9 : arg9.IsWhole} {arg10 : Memref sig .tc .vmem S80x1024 .f32} {harg10 : arg10.IsWhole} {arg11 : Memref sig .tc .vmem S2x512x1024 .f32} {harg11 : arg11.IsWhole} {arg12 : Memref sig .tc .vmem S2x1x1024 .f32} {harg12 : arg12.IsWhole} {xq xn : Vec F S1x1024x128 .bf16} {xk xv : Vec F S1x8192x128 .bf16} {y : Vec F S1x1024x128 .bf16} (z : St F) :
    (owns (c : Thread nD τ) arg3 q3 (xq) : sProp 𝕄) ⊢ iprop(owns (c : Thread nD τ) arg4 q4 (xn) -∗ owns (c : Thread nD τ) arg5 q5 (xk) -∗ owns (c : Thread nD τ) arg6 q6 (xv) -∗ owns (c : Thread nD τ) arg7 fullShare (y) -∗ owns (c : Thread nD τ) arg8 fullShare (z.q) -∗ owns (c : Thread nD τ) arg9 fullShare (z.m) -∗ owns (c : Thread nD τ) arg10 fullShare (z.a) -∗ owns (c : Thread nD τ) arg11 fullShare (z.s) -∗ owns (c : Thread nD τ) arg12 fullShare (z.c)
      -∗ (owns (c : Thread nD τ) arg3 q3 (xq) -∗ owns (c : Thread nD τ) arg4 q4 (xn) -∗ owns (c : Thread nD τ) arg5 q5 (xk) -∗ owns (c : Thread nD τ) arg6 q6 (xv) -∗ owns (c : Thread nD τ) arg7 fullShare (finish (stAt i xn xk xv z 16) y) -∗ owns (c : Thread nD τ) arg8 fullShare ((stAt i xn xk xv z 16).q) -∗ owns (c : Thread nD τ) arg9 fullShare ((stAt i xn xk xv z 16).m) -∗ owns (c : Thread nD τ) arg10 fullShare ((stAt i xn xk xv z 16).a) -∗ owns (c : Thread nD τ) arg11 fullShare ((stAt i xn xk xv z 16).s) -∗ owns (c : Thread nD τ) arg12 fullShare ((stAt i xn xk xv z 16).c) -∗ Q ⟨⟩)
      -∗ wp frame (wpE defs₀ 𝒱₀ (c : Thread nD τ) none) Set.univ (restProg i arg3 harg3 arg4 harg4 arg5 harg5 arg6 harg6 arg7 harg7 arg8 harg8 arg9 harg9 arg10 harg10 arg11 harg11 arg12 harg12) Q) := by
  unfold restProg
  iintro H3 H4 H5 H6 H7 H8 H9 H10 H11 H12 Hk
  iapply (wp_prep 𝒱₀ c z (stAt i xn xk xv z 0) rfl) $$ H4 H8 H9 H10 H11 H12
  iintro H4 H8 H9 H10 H11 H12
  iapply (wp_step 𝒱₀ c (k0_off3 0#32) (k0_off3_inb 0) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 0#32) (k0_off5_inb 0) (stAt i xn xk xv z 0) (stAt i xn xk xv z 1) rfl) $$ H5 H6 H8 H9 H10 H11 H12
  iintro H5 H6 H8 H9 H10 H11 H12
  iapply (wp_step 𝒱₀ c (k0_off3 1#32) (k0_off3_inb 1) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 1#32) (k0_off5_inb 1) (stAt i xn xk xv z 1) (stAt i xn xk xv z 2) rfl) $$ H5 H6 H8 H9 H10 H11 H12
  iintro H5 H6 H8 H9 H10 H11 H12
  iapply (wp_step 𝒱₀ c (k0_off3 2#32) (k0_off3_inb 2) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 2#32) (k0_off5_inb 2) (stAt i xn xk xv z 2) (stAt i xn xk xv z 3) rfl) $$ H5 H6 H8 H9 H10 H11 H12
  iintro H5 H6 H8 H9 H10 H11 H12
  iapply (wp_step 𝒱₀ c (k0_off3 3#32) (k0_off3_inb 3) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 3#32) (k0_off5_inb 3) (stAt i xn xk xv z 3) (stAt i xn xk xv z 4) rfl) $$ H5 H6 H8 H9 H10 H11 H12
  iintro H5 H6 H8 H9 H10 H11 H12
  iapply (wp_step 𝒱₀ c (k0_off3 4#32) (k0_off3_inb 4) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 4#32) (k0_off5_inb 4) (stAt i xn xk xv z 4) (stAt i xn xk xv z 5) rfl) $$ H5 H6 H8 H9 H10 H11 H12
  iintro H5 H6 H8 H9 H10 H11 H12
  iapply (wp_step 𝒱₀ c (k0_off3 5#32) (k0_off3_inb 5) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 5#32) (k0_off5_inb 5) (stAt i xn xk xv z 5) (stAt i xn xk xv z 6) rfl) $$ H5 H6 H8 H9 H10 H11 H12
  iintro H5 H6 H8 H9 H10 H11 H12
  iapply (wp_step 𝒱₀ c (k0_off3 6#32) (k0_off3_inb 6) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 6#32) (k0_off5_inb 6) (stAt i xn xk xv z 6) (stAt i xn xk xv z 7) rfl) $$ H5 H6 H8 H9 H10 H11 H12
  iintro H5 H6 H8 H9 H10 H11 H12
  iapply (wp_step 𝒱₀ c (k0_off3 7#32) (k0_off3_inb 7) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 7#32) (k0_off5_inb 7) (stAt i xn xk xv z 7) (stAt i xn xk xv z 8) rfl) $$ H5 H6 H8 H9 H10 H11 H12
  iintro H5 H6 H8 H9 H10 H11 H12
  iapply (wp_step 𝒱₀ c ![0, 4608, 0] inb_S1x8192x128_S1x512x128_0_4608_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 4096, 0] inb_S1x8192x128_S1x512x80_0_4096_0 (stAt i xn xk xv z 8) (stAt i xn xk xv z 9) rfl) $$ H5 H6 H8 H9 H10 H11 H12
  iintro H5 H6 H8 H9 H10 H11 H12
  iapply (wp_step 𝒱₀ c ![0, 5120, 0] inb_S1x8192x128_S1x512x128_0_5120_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 4608, 0] inb_S1x8192x128_S1x512x80_0_4608_0 (stAt i xn xk xv z 9) (stAt i xn xk xv z 10) rfl) $$ H5 H6 H8 H9 H10 H11 H12
  iintro H5 H6 H8 H9 H10 H11 H12
  iapply (wp_step 𝒱₀ c ![0, 5632, 0] inb_S1x8192x128_S1x512x128_0_5632_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 5120, 0] inb_S1x8192x128_S1x512x80_0_5120_0 (stAt i xn xk xv z 10) (stAt i xn xk xv z 11) rfl) $$ H5 H6 H8 H9 H10 H11 H12
  iintro H5 H6 H8 H9 H10 H11 H12
  iapply (wp_step 𝒱₀ c ![0, 6144, 0] inb_S1x8192x128_S1x512x128_0_6144_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 5632, 0] inb_S1x8192x128_S1x512x80_0_5632_0 (stAt i xn xk xv z 11) (stAt i xn xk xv z 12) rfl) $$ H5 H6 H8 H9 H10 H11 H12
  iintro H5 H6 H8 H9 H10 H11 H12
  iapply (wp_step 𝒱₀ c ![0, 6656, 0] inb_S1x8192x128_S1x512x128_0_6656_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 6144, 0] inb_S1x8192x128_S1x512x80_0_6144_0 (stAt i xn xk xv z 12) (stAt i xn xk xv z 13) rfl) $$ H5 H6 H8 H9 H10 H11 H12
  iintro H5 H6 H8 H9 H10 H11 H12
  iapply (wp_step 𝒱₀ c ![0, 7168, 0] inb_S1x8192x128_S1x512x128_0_7168_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 6656, 0] inb_S1x8192x128_S1x512x80_0_6656_0 (stAt i xn xk xv z 13) (stAt i xn xk xv z 14) rfl) $$ H5 H6 H8 H9 H10 H11 H12
  iintro H5 H6 H8 H9 H10 H11 H12
  iapply (wp_step 𝒱₀ c ![0, 7680, 0] inb_S1x8192x128_S1x512x128_0_7680_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 7168, 0] inb_S1x8192x128_S1x512x80_0_7168_0 (stAt i xn xk xv z 14) (stAt i xn xk xv z 15) rfl) $$ H5 H6 H8 H9 H10 H11 H12
  iintro H5 H6 H8 H9 H10 H11 H12
  iapply (wp_step 𝒱₀ c ![0, 0, 0] inb_S1x8192x128_S1x512x128_0_0_0 (k0_off2 i) (k0_off2_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 7680, 0] inb_S1x8192x128_S1x512x80_0_7680_0 (stAt i xn xk xv z 15) (stAt i xn xk xv z 16) rfl) $$ H5 H6 H8 H9 H10 H11 H12
  iintro H5 H6 H8 H9 H10 H11 H12
  iapply (wp_finish 𝒱₀ c (stAt i xn xk xv z 16)) $$ H7 H10
  iintro H7 H10
  iapply Hk $$ H3 H4 H5 H6 H7 H8 H9 H10 H11 H12

/-- The body of a head's first point, from scratch values `z`. -/
theorem wp_first {Q : PUnit.{1} → sProp 𝕄} {q3 q4 q5 q6 : PosShare TreeShare} (i : grid0.Coords) {arg3 : Memref sig .tc .vmem S1x1024x128 .bf16} {harg3 : arg3.IsWhole} {arg4 : Memref sig .tc .vmem S1x1024x128 .bf16} {harg4 : arg4.IsWhole} {arg5 : Memref sig .tc .vmem S1x8192x128 .bf16} {harg5 : arg5.IsWhole} {arg6 : Memref sig .tc .vmem S1x8192x128 .bf16} {harg6 : arg6.IsWhole} {arg7 : Memref sig .tc .vmem S1x1024x128 .bf16} {harg7 : arg7.IsWhole} {arg8 : Memref sig .tc .vmem S2x128x1024 .bf16} {harg8 : arg8.IsWhole} {arg9 : Memref sig .tc .vmem S1x1024 .f32} {harg9 : arg9.IsWhole} {arg10 : Memref sig .tc .vmem S80x1024 .f32} {harg10 : arg10.IsWhole} {arg11 : Memref sig .tc .vmem S2x512x1024 .f32} {harg11 : arg11.IsWhole} {arg12 : Memref sig .tc .vmem S2x1x1024 .f32} {harg12 : arg12.IsWhole} {xq xn : Vec F S1x1024x128 .bf16} {xk xv : Vec F S1x8192x128 .bf16} {y : Vec F S1x1024x128 .bf16} (z : St F) (h : k0_cond1 i = 1#1) (z' : St F) (hz : start (k0_off1 i) (k0_off1_inb i h) xq xk z = z') :
    (owns (c : Thread nD τ) arg3 q3 (xq) : sProp 𝕄) ⊢ iprop(owns (c : Thread nD τ) arg4 q4 (xn) -∗ owns (c : Thread nD τ) arg5 q5 (xk) -∗ owns (c : Thread nD τ) arg6 q6 (xv) -∗ owns (c : Thread nD τ) arg7 fullShare (y) -∗ owns (c : Thread nD τ) arg8 fullShare (z.q) -∗ owns (c : Thread nD τ) arg9 fullShare (z.m) -∗ owns (c : Thread nD τ) arg10 fullShare (z.a) -∗ owns (c : Thread nD τ) arg11 fullShare (z.s) -∗ owns (c : Thread nD τ) arg12 fullShare (z.c)
      -∗ (owns (c : Thread nD τ) arg3 q3 (xq) -∗ owns (c : Thread nD τ) arg4 q4 (xn) -∗ owns (c : Thread nD τ) arg5 q5 (xk) -∗ owns (c : Thread nD τ) arg6 q6 (xv) -∗ owns (c : Thread nD τ) arg7 fullShare (finish (stAt i xn xk xv z' 16) y) -∗ owns (c : Thread nD τ) arg8 fullShare ((stAt i xn xk xv z' 16).q) -∗ owns (c : Thread nD τ) arg9 fullShare ((stAt i xn xk xv z' 16).m) -∗ owns (c : Thread nD τ) arg10 fullShare ((stAt i xn xk xv z' 16).a) -∗ owns (c : Thread nD τ) arg11 fullShare ((stAt i xn xk xv z' 16).s) -∗ owns (c : Thread nD τ) arg12 fullShare ((stAt i xn xk xv z' 16).c) -∗ Q ⟨⟩)
      -∗ wp frame (wpE defs₀ 𝒱₀ (c : Thread nD τ) none) Set.univ (startThen arg3 arg5 arg8 harg8 arg11 arg12 (k0_off1 i) (k0_off1_inb i h) (k0_off1_packedbf16 i h) (restProg i arg3 harg3 arg4 harg4 arg5 harg5 arg6 harg6 arg7 harg7 arg8 harg8 arg9 harg9 arg10 harg10 arg11 harg11 arg12 harg12)) Q) := by
  iintro H3 H4 H5 H6 H7 H8 H9 H10 H11 H12 Hk
  iapply (wp_start 𝒱₀ c z z' hz) $$ H3 H5 H8 H9 H10 H11 H12
  iintro H3 H5 H8 H9 H10 H11 H12
  iapply (wp_rest 𝒱₀ c i z') $$ H3 H4 H5 H6 H7 H8 H9 H10 H11 H12 Hk

end Cert.KernelIdeal.Mla

end
-- ==== Proof.MlaKernelIdealState.lean ====
/- What a point of the attention kernel (KernelIdeal) computes, free of the scratch buffers' slots: with `q` the point's transposed
   queries, the running maximum and sums before key block `n` are `mAt`, `aAt` (the recursion over the blocks' score tiles), the
   output block is `outOf`; and what the point hands to the next one (`Carry`): the next point's transposed queries in the other
   slot, their scores against the first key block in tile 0, and the tile's maxima. -/
module

public import proofs.«01_k».proof.Proof.MlaKernelIdealBody
public import proofs.«01_k».proof.Proof.Gen.KernelIdeal

@[expose] public section

set_option maxRecDepth 65536

noncomputable section

namespace Cert.KernelIdeal.Mla

open Idealize.ShloMosaic Idealize.ShloMosaic.TcCoe Idealize.ShloMosaic.Tactic
open Cert.KernelIdeal Cert.KernelIdeal.Gen
open VecWindow

variable {F : FTy → Type} [FloatOps F]

/-! ## The body's computed offsets -/

/-- The slot of queries a point reads, from its last grid coordinate. -/
theorem off1_eq : ∀ i : grid0.Coords, k0_off1 i = ![(i 2).val % 2, 0, 0] :=
  fun i => (by decide +kernel : ∀ j : Fin 8, k0_off1 (fun a => match a with | 0 => (0 : Fin 8) | 1 => (0 : Fin 8) | 2 => j) = ![j.val % 2, 0, 0]) (i 2)
theorem off4_eq : ∀ i : grid0.Coords, k0_off4 i = ![(i 2).val % 2, 0, 0] :=
  fun i => (by decide +kernel : ∀ j : Fin 8, k0_off4 (fun a => match a with | 0 => (0 : Fin 8) | 1 => (0 : Fin 8) | 2 => j) = ![j.val % 2, 0, 0]) (i 2)
/-- The slot it prepares for the next point is the other one. -/
theorem off2_eq : ∀ i : grid0.Coords, k0_off2 i = ![((i 2).val + 1) % 2, 0, 0] :=
  fun i => (by decide +kernel : ∀ j : Fin 8, k0_off2 (fun a => match a with | 0 => (0 : Fin 8) | 1 => (0 : Fin 8) | 2 => j) = ![(j.val + 1) % 2, 0, 0]) (i 2)
/-- The start runs at a head's first query block. -/
theorem cond1_iff : ∀ i : grid0.Coords, k0_cond1 i = 1#1 ↔ (i 2).val = 0 :=
  fun i => (by decide +kernel : ∀ j : Fin 8, k0_cond1 (fun a => match a with | 0 => (0 : Fin 8) | 1 => (0 : Fin 8) | 2 => j) = 1#1 ↔ j.val = 0) (i 2)

/-! ## Whole windows -/

theorem window_full {s : Shape} {α : Type} (x : s.Idx → α) (off : Fin s.rank → ℕ) (inb : ∀ a, off a + s.size a ≤ s.size a) :
    window x off s.size inb = x := by
  funext y
  exact congrArg x (Rect.emb_unit_full inb y)

theorem put_full {s : Shape} {α : Type} (x w : s.Idx → α) (off : Fin s.rank → ℕ) (inb : ∀ a, off a + s.size a ≤ s.size a) :
    put x off s.size w = w := by
  rw [← window_full (put x off s.size w) off inb]
  exact window_put_same x off s.size inb w

/-! ## The blocks and the recursion over them -/

theorem inb_k (n : ℕ) : ∀ a, (![0, 512 * (n % 16), 0] : Fin 3 → ℕ) a + S1x512x128.size a ≤ S1x8192x128.size a := by
  have h := Nat.mod_lt n (show 0 < 16 by decide)
  intro a; fin_cases a
  · exact (by decide : 0 + 1 ≤ 1)
  · show 512 * (n % 16) + 512 ≤ 8192; omega
  · exact (by decide : 0 + 128 ≤ 128)

theorem inb_v (n : ℕ) : ∀ a, (![0, 512 * (n % 16), 0] : Fin 3 → ℕ) a + S1x512x80.size a ≤ S1x8192x128.size a := by
  have h := Nat.mod_lt n (show 0 < 16 by decide)
  intro a; fin_cases a
  · exact (by decide : 0 + 1 ≤ 1)
  · show 512 * (n % 16) + 512 ≤ 8192; omega
  · exact (by decide : 0 + 80 ≤ 128)

theorem inb_q (b : ℕ) : ∀ a, (![b % 2, 0, 0] : Fin 3 → ℕ) a + S1x128x1024.size a ≤ S2x128x1024.size a := by
  have h := Nat.mod_lt b (show 0 < 2 by decide)
  intro a; fin_cases a
  · show b % 2 + 1 ≤ 2; omega
  · exact (by decide : 0 + 128 ≤ 128)
  · exact (by decide : 0 + 1024 ≤ 1024)

theorem inb_s (b : ℕ) : ∀ a, (![b % 2, 0, 0] : Fin 3 → ℕ) a + S1x512x1024.size a ≤ S2x512x1024.size a := by
  have h := Nat.mod_lt b (show 0 < 2 by decide)
  intro a; fin_cases a
  · show b % 2 + 1 ≤ 2; omega
  · exact (by decide : 0 + 512 ≤ 512)
  · exact (by decide : 0 + 1024 ≤ 1024)

theorem inb_c (b : ℕ) : ∀ a, (![b % 2, 0, 0] : Fin 3 → ℕ) a + S1x1x1024.size a ≤ S2x1x1024.size a := by
  have h := Nat.mod_lt b (show 0 < 2 by decide)
  intro a; fin_cases a
  · show b % 2 + 1 ≤ 2; omega
  · exact (by decide : 0 + 1 ≤ 1)
  · exact (by decide : 0 + 1024 ≤ 1024)

/-- Key block `n` of a head (counted around). -/
def kB (xk : Vec F S1x8192x128 .bf16) (n : ℕ) : Vec F S1x512x128 .bf16 :=
  window (s := S1x8192x128) xk ![0, 512 * (n % 16), 0] S1x512x128.size (inb_k n)
/-- Value block `n` of a head, its first 80 lanes. -/
def vB (xv : Vec F S1x8192x128 .bf16) (n : ℕ) : Vec F S1x512x80 .bf16 :=
  window (s := S1x8192x128) xv ![0, 512 * (n % 16), 0] S1x512x80.size (inb_v n)

/-- The running maximum before key block `n`. -/
def mAt (q : Vec F S1x128x1024 .bf16) (xk : Vec F S1x8192x128 .bf16) : ℕ → Vec F S1x1024 .f32
  | 0 => k0_pay7 (F := F)
  | n + 1 => mNew (mAt q xk n) (scMax (kB xk n) q)

/-- The running sums before key block `n`. -/
def aAt (q : Vec F S1x128x1024 .bf16) (xk xv : Vec F S1x8192x128 .bf16) : ℕ → Vec F S80x1024 .f32
  | 0 => k0_pay8 (F := F)
  | n + 1 => accNew (mAt q xk n) (scMax (kB xk n) q) (sc (kB xk n) q) (vB xv n) (aAt q xk xv n)

/-- The point's output block. -/
def outOf (q : Vec F S1x128x1024 .bf16) (xk xv : Vec F S1x8192x128 .bf16) : Vec F S1x1024x128 .bf16 :=
  outBlk (window (s := S80x1024) (aAt q xk xv 16) ![0, 0] S64x1024.size inb_S80x1024_S64x1024_0_0)
    (window (s := S80x1024) (aAt q xk xv 16) ![64, 0] S1x1024.size inb_S80x1024_S1x1024_64_0)

/-! ## The scratch values along a point -/

/-- What a point finds: its queries in slot `b`, their first tile of scores in tile 0, its maxima. -/
structure Carry (b : ℕ) (q : Vec F S1x128x1024 .bf16) (xk : Vec F S1x8192x128 .bf16) (z : St F) : Prop where
  hq : window (s := S2x128x1024) z.q ![b % 2, 0, 0] S1x128x1024.size (inb_q b) = q
  hs : window (s := S2x512x1024) z.s ![0, 0, 0] S1x512x1024.size (inb_s 0) = sc (kB xk 0) q
  hc : window (s := S2x1x1024) z.c ![0, 0, 0] S1x1x1024.size (inb_c 0) = scMax (kB xk 0) q

/-- What holds before step `n`: `qs` the queries of the tile of scores at hand. -/
structure Inv (b : ℕ) (q qn qs : Vec F S1x128x1024 .bf16) (xk xv : Vec F S1x8192x128 .bf16) (n : ℕ) (z : St F) : Prop where
  hq : window (s := S2x128x1024) z.q ![b % 2, 0, 0] S1x128x1024.size (inb_q b) = q
  hn : window (s := S2x128x1024) z.q ![(b + 1) % 2, 0, 0] S1x128x1024.size (inb_q (b + 1)) = qn
  hm : z.m = mAt q xk n
  ha : z.a = aAt q xk xv n
  hs : window (s := S2x512x1024) z.s ![n % 2, 0, 0] S1x512x1024.size (inb_s n) = sc (kB xk n) qs
  hc : window (s := S2x1x1024) z.c ![n % 2, 0, 0] S1x1x1024.size (inb_c n) = scMax (kB xk n) qs

theorem Inv.step {b : ℕ} {q qn qs' : Vec F S1x128x1024 .bf16} {xk xv : Vec F S1x8192x128 .bf16} {n : ℕ} {z : St F}
    (H : Inv b q qn q xk xv n z)
    (ok : Fin 3 → ℕ) (hok : ∀ a, ok a + S1x512x128.size a ≤ S1x8192x128.size a)
    (oq : Fin 3 → ℕ) (hoq : ∀ a, oq a + S1x128x1024.size a ≤ S2x128x1024.size a)
    (w : Fin 3 → ℕ) (hw : ∀ a, w a + S1x512x1024.size a ≤ S2x512x1024.size a) (hw1 : ∀ a, w a + S1x1x1024.size a ≤ S2x1x1024.size a)
    (r : Fin 3 → ℕ) (hr : ∀ a, r a + S1x512x1024.size a ≤ S2x512x1024.size a) (hr1 : ∀ a, r a + S1x1x1024.size a ≤ S2x1x1024.size a)
    (ov : Fin 3 → ℕ) (hov : ∀ a, ov a + S1x512x80.size a ≤ S1x8192x128.size a)
    (eok : ok = ![0, 512 * ((n + 1) % 16), 0]) (eq : window (s := S2x128x1024) z.q oq S1x128x1024.size hoq = qs')
    (ew : w = ![(n + 1) % 2, 0, 0]) (er : r = ![n % 2, 0, 0]) (eov : ov = ![0, 512 * (n % 16), 0]) :
    Inv b q qn qs' xk xv (n + 1) (Mla.step ok hok oq hoq w r hr hr1 ov hov xk xv z) := by
  subst eok eq ew er eov
  have ds : window (s := S2x512x1024) (put (s := S2x512x1024) z.s ![(n + 1) % 2, 0, 0] S1x512x1024.size (sc (kB xk (n + 1)) (window (s := S2x128x1024) z.q oq S1x128x1024.size hoq)))
      ![n % 2, 0, 0] S1x512x1024.size hr = sc (kB xk n) q :=
    (window_put_of_disjoint (s := S2x512x1024) z.s _ _ _ _ hr _ 0 (by show n % 2 + 1 ≤ (n + 1) % 2 ∨ (n + 1) % 2 + 1 ≤ n % 2; omega)).trans H.hs
  have dc : window (s := S2x1x1024) (put (s := S2x1x1024) z.c ![(n + 1) % 2, 0, 0] S1x1x1024.size (scMax (kB xk (n + 1)) (window (s := S2x128x1024) z.q oq S1x128x1024.size hoq)))
      ![n % 2, 0, 0] S1x1x1024.size hr1 = scMax (kB xk n) q :=
    (window_put_of_disjoint (s := S2x1x1024) z.c _ _ _ _ hr1 _ 0 (by show n % 2 + 1 ≤ (n + 1) % 2 ∨ (n + 1) % 2 + 1 ≤ n % 2; omega)).trans H.hc
  refine ⟨H.hq, H.hn, ?_, ?_, ?_, ?_⟩
  · refine (put_full (s := S1x1024) _ _ _ inb_S1x1024_S1x1024_0_0).trans ?_
    show mNew _ _ = mNew _ _
    exact congrArg₂ mNew ((window_full (s := S1x1024) _ _ _).trans H.hm) dc
  · refine (put_full (s := S80x1024) _ _ _ inb_S80x1024_S80x1024_0_0).trans ?_
    have e1 := (window_full (s := S1x1024) z.m ![0, 0] inb_S1x1024_S1x1024_0_0).trans H.hm
    have e2 := (window_full (s := S80x1024) z.a ![0, 0] inb_S80x1024_S80x1024_0_0).trans H.ha
    refine (congrArg₂ (fun m mc => accNew m mc _ _ _) e1 dc).trans ((congrArg₂ (fun s a => accNew _ _ s _ a) ds e2).trans rfl)
  · exact window_put_same (s := S2x512x1024) _ _ _ (inb_s (n + 1)) _
  · exact window_put_same (s := S2x1x1024) _ _ _ (inb_c (n + 1)) _

theorem Inv.start {b b' : ℕ} {q : Vec F S1x128x1024 .bf16} {xk xv : Vec F S1x8192x128 .bf16} {xn : Vec F S1x1024x128 .bf16} {z : St F}
    (H : Carry b q xk z) {o : Fin 3 → ℕ} (eo : o = ![(b + 1) % 2, 0, 0]) :
    Inv b q (qT xn) q xk xv 0 (prep o xn z) := by
  subst eo
  have e := window_full (s := S1x1024x128) xn ![0, 0, 0] inb_S1x1024x128_S1x1024x128_0_0_0
  refine ⟨?_, ?_, ?_, ?_, H.hs, H.hc⟩
  · exact (window_put_of_disjoint (s := S2x128x1024) z.q _ _ _ _ (inb_q b) _ 0 (by show b % 2 + 1 ≤ (b + 1) % 2 ∨ (b + 1) % 2 + 1 ≤ b % 2; omega)).trans H.hq
  · exact (window_put_same (s := S2x128x1024) z.q _ _ (inb_q (b + 1)) _).trans (congrArg qT e)
  · exact put_full (s := S1x1024) _ _ _ inb_S1x1024_S1x1024_0_0
  · exact put_full (s := S80x1024) _ _ _ inb_S80x1024_S80x1024_0_0

/-- After the start of a head the point finds what it needs, whatever the scratch buffers held. -/
theorem carry_start {b : ℕ} {o : Fin 3 → ℕ} (eo : o = ![b % 2, 0, 0]) (ho : ∀ a, o a + S1x128x1024.size a ≤ S2x128x1024.size a)
    (xq : Vec F S1x1024x128 .bf16) (xk : Vec F S1x8192x128 .bf16) (z : St F) :
    Carry b (qT xq) xk (start o ho xq xk z) := by
  subst eo
  have e := congrArg (qT (F := F)) (window_full (s := S1x1024x128) xq ![0, 0, 0] inb_S1x1024x128_S1x1024x128_0_0_0)
  have hq : window (s := S2x128x1024) (start ![b % 2, 0, 0] ho xq xk z).q ![b % 2, 0, 0] S1x128x1024.size ho = qT xq :=
    (window_put_same (s := S2x128x1024) z.q _ _ ho _).trans e
  refine ⟨hq, ?_, ?_⟩
  · exact (window_put_same (s := S2x512x1024) z.s _ _ (inb_s 0) _).trans (congrArg (sc (kB xk 0)) hq)
  · exact (window_put_same (s := S2x1x1024) z.c _ _ (inb_c 0) _).trans (congrArg (scMax (kB xk 0)) hq)

/-- Before step `n` of a point. -/
theorem inv_stAt (i : grid0.Coords) {q : Vec F S1x128x1024 .bf16} {xk xv : Vec F S1x8192x128 .bf16} {xn : Vec F S1x1024x128 .bf16} {z : St F}
    (H : Carry (i 2).val q xk z) :
    Inv (i 2).val q (qT xn) (qT xn) xk xv 16 (stAt i xn xk xv z 16) := by
  have h0 : Inv (i 2).val q (qT xn) q xk xv 0 (stAt i xn xk xv z 0) := Inv.start (b' := 0) H (off2_eq i)
  have cur : ∀ {n : ℕ}, Inv (i 2).val q (qT xn) q xk xv n (stAt i xn xk xv z n) → ∀ hoq,
      window (s := S2x128x1024) (stAt i xn xk xv z n).q (k0_off4 i) S1x128x1024.size hoq = q := by
    intro n h
    rw [off4_eq i]; exact fun _ => h.hq
  have h1 : Inv (i 2).val q (qT xn) q xk xv 1 (stAt i xn xk xv z 1) :=
    h0.step (k0_off3 0#32) (k0_off3_inb 0) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 0#32) (k0_off5_inb 0) (k0_off3_eq 0) (cur h0 _) rfl rfl (k0_off5_eq 0)
  have h2 : Inv (i 2).val q (qT xn) q xk xv 2 (stAt i xn xk xv z 2) :=
    h1.step (k0_off3 1#32) (k0_off3_inb 1) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 1#32) (k0_off5_inb 1) (k0_off3_eq 1) (cur h1 _) rfl rfl (k0_off5_eq 1)
  have h3 : Inv (i 2).val q (qT xn) q xk xv 3 (stAt i xn xk xv z 3) :=
    h2.step (k0_off3 2#32) (k0_off3_inb 2) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 2#32) (k0_off5_inb 2) (k0_off3_eq 2) (cur h2 _) rfl rfl (k0_off5_eq 2)
  have h4 : Inv (i 2).val q (qT xn) q xk xv 4 (stAt i xn xk xv z 4) :=
    h3.step (k0_off3 3#32) (k0_off3_inb 3) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 3#32) (k0_off5_inb 3) (k0_off3_eq 3) (cur h3 _) rfl rfl (k0_off5_eq 3)
  have h5 : Inv (i 2).val q (qT xn) q xk xv 5 (stAt i xn xk xv z 5) :=
    h4.step (k0_off3 4#32) (k0_off3_inb 4) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 4#32) (k0_off5_inb 4) (k0_off3_eq 4) (cur h4 _) rfl rfl (k0_off5_eq 4)
  have h6 : Inv (i 2).val q (qT xn) q xk xv 6 (stAt i xn xk xv z 6) :=
    h5.step (k0_off3 5#32) (k0_off3_inb 5) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 5#32) (k0_off5_inb 5) (k0_off3_eq 5) (cur h5 _) rfl rfl (k0_off5_eq 5)
  have h7 : Inv (i 2).val q (qT xn) q xk xv 7 (stAt i xn xk xv z 7) :=
    h6.step (k0_off3 6#32) (k0_off3_inb 6) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 6#32) (k0_off5_inb 6) (k0_off3_eq 6) (cur h6 _) rfl rfl (k0_off5_eq 6)
  have h8 : Inv (i 2).val q (qT xn) q xk xv 8 (stAt i xn xk xv z 8) :=
    h7.step (k0_off3 7#32) (k0_off3_inb 7) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 7#32) (k0_off5_inb 7) (k0_off3_eq 7) (cur h7 _) rfl rfl (k0_off5_eq 7)
  have h9 : Inv (i 2).val q (qT xn) q xk xv 9 (stAt i xn xk xv z 9) :=
    h8.step ![0, 4608, 0] inb_S1x8192x128_S1x512x128_0_4608_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 4096, 0] inb_S1x8192x128_S1x512x80_0_4096_0 rfl (cur h8 _) rfl rfl rfl
  have h10 : Inv (i 2).val q (qT xn) q xk xv 10 (stAt i xn xk xv z 10) :=
    h9.step ![0, 5120, 0] inb_S1x8192x128_S1x512x128_0_5120_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 4608, 0] inb_S1x8192x128_S1x512x80_0_4608_0 rfl (cur h9 _) rfl rfl rfl
  have h11 : Inv (i 2).val q (qT xn) q xk xv 11 (stAt i xn xk xv z 11) :=
    h10.step ![0, 5632, 0] inb_S1x8192x128_S1x512x128_0_5632_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 5120, 0] inb_S1x8192x128_S1x512x80_0_5120_0 rfl (cur h10 _) rfl rfl rfl
  have h12 : Inv (i 2).val q (qT xn) q xk xv 12 (stAt i xn xk xv z 12) :=
    h11.step ![0, 6144, 0] inb_S1x8192x128_S1x512x128_0_6144_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 5632, 0] inb_S1x8192x128_S1x512x80_0_5632_0 rfl (cur h11 _) rfl rfl rfl
  have h13 : Inv (i 2).val q (qT xn) q xk xv 13 (stAt i xn xk xv z 13) :=
    h12.step ![0, 6656, 0] inb_S1x8192x128_S1x512x128_0_6656_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 6144, 0] inb_S1x8192x128_S1x512x80_0_6144_0 rfl (cur h12 _) rfl rfl rfl
  have h14 : Inv (i 2).val q (qT xn) q xk xv 14 (stAt i xn xk xv z 14) :=
    h13.step ![0, 7168, 0] inb_S1x8192x128_S1x512x128_0_7168_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 6656, 0] inb_S1x8192x128_S1x512x80_0_6656_0 rfl (cur h13 _) rfl rfl rfl
  have h15 : Inv (i 2).val q (qT xn) q xk xv 15 (stAt i xn xk xv z 15) :=
    h14.step ![0, 7680, 0] inb_S1x8192x128_S1x512x128_0_7680_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 7168, 0] inb_S1x8192x128_S1x512x80_0_7168_0 rfl (cur h14 _) rfl rfl rfl
  have hn : ∀ hoq, window (s := S2x128x1024) (stAt i xn xk xv z 15).q (k0_off2 i) S1x128x1024.size hoq = qT xn := by
    rw [off2_eq i]; exact fun _ => h15.hn
  exact h15.step ![0, 0, 0] inb_S1x8192x128_S1x512x128_0_0_0 (k0_off2 i) (k0_off2_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 7680, 0] inb_S1x8192x128_S1x512x80_0_7680_0 rfl (hn _) rfl rfl rfl

/-- The point's output block, from what it finds. -/
theorem finish_eq (i : grid0.Coords) {q : Vec F S1x128x1024 .bf16} {xk xv : Vec F S1x8192x128 .bf16} {xn y : Vec F S1x1024x128 .bf16} {z : St F}
    (H : Carry (i 2).val q xk z) : finish (stAt i xn xk xv z 16) y = outOf q xk xv := by
  refine (put_full (s := S1x1024x128) _ _ _ inb_S1x1024x128_S1x1024x128_0_0_0).trans ?_
  rw [(inv_stAt i (xn := xn) (xv := xv) H).ha]
  rfl

/-- What the point hands to the next. -/
theorem carry_next (i : grid0.Coords) {q : Vec F S1x128x1024 .bf16} {xk xv : Vec F S1x8192x128 .bf16} {xn : Vec F S1x1024x128 .bf16} {z : St F}
    (H : Carry (i 2).val q xk z) : Carry ((i 2).val + 1) (qT xn) xk (stAt i xn xk xv z 16) :=
  have h := inv_stAt i (xn := xn) (xv := xv) H
  ⟨h.hn, h.hs, h.hc⟩

end Cert.KernelIdeal.Mla

end
-- ==== Proof.MlaKernelIdealRun.lean ====
/- The run of the attention kernel (KernelIdeal): the proof data of its pipeline (each output block is `outOf` of the point's blocks;
   before a point that is not a head's first the scratch buffers carry what the point before prepared for it, `Carry`), the
   body's obligation, and the launch — every argument array ends unchanged and every output block is as named. -/
module

public import proofs.«01_k».proof.Proof.MlaKernelIdealWp
public import proofs.«01_k».proof.Proof.MlaKernelIdealState
public import Idealize.ShloMosaic.Lib.Claim

@[expose] public section

set_option maxRecDepth 65536

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points and their blocks -/

theorem coords_2 : ∀ t : Fin cfg0.N, (grid0.coords t 2).val = t.val % 8 :=
  (by decide +kernel : ∀ t : Fin grid0.N, (grid0.coords t 2).val = t.val % 8)

/-- At a point that is not a head's last the next query block is the next point's. -/
theorem next_q : ∀ t : Fin cfg0.N, ∀ h : t.val + 1 < cfg0.N, (t.val + 1) % 8 ≠ 0 →
    cc0_transform_1 (grid0.coords t) = cc0_transform_0 (grid0.coords ⟨t.val + 1, h⟩) :=
  (by decide +kernel : ∀ t : Fin grid0.N, ∀ h : t.val + 1 < grid0.N, (t.val + 1) % 8 ≠ 0 →
    cc0_transform_1 (grid0.coords t) = cc0_transform_0 (grid0.coords ⟨t.val + 1, h⟩))
/-- and the next point is of the same head. -/
theorem next_k : ∀ t : Fin cfg0.N, ∀ h : t.val + 1 < cfg0.N, (t.val + 1) % 8 ≠ 0 →
    cc0_transform_2 (grid0.coords t) = cc0_transform_2 (grid0.coords ⟨t.val + 1, h⟩) :=
  (by decide +kernel : ∀ t : Fin grid0.N, ∀ h : t.val + 1 < grid0.N, (t.val + 1) % 8 ≠ 0 →
    cc0_transform_2 (grid0.coords t) = cc0_transform_2 (grid0.coords ⟨t.val + 1, h⟩))

/-- The point's query block, the next one, the head's keys and values. -/
abbrev qBlk (c : Dev nD) (t : Fin cfg0.N) : Vec F S1x1024x128 .bf16 := iblk m c 0 t
abbrev nBlk (c : Dev nD) (t : Fin cfg0.N) : Vec F S1x1024x128 .bf16 := iblk m c 1 t
abbrev kBlk (c : Dev nD) (t : Fin cfg0.N) : Vec F S1x8192x128 .bf16 := iblk m c 2 t
abbrev vBlk (c : Dev nD) (t : Fin cfg0.N) : Vec F S1x8192x128 .bf16 := iblk m c 3 t

/-- A block of an array at a block index. -/
def blkAt {s : Shape} {α : Type} (A : s.Idx → α) (size ix : Fin s.rank → ℕ) (h : ∀ a, (ix a + 1) * size a ≤ s.size a) :
    (Rect.block (s := s) size ix h).shape.Idx → α := fun y => A ((Rect.block (s := s) size ix h).emb y)

theorem blkAt_congr {s : Shape} {α : Type} (A : s.Idx → α) (size ix ix' : Fin s.rank → ℕ) (h : ∀ a, (ix a + 1) * size a ≤ s.size a)
    (h' : ∀ a, (ix' a + 1) * size a ≤ s.size a) (e : ix = ix') : blkAt A size ix h = blkAt A size ix' h' := by
  subst e; rfl

/-- An argument array as launched. -/
def argQ (c : Dev nD) : Vec F S8x8192x1024 .bf16 := m ((c : Thread nD τ).loc main_arg0)
def argK (c : Dev nD) : Vec F S8x8192x1024 .bf16 := m ((c : Thread nD τ).loc main_arg1)
def argV (c : Dev nD) : Vec F S8x8192x1024 .bf16 := m ((c : Thread nD τ).loc main_arg2)

theorem qBlk_eq (c : Dev nD) (t : Fin cfg0.N) :
    qBlk m c t = blkAt (argQ m c) S1x1024x128.size (cc0_transform_0 (grid0.coords t)) (hinb0_0 (grid0.coords t)) := rfl
theorem nBlk_eq (c : Dev nD) (t : Fin cfg0.N) :
    nBlk m c t = blkAt (argQ m c) S1x1024x128.size (cc0_transform_1 (grid0.coords t)) (hinb0_1 (grid0.coords t)) := rfl
theorem kBlk_eq (c : Dev nD) (t : Fin cfg0.N) :
    kBlk m c t = blkAt (argK m c) S1x8192x128.size (cc0_transform_2 (grid0.coords t)) (hinb0_2 (grid0.coords t)) := rfl
theorem vBlk_eq (c : Dev nD) (t : Fin cfg0.N) :
    vBlk m c t = blkAt (argV m c) S1x8192x128.size (cc0_transform_3 (grid0.coords t)) (hinb0_3 (grid0.coords t)) := rfl

theorem nBlk_next (c : Dev nD) (t : Fin cfg0.N) (h : t.val + 1 < cfg0.N) (h8 : (t.val + 1) % 8 ≠ 0) : nBlk m c t = qBlk m c ⟨t.val + 1, h⟩ :=
  (blkAt_congr (argQ m c) S1x1024x128.size _ _ (hinb0_1 (grid0.coords t)) (hinb0_0 (grid0.coords ⟨t.val + 1, h⟩)) (next_q t h h8) : _)
theorem kBlk_next (c : Dev nD) (t : Fin cfg0.N) (h : t.val + 1 < cfg0.N) (h8 : (t.val + 1) % 8 ≠ 0) : kBlk m c t = kBlk m c ⟨t.val + 1, h⟩ :=
  (blkAt_congr (argK m c) S1x8192x128.size _ _ (hinb0_2 (grid0.coords t)) (hinb0_2 (grid0.coords ⟨t.val + 1, h⟩)) (next_k t h h8) : _)

/-- The output block of point `t`. -/
def oBlk (c : Dev nD) (t : Fin cfg0.N) : Vec F S1x1024x128 .bf16 := outOf (qT (qBlk m c t)) (kBlk m c t) (vBlk m c t)

/-! ## The proof data -/

abbrev scr0 : Memref sig .tc .vmem S2x128x1024 .bf16 := Memref.whole cc0_scratch0
abbrev scr1 : Memref sig .tc .vmem S1x1024 .f32 := Memref.whole cc0_scratch1
abbrev scr2 : Memref sig .tc .vmem S80x1024 .f32 := Memref.whole cc0_scratch2
abbrev scr3 : Memref sig .tc .vmem S2x512x1024 .f32 := Memref.whole cc0_scratch3
abbrev scr4 : Memref sig .tc .vmem S2x1x1024 .f32 := Memref.whole cc0_scratch4

/-- What the scratch values `z` carry into point `n`. -/
def Carries (c : Dev nD) (n : ℕ) (z : St F) : Prop :=
  ∀ h : n < cfg0.N, n % 8 ≠ 0 → Carry (n % 8) (qT (qBlk m c ⟨n, h⟩)) (kBlk m c ⟨n, h⟩) z

/-- The scratch buffers hold the values `z`. -/
def holds (c : Dev nD) (z : St F) : sProp 𝕄 := iprop(owns (c : Thread nD τ) scr0 fullShare z.q ∗ owns (c : Thread nD τ) scr1 fullShare z.m ∗ owns (c : Thread nD τ) scr2 fullShare z.a ∗ owns (c : Thread nD τ) scr3 fullShare z.s ∗ owns (c : Thread nD τ) scr4 fullShare z.c)

/-- The invariant before point `n`. -/
def PhiC (c : Dev nD) (n : ℕ) : sProp 𝕄 :=
  iprop((∃ z : St F, ⌜Carries m c n z⌝ ∗ holds c z) ∗ (∃ r, prngReg c r))

theorem PhiA_eq (c : Dev nD) :
    (Pipeline.ΦA spec0 c : sProp 𝕄)
      = iprop(((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oBlk m c t
  Φ t := PhiC m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = oBlk m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

theorem leaves_eq (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What a point leaves carries into the next one. -/
theorem carries_next (c : Dev nD) (t : Fin cfg0.N) (z : St F)
    (H : Carry (grid0.coords t 2).val (qT (qBlk m c t)) (kBlk m c t) z) :
    Carries m c (t.val + 1) (stAt (grid0.coords t) (nBlk m c t) (kBlk m c t) (vBlk m c t) z 16) := by
  intro h h8
  have e : (t.val + 1) % 8 = (grid0.coords t 2).val + 1 := by rw [coords_2 t]; omega
  rw [e, ← nBlk_next m c t h h8, ← kBlk_next m c t h h8]
  exact carry_next (grid0.coords t) H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiC m c (t.val + 1) from rfl, show (dats m 0 c).Φ t.castSucc = PhiC m c t.val from rfl]
  rw [leaves_eq m c t 0 rfl, after_0, leaves_eq m c t 1 rfl, after_1, leaves_eq m c t 2 rfl, after_2, leaves_eq m c t 3 rfl, after_3, leaves_eq m c t 4 rfl, after_4]
  unfold PhiC
  rcases Nat.eq_zero_or_pos (t.val % 8) with h8 | h8
  · have hc : k0_cond1 (grid0.coords t) = 1#1 := (cond1_iff _).mpr ((coords_2 t).trans h8)
    rw [body_eq_first _ _ _ _ _ _ _ _ _ _ _ _ _ _ _ _ _ _ _ _ _ hc]
    unfold holds
    iintro ⟨⟨⟨%z, %hz, H8, H9, H10, H11, H12⟩, Hg⟩, Ho, ⟨%d0, H3⟩, ⟨%d1, H4⟩, ⟨%d2, H5⟩, ⟨%d3, H6⟩, ⟨%d4, H7⟩⟩
    have hz' : Carry (grid0.coords t 2).val (qT (qBlk m c t)) (kBlk m c t) (start (k0_off1 (grid0.coords t)) (k0_off1_inb _ hc) (qBlk m c t) (kBlk m c t) z) :=
      carry_start (off1_eq _) _ _ _ _
    iapply (wp_first Variants.none c (grid0.coords t) (xq := qBlk m c t) (xn := nBlk m c t) (xk := kBlk m c t) (xv := vBlk m c t) z hc _ rfl) $$ H3 H4 H5 H6 H7 H8 H9 H10 H11 H12
    rw [finish_eq (grid0.coords t) hz']
    iintro H3 H4 H5 H6 H7 H8 H9 H10 H11 H12
    isplitl [H8 H9 H10 H11 H12 Hg]
    · isplitl [H8 H9 H10 H11 H12]
      · iexists _
        isplitr
        swap
        · isplitl [H8]; · iexact H8
          isplitl [H9]; · iexact H9
          isplitl [H10]; · iexact H10
          isplitl [H11]; · iexact H11
          iexact H12
        · ipureintro; exact carries_next m c t _ hz'
      iexact Hg
    isplitl [Ho]; · iexact Ho
    isplitl [H3]; · iexact H3
    isplitl [H4]; · iexact H4
    isplitl [H5]; · iexact H5
    isplitl [H6]; · iexact H6
    iexact H7
  · have hc : ¬ k0_cond1 (grid0.coords t) = 1#1 := fun h => by
      have := (cond1_iff _).mp h
      rw [coords_2 t] at this; omega
    rw [body_eq_rest _ _ _ _ _ _ _ _ _ _ _ _ _ _ _ _ _ _ _ _ _ hc]
    unfold holds
    iintro ⟨⟨⟨%z, %hz, H8, H9, H10, H11, H12⟩, Hg⟩, Ho, ⟨%d0, H3⟩, ⟨%d1, H4⟩, ⟨%d2, H5⟩, ⟨%d3, H6⟩, ⟨%d4, H7⟩⟩
    have hz' : Carry (grid0.coords t 2).val (qT (qBlk m c t)) (kBlk m c t) z := by
      rw [coords_2 t]; exact hz t.isLt (by omega)
    iapply (wp_rest Variants.none c (grid0.coords t) (xq := qBlk m c t) (xn := nBlk m c t) (xk := kBlk m c t) (xv := vBlk m c t) z) $$ H3 H4 H5 H6 H7 H8 H9 H10 H11 H12
    rw [finish_eq (grid0.coords t) hz']
    iintro H3 H4 H5 H6 H7 H8 H9 H10 H11 H12
    isplitl [H8 H9 H10 H11 H12 Hg]
    · isplitl [H8 H9 H10 H11 H12]
      · iexists _
        isplitr
        swap
        · isplitl [H8]; · iexact H8
          isplitl [H9]; · iexact H9
          isplitl [H10]; · iexact H10
          isplitl [H11]; · iexact H11
          iexact H12
        · ipureintro; exact carries_next m c t _ hz'
      iexact Hg
    isplitl [Ho]; · iexact Ho
    isplitl [H3]; · iexact H3
    isplitl [H4]; · iexact H4
    isplitl [H5]; · iexact H5
    isplitl [H6]; · iexact H6
    iexact H7

/-- The body table's row at point `t`'s slots is the body as `bodyAt0` spells it. -/
theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem hin (c : Dev nD) : Pipeline.ΦA spec0 c ⊢ (dats m 0 c).Φ 0 := by
  rw [show (dats m 0 c).Φ 0 = PhiC m c 0 from rfl, PhiA_eq]
  unfold PhiC holds
  iintro ⟨⟨⟨%d0, H0⟩, ⟨%d1, H1⟩, ⟨%d2, H2⟩, ⟨%d3, H3⟩, ⟨%d4, H4⟩⟩, Hg⟩
  isplitr [Hg]
  · iexists (⟨d0, d1, d2, d3, d4⟩ : St F)
    isplitr
    · ipureintro; exact fun _ h => absurd rfl h
    isplitl [H0]; · iexact H0
    isplitl [H1]; · iexact H1
    isplitl [H2]; · iexact H2
    isplitl [H3]; · iexact H3
    iexact H4
  iexact Hg

theorem hout (c : Dev nD) : (dats m 0 c).Φ (Fin.last cfg0.N) ⊢ Pipeline.ΦA spec0 c := by
  rw [show (dats m 0 c).Φ (Fin.last cfg0.N) = PhiC m c cfg0.N from rfl, PhiA_eq]
  unfold PhiC holds
  iintro ⟨⟨%z, %hz, H0, H1, H2, H3, H4⟩, Hg⟩
  isplitr [Hg]
  · isplitl [H0]; · iexists _; iexact H0
    isplitl [H1]; · iexists _; iexact H1
    isplitl [H2]; · iexists _; iexact H2
    isplitl [H3]; · iexists _; iexact H3
    iexists _; iexact H4
  iexact Hg

/-! ## The run and the frame -/

-- the launch theorem's implicit arguments are found by unifying its conclusion with this one, which takes unfolding plain
-- definitions in a metavariable's type
set_option backward.isDefEq.respectTransparency.types false in
/-- The launch, every semaphore counter at zero at every final state. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution terminates, the arrays of the pipeline as the proof data have them. -/
theorem run : θ_run defs (onTc (τ := τ) (main (F := F))) (s₀ m ρ) (Pipeline.FramePost cfgs (dats m) 0 (V m)) :=
  (θ_run defs _ _).mono (fun _ h => h.1) (run_quiescent m ρ)

/-- The argument arrays end unchanged and the counters at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.KernelIdeal.Mla

end
-- ==== Proof.DiffKernelIdealBody.lean ====
/- The body of the attention kernel `diff_attn` (Kernel3Ideal) as a chain of named pieces: the start of a head (`startThen`, taken at a
   head's first query block: its transposed queries and its first score tile), the preparation of the next query block and of the
   running maximum and sums (`prepThen`), sixteen equal steps over the key blocks (`stepThen`: the NEXT tile of scores, then the
   current tile's exponentials, sums and maximum), and the division (`finishThen`). The printed body is this chain
   (`body_eq_first`, `body_eq_rest`, by definitional unfolding), and each piece acts on the buffers' values as a plain function of
   them (`start`, `prep`, `step`, `finish`). -/
module

public import proofs.«01_k».proof.Proof.Gen.Kernel3Ideal.Skeleton
public import proofs.«01_k».proof.Proof.OwnsRules
public import Idealize.ShloMosaic.Lib.Pipeline.Regions

@[expose] public section

set_option maxRecDepth 65536

noncomputable section

namespace Cert.Kernel3Ideal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

/-- A program of the kernel that returns nothing. -/
abbrev KProg (F : FTy → Type) [FloatOps F] : Type 1 := Prog (TpuEff nD τ sig (Elt F) Λ₀ .tc) PUnit.{1}

/-! ## What the pieces compute -/

/-- A query block transposed, the queries along the lanes. -/
def qT (x : Vec F S1x512x128 .bf16) : FVec F S1x128x1024 .bf16 := k0_pay6 x
/-- A tile of scores: a block of keys against the transposed queries. -/
def sc (k : Vec F S1x512x128 .bf16) (q : Vec F S1x128x1024 .bf16) : FVec F S1x512x1024 .f32 := k0_pay11 k q
/-- The largest score of the tile, for each query. -/
def scMax (k : Vec F S1x512x128 .bf16) (q : Vec F S1x128x1024 .bf16) : FVec F S1x1x1024 .f32 := k0_pay12 k q
/-- The running maximum with a tile's. -/
def mNew (m : Vec F S1x1024 .f32) (mc : Vec F S1x1x1024 .f32) : FVec F S1x1024 .f32 := k0_pay16 m (k0_pay13 mc)
/-- The sums rescaled to the new maximum, with the tile's exponentials times the values added. -/
def accNew (m : Vec F S1x1024 .f32) (mc : Vec F S1x1x1024 .f32) (s : Vec F S1x512x1024 .f32) (v : Vec F S1x512x144 .bf16)
    (a : Vec F S144x1024 .f32) : FVec F S144x1024 .f32 := k0_pay15 m (k0_pay13 mc) s v a
/-- The output block: the two maps' averages, their difference by the layer's weight, normed. -/
def outBlk (a : Vec F S128x1024 .f32) (l : Vec F S1x1024 .f32) (lm : Vec F S8x128 .f32) (g : Vec F S128x1 .f32) : FVec F S1x512x128 .bf16 :=
  k0_pay1 (k0_pay120 a l lm g)

/-- The values of the kernel's scratch buffers: two slots of transposed queries, the running maximum, the running sums, two
    tiles of scores and the two tiles' maxima. -/
structure St (F : FTy → Type) [FloatOps F] where
  q : Vec F S2x128x1024 .bf16
  m : Vec F S1x1024 .f32
  a : Vec F S144x1024 .f32
  s : Vec F S2x512x1024 .f32
  c : Vec F S2x1x1024 .f32

open VecWindow in
/-- The start of a head: its first queries into slot `o`, its first tile of scores into tile 0. -/
def start (o : Fin 3 → ℕ) (ho : ∀ a, o a + S1x128x1024.size a ≤ S2x128x1024.size a)
    (xq : Vec F S1x512x128 .bf16) (xk : Vec F S1x8192x128 .bf16) (z : St F) : St F :=
  let q' := put (s := S2x128x1024) z.q o S1x128x1024.size (qT (window (s := S1x512x128) xq ![0, 0, 0] S1x512x128.size inb_S1x512x128_S1x512x128_0_0_0))
  let k := window (s := S1x8192x128) xk ![0, 0, 0] S1x512x128.size inb_S1x8192x128_S1x512x128_0_0_0
  let qw := window (s := S2x128x1024) q' o S1x128x1024.size ho
  { z with
    q := q'
    s := put (s := S2x512x1024) z.s ![0, 0, 0] S1x512x1024.size (sc k qw)
    c := put (s := S2x1x1024) z.c ![0, 0, 0] S1x1x1024.size (scMax k qw) }

open VecWindow in
/-- The preparation of a point: the next queries into slot `o`, the running maximum at `-∞`, the running sums at zero. -/
def prep (o : Fin 3 → ℕ) (xn : Vec F S1x512x128 .bf16) (z : St F) : St F :=
  { z with
    q := put (s := S2x128x1024) z.q o S1x128x1024.size (qT (window (s := S1x512x128) xn ![0, 0, 0] S1x512x128.size inb_S1x512x128_S1x512x128_0_0_0))
    m := put (s := S1x1024) z.m ![0, 0] S1x1024.size (k0_pay8 (k0_pay7 (F := F)))
    a := put (s := S144x1024) z.a ![0, 0] S144x1024.size (k0_pay9 (F := F)) }

open VecWindow in
/-- One step: the scores of the keys at `ok` against the queries in slot `oq` into tile `w`, then tile `r`, with the values at
    `ov`, into the running maximum and sums. -/
def step (ok : Fin 3 → ℕ) (hok : ∀ a, ok a + S1x512x128.size a ≤ S1x8192x128.size a)
    (oq : Fin 3 → ℕ) (hoq : ∀ a, oq a + S1x128x1024.size a ≤ S2x128x1024.size a)
    (w : Fin 3 → ℕ) (r : Fin 3 → ℕ) (hr : ∀ a, r a + S1x512x1024.size a ≤ S2x512x1024.size a) (hr1 : ∀ a, r a + S1x1x1024.size a ≤ S2x1x1024.size a)
    (ov : Fin 3 → ℕ) (hov : ∀ a, ov a + S1x512x144.size a ≤ S1x8192x256.size a)
    (xk : Vec F S1x8192x128 .bf16) (xv : Vec F S1x8192x256 .bf16) (z : St F) : St F :=
  let k := window (s := S1x8192x128) xk ok S1x512x128.size hok
  let qw := window (s := S2x128x1024) z.q oq S1x128x1024.size hoq
  let s' := put (s := S2x512x1024) z.s w S1x512x1024.size (sc k qw)
  let c' := put (s := S2x1x1024) z.c w S1x1x1024.size (scMax k qw)
  let m := window (s := S1x1024) z.m ![0, 0] S1x1024.size inb_S1x1024_S1x1024_0_0
  let mc := window (s := S2x1x1024) c' r S1x1x1024.size hr1
  let s := window (s := S2x512x1024) s' r S1x512x1024.size hr
  let v := window (s := S1x8192x256) xv ov S1x512x144.size hov
  let a := window (s := S144x1024) z.a ![0, 0] S144x1024.size inb_S144x1024_S144x1024_0_0
  { q := z.q
    m := put (s := S1x1024) z.m ![0, 0] S1x1024.size (mNew m mc)
    a := put (s := S144x1024) z.a ![0, 0] S144x1024.size (accNew m mc s v a)
    s := s'
    c := c' }

open VecWindow in
/-- What the point leaves in the output block's buffer. -/
def finish (lm : Vec F S8x128 .f32) (g : Vec F S128x1 .f32) (z : St F) (y : Vec F S1x512x128 .bf16) : Vec F S1x512x128 .bf16 :=
  put (s := S1x512x128) y ![0, 0, 0] S1x512x128.size
    (outBlk (window (s := S144x1024) z.a ![0, 0] S128x1024.size inb_S144x1024_S128x1024_0_0) (window (s := S144x1024) z.a ![128, 0] S1x1024.size inb_S144x1024_S1x1024_128_0)
      (window (s := S8x128) lm ![0, 0] S8x128.size inb_S8x128_S8x128_0_0) (window (s := S128x1) g ![0, 0] S128x1.size inb_S128x1_S128x1_0_0))

/-! ## The pieces as programs, each before a rest `K` -/

/-- `start` as a program. -/
def startThen (arg3 : Memref sig .tc .vmem S1x512x128 .bf16) (arg5 : Memref sig .tc .vmem S1x8192x128 .bf16) (arg10 : Memref sig .tc .vmem S2x128x1024 .bf16) (harg10 : arg10.IsWhole) (arg13 : Memref sig .tc .vmem S2x512x1024 .f32) (arg14 : Memref sig .tc .vmem S2x1x1024 .f32)
    (o : Fin 3 → ℕ) (ho : ∀ a, o a + S1x128x1024.size a ≤ S2x128x1024.size a) (pk : (Rect.unit (s := S2x128x1024) o S1x128x1024.size ho).PackedRows (EltTy.packing .bf16)) (K : KProg F) : KProg F :=
  .op (.load arg3 (Rect.unit (s := S1x512x128) ![0, 0, 0] S1x512x128.size inb_S1x512x128_S1x512x128_0_0_0).toLoadRect (View.loadsAt_vmem h_S1x512x128)) fun x =>
  .op (.load arg10 (Rect.unit (s := S2x128x1024) o S1x128x1024.size ho).toLoadRect (View.loadsAt_vmem h_S1x128x1024)) fun _ =>
  .op (.store arg10 (Rect.unit (s := S2x128x1024) o S1x128x1024.size ho) (qT x) Finset.univ (View.stores_vmem h_S1x128x1024 (harg10.storeExact_slice rfl _ pk) (fun _ => rfl)) (.inl rfl)) fun _ =>
  .op (.load arg5 (Rect.unit (s := S1x8192x128) ![0, 0, 0] S1x512x128.size inb_S1x8192x128_S1x512x128_0_0_0).toLoadRect (View.loadsAt_vmem h_S1x512x128)) fun k =>
  .op (.load arg10 (Rect.unit (s := S2x128x1024) o S1x128x1024.size ho).toLoadRect (View.loadsAt_vmem h_S1x128x1024)) fun q =>
  .op (.load arg13 (Rect.unit (s := S2x512x1024) ![0, 0, 0] S1x512x1024.size inb_S2x512x1024_S1x512x1024_0_0_0).toLoadRect (View.loadsAt_vmem h_S1x512x1024)) fun _ =>
  .op (.store arg13 (Rect.unit (s := S2x512x1024) ![0, 0, 0] S1x512x1024.size inb_S2x512x1024_S1x512x1024_0_0_0) (sc k q) Finset.univ (View.stores_vmem_bits_univ h_S1x512x1024 rfl) (.inl rfl)) fun _ =>
  .op (.load arg14 (Rect.unit (s := S2x1x1024) ![0, 0, 0] S1x1x1024.size inb_S2x1x1024_S1x1x1024_0_0_0).toLoadRect (View.loadsAt_vmem h_S1x1x1024)) fun _ =>
  .op (.store arg14 (Rect.unit (s := S2x1x1024) ![0, 0, 0] S1x1x1024.size inb_S2x1x1024_S1x1x1024_0_0_0) (scMax k q) Finset.univ (View.stores_vmem_bits_univ h_S1x1x1024 rfl) (.inl rfl)) fun _ => K

/-- `prep` as a program. -/
def prepThen (arg4 : Memref sig .tc .vmem S1x512x128 .bf16) (arg10 : Memref sig .tc .vmem S2x128x1024 .bf16) (harg10 : arg10.IsWhole) (arg11 : Memref sig .tc .vmem S1x1024 .f32) (arg12 : Memref sig .tc .vmem S144x1024 .f32)
    (o : Fin 3 → ℕ) (ho : ∀ a, o a + S1x128x1024.size a ≤ S2x128x1024.size a) (pk : (Rect.unit (s := S2x128x1024) o S1x128x1024.size ho).PackedRows (EltTy.packing .bf16)) (K : KProg F) : KProg F :=
  .op (.load arg4 (Rect.unit (s := S1x512x128) ![0, 0, 0] S1x512x128.size inb_S1x512x128_S1x512x128_0_0_0).toLoadRect (View.loadsAt_vmem h_S1x512x128)) fun x =>
  .op (.load arg10 (Rect.unit (s := S2x128x1024) o S1x128x1024.size ho).toLoadRect (View.loadsAt_vmem h_S1x128x1024)) fun _ =>
  .op (.store arg10 (Rect.unit (s := S2x128x1024) o S1x128x1024.size ho) (qT x) Finset.univ (View.stores_vmem h_S1x128x1024 (harg10.storeExact_slice rfl _ pk) (fun _ => rfl)) (.inl rfl)) fun _ =>
  .op (.load arg11 (Rect.unit (s := S1x1024) ![0, 0] S1x1024.size inb_S1x1024_S1x1024_0_0).toLoadRect (View.loadsAt_vmem h_S1x1024)) fun _ =>
  .op (.store arg11 (Rect.unit (s := S1x1024) ![0, 0] S1x1024.size inb_S1x1024_S1x1024_0_0) (k0_pay8 (k0_pay7 (F := F))) Finset.univ (View.stores_vmem_bits_univ h_S1x1024 rfl) (.inl rfl)) fun _ =>
  .op (.load arg12 (Rect.unit (s := S144x1024) ![0, 0] S144x1024.size inb_S144x1024_S144x1024_0_0).toLoadRect (View.loadsAt_vmem h_S144x1024)) fun _ =>
  .op (.store arg12 (Rect.unit (s := S144x1024) ![0, 0] S144x1024.size inb_S144x1024_S144x1024_0_0) (k0_pay9 (F := F)) Finset.univ (View.stores_vmem_bits_univ h_S144x1024 rfl) (.inl rfl)) fun _ => K

/-- `step` as a program. -/
def stepThen (arg5 : Memref sig .tc .vmem S1x8192x128 .bf16) (arg6 : Memref sig .tc .vmem S1x8192x256 .bf16) (arg10 : Memref sig .tc .vmem S2x128x1024 .bf16) (arg11 : Memref sig .tc .vmem S1x1024 .f32) (arg12 : Memref sig .tc .vmem S144x1024 .f32) (arg13 : Memref sig .tc .vmem S2x512x1024 .f32) (arg14 : Memref sig .tc .vmem S2x1x1024 .f32)
    (ok : Fin 3 → ℕ) (hok : ∀ a, ok a + S1x512x128.size a ≤ S1x8192x128.size a)
    (oq : Fin 3 → ℕ) (hoq : ∀ a, oq a + S1x128x1024.size a ≤ S2x128x1024.size a)
    (w : Fin 3 → ℕ) (hw : ∀ a, w a + S1x512x1024.size a ≤ S2x512x1024.size a) (hw1 : ∀ a, w a + S1x1x1024.size a ≤ S2x1x1024.size a)
    (r : Fin 3 → ℕ) (hr : ∀ a, r a + S1x512x1024.size a ≤ S2x512x1024.size a) (hr1 : ∀ a, r a + S1x1x1024.size a ≤ S2x1x1024.size a)
    (ov : Fin 3 → ℕ) (hov : ∀ a, ov a + S1x512x144.size a ≤ S1x8192x256.size a) (K : KProg F) : KProg F :=
  .op (.load arg5 (Rect.unit (s := S1x8192x128) ok S1x512x128.size hok).toLoadRect (View.loadsAt_vmem h_S1x512x128)) fun k =>
  .op (.load arg10 (Rect.unit (s := S2x128x1024) oq S1x128x1024.size hoq).toLoadRect (View.loadsAt_vmem h_S1x128x1024)) fun q =>
  .op (.load arg13 (Rect.unit (s := S2x512x1024) w S1x512x1024.size hw).toLoadRect (View.loadsAt_vmem h_S1x512x1024)) fun _ =>
  .op (.store arg13 (Rect.unit (s := S2x512x1024) w S1x512x1024.size hw) (sc k q) Finset.univ (View.stores_vmem_bits_univ h_S1x512x1024 rfl) (.inl rfl)) fun _ =>
  .op (.load arg14 (Rect.unit (s := S2x1x1024) w S1x1x1024.size hw1).toLoadRect (View.loadsAt_vmem h_S1x1x1024)) fun _ =>
  .op (.store arg14 (Rect.unit (s := S2x1x1024) w S1x1x1024.size hw1) (scMax k q) Finset.univ (View.stores_vmem_bits_univ h_S1x1x1024 rfl) (.inl rfl)) fun _ =>
  .op (.load arg11 (Rect.unit (s := S1x1024) ![0, 0] S1x1024.size inb_S1x1024_S1x1024_0_0).toLoadRect (View.loadsAt_vmem h_S1x1024)) fun m =>
  .op (.load arg14 (Rect.unit (s := S2x1x1024) r S1x1x1024.size hr1).toLoadRect (View.loadsAt_vmem h_S1x1x1024)) fun mc =>
  .op (.load arg13 (Rect.unit (s := S2x512x1024) r S1x512x1024.size hr).toLoadRect (View.loadsAt_vmem h_S1x512x1024)) fun s =>
  .op (.load arg6 (Rect.unit (s := S1x8192x256) ov S1x512x144.size hov).toLoadRect (View.loadsAt_vmem h_S1x512x144)) fun v =>
  .op (.load arg12 (Rect.unit (s := S144x1024) ![0, 0] S144x1024.size inb_S144x1024_S144x1024_0_0).toLoadRect (View.loadsAt_vmem h_S144x1024)) fun a =>
  .op (.load arg12 (Rect.unit (s := S144x1024) ![0, 0] S144x1024.size inb_S144x1024_S144x1024_0_0).toLoadRect (View.loadsAt_vmem h_S144x1024)) fun _ =>
  .op (.store arg12 (Rect.unit (s := S144x1024) ![0, 0] S144x1024.size inb_S144x1024_S144x1024_0_0) (accNew m mc s v a) Finset.univ (View.stores_vmem_bits_univ h_S144x1024 rfl) (.inl rfl)) fun _ =>
  .op (.load arg11 (Rect.unit (s := S1x1024) ![0, 0] S1x1024.size inb_S1x1024_S1x1024_0_0).toLoadRect (View.loadsAt_vmem h_S1x1024)) fun _ =>
  .op (.store arg11 (Rect.unit (s := S1x1024) ![0, 0] S1x1024.size inb_S1x1024_S1x1024_0_0) (mNew m mc) Finset.univ (View.stores_vmem_bits_univ h_S1x1024 rfl) (.inl rfl)) fun _ => K

/-- `finish` as a program: the end of the body. -/
def finishProg (arg7 : Memref sig .tc .vmem S8x128 .f32) (arg8 : Memref sig .tc .vmem S128x1 .f32) (arg9 : Memref sig .tc .vmem S1x512x128 .bf16) (harg9 : arg9.IsWhole) (arg12 : Memref sig .tc .vmem S144x1024 .f32) : KProg F :=
  .op (.load arg12 (Rect.unit (s := S144x1024) ![0, 0] S128x1024.size inb_S144x1024_S128x1024_0_0).toLoadRect (View.loadsAt_vmem h_S128x1024)) fun a =>
  .op (.load arg12 (Rect.unit (s := S144x1024) ![128, 0] S1x1024.size inb_S144x1024_S1x1024_128_0).toLoadRect (View.loadsAt_vmem h_S1x1024)) fun l =>
  .op (.load arg7 (Rect.unit (s := S8x128) ![0, 0] S8x128.size inb_S8x128_S8x128_0_0).toLoadRect (View.loadsAt_vmem h_S8x128)) fun lm =>
  .op (.load arg8 (Rect.unit (s := S128x1) ![0, 0] S128x1.size inb_S128x1_S128x1_0_0).toLoadRect (View.loadsAt_vmem h_S128x1)) fun g =>
  .op (.load arg9 (Rect.unit (s := S1x512x128) ![0, 0, 0] S1x512x128.size inb_S1x512x128_S1x512x128_0_0_0).toLoadRect (View.loadsAt_vmem h_S1x512x128)) fun _ =>
  .op (.store arg9 (Rect.unit (s := S1x512x128) ![0, 0, 0] S1x512x128.size inb_S1x512x128_S1x512x128_0_0_0) (outBlk a l lm g) Finset.univ (View.stores_vmem h_S1x512x128 (harg9.storeExact_slice rfl _ packedbf16_S1x512x128_S1x512x128_0_0_0) (fun _ => rfl)) (.inl rfl)) fun _ => .ret ⟨⟩

/-- The body without the start of a head: the preparation, sixteen steps over the key blocks (the last one's scores are the next
    query block's first), the division. -/
def restProg (i : grid0.Coords) (arg3 : Memref sig .tc .vmem S1x512x128 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x8192x256 .bf16) (harg6 : arg6.IsWhole) (arg7 : Memref sig .tc .vmem S8x128 .f32) (harg7 : arg7.IsWhole) (arg8 : Memref sig .tc .vmem S128x1 .f32) (harg8 : arg8.IsWhole) (arg9 : Memref sig .tc .vmem S1x512x128 .bf16) (harg9 : arg9.IsWhole) (arg10 : Memref sig .tc .vmem S2x128x1024 .bf16) (harg10 : arg10.IsWhole) (arg11 : Memref sig .tc .vmem S1x1024 .f32) (harg11 : arg11.IsWhole) (arg12 : Memref sig .tc .vmem S144x1024 .f32) (harg12 : arg12.IsWhole) (arg13 : Memref sig .tc .vmem S2x512x1024 .f32) (harg13 : arg13.IsWhole) (arg14 : Memref sig .tc .vmem S2x1x1024 .f32) (harg14 : arg14.IsWhole) : KProg F :=
  prepThen arg4 arg10 harg10 arg11 arg12 (k0_off2 i) (k0_off2_inb i) (k0_off2_packedbf16 i) <|
  stepThen arg5 arg6 arg10 arg11 arg12 arg13 arg14 (k0_off3 0#32) (k0_off3_inb 0) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 0#32) (k0_off5_inb 0) <|
  stepThen arg5 arg6 arg10 arg11 arg12 arg13 arg14 (k0_off3 1#32) (k0_off3_inb 1) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 1#32) (k0_off5_inb 1) <|
  stepThen arg5 arg6 arg10 arg11 arg12 arg13 arg14 (k0_off3 2#32) (k0_off3_inb 2) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 2#32) (k0_off5_inb 2) <|
  stepThen arg5 arg6 arg10 arg11 arg12 arg13 arg14 (k0_off3 3#32) (k0_off3_inb 3) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 3#32) (k0_off5_inb 3) <|
  stepThen arg5 arg6 arg10 arg11 arg12 arg13 arg14 (k0_off3 4#32) (k0_off3_inb 4) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 4#32) (k0_off5_inb 4) <|
  stepThen arg5 arg6 arg10 arg11 arg12 arg13 arg14 (k0_off3 5#32) (k0_off3_inb 5) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 5#32) (k0_off5_inb 5) <|
  stepThen arg5 arg6 arg10 arg11 arg12 arg13 arg14 (k0_off3 6#32) (k0_off3_inb 6) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 6#32) (k0_off5_inb 6) <|
  stepThen arg5 arg6 arg10 arg11 arg12 arg13 arg14 (k0_off3 7#32) (k0_off3_inb 7) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 7#32) (k0_off5_inb 7) <|
  stepThen arg5 arg6 arg10 arg11 arg12 arg13 arg14 ![0, 4608, 0] inb_S1x8192x128_S1x512x128_0_4608_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 4096, 0] inb_S1x8192x256_S1x512x144_0_4096_0 <|
  stepThen arg5 arg6 arg10 arg11 arg12 arg13 arg14 ![0, 5120, 0] inb_S1x8192x128_S1x512x128_0_5120_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 4608, 0] inb_S1x8192x256_S1x512x144_0_4608_0 <|
  stepThen arg5 arg6 arg10 arg11 arg12 arg13 arg14 ![0, 5632, 0] inb_S1x8192x128_S1x512x128_0_5632_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 5120, 0] inb_S1x8192x256_S1x512x144_0_5120_0 <|
  stepThen arg5 arg6 arg10 arg11 arg12 arg13 arg14 ![0, 6144, 0] inb_S1x8192x128_S1x512x128_0_6144_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 5632, 0] inb_S1x8192x256_S1x512x144_0_5632_0 <|
  stepThen arg5 arg6 arg10 arg11 arg12 arg13 arg14 ![0, 6656, 0] inb_S1x8192x128_S1x512x128_0_6656_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 6144, 0] inb_S1x8192x256_S1x512x144_0_6144_0 <|
  stepThen arg5 arg6 arg10 arg11 arg12 arg13 arg14 ![0, 7168, 0] inb_S1x8192x128_S1x512x128_0_7168_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 6656, 0] inb_S1x8192x256_S1x512x144_0_6656_0 <|
  stepThen arg5 arg6 arg10 arg11 arg12 arg13 arg14 ![0, 7680, 0] inb_S1x8192x128_S1x512x128_0_7680_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 7168, 0] inb_S1x8192x256_S1x512x144_0_7168_0 <|
  stepThen arg5 arg6 arg10 arg11 arg12 arg13 arg14 ![0, 0, 0] inb_S1x8192x128_S1x512x128_0_0_0 (k0_off2 i) (k0_off2_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 7680, 0] inb_S1x8192x256_S1x512x144_0_7680_0 <|
  finishProg arg7 arg8 arg9 harg9 arg12

/-- Step `n` of a point. -/
def stepAt (i : grid0.Coords) (xk : Vec F S1x8192x128 .bf16) (xv : Vec F S1x8192x256 .bf16) (n : ℕ) (z : St F) : St F :=
  match n with
  | 0 => step (k0_off3 0#32) (k0_off3_inb 0) (k0_off4 i) (k0_off4_inb i) ![1, 0, 0] ![0, 0, 0] inb_S2x512x1024_S1x512x1024_0_0_0 inb_S2x1x1024_S1x1x1024_0_0_0 (k0_off5 0#32) (k0_off5_inb 0) xk xv z
  | 1 => step (k0_off3 1#32) (k0_off3_inb 1) (k0_off4 i) (k0_off4_inb i) ![0, 0, 0] ![1, 0, 0] inb_S2x512x1024_S1x512x1024_1_0_0 inb_S2x1x1024_S1x1x1024_1_0_0 (k0_off5 1#32) (k0_off5_inb 1) xk xv z
  | 2 => step (k0_off3 2#32) (k0_off3_inb 2) (k0_off4 i) (k0_off4_inb i) ![1, 0, 0] ![0, 0, 0] inb_S2x512x1024_S1x512x1024_0_0_0 inb_S2x1x1024_S1x1x1024_0_0_0 (k0_off5 2#32) (k0_off5_inb 2) xk xv z
  | 3 => step (k0_off3 3#32) (k0_off3_inb 3) (k0_off4 i) (k0_off4_inb i) ![0, 0, 0] ![1, 0, 0] inb_S2x512x1024_S1x512x1024_1_0_0 inb_S2x1x1024_S1x1x1024_1_0_0 (k0_off5 3#32) (k0_off5_inb 3) xk xv z
  | 4 => step (k0_off3 4#32) (k0_off3_inb 4) (k0_off4 i) (k0_off4_inb i) ![1, 0, 0] ![0, 0, 0] inb_S2x512x1024_S1x512x1024_0_0_0 inb_S2x1x1024_S1x1x1024_0_0_0 (k0_off5 4#32) (k0_off5_inb 4) xk xv z
  | 5 => step (k0_off3 5#32) (k0_off3_inb 5) (k0_off4 i) (k0_off4_inb i) ![0, 0, 0] ![1, 0, 0] inb_S2x512x1024_S1x512x1024_1_0_0 inb_S2x1x1024_S1x1x1024_1_0_0 (k0_off5 5#32) (k0_off5_inb 5) xk xv z
  | 6 => step (k0_off3 6#32) (k0_off3_inb 6) (k0_off4 i) (k0_off4_inb i) ![1, 0, 0] ![0, 0, 0] inb_S2x512x1024_S1x512x1024_0_0_0 inb_S2x1x1024_S1x1x1024_0_0_0 (k0_off5 6#32) (k0_off5_inb 6) xk xv z
  | 7 => step (k0_off3 7#32) (k0_off3_inb 7) (k0_off4 i) (k0_off4_inb i) ![0, 0, 0] ![1, 0, 0] inb_S2x512x1024_S1x512x1024_1_0_0 inb_S2x1x1024_S1x1x1024_1_0_0 (k0_off5 7#32) (k0_off5_inb 7) xk xv z
  | 8 => step ![0, 4608, 0] inb_S1x8192x128_S1x512x128_0_4608_0 (k0_off4 i) (k0_off4_inb i) ![1, 0, 0] ![0, 0, 0] inb_S2x512x1024_S1x512x1024_0_0_0 inb_S2x1x1024_S1x1x1024_0_0_0 ![0, 4096, 0] inb_S1x8192x256_S1x512x144_0_4096_0 xk xv z
  | 9 => step ![0, 5120, 0] inb_S1x8192x128_S1x512x128_0_5120_0 (k0_off4 i) (k0_off4_inb i) ![0, 0, 0] ![1, 0, 0] inb_S2x512x1024_S1x512x1024_1_0_0 inb_S2x1x1024_S1x1x1024_1_0_0 ![0, 4608, 0] inb_S1x8192x256_S1x512x144_0_4608_0 xk xv z
  | 10 => step ![0, 5632, 0] inb_S1x8192x128_S1x512x128_0_5632_0 (k0_off4 i) (k0_off4_inb i) ![1, 0, 0] ![0, 0, 0] inb_S2x512x1024_S1x512x1024_0_0_0 inb_S2x1x1024_S1x1x1024_0_0_0 ![0, 5120, 0] inb_S1x8192x256_S1x512x144_0_5120_0 xk xv z
  | 11 => step ![0, 6144, 0] inb_S1x8192x128_S1x512x128_0_6144_0 (k0_off4 i) (k0_off4_inb i) ![0, 0, 0] ![1, 0, 0] inb_S2x512x1024_S1x512x1024_1_0_0 inb_S2x1x1024_S1x1x1024_1_0_0 ![0, 5632, 0] inb_S1x8192x256_S1x512x144_0_5632_0 xk xv z
  | 12 => step ![0, 6656, 0] inb_S1x8192x128_S1x512x128_0_6656_0 (k0_off4 i) (k0_off4_inb i) ![1, 0, 0] ![0, 0, 0] inb_S2x512x1024_S1x512x1024_0_0_0 inb_S2x1x1024_S1x1x1024_0_0_0 ![0, 6144, 0] inb_S1x8192x256_S1x512x144_0_6144_0 xk xv z
  | 13 => step ![0, 7168, 0] inb_S1x8192x128_S1x512x128_0_7168_0 (k0_off4 i) (k0_off4_inb i) ![0, 0, 0] ![1, 0, 0] inb_S2x512x1024_S1x512x1024_1_0_0 inb_S2x1x1024_S1x1x1024_1_0_0 ![0, 6656, 0] inb_S1x8192x256_S1x512x144_0_6656_0 xk xv z
  | 14 => step ![0, 7680, 0] inb_S1x8192x128_S1x512x128_0_7680_0 (k0_off4 i) (k0_off4_inb i) ![1, 0, 0] ![0, 0, 0] inb_S2x512x1024_S1x512x1024_0_0_0 inb_S2x1x1024_S1x1x1024_0_0_0 ![0, 7168, 0] inb_S1x8192x256_S1x512x144_0_7168_0 xk xv z
  | 15 => step ![0, 0, 0] inb_S1x8192x128_S1x512x128_0_0_0 (k0_off2 i) (k0_off2_inb i) ![0, 0, 0] ![1, 0, 0] inb_S2x512x1024_S1x512x1024_1_0_0 inb_S2x1x1024_S1x1x1024_1_0_0 ![0, 7680, 0] inb_S1x8192x256_S1x512x144_0_7680_0 xk xv z
  | _ => z

/-- The scratch values before step `n` of a point that starts at `z`. -/
def stAt (i : grid0.Coords) (xn : Vec F S1x512x128 .bf16) (xk : Vec F S1x8192x128 .bf16) (xv : Vec F S1x8192x256 .bf16) (z : St F) : ℕ → St F
  | 0 => prep (k0_off2 i) xn z
  | n + 1 => stepAt i xk xv n (stAt i xn xk xv z n)

/-! ## The printed body is the chain -/

/-- At a head's first query block the body is the start and the rest. -/
theorem body_eq_first (i : grid0.Coords) (arg3 : Memref sig .tc .vmem S1x512x128 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x8192x256 .bf16) (harg6 : arg6.IsWhole) (arg7 : Memref sig .tc .vmem S8x128 .f32) (harg7 : arg7.IsWhole) (arg8 : Memref sig .tc .vmem S128x1 .f32) (harg8 : arg8.IsWhole) (arg9 : Memref sig .tc .vmem S1x512x128 .bf16) (harg9 : arg9.IsWhole) (arg10 : Memref sig .tc .vmem S2x128x1024 .bf16) (harg10 : arg10.IsWhole) (arg11 : Memref sig .tc .vmem S1x1024 .f32) (harg11 : arg11.IsWhole) (arg12 : Memref sig .tc .vmem S144x1024 .f32) (harg12 : arg12.IsWhole) (arg13 : Memref sig .tc .vmem S2x512x1024 .f32) (harg13 : arg13.IsWhole) (arg14 : Memref sig .tc .vmem S2x1x1024 .f32) (harg14 : arg14.IsWhole) (h : k0_cond1 i = 1#1) :
    cc0_diff_attn (F := F) i arg3 harg3 arg4 harg4 arg5 harg5 arg6 harg6 arg7 harg7 arg8 harg8 arg9 harg9 arg10 harg10 arg11 harg11 arg12 harg12 arg13 harg13 arg14 harg14
      = startThen arg3 arg5 arg10 harg10 arg13 arg14 (k0_off1 i) (k0_off1_inb i h) (k0_off1_packedbf16 i h) (restProg i arg3 harg3 arg4 harg4 arg5 harg5 arg6 harg6 arg7 harg7 arg8 harg8 arg9 harg9 arg10 harg10 arg11 harg11 arg12 harg12 arg13 harg13 arg14 harg14) := by
  rw [cc0_diff_attn_eq_skeleton]
  unfold cc0_diff_attn_skel
  rw [k0_part1_eq_skeleton]
  unfold k0_part1_skel
  simp only [dif_pos h]
  chain_rfl

/-- At any other it is the rest. -/
theorem body_eq_rest (i : grid0.Coords) (arg3 : Memref sig .tc .vmem S1x512x128 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x8192x256 .bf16) (harg6 : arg6.IsWhole) (arg7 : Memref sig .tc .vmem S8x128 .f32) (harg7 : arg7.IsWhole) (arg8 : Memref sig .tc .vmem S128x1 .f32) (harg8 : arg8.IsWhole) (arg9 : Memref sig .tc .vmem S1x512x128 .bf16) (harg9 : arg9.IsWhole) (arg10 : Memref sig .tc .vmem S2x128x1024 .bf16) (harg10 : arg10.IsWhole) (arg11 : Memref sig .tc .vmem S1x1024 .f32) (harg11 : arg11.IsWhole) (arg12 : Memref sig .tc .vmem S144x1024 .f32) (harg12 : arg12.IsWhole) (arg13 : Memref sig .tc .vmem S2x512x1024 .f32) (harg13 : arg13.IsWhole) (arg14 : Memref sig .tc .vmem S2x1x1024 .f32) (harg14 : arg14.IsWhole) (h : ¬ k0_cond1 i = 1#1) :
    cc0_diff_attn (F := F) i arg3 harg3 arg4 harg4 arg5 harg5 arg6 harg6 arg7 harg7 arg8 harg8 arg9 harg9 arg10 harg10 arg11 harg11 arg12 harg12 arg13 harg13 arg14 harg14 = restProg i arg3 harg3 arg4 harg4 arg5 harg5 arg6 harg6 arg7 harg7 arg8 harg8 arg9 harg9 arg10 harg10 arg11 harg11 arg12 harg12 arg13 harg13 arg14 harg14 := by
  rw [cc0_diff_attn_eq_skeleton]
  unfold cc0_diff_attn_skel
  rw [k0_part1_eq_skeleton]
  unfold k0_part1_skel
  simp only [dif_neg h]
  chain_rfl

end Cert.Kernel3Ideal.Diff

end
-- ==== Proof.DiffKernelIdealWp.lean ====
/- The pieces of the attention kernel's body (Kernel3Ideal) over its buffers: each, run before a rest, turns the values its buffers
   hold into the piece's function of them (`start`, `prep`, `step`, `finish`); and the whole body (`wp_rest`, `wp_first`). -/
module

public import proofs.«01_k».proof.Proof.DiffKernelIdealBody
public import proofs.«01_k».proof.Proof.Gen.Kernel3Ideal.Frame

@[expose] public section

set_option maxRecDepth 65536

noncomputable section

namespace Cert.Kernel3Ideal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen Cert.Owns

variable {F : FTy → Type} [FloatOps F]

local notation "𝕄" => MT nD τ sig Unit (Elt F) ℕ (UR sig nD τ) ℕ

variable (𝒱₀ : Variants) (c : Dev nD) {K : KProg F}

/-- The start of a head. -/
theorem wp_start {Q : PUnit.{1} → sProp 𝕄} {arg11 : Memref sig .tc .vmem S1x1024 .f32} {arg12 : Memref sig .tc .vmem S144x1024 .f32} {arg3 : Memref sig .tc .vmem S1x512x128 .bf16} {arg5 : Memref sig .tc .vmem S1x8192x128 .bf16} {arg10 : Memref sig .tc .vmem S2x128x1024 .bf16} {harg10 : arg10.IsWhole} {arg13 : Memref sig .tc .vmem S2x512x1024 .f32} {arg14 : Memref sig .tc .vmem S2x1x1024 .f32} {q3 q5 : PosShare TreeShare} {o : Fin 3 → ℕ} {ho : ∀ a, o a + S1x128x1024.size a ≤ S2x128x1024.size a} {pk : (Rect.unit (s := S2x128x1024) o S1x128x1024.size ho).PackedRows (EltTy.packing .bf16)} {xq : Vec F S1x512x128 .bf16} {xk : Vec F S1x8192x128 .bf16} (z z' : St F) (hz : start o ho xq xk z = z') :
    (owns (c : Thread nD τ) arg3 q3 (xq) : sProp 𝕄) ⊢ iprop(owns (c : Thread nD τ) arg5 q5 (xk) -∗ owns (c : Thread nD τ) arg10 fullShare (z.q) -∗ owns (c : Thread nD τ) arg11 fullShare (z.m) -∗ owns (c : Thread nD τ) arg12 fullShare (z.a) -∗ owns (c : Thread nD τ) arg13 fullShare (z.s) -∗ owns (c : Thread nD τ) arg14 fullShare (z.c)
      -∗ (owns (c : Thread nD τ) arg3 q3 (xq) -∗ owns (c : Thread nD τ) arg5 q5 (xk) -∗ owns (c : Thread nD τ) arg10 fullShare (z'.q) -∗ owns (c : Thread nD τ) arg11 fullShare (z'.m) -∗ owns (c : Thread nD τ) arg12 fullShare (z'.a) -∗ owns (c : Thread nD τ) arg13 fullShare (z'.s) -∗ owns (c : Thread nD τ) arg14 fullShare (z'.c) -∗ wp frame (wpE defs₀ 𝒱₀ (c : Thread nD τ) none) Set.univ K Q)
      -∗ wp frame (wpE defs₀ 𝒱₀ (c : Thread nD τ) none) Set.univ (startThen arg3 arg5 arg10 harg10 arg13 arg14 o ho pk K) Q) := by
  subst hz
  unfold startThen
  dsimp only [start]
  iintro H3 H5 H8 H9 H10 H11 H12 Hk
  iapply (wp_load_owns 𝒱₀ (c : Thread nD τ) none Set.univ) $$ H3
  iintro H3
  iapply (wp_load_owns 𝒱₀ (c : Thread nD τ) none Set.univ) $$ H8
  iintro H8
  iapply (wp_store_owns 𝒱₀ (c : Thread nD τ) none Set.univ) $$ H8
  iintro H8
  iapply (wp_load_owns 𝒱₀ (c : Thread nD τ) none Set.univ) $$ H5
  iintro H5
  iapply (wp_load_owns 𝒱₀ (c : Thread nD τ) none Set.univ) $$ H8
  iintro H8
  iapply (wp_load_owns 𝒱₀ (c : Thread nD τ) none Set.univ) $$ H11
  iintro H11
  iapply (wp_store_owns 𝒱₀ (c : Thread nD τ) none Set.univ) $$ H11
  iintro H11
  iapply (wp_load_owns 𝒱₀ (c : Thread nD τ) none Set.univ) $$ H12
  iintro H12
  iapply (wp_store_owns 𝒱₀ (c : Thread nD τ) none Set.univ) $$ H12
  iintro H12
  iapply Hk $$ H3 H5 H8 H9 H10 H11 H12

/-- The preparation of a point. -/
theorem wp_prep {Q : PUnit.{1} → sProp 𝕄} {arg4 : Memref sig .tc .vmem S1x512x128 .bf16} {arg10 : Memref sig .tc .vmem S2x128x1024 .bf16} {harg10 : arg10.IsWhole} {arg11 : Memref sig .tc .vmem S1x1024 .f32} {arg12 : Memref sig .tc .vmem S144x1024 .f32} {arg13 : Memref sig .tc .vmem S2x512x1024 .f32} {arg14 : Memref sig .tc .vmem S2x1x1024 .f32} {q4 : PosShare TreeShare} {o : Fin 3 → ℕ} {ho : ∀ a, o a + S1x128x1024.size a ≤ S2x128x1024.size a} {pk : (Rect.unit (s := S2x128x1024) o S1x128x1024.size ho).PackedRows (EltTy.packing .bf16)} {xn : Vec F S1x512x128 .bf16} (z z' : St F) (hz : prep o xn z = z') :
    (owns (c : Thread nD τ) arg4 q4 (xn) : sProp 𝕄) ⊢ iprop(owns (c : Thread nD τ) arg10 fullShare (z.q) -∗ owns (c : Thread nD τ) arg11 fullShare (z.m) -∗ owns (c : Thread nD τ) arg12 fullShare (z.a) -∗ owns (c : Thread nD τ) arg13 fullShare (z.s) -∗ owns (c : Thread nD τ) arg14 fullShare (z.c)
      -∗ (owns (c : Thread nD τ) arg4 q4 (xn) -∗ owns (c : Thread nD τ) arg10 fullShare (z'.q) -∗ owns (c : Thread nD τ) arg11 fullShare (z'.m) -∗ owns (c : Thread nD τ) arg12 fullShare (z'.a) -∗ owns (c : Thread nD τ) arg13 fullShare (z'.s) -∗ owns (c : Thread nD τ) arg14 fullShare (z'.c) -∗ wp frame (wpE defs₀ 𝒱₀ (c : Thread nD τ) none) Set.univ K Q)
      -∗ wp frame (wpE defs₀ 𝒱₀ (c : Thread nD τ) none) Set.univ (prepThen arg4 arg10 harg10 arg11 arg12 o ho pk K) Q) := by
  subst hz
  unfold prepThen
  dsimp only [prep]
  iintro H4 H8 H9 H10 H11 H12 Hk
  iapply (wp_load_owns 𝒱₀ (c : Thread nD τ) none Set.univ) $$ H4
  iintro H4
  iapply (wp_load_owns 𝒱₀ (c : Thread nD τ) none Set.univ) $$ H8
  iintro H8
  iapply (wp_store_owns 𝒱₀ (c : Thread nD τ) none Set.univ) $$ H8
  iintro H8
  iapply (wp_load_owns 𝒱₀ (c : Thread nD τ) none Set.univ) $$ H9
  iintro H9
  iapply (wp_store_owns 𝒱₀ (c : Thread nD τ) none Set.univ) $$ H9
  iintro H9
  iapply (wp_load_owns 𝒱₀ (c : Thread nD τ) none Set.univ) $$ H10
  iintro H10
  iapply (wp_store_owns 𝒱₀ (c : Thread nD τ) none Set.univ) $$ H10
  iintro H10
  iapply Hk $$ H4 H8 H9 H10 H11 H12

/-- One step. -/
theorem wp_step {Q : PUnit.{1} → sProp 𝕄} {arg5 : Memref sig .tc .vmem S1x8192x128 .bf16} {arg6 : Memref sig .tc .vmem S1x8192x256 .bf16} {arg10 : Memref sig .tc .vmem S2x128x1024 .bf16} {arg11 : Memref sig .tc .vmem S1x1024 .f32} {arg12 : Memref sig .tc .vmem S144x1024 .f32} {arg13 : Memref sig .tc .vmem S2x512x1024 .f32} {arg14 : Memref sig .tc .vmem S2x1x1024 .f32} {q5 q6 : PosShare TreeShare} (ok : Fin 3 → ℕ) (hok : ∀ a, ok a + S1x512x128.size a ≤ S1x8192x128.size a)
    (oq : Fin 3 → ℕ) (hoq : ∀ a, oq a + S1x128x1024.size a ≤ S2x128x1024.size a)
    (w : Fin 3 → ℕ) (hw : ∀ a, w a + S1x512x1024.size a ≤ S2x512x1024.size a) (hw1 : ∀ a, w a + S1x1x1024.size a ≤ S2x1x1024.size a)
    (r : Fin 3 → ℕ) (hr : ∀ a, r a + S1x512x1024.size a ≤ S2x512x1024.size a) (hr1 : ∀ a, r a + S1x1x1024.size a ≤ S2x1x1024.size a)
    (ov : Fin 3 → ℕ) (hov : ∀ a, ov a + S1x512x144.size a ≤ S1x8192x256.size a) {xk : Vec F S1x8192x128 .bf16} {xv : Vec F S1x8192x256 .bf16} (z z' : St F) (hz : step ok hok oq hoq w r hr hr1 ov hov xk xv z = z') :
    (owns (c : Thread nD τ) arg5 q5 (xk) : sProp 𝕄) ⊢ iprop(owns (c : Thread nD τ) arg6 q6 (xv) -∗ owns (c : Thread nD τ) arg10 fullShare (z.q) -∗ owns (c : Thread nD τ) arg11 fullShare (z.m) -∗ owns (c : Thread nD τ) arg12 fullShare (z.a) -∗ owns (c : Thread nD τ) arg13 fullShare (z.s) -∗ owns (c : Thread nD τ) arg14 fullShare (z.c)
      -∗ (owns (c : Thread nD τ) arg5 q5 (xk) -∗ owns (c : Thread nD τ) arg6 q6 (xv) -∗ owns (c : Thread nD τ) arg10 fullShare (z'.q) -∗ owns (c : Thread nD τ) arg11 fullShare (z'.m) -∗ owns (c : Thread nD τ) arg12 fullShare (z'.a) -∗ owns (c : Thread nD τ) arg13 fullShare (z'.s) -∗ owns (c : Thread nD τ) arg14 fullShare (z'.c) -∗ wp frame (wpE defs₀ 𝒱₀ (c : Thread nD τ) none) Set.univ K Q)
      -∗ wp frame (wpE defs₀ 𝒱₀ (c : Thread nD τ) none) Set.univ (stepThen arg5 arg6 arg10 arg11 arg12 arg13 arg14 ok hok oq hoq w hw hw1 r hr hr1 ov hov K) Q) := by
  subst hz
  unfold stepThen
  dsimp only [step]
  iintro H5 H6 H8 H9 H10 H11 H12 Hk
  iapply (wp_load_owns 𝒱₀ (c : Thread nD τ) none Set.univ) $$ H5
  iintro H5
  iapply (wp_load_owns 𝒱₀ (c : Thread nD τ) none Set.univ) $$ H8
  iintro H8
  iapply (wp_load_owns 𝒱₀ (c : Thread nD τ) none Set.univ) $$ H11
  iintro H11
  iapply (wp_store_owns 𝒱₀ (c : Thread nD τ) none Set.univ) $$ H11
  iintro H11
  iapply (wp_load_owns 𝒱₀ (c : Thread nD τ) none Set.univ) $$ H12
  iintro H12
  iapply (wp_store_owns 𝒱₀ (c : Thread nD τ) none Set.univ) $$ H12
  iintro H12
  iapply (wp_load_owns 𝒱₀ (c : Thread nD τ) none Set.univ) $$ H9
  iintro H9
  iapply (wp_load_owns 𝒱₀ (c : Thread nD τ) none Set.univ) $$ H12
  iintro H12
  iapply (wp_load_owns 𝒱₀ (c : Thread nD τ) none Set.univ) $$ H11
  iintro H11
  iapply (wp_load_owns 𝒱₀ (c : Thread nD τ) none Set.univ) $$ H6
  iintro H6
  iapply (wp_load_owns 𝒱₀ (c : Thread nD τ) none Set.univ) $$ H10
  iintro H10
  iapply (wp_load_owns 𝒱₀ (c : Thread nD τ) none Set.univ) $$ H10
  iintro H10
  iapply (wp_store_owns 𝒱₀ (c : Thread nD τ) none Set.univ) $$ H10
  iintro H10
  iapply (wp_load_owns 𝒱₀ (c : Thread nD τ) none Set.univ) $$ H9
  iintro H9
  iapply (wp_store_owns 𝒱₀ (c : Thread nD τ) none Set.univ) $$ H9
  iintro H9
  iapply Hk $$ H5 H6 H8 H9 H10 H11 H12

/-- The division, the end of the body. -/
theorem wp_finish {Q : PUnit.{1} → sProp 𝕄} {arg7 : Memref sig .tc .vmem S8x128 .f32} {arg8 : Memref sig .tc .vmem S128x1 .f32} {q7 q8 : PosShare TreeShare} {arg9 : Memref sig .tc .vmem S1x512x128 .bf16} {harg9 : arg9.IsWhole} {arg12 : Memref sig .tc .vmem S144x1024 .f32} {lm : Vec F S8x128 .f32} {g : Vec F S128x1 .f32} {y : Vec F S1x512x128 .bf16} (z : St F) :
    (owns (c : Thread nD τ) arg7 q7 (lm) : sProp 𝕄) ⊢ iprop(owns (c : Thread nD τ) arg8 q8 (g) -∗ owns (c : Thread nD τ) arg9 fullShare (y) -∗ owns (c : Thread nD τ) arg12 fullShare (z.a)
      -∗ (owns (c : Thread nD τ) arg7 q7 (lm) -∗ owns (c : Thread nD τ) arg8 q8 (g) -∗ owns (c : Thread nD τ) arg9 fullShare (finish lm g z y) -∗ owns (c : Thread nD τ) arg12 fullShare (z.a) -∗ Q ⟨⟩)
      -∗ wp frame (wpE defs₀ 𝒱₀ (c : Thread nD τ) none) Set.univ (finishProg arg7 arg8 arg9 harg9 arg12) Q) := by
  unfold finishProg
  dsimp only [finish]
  iintro HL HG H7 H10 Hk
  iapply (wp_load_owns 𝒱₀ (c : Thread nD τ) none Set.univ) $$ H10
  iintro H10
  iapply (wp_load_owns 𝒱₀ (c : Thread nD τ) none Set.univ) $$ H10
  iintro H10
  iapply (wp_load_owns 𝒱₀ (c : Thread nD τ) none Set.univ) $$ HL
  iintro HL
  iapply (wp_load_owns 𝒱₀ (c : Thread nD τ) none Set.univ) $$ HG
  iintro HG
  iapply (wp_load_owns 𝒱₀ (c : Thread nD τ) none Set.univ) $$ H7
  iintro H7
  iapply (wp_store_owns 𝒱₀ (c : Thread nD τ) none Set.univ) $$ H7
  iintro H7
  iapply (le_wp_ret _ _ _ _ _)
  iapply Hk $$ HL HG H7 H10

/-- The body of a point that is not a head's first, from scratch values `z`. -/
theorem wp_rest {Q : PUnit.{1} → sProp 𝕄} {q3 q4 q5 q6 q7 q8 : PosShare TreeShare} (i : grid0.Coords) {arg3 : Memref sig .tc .vmem S1x512x128 .bf16} {harg3 : arg3.IsWhole} {arg4 : Memref sig .tc .vmem S1x512x128 .bf16} {harg4 : arg4.IsWhole} {arg5 : Memref sig .tc .vmem S1x8192x128 .bf16} {harg5 : arg5.IsWhole} {arg6 : Memref sig .tc .vmem S1x8192x256 .bf16} {harg6 : arg6.IsWhole} {arg7 : Memref sig .tc .vmem S8x128 .f32} {harg7 : arg7.IsWhole} {arg8 : Memref sig .tc .vmem S128x1 .f32} {harg8 : arg8.IsWhole} {arg9 : Memref sig .tc .vmem S1x512x128 .bf16} {harg9 : arg9.IsWhole} {arg10 : Memref sig .tc .vmem S2x128x1024 .bf16} {harg10 : arg10.IsWhole} {arg11 : Memref sig .tc .vmem S1x1024 .f32} {harg11 : arg11.IsWhole} {arg12 : Memref sig .tc .vmem S144x1024 .f32} {harg12 : arg12.IsWhole} {arg13 : Memref sig .tc .vmem S2x512x1024 .f32} {harg13 : arg13.IsWhole} {arg14 : Memref sig .tc .vmem S2x1x1024 .f32} {harg14 : arg14.IsWhole} {xq xn : Vec F S1x512x128 .bf16} {xk : Vec F S1x8192x128 .bf16} {xv : Vec F S1x8192x256 .bf16} {lm : Vec F S8x128 .f32} {g : Vec F S128x1 .f32} {y : Vec F S1x512x128 .bf16} (z : St F) :
    (owns (c : Thread nD τ) arg3 q3 (xq) : sProp 𝕄) ⊢ iprop(owns (c : Thread nD τ) arg4 q4 (xn) -∗ owns (c : Thread nD τ) arg5 q5 (xk) -∗ owns (c : Thread nD τ) arg6 q6 (xv) -∗ owns (c : Thread nD τ) arg7 q7 (lm) -∗ owns (c : Thread nD τ) arg8 q8 (g) -∗ owns (c : Thread nD τ) arg9 fullShare (y) -∗ owns (c : Thread nD τ) arg10 fullShare (z.q) -∗ owns (c : Thread nD τ) arg11 fullShare (z.m) -∗ owns (c : Thread nD τ) arg12 fullShare (z.a) -∗ owns (c : Thread nD τ) arg13 fullShare (z.s) -∗ owns (c : Thread nD τ) arg14 fullShare (z.c)
      -∗ (owns (c : Thread nD τ) arg3 q3 (xq) -∗ owns (c : Thread nD τ) arg4 q4 (xn) -∗ owns (c : Thread nD τ) arg5 q5 (xk) -∗ owns (c : Thread nD τ) arg6 q6 (xv) -∗ owns (c : Thread nD τ) arg7 q7 (lm) -∗ owns (c : Thread nD τ) arg8 q8 (g) -∗ owns (c : Thread nD τ) arg9 fullShare (finish lm g (stAt i xn xk xv z 16) y) -∗ owns (c : Thread nD τ) arg10 fullShare ((stAt i xn xk xv z 16).q) -∗ owns (c : Thread nD τ) arg11 fullShare ((stAt i xn xk xv z 16).m) -∗ owns (c : Thread nD τ) arg12 fullShare ((stAt i xn xk xv z 16).a) -∗ owns (c : Thread nD τ) arg13 fullShare ((stAt i xn xk xv z 16).s) -∗ owns (c : Thread nD τ) arg14 fullShare ((stAt i xn xk xv z 16).c) -∗ Q ⟨⟩)
      -∗ wp frame (wpE defs₀ 𝒱₀ (c : Thread nD τ) none) Set.univ (restProg i arg3 harg3 arg4 harg4 arg5 harg5 arg6 harg6 arg7 harg7 arg8 harg8 arg9 harg9 arg10 harg10 arg11 harg11 arg12 harg12 arg13 harg13 arg14 harg14) Q) := by
  unfold restProg
  iintro H3 H4 H5 H6 HL HG H7 H8 H9 H10 H11 H12 Hk
  iapply (wp_prep 𝒱₀ c z (stAt i xn xk xv z 0) rfl) $$ H4 H8 H9 H10 H11 H12
  iintro H4 H8 H9 H10 H11 H12
  iapply (wp_step 𝒱₀ c (k0_off3 0#32) (k0_off3_inb 0) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 0#32) (k0_off5_inb 0) (stAt i xn xk xv z 0) (stAt i xn xk xv z 1) rfl) $$ H5 H6 H8 H9 H10 H11 H12
  iintro H5 H6 H8 H9 H10 H11 H12
  iapply (wp_step 𝒱₀ c (k0_off3 1#32) (k0_off3_inb 1) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 1#32) (k0_off5_inb 1) (stAt i xn xk xv z 1) (stAt i xn xk xv z 2) rfl) $$ H5 H6 H8 H9 H10 H11 H12
  iintro H5 H6 H8 H9 H10 H11 H12
  iapply (wp_step 𝒱₀ c (k0_off3 2#32) (k0_off3_inb 2) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 2#32) (k0_off5_inb 2) (stAt i xn xk xv z 2) (stAt i xn xk xv z 3) rfl) $$ H5 H6 H8 H9 H10 H11 H12
  iintro H5 H6 H8 H9 H10 H11 H12
  iapply (wp_step 𝒱₀ c (k0_off3 3#32) (k0_off3_inb 3) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 3#32) (k0_off5_inb 3) (stAt i xn xk xv z 3) (stAt i xn xk xv z 4) rfl) $$ H5 H6 H8 H9 H10 H11 H12
  iintro H5 H6 H8 H9 H10 H11 H12
  iapply (wp_step 𝒱₀ c (k0_off3 4#32) (k0_off3_inb 4) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 4#32) (k0_off5_inb 4) (stAt i xn xk xv z 4) (stAt i xn xk xv z 5) rfl) $$ H5 H6 H8 H9 H10 H11 H12
  iintro H5 H6 H8 H9 H10 H11 H12
  iapply (wp_step 𝒱₀ c (k0_off3 5#32) (k0_off3_inb 5) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 5#32) (k0_off5_inb 5) (stAt i xn xk xv z 5) (stAt i xn xk xv z 6) rfl) $$ H5 H6 H8 H9 H10 H11 H12
  iintro H5 H6 H8 H9 H10 H11 H12
  iapply (wp_step 𝒱₀ c (k0_off3 6#32) (k0_off3_inb 6) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 6#32) (k0_off5_inb 6) (stAt i xn xk xv z 6) (stAt i xn xk xv z 7) rfl) $$ H5 H6 H8 H9 H10 H11 H12
  iintro H5 H6 H8 H9 H10 H11 H12
  iapply (wp_step 𝒱₀ c (k0_off3 7#32) (k0_off3_inb 7) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 7#32) (k0_off5_inb 7) (stAt i xn xk xv z 7) (stAt i xn xk xv z 8) rfl) $$ H5 H6 H8 H9 H10 H11 H12
  iintro H5 H6 H8 H9 H10 H11 H12
  iapply (wp_step 𝒱₀ c ![0, 4608, 0] inb_S1x8192x128_S1x512x128_0_4608_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 4096, 0] inb_S1x8192x256_S1x512x144_0_4096_0 (stAt i xn xk xv z 8) (stAt i xn xk xv z 9) rfl) $$ H5 H6 H8 H9 H10 H11 H12
  iintro H5 H6 H8 H9 H10 H11 H12
  iapply (wp_step 𝒱₀ c ![0, 5120, 0] inb_S1x8192x128_S1x512x128_0_5120_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 4608, 0] inb_S1x8192x256_S1x512x144_0_4608_0 (stAt i xn xk xv z 9) (stAt i xn xk xv z 10) rfl) $$ H5 H6 H8 H9 H10 H11 H12
  iintro H5 H6 H8 H9 H10 H11 H12
  iapply (wp_step 𝒱₀ c ![0, 5632, 0] inb_S1x8192x128_S1x512x128_0_5632_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 5120, 0] inb_S1x8192x256_S1x512x144_0_5120_0 (stAt i xn xk xv z 10) (stAt i xn xk xv z 11) rfl) $$ H5 H6 H8 H9 H10 H11 H12
  iintro H5 H6 H8 H9 H10 H11 H12
  iapply (wp_step 𝒱₀ c ![0, 6144, 0] inb_S1x8192x128_S1x512x128_0_6144_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 5632, 0] inb_S1x8192x256_S1x512x144_0_5632_0 (stAt i xn xk xv z 11) (stAt i xn xk xv z 12) rfl) $$ H5 H6 H8 H9 H10 H11 H12
  iintro H5 H6 H8 H9 H10 H11 H12
  iapply (wp_step 𝒱₀ c ![0, 6656, 0] inb_S1x8192x128_S1x512x128_0_6656_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 6144, 0] inb_S1x8192x256_S1x512x144_0_6144_0 (stAt i xn xk xv z 12) (stAt i xn xk xv z 13) rfl) $$ H5 H6 H8 H9 H10 H11 H12
  iintro H5 H6 H8 H9 H10 H11 H12
  iapply (wp_step 𝒱₀ c ![0, 7168, 0] inb_S1x8192x128_S1x512x128_0_7168_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 6656, 0] inb_S1x8192x256_S1x512x144_0_6656_0 (stAt i xn xk xv z 13) (stAt i xn xk xv z 14) rfl) $$ H5 H6 H8 H9 H10 H11 H12
  iintro H5 H6 H8 H9 H10 H11 H12
  iapply (wp_step 𝒱₀ c ![0, 7680, 0] inb_S1x8192x128_S1x512x128_0_7680_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 7168, 0] inb_S1x8192x256_S1x512x144_0_7168_0 (stAt i xn xk xv z 14) (stAt i xn xk xv z 15) rfl) $$ H5 H6 H8 H9 H10 H11 H12
  iintro H5 H6 H8 H9 H10 H11 H12
  iapply (wp_step 𝒱₀ c ![0, 0, 0] inb_S1x8192x128_S1x512x128_0_0_0 (k0_off2 i) (k0_off2_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 7680, 0] inb_S1x8192x256_S1x512x144_0_7680_0 (stAt i xn xk xv z 15) (stAt i xn xk xv z 16) rfl) $$ H5 H6 H8 H9 H10 H11 H12
  iintro H5 H6 H8 H9 H10 H11 H12
  iapply (wp_finish 𝒱₀ c (stAt i xn xk xv z 16)) $$ HL HG H7 H10
  iintro HL HG H7 H10
  iapply Hk $$ H3 H4 H5 H6 HL HG H7 H8 H9 H10 H11 H12

/-- The body of a head's first point, from scratch values `z`. -/
theorem wp_first {Q : PUnit.{1} → sProp 𝕄} {q3 q4 q5 q6 q7 q8 : PosShare TreeShare} (i : grid0.Coords) {arg3 : Memref sig .tc .vmem S1x512x128 .bf16} {harg3 : arg3.IsWhole} {arg4 : Memref sig .tc .vmem S1x512x128 .bf16} {harg4 : arg4.IsWhole} {arg5 : Memref sig .tc .vmem S1x8192x128 .bf16} {harg5 : arg5.IsWhole} {arg6 : Memref sig .tc .vmem S1x8192x256 .bf16} {harg6 : arg6.IsWhole} {arg7 : Memref sig .tc .vmem S8x128 .f32} {harg7 : arg7.IsWhole} {arg8 : Memref sig .tc .vmem S128x1 .f32} {harg8 : arg8.IsWhole} {arg9 : Memref sig .tc .vmem S1x512x128 .bf16} {harg9 : arg9.IsWhole} {arg10 : Memref sig .tc .vmem S2x128x1024 .bf16} {harg10 : arg10.IsWhole} {arg11 : Memref sig .tc .vmem S1x1024 .f32} {harg11 : arg11.IsWhole} {arg12 : Memref sig .tc .vmem S144x1024 .f32} {harg12 : arg12.IsWhole} {arg13 : Memref sig .tc .vmem S2x512x1024 .f32} {harg13 : arg13.IsWhole} {arg14 : Memref sig .tc .vmem S2x1x1024 .f32} {harg14 : arg14.IsWhole} {xq xn : Vec F S1x512x128 .bf16} {xk : Vec F S1x8192x128 .bf16} {xv : Vec F S1x8192x256 .bf16} {lm : Vec F S8x128 .f32} {g : Vec F S128x1 .f32} {y : Vec F S1x512x128 .bf16} (z : St F) (h : k0_cond1 i = 1#1) (z' : St F) (hz : start (k0_off1 i) (k0_off1_inb i h) xq xk z = z') :
    (owns (c : Thread nD τ) arg3 q3 (xq) : sProp 𝕄) ⊢ iprop(owns (c : Thread nD τ) arg4 q4 (xn) -∗ owns (c : Thread nD τ) arg5 q5 (xk) -∗ owns (c : Thread nD τ) arg6 q6 (xv) -∗ owns (c : Thread nD τ) arg7 q7 (lm) -∗ owns (c : Thread nD τ) arg8 q8 (g) -∗ owns (c : Thread nD τ) arg9 fullShare (y) -∗ owns (c : Thread nD τ) arg10 fullShare (z.q) -∗ owns (c : Thread nD τ) arg11 fullShare (z.m) -∗ owns (c : Thread nD τ) arg12 fullShare (z.a) -∗ owns (c : Thread nD τ) arg13 fullShare (z.s) -∗ owns (c : Thread nD τ) arg14 fullShare (z.c)
      -∗ (owns (c : Thread nD τ) arg3 q3 (xq) -∗ owns (c : Thread nD τ) arg4 q4 (xn) -∗ owns (c : Thread nD τ) arg5 q5 (xk) -∗ owns (c : Thread nD τ) arg6 q6 (xv) -∗ owns (c : Thread nD τ) arg7 q7 (lm) -∗ owns (c : Thread nD τ) arg8 q8 (g) -∗ owns (c : Thread nD τ) arg9 fullShare (finish lm g (stAt i xn xk xv z' 16) y) -∗ owns (c : Thread nD τ) arg10 fullShare ((stAt i xn xk xv z' 16).q) -∗ owns (c : Thread nD τ) arg11 fullShare ((stAt i xn xk xv z' 16).m) -∗ owns (c : Thread nD τ) arg12 fullShare ((stAt i xn xk xv z' 16).a) -∗ owns (c : Thread nD τ) arg13 fullShare ((stAt i xn xk xv z' 16).s) -∗ owns (c : Thread nD τ) arg14 fullShare ((stAt i xn xk xv z' 16).c) -∗ Q ⟨⟩)
      -∗ wp frame (wpE defs₀ 𝒱₀ (c : Thread nD τ) none) Set.univ (startThen arg3 arg5 arg10 harg10 arg13 arg14 (k0_off1 i) (k0_off1_inb i h) (k0_off1_packedbf16 i h) (restProg i arg3 harg3 arg4 harg4 arg5 harg5 arg6 harg6 arg7 harg7 arg8 harg8 arg9 harg9 arg10 harg10 arg11 harg11 arg12 harg12 arg13 harg13 arg14 harg14)) Q) := by
  iintro H3 H4 H5 H6 HL HG H7 H8 H9 H10 H11 H12 Hk
  iapply (wp_start 𝒱₀ c z z' hz) $$ H3 H5 H8 H9 H10 H11 H12
  iintro H3 H5 H8 H9 H10 H11 H12
  iapply (wp_rest 𝒱₀ c i z') $$ H3 H4 H5 H6 HL HG H7 H8 H9 H10 H11 H12 Hk

end Cert.Kernel3Ideal.Diff

end
-- ==== Proof.DiffKernelIdealState.lean ====
/- What a point of the attention kernel (Kernel3Ideal) computes, free of the scratch buffers' slots: with `q` the point's transposed
   queries, the running maximum and sums before key block `n` are `mAt`, `aAt` (the recursion over the blocks' score tiles), the
   output block is `outOf`; and what the point hands to the next one (`Carry`): the next point's transposed queries in the other
   slot, their scores against the first key block in tile 0, and the tile's maxima. -/
module

public import proofs.«01_k».proof.Proof.DiffKernelIdealBody
public import proofs.«01_k».proof.Proof.Gen.Kernel3Ideal

@[expose] public section

set_option maxRecDepth 65536

noncomputable section

namespace Cert.Kernel3Ideal.Diff

open Idealize.ShloMosaic Idealize.ShloMosaic.TcCoe Idealize.ShloMosaic.Tactic
open Cert.Kernel3Ideal Cert.Kernel3Ideal.Gen
open VecWindow

variable {F : FTy → Type} [FloatOps F]

/-! ## The body's computed offsets -/

/-- The slot of queries a point reads, from its last grid coordinate. -/
theorem off1_eq : ∀ i : grid0.Coords, k0_off1 i = ![(i 2).val % 2, 0, 0] :=
  fun i => (by decide +kernel : ∀ j : Fin 16, k0_off1 (fun a => match a with | 0 => (0 : Fin 8) | 1 => (0 : Fin 4) | 2 => j) = ![j.val % 2, 0, 0]) (i 2)
theorem off4_eq : ∀ i : grid0.Coords, k0_off4 i = ![(i 2).val % 2, 0, 0] :=
  fun i => (by decide +kernel : ∀ j : Fin 16, k0_off4 (fun a => match a with | 0 => (0 : Fin 8) | 1 => (0 : Fin 4) | 2 => j) = ![j.val % 2, 0, 0]) (i 2)
/-- The slot it prepares for the next point is the other one. -/
theorem off2_eq : ∀ i : grid0.Coords, k0_off2 i = ![((i 2).val + 1) % 2, 0, 0] :=
  fun i => (by decide +kernel : ∀ j : Fin 16, k0_off2 (fun a => match a with | 0 => (0 : Fin 8) | 1 => (0 : Fin 4) | 2 => j) = ![(j.val + 1) % 2, 0, 0]) (i 2)
/-- The start runs at a head's first query block. -/
theorem cond1_iff : ∀ i : grid0.Coords, k0_cond1 i = 1#1 ↔ (i 2).val = 0 :=
  fun i => (by decide +kernel : ∀ j : Fin 16, k0_cond1 (fun a => match a with | 0 => (0 : Fin 8) | 1 => (0 : Fin 4) | 2 => j) = 1#1 ↔ j.val = 0) (i 2)

/-! ## Whole windows -/

theorem window_full {s : Shape} {α : Type} (x : s.Idx → α) (off : Fin s.rank → ℕ) (inb : ∀ a, off a + s.size a ≤ s.size a) :
    window x off s.size inb = x := by
  funext y
  exact congrArg x (Rect.emb_unit_full inb y)

theorem put_full {s : Shape} {α : Type} (x w : s.Idx → α) (off : Fin s.rank → ℕ) (inb : ∀ a, off a + s.size a ≤ s.size a) :
    put x off s.size w = w := by
  rw [← window_full (put x off s.size w) off inb]
  exact window_put_same x off s.size inb w

/-! ## The blocks and the recursion over them -/

theorem inb_k (n : ℕ) : ∀ a, (![0, 512 * (n % 16), 0] : Fin 3 → ℕ) a + S1x512x128.size a ≤ S1x8192x128.size a := by
  have h := Nat.mod_lt n (show 0 < 16 by decide)
  intro a; fin_cases a
  · exact (by decide : 0 + 1 ≤ 1)
  · show 512 * (n % 16) + 512 ≤ 8192; omega
  · exact (by decide : 0 + 128 ≤ 128)

theorem inb_v (n : ℕ) : ∀ a, (![0, 512 * (n % 16), 0] : Fin 3 → ℕ) a + S1x512x144.size a ≤ S1x8192x256.size a := by
  have h := Nat.mod_lt n (show 0 < 16 by decide)
  intro a; fin_cases a
  · exact (by decide : 0 + 1 ≤ 1)
  · show 512 * (n % 16) + 512 ≤ 8192; omega
  · exact (by decide : 0 + 144 ≤ 256)

theorem inb_q (b : ℕ) : ∀ a, (![b % 2, 0, 0] : Fin 3 → ℕ) a + S1x128x1024.size a ≤ S2x128x1024.size a := by
  have h := Nat.mod_lt b (show 0 < 2 by decide)
  intro a; fin_cases a
  · show b % 2 + 1 ≤ 2; omega
  · exact (by decide : 0 + 128 ≤ 128)
  · exact (by decide : 0 + 1024 ≤ 1024)

theorem inb_s (b : ℕ) : ∀ a, (![b % 2, 0, 0] : Fin 3 → ℕ) a + S1x512x1024.size a ≤ S2x512x1024.size a := by
  have h := Nat.mod_lt b (show 0 < 2 by decide)
  intro a; fin_cases a
  · show b % 2 + 1 ≤ 2; omega
  · exact (by decide : 0 + 512 ≤ 512)
  · exact (by decide : 0 + 1024 ≤ 1024)

theorem inb_c (b : ℕ) : ∀ a, (![b % 2, 0, 0] : Fin 3 → ℕ) a + S1x1x1024.size a ≤ S2x1x1024.size a := by
  have h := Nat.mod_lt b (show 0 < 2 by decide)
  intro a; fin_cases a
  · show b % 2 + 1 ≤ 2; omega
  · exact (by decide : 0 + 1 ≤ 1)
  · exact (by decide : 0 + 1024 ≤ 1024)

/-- Key block `n` of a head (counted around). -/
def kB (xk : Vec F S1x8192x128 .bf16) (n : ℕ) : Vec F S1x512x128 .bf16 :=
  window (s := S1x8192x128) xk ![0, 512 * (n % 16), 0] S1x512x128.size (inb_k n)
/-- Value block `n` of a head, its first 144 lanes. -/
def vB (xv : Vec F S1x8192x256 .bf16) (n : ℕ) : Vec F S1x512x144 .bf16 :=
  window (s := S1x8192x256) xv ![0, 512 * (n % 16), 0] S1x512x144.size (inb_v n)

/-- The running maximum before key block `n`. -/
def mAt (q : Vec F S1x128x1024 .bf16) (xk : Vec F S1x8192x128 .bf16) : ℕ → Vec F S1x1024 .f32
  | 0 => k0_pay8 (k0_pay7 (F := F))
  | n + 1 => mNew (mAt q xk n) (scMax (kB xk n) q)

/-- The running sums before key block `n`. -/
def aAt (q : Vec F S1x128x1024 .bf16) (xk : Vec F S1x8192x128 .bf16) (xv : Vec F S1x8192x256 .bf16) : ℕ → Vec F S144x1024 .f32
  | 0 => k0_pay9 (F := F)
  | n + 1 => accNew (mAt q xk n) (scMax (kB xk n) q) (sc (kB xk n) q) (vB xv n) (aAt q xk xv n)

/-- The point's output block. -/
def outOf (q : Vec F S1x128x1024 .bf16) (xk : Vec F S1x8192x128 .bf16) (xv : Vec F S1x8192x256 .bf16) (lm : Vec F S8x128 .f32) (g : Vec F S128x1 .f32) : Vec F S1x512x128 .bf16 :=
  outBlk (window (s := S144x1024) (aAt q xk xv 16) ![0, 0] S128x1024.size inb_S144x1024_S128x1024_0_0)
    (window (s := S144x1024) (aAt q xk xv 16) ![128, 0] S1x1024.size inb_S144x1024_S1x1024_128_0) lm g

/-! ## The scratch values along a point -/

/-- What a point finds: its queries in slot `b`, their first tile of scores in tile 0, its maxima. -/
structure Carry (b : ℕ) (q : Vec F S1x128x1024 .bf16) (xk : Vec F S1x8192x128 .bf16) (z : St F) : Prop where
  hq : window (s := S2x128x1024) z.q ![b % 2, 0, 0] S1x128x1024.size (inb_q b) = q
  hs : window (s := S2x512x1024) z.s ![0, 0, 0] S1x512x1024.size (inb_s 0) = sc (kB xk 0) q
  hc : window (s := S2x1x1024) z.c ![0, 0, 0] S1x1x1024.size (inb_c 0) = scMax (kB xk 0) q

/-- What holds before step `n`: `qs` the queries of the tile of scores at hand. -/
structure Inv (b : ℕ) (q qn qs : Vec F S1x128x1024 .bf16) (xk : Vec F S1x8192x128 .bf16) (xv : Vec F S1x8192x256 .bf16) (n : ℕ) (z : St F) : Prop where
  hq : window (s := S2x128x1024) z.q ![b % 2, 0, 0] S1x128x1024.size (inb_q b) = q
  hn : window (s := S2x128x1024) z.q ![(b + 1) % 2, 0, 0] S1x128x1024.size (inb_q (b + 1)) = qn
  hm : z.m = mAt q xk n
  ha : z.a = aAt q xk xv n
  hs : window (s := S2x512x1024) z.s ![n % 2, 0, 0] S1x512x1024.size (inb_s n) = sc (kB xk n) qs
  hc : window (s := S2x1x1024) z.c ![n % 2, 0, 0] S1x1x1024.size (inb_c n) = scMax (kB xk n) qs

theorem Inv.step {b : ℕ} {q qn qs' : Vec F S1x128x1024 .bf16} {xk : Vec F S1x8192x128 .bf16} {xv : Vec F S1x8192x256 .bf16} {n : ℕ} {z : St F}
    (H : Inv b q qn q xk xv n z)
    (ok : Fin 3 → ℕ) (hok : ∀ a, ok a + S1x512x128.size a ≤ S1x8192x128.size a)
    (oq : Fin 3 → ℕ) (hoq : ∀ a, oq a + S1x128x1024.size a ≤ S2x128x1024.size a)
    (w : Fin 3 → ℕ) (hw : ∀ a, w a + S1x512x1024.size a ≤ S2x512x1024.size a) (hw1 : ∀ a, w a + S1x1x1024.size a ≤ S2x1x1024.size a)
    (r : Fin 3 → ℕ) (hr : ∀ a, r a + S1x512x1024.size a ≤ S2x512x1024.size a) (hr1 : ∀ a, r a + S1x1x1024.size a ≤ S2x1x1024.size a)
    (ov : Fin 3 → ℕ) (hov : ∀ a, ov a + S1x512x144.size a ≤ S1x8192x256.size a)
    (eok : ok = ![0, 512 * ((n + 1) % 16), 0]) (eq : window (s := S2x128x1024) z.q oq S1x128x1024.size hoq = qs')
    (ew : w = ![(n + 1) % 2, 0, 0]) (er : r = ![n % 2, 0, 0]) (eov : ov = ![0, 512 * (n % 16), 0]) :
    Inv b q qn qs' xk xv (n + 1) (Diff.step ok hok oq hoq w r hr hr1 ov hov xk xv z) := by
  subst eok eq ew er eov
  have ds : window (s := S2x512x1024) (put (s := S2x512x1024) z.s ![(n + 1) % 2, 0, 0] S1x512x1024.size (sc (kB xk (n + 1)) (window (s := S2x128x1024) z.q oq S1x128x1024.size hoq)))
      ![n % 2, 0, 0] S1x512x1024.size hr = sc (kB xk n) q :=
    (window_put_of_disjoint (s := S2x512x1024) z.s _ _ _ _ hr _ 0 (by show n % 2 + 1 ≤ (n + 1) % 2 ∨ (n + 1) % 2 + 1 ≤ n % 2; omega)).trans H.hs
  have dc : window (s := S2x1x1024) (put (s := S2x1x1024) z.c ![(n + 1) % 2, 0, 0] S1x1x1024.size (scMax (kB xk (n + 1)) (window (s := S2x128x1024) z.q oq S1x128x1024.size hoq)))
      ![n % 2, 0, 0] S1x1x1024.size hr1 = scMax (kB xk n) q :=
    (window_put_of_disjoint (s := S2x1x1024) z.c _ _ _ _ hr1 _ 0 (by show n % 2 + 1 ≤ (n + 1) % 2 ∨ (n + 1) % 2 + 1 ≤ n % 2; omega)).trans H.hc
  refine ⟨H.hq, H.hn, ?_, ?_, ?_, ?_⟩
  · refine (put_full (s := S1x1024) _ _ _ inb_S1x1024_S1x1024_0_0).trans ?_
    show mNew _ _ = mNew _ _
    exact congrArg₂ mNew ((window_full (s := S1x1024) _ _ _).trans H.hm) dc
  · refine (put_full (s := S144x1024) _ _ _ inb_S144x1024_S144x1024_0_0).trans ?_
    have e1 := (window_full (s := S1x1024) z.m ![0, 0] inb_S1x1024_S1x1024_0_0).trans H.hm
    have e2 := (window_full (s := S144x1024) z.a ![0, 0] inb_S144x1024_S144x1024_0_0).trans H.ha
    refine (congrArg₂ (fun m mc => accNew m mc _ _ _) e1 dc).trans ((congrArg₂ (fun s a => accNew _ _ s _ a) ds e2).trans rfl)
  · exact window_put_same (s := S2x512x1024) _ _ _ (inb_s (n + 1)) _
  · exact window_put_same (s := S2x1x1024) _ _ _ (inb_c (n + 1)) _

theorem Inv.start {b b' : ℕ} {q : Vec F S1x128x1024 .bf16} {xk : Vec F S1x8192x128 .bf16} {xv : Vec F S1x8192x256 .bf16} {xn : Vec F S1x512x128 .bf16} {z : St F}
    (H : Carry b q xk z) {o : Fin 3 → ℕ} (eo : o = ![(b + 1) % 2, 0, 0]) :
    Inv b q (qT xn) q xk xv 0 (prep o xn z) := by
  subst eo
  have e := window_full (s := S1x512x128) xn ![0, 0, 0] inb_S1x512x128_S1x512x128_0_0_0
  refine ⟨?_, ?_, ?_, ?_, H.hs, H.hc⟩
  · exact (window_put_of_disjoint (s := S2x128x1024) z.q _ _ _ _ (inb_q b) _ 0 (by show b % 2 + 1 ≤ (b + 1) % 2 ∨ (b + 1) % 2 + 1 ≤ b % 2; omega)).trans H.hq
  · exact (window_put_same (s := S2x128x1024) z.q _ _ (inb_q (b + 1)) _).trans (congrArg qT e)
  · exact put_full (s := S1x1024) _ _ _ inb_S1x1024_S1x1024_0_0
  · exact put_full (s := S144x1024) _ _ _ inb_S144x1024_S144x1024_0_0

/-- After the start of a head the point finds what it needs, whatever the scratch buffers held. -/
theorem carry_start {b : ℕ} {o : Fin 3 → ℕ} (eo : o = ![b % 2, 0, 0]) (ho : ∀ a, o a + S1x128x1024.size a ≤ S2x128x1024.size a)
    (xq : Vec F S1x512x128 .bf16) (xk : Vec F S1x8192x128 .bf16) (z : St F) :
    Carry b (qT xq) xk (start o ho xq xk z) := by
  subst eo
  have e := congrArg (qT (F := F)) (window_full (s := S1x512x128) xq ![0, 0, 0] inb_S1x512x128_S1x512x128_0_0_0)
  have hq : window (s := S2x128x1024) (start ![b % 2, 0, 0] ho xq xk z).q ![b % 2, 0, 0] S1x128x1024.size ho = qT xq :=
    (window_put_same (s := S2x128x1024) z.q _ _ ho _).trans e
  refine ⟨hq, ?_, ?_⟩
  · exact (window_put_same (s := S2x512x1024) z.s _ _ (inb_s 0) _).trans (congrArg (sc (kB xk 0)) hq)
  · exact (window_put_same (s := S2x1x1024) z.c _ _ (inb_c 0) _).trans (congrArg (scMax (kB xk 0)) hq)

/-- Before step `n` of a point. -/
theorem inv_stAt (i : grid0.Coords) {q : Vec F S1x128x1024 .bf16} {xk : Vec F S1x8192x128 .bf16} {xv : Vec F S1x8192x256 .bf16} {xn : Vec F S1x512x128 .bf16} {z : St F}
    (H : Carry (i 2).val q xk z) :
    Inv (i 2).val q (qT xn) (qT xn) xk xv 16 (stAt i xn xk xv z 16) := by
  have h0 : Inv (i 2).val q (qT xn) q xk xv 0 (stAt i xn xk xv z 0) := Inv.start (b' := 0) H (off2_eq i)
  have cur : ∀ {n : ℕ}, Inv (i 2).val q (qT xn) q xk xv n (stAt i xn xk xv z n) → ∀ hoq,
      window (s := S2x128x1024) (stAt i xn xk xv z n).q (k0_off4 i) S1x128x1024.size hoq = q := by
    intro n h
    rw [off4_eq i]; exact fun _ => h.hq
  have h1 : Inv (i 2).val q (qT xn) q xk xv 1 (stAt i xn xk xv z 1) :=
    h0.step (k0_off3 0#32) (k0_off3_inb 0) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 0#32) (k0_off5_inb 0) (k0_off3_eq 0) (cur h0 _) rfl rfl (k0_off5_eq 0)
  have h2 : Inv (i 2).val q (qT xn) q xk xv 2 (stAt i xn xk xv z 2) :=
    h1.step (k0_off3 1#32) (k0_off3_inb 1) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 1#32) (k0_off5_inb 1) (k0_off3_eq 1) (cur h1 _) rfl rfl (k0_off5_eq 1)
  have h3 : Inv (i 2).val q (qT xn) q xk xv 3 (stAt i xn xk xv z 3) :=
    h2.step (k0_off3 2#32) (k0_off3_inb 2) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 2#32) (k0_off5_inb 2) (k0_off3_eq 2) (cur h2 _) rfl rfl (k0_off5_eq 2)
  have h4 : Inv (i 2).val q (qT xn) q xk xv 4 (stAt i xn xk xv z 4) :=
    h3.step (k0_off3 3#32) (k0_off3_inb 3) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 3#32) (k0_off5_inb 3) (k0_off3_eq 3) (cur h3 _) rfl rfl (k0_off5_eq 3)
  have h5 : Inv (i 2).val q (qT xn) q xk xv 5 (stAt i xn xk xv z 5) :=
    h4.step (k0_off3 4#32) (k0_off3_inb 4) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 4#32) (k0_off5_inb 4) (k0_off3_eq 4) (cur h4 _) rfl rfl (k0_off5_eq 4)
  have h6 : Inv (i 2).val q (qT xn) q xk xv 6 (stAt i xn xk xv z 6) :=
    h5.step (k0_off3 5#32) (k0_off3_inb 5) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 5#32) (k0_off5_inb 5) (k0_off3_eq 5) (cur h5 _) rfl rfl (k0_off5_eq 5)
  have h7 : Inv (i 2).val q (qT xn) q xk xv 7 (stAt i xn xk xv z 7) :=
    h6.step (k0_off3 6#32) (k0_off3_inb 6) (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 (k0_off5 6#32) (k0_off5_inb 6) (k0_off3_eq 6) (cur h6 _) rfl rfl (k0_off5_eq 6)
  have h8 : Inv (i 2).val q (qT xn) q xk xv 8 (stAt i xn xk xv z 8) :=
    h7.step (k0_off3 7#32) (k0_off3_inb 7) (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 (k0_off5 7#32) (k0_off5_inb 7) (k0_off3_eq 7) (cur h7 _) rfl rfl (k0_off5_eq 7)
  have h9 : Inv (i 2).val q (qT xn) q xk xv 9 (stAt i xn xk xv z 9) :=
    h8.step ![0, 4608, 0] inb_S1x8192x128_S1x512x128_0_4608_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 4096, 0] inb_S1x8192x256_S1x512x144_0_4096_0 rfl (cur h8 _) rfl rfl rfl
  have h10 : Inv (i 2).val q (qT xn) q xk xv 10 (stAt i xn xk xv z 10) :=
    h9.step ![0, 5120, 0] inb_S1x8192x128_S1x512x128_0_5120_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 4608, 0] inb_S1x8192x256_S1x512x144_0_4608_0 rfl (cur h9 _) rfl rfl rfl
  have h11 : Inv (i 2).val q (qT xn) q xk xv 11 (stAt i xn xk xv z 11) :=
    h10.step ![0, 5632, 0] inb_S1x8192x128_S1x512x128_0_5632_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 5120, 0] inb_S1x8192x256_S1x512x144_0_5120_0 rfl (cur h10 _) rfl rfl rfl
  have h12 : Inv (i 2).val q (qT xn) q xk xv 12 (stAt i xn xk xv z 12) :=
    h11.step ![0, 6144, 0] inb_S1x8192x128_S1x512x128_0_6144_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 5632, 0] inb_S1x8192x256_S1x512x144_0_5632_0 rfl (cur h11 _) rfl rfl rfl
  have h13 : Inv (i 2).val q (qT xn) q xk xv 13 (stAt i xn xk xv z 13) :=
    h12.step ![0, 6656, 0] inb_S1x8192x128_S1x512x128_0_6656_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 6144, 0] inb_S1x8192x256_S1x512x144_0_6144_0 rfl (cur h12 _) rfl rfl rfl
  have h14 : Inv (i 2).val q (qT xn) q xk xv 14 (stAt i xn xk xv z 14) :=
    h13.step ![0, 7168, 0] inb_S1x8192x128_S1x512x128_0_7168_0 (k0_off4 i) (k0_off4_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 6656, 0] inb_S1x8192x256_S1x512x144_0_6656_0 rfl (cur h13 _) rfl rfl rfl
  have h15 : Inv (i 2).val q (qT xn) q xk xv 15 (stAt i xn xk xv z 15) :=
    h14.step ![0, 7680, 0] inb_S1x8192x128_S1x512x128_0_7680_0 (k0_off4 i) (k0_off4_inb i) ![1, 0, 0] inb_S2x512x1024_S1x512x1024_1_0_0 inb_S2x1x1024_S1x1x1024_1_0_0 ![0, 0, 0] inb_S2x512x1024_S1x512x1024_0_0_0 inb_S2x1x1024_S1x1x1024_0_0_0 ![0, 7168, 0] inb_S1x8192x256_S1x512x144_0_7168_0 rfl (cur h14 _) rfl rfl rfl
  have hn : ∀ hoq, window (s := S2x128x1024) (stAt i xn xk xv z 15).q (k0_off2 i) S1x128x1024.size hoq = qT xn := by
    rw [off2_eq i]; exact fun _ => h15.hn
  exact h15.step ![0, 0, 0] inb_S1x8192x128_S1x512x128_0_0_0 (k0_off2 i) (k0_off2_inb i) ![0, 0, 0] inb_S2x512x1024_S1x512x1024_0_0_0 inb_S2x1x1024_S1x1x1024_0_0_0 ![1, 0, 0] inb_S2x512x1024_S1x512x1024_1_0_0 inb_S2x1x1024_S1x1x1024_1_0_0 ![0, 7680, 0] inb_S1x8192x256_S1x512x144_0_7680_0 rfl (hn _) rfl rfl rfl

/-- The point's output block, from what it finds. -/
theorem finish_eq (i : grid0.Coords) {q : Vec F S1x128x1024 .bf16} {xk : Vec F S1x8192x128 .bf16} {xv : Vec F S1x8192x256 .bf16} {xn y : Vec F S1x512x128 .bf16} {lm : Vec F S8x128 .f32} {g : Vec F S128x1 .f32} {z : St F}
    (H : Carry (i 2).val q xk z) : finish lm g (stAt i xn xk xv z 16) y = outOf q xk xv lm g := by
  refine (put_full (s := S1x512x128) _ _ _ inb_S1x512x128_S1x512x128_0_0_0).trans ?_
  rw [(inv_stAt i (xn := xn) (xv := xv) H).ha, window_full (s := S8x128) lm, window_full (s := S128x1) g]
  rfl

/-- What the point hands to the next. -/
theorem carry_next (i : grid0.Coords) {q : Vec F S1x128x1024 .bf16} {xk : Vec F S1x8192x128 .bf16} {xv : Vec F S1x8192x256 .bf16} {xn : Vec F S1x512x128 .bf16} {z : St F}
    (H : Carry (i 2).val q xk z) : Carry ((i 2).val + 1) (qT xn) xk (stAt i xn xk xv z 16) :=
  have h := inv_stAt i (xn := xn) (xv := xv) H
  ⟨h.hn, h.hs, h.hc⟩

end Cert.Kernel3Ideal.Diff

end
-- ==== Proof.DiffKernelIdealRun.lean ====
/- The run of the attention kernel (Kernel3Ideal): the proof data of its pipeline (each output block is `outOf` of the point's blocks;
   before a point that is not a head's first the scratch buffers carry what the point before prepared for it, `Carry`), the
   body's obligation, and the launch — every argument array ends unchanged and every output block is as named. -/
module

public import proofs.«01_k».proof.Proof.DiffKernelIdealWp
public import proofs.«01_k».proof.Proof.DiffKernelIdealState
public import Idealize.ShloMosaic.Lib.Claim

@[expose] public section

set_option maxRecDepth 65536

noncomputable section

namespace Cert.Kernel3Ideal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points and their blocks -/

theorem coords_2 : ∀ t : Fin cfg0.N, (grid0.coords t 2).val = t.val % 16 :=
  (by decide +kernel : ∀ t : Fin grid0.N, (grid0.coords t 2).val = t.val % 16)

/-- At a point that is not a head's last the next query block is the next point's. -/
theorem next_q : ∀ t : Fin cfg0.N, ∀ h : t.val + 1 < cfg0.N, (t.val + 1) % 16 ≠ 0 →
    cc0_transform_1 (grid0.coords t) = cc0_transform_0 (grid0.coords ⟨t.val + 1, h⟩) :=
  (by decide +kernel : ∀ t : Fin grid0.N, ∀ h : t.val + 1 < grid0.N, (t.val + 1) % 16 ≠ 0 →
    cc0_transform_1 (grid0.coords t) = cc0_transform_0 (grid0.coords ⟨t.val + 1, h⟩))
/-- and the next point is of the same head. -/
theorem next_k : ∀ t : Fin cfg0.N, ∀ h : t.val + 1 < cfg0.N, (t.val + 1) % 16 ≠ 0 →
    cc0_transform_2 (grid0.coords t) = cc0_transform_2 (grid0.coords ⟨t.val + 1, h⟩) :=
  (by decide +kernel : ∀ t : Fin grid0.N, ∀ h : t.val + 1 < grid0.N, (t.val + 1) % 16 ≠ 0 →
    cc0_transform_2 (grid0.coords t) = cc0_transform_2 (grid0.coords ⟨t.val + 1, h⟩))

/-- The point's query block, the next one, the head's keys and values. -/
abbrev qBlk (c : Dev nD) (t : Fin cfg0.N) : Vec F S1x512x128 .bf16 := iblk m c 0 t
abbrev nBlk (c : Dev nD) (t : Fin cfg0.N) : Vec F S1x512x128 .bf16 := iblk m c 1 t
abbrev kBlk (c : Dev nD) (t : Fin cfg0.N) : Vec F S1x8192x128 .bf16 := iblk m c 2 t
abbrev vBlk (c : Dev nD) (t : Fin cfg0.N) : Vec F S1x8192x256 .bf16 := iblk m c 3 t
/-- The weight's vectors and the norm's scale, the whole of both. -/
abbrev lBlk (c : Dev nD) (t : Fin cfg0.N) : Vec F S8x128 .f32 := iblk m c 4 t
abbrev gBlk (c : Dev nD) (t : Fin cfg0.N) : Vec F S128x1 .f32 := iblk m c 5 t

/-- A block of an array at a block index. -/
def blkAt {s : Shape} {α : Type} (A : s.Idx → α) (size ix : Fin s.rank → ℕ) (h : ∀ a, (ix a + 1) * size a ≤ s.size a) :
    (Rect.block (s := s) size ix h).shape.Idx → α := fun y => A ((Rect.block (s := s) size ix h).emb y)

theorem blkAt_congr {s : Shape} {α : Type} (A : s.Idx → α) (size ix ix' : Fin s.rank → ℕ) (h : ∀ a, (ix a + 1) * size a ≤ s.size a)
    (h' : ∀ a, (ix' a + 1) * size a ≤ s.size a) (e : ix = ix') : blkAt A size ix h = blkAt A size ix' h' := by
  subst e; rfl

/-- The array of the queries, keys and values as launched. -/
def argH (c : Dev nD) : Vec F S8x8192x2048 .bf16 := m ((c : Thread nD τ).loc main_arg0)

theorem qBlk_eq (c : Dev nD) (t : Fin cfg0.N) :
    qBlk m c t = blkAt (argH m c) S1x512x128.size (cc0_transform_0 (grid0.coords t)) (hinb0_0 (grid0.coords t)) := rfl
theorem nBlk_eq (c : Dev nD) (t : Fin cfg0.N) :
    nBlk m c t = blkAt (argH m c) S1x512x128.size (cc0_transform_1 (grid0.coords t)) (hinb0_1 (grid0.coords t)) := rfl
theorem kBlk_eq (c : Dev nD) (t : Fin cfg0.N) :
    kBlk m c t = blkAt (argH m c) S1x8192x128.size (cc0_transform_2 (grid0.coords t)) (hinb0_2 (grid0.coords t)) := rfl
theorem vBlk_eq (c : Dev nD) (t : Fin cfg0.N) :
    vBlk m c t = blkAt (argH m c) S1x8192x256.size (cc0_transform_3 (grid0.coords t)) (hinb0_3 (grid0.coords t)) := rfl

theorem nBlk_next (c : Dev nD) (t : Fin cfg0.N) (h : t.val + 1 < cfg0.N) (h8 : (t.val + 1) % 16 ≠ 0) : nBlk m c t = qBlk m c ⟨t.val + 1, h⟩ :=
  (blkAt_congr (argH m c) S1x512x128.size _ _ (hinb0_1 (grid0.coords t)) (hinb0_0 (grid0.coords ⟨t.val + 1, h⟩)) (next_q t h h8) : _)
theorem kBlk_next (c : Dev nD) (t : Fin cfg0.N) (h : t.val + 1 < cfg0.N) (h8 : (t.val + 1) % 16 ≠ 0) : kBlk m c t = kBlk m c ⟨t.val + 1, h⟩ :=
  (blkAt_congr (argH m c) S1x8192x128.size _ _ (hinb0_2 (grid0.coords t)) (hinb0_2 (grid0.coords ⟨t.val + 1, h⟩)) (next_k t h h8) : _)

/-- The output block of point `t`. -/
def oBlk (c : Dev nD) (t : Fin cfg0.N) : Vec F S1x512x128 .bf16 := outOf (qT (qBlk m c t)) (kBlk m c t) (vBlk m c t) (lBlk m c t) (gBlk m c t)

/-! ## The proof data -/

abbrev scr0 : Memref sig .tc .vmem S2x128x1024 .bf16 := Memref.whole cc0_scratch0
abbrev scr1 : Memref sig .tc .vmem S1x1024 .f32 := Memref.whole cc0_scratch1
abbrev scr2 : Memref sig .tc .vmem S144x1024 .f32 := Memref.whole cc0_scratch2
abbrev scr3 : Memref sig .tc .vmem S2x512x1024 .f32 := Memref.whole cc0_scratch3
abbrev scr4 : Memref sig .tc .vmem S2x1x1024 .f32 := Memref.whole cc0_scratch4

/-- What the scratch values `z` carry into point `n`. -/
def Carries (c : Dev nD) (n : ℕ) (z : St F) : Prop :=
  ∀ h : n < cfg0.N, n % 16 ≠ 0 → Carry (n % 16) (qT (qBlk m c ⟨n, h⟩)) (kBlk m c ⟨n, h⟩) z

/-- The scratch buffers hold the values `z`. -/
def holds (c : Dev nD) (z : St F) : sProp 𝕄 := iprop(owns (c : Thread nD τ) scr0 fullShare z.q ∗ owns (c : Thread nD τ) scr1 fullShare z.m ∗ owns (c : Thread nD τ) scr2 fullShare z.a ∗ owns (c : Thread nD τ) scr3 fullShare z.s ∗ owns (c : Thread nD τ) scr4 fullShare z.c)

/-- The invariant before point `n`. -/
def PhiC (c : Dev nD) (n : ℕ) : sProp 𝕄 :=
  iprop((∃ z : St F, ⌜Carries m c n z⌝ ∗ holds c z) ∗ (∃ r, prngReg c r))

theorem PhiA_eq (c : Dev nD) :
    (Pipeline.ΦA spec0 c : sProp 𝕄)
      = iprop(((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oBlk m c t
  Φ t := PhiC m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = oBlk m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

theorem leaves_eq (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What a point leaves carries into the next one. -/
theorem carries_next (c : Dev nD) (t : Fin cfg0.N) (z : St F)
    (H : Carry (grid0.coords t 2).val (qT (qBlk m c t)) (kBlk m c t) z) :
    Carries m c (t.val + 1) (stAt (grid0.coords t) (nBlk m c t) (kBlk m c t) (vBlk m c t) z 16) := by
  intro h h8
  have e : (t.val + 1) % 16 = (grid0.coords t 2).val + 1 := by rw [coords_2 t]; omega
  rw [e, ← nBlk_next m c t h h8, ← kBlk_next m c t h h8]
  exact carry_next (grid0.coords t) H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiC m c (t.val + 1) from rfl, show (dats m 0 c).Φ t.castSucc = PhiC m c t.val from rfl]
  rw [leaves_eq m c t 0 rfl, after_0, leaves_eq m c t 1 rfl, after_1, leaves_eq m c t 2 rfl, after_2, leaves_eq m c t 3 rfl, after_3, leaves_eq m c t 4 rfl, after_4, leaves_eq m c t 5 rfl, after_5, leaves_eq m c t 6 rfl, after_6]
  unfold PhiC
  rcases Nat.eq_zero_or_pos (t.val % 16) with h8 | h8
  · have hc : k0_cond1 (grid0.coords t) = 1#1 := (cond1_iff _).mpr ((coords_2 t).trans h8)
    rw [body_eq_first _ _ _ _ _ _ _ _ _ _ _ _ _ _ _ _ _ _ _ _ _ _ _ _ _ hc]
    unfold holds
    iintro ⟨⟨⟨%z, %hz, H8, H9, H10, H11, H12⟩, Hg⟩, Ho, ⟨%d0, H3⟩, ⟨%d1, H4⟩, ⟨%d2, H5⟩, ⟨%d3, H6⟩, ⟨%d4, HL⟩, ⟨%d5, HG⟩, ⟨%d6, H7⟩⟩
    have hz' : Carry (grid0.coords t 2).val (qT (qBlk m c t)) (kBlk m c t) (start (k0_off1 (grid0.coords t)) (k0_off1_inb _ hc) (qBlk m c t) (kBlk m c t) z) :=
      carry_start (off1_eq _) _ _ _ _
    iapply (wp_first Variants.none c (grid0.coords t) (xq := qBlk m c t) (xn := nBlk m c t) (xk := kBlk m c t) (xv := vBlk m c t) (lm := lBlk m c t) (g := gBlk m c t) z hc _ rfl) $$ H3 H4 H5 H6 HL HG H7 H8 H9 H10 H11 H12
    rw [finish_eq (grid0.coords t) hz']
    iintro H3 H4 H5 H6 HL HG H7 H8 H9 H10 H11 H12
    isplitl [H8 H9 H10 H11 H12 Hg]
    · isplitl [H8 H9 H10 H11 H12]
      · iexists _
        isplitr
        swap
        · isplitl [H8]; · iexact H8
          isplitl [H9]; · iexact H9
          isplitl [H10]; · iexact H10
          isplitl [H11]; · iexact H11
          iexact H12
        · ipureintro; exact carries_next m c t _ hz'
      iexact Hg
    isplitl [Ho]; · iexact Ho
    isplitl [H3]; · iexact H3
    isplitl [H4]; · iexact H4
    isplitl [H5]; · iexact H5
    isplitl [H6]; · iexact H6
    isplitl [HL]; · iexact HL
    isplitl [HG]; · iexact HG
    iexact H7
  · have hc : ¬ k0_cond1 (grid0.coords t) = 1#1 := fun h => by
      have := (cond1_iff _).mp h
      rw [coords_2 t] at this; omega
    rw [body_eq_rest _ _ _ _ _ _ _ _ _ _ _ _ _ _ _ _ _ _ _ _ _ _ _ _ _ hc]
    unfold holds
    iintro ⟨⟨⟨%z, %hz, H8, H9, H10, H11, H12⟩, Hg⟩, Ho, ⟨%d0, H3⟩, ⟨%d1, H4⟩, ⟨%d2, H5⟩, ⟨%d3, H6⟩, ⟨%d4, HL⟩, ⟨%d5, HG⟩, ⟨%d6, H7⟩⟩
    have hz' : Carry (grid0.coords t 2).val (qT (qBlk m c t)) (kBlk m c t) z := by
      rw [coords_2 t]; exact hz t.isLt (by omega)
    iapply (wp_rest Variants.none c (grid0.coords t) (xq := qBlk m c t) (xn := nBlk m c t) (xk := kBlk m c t) (xv := vBlk m c t) (lm := lBlk m c t) (g := gBlk m c t) z) $$ H3 H4 H5 H6 HL HG H7 H8 H9 H10 H11 H12
    rw [finish_eq (grid0.coords t) hz']
    iintro H3 H4 H5 H6 HL HG H7 H8 H9 H10 H11 H12
    isplitl [H8 H9 H10 H11 H12 Hg]
    · isplitl [H8 H9 H10 H11 H12]
      · iexists _
        isplitr
        swap
        · isplitl [H8]; · iexact H8
          isplitl [H9]; · iexact H9
          isplitl [H10]; · iexact H10
          isplitl [H11]; · iexact H11
          iexact H12
        · ipureintro; exact carries_next m c t _ hz'
      iexact Hg
    isplitl [Ho]; · iexact Ho
    isplitl [H3]; · iexact H3
    isplitl [H4]; · iexact H4
    isplitl [H5]; · iexact H5
    isplitl [H6]; · iexact H6
    isplitl [HL]; · iexact HL
    isplitl [HG]; · iexact HG
    iexact H7

/-- The body table's row at point `t`'s slots is the body as `bodyAt0` spells it. -/
theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem hin (c : Dev nD) : Pipeline.ΦA spec0 c ⊢ (dats m 0 c).Φ 0 := by
  rw [show (dats m 0 c).Φ 0 = PhiC m c 0 from rfl, PhiA_eq]
  unfold PhiC holds
  iintro ⟨⟨⟨%d0, H0⟩, ⟨%d1, H1⟩, ⟨%d2, H2⟩, ⟨%d3, H3⟩, ⟨%d4, H4⟩⟩, Hg⟩
  isplitr [Hg]
  · iexists (⟨d0, d1, d2, d3, d4⟩ : St F)
    isplitr
    · ipureintro; exact fun _ h => absurd rfl h
    isplitl [H0]; · iexact H0
    isplitl [H1]; · iexact H1
    isplitl [H2]; · iexact H2
    isplitl [H3]; · iexact H3
    iexact H4
  iexact Hg

theorem hout (c : Dev nD) : (dats m 0 c).Φ (Fin.last cfg0.N) ⊢ Pipeline.ΦA spec0 c := by
  rw [show (dats m 0 c).Φ (Fin.last cfg0.N) = PhiC m c cfg0.N from rfl, PhiA_eq]
  unfold PhiC holds
  iintro ⟨⟨%z, %hz, H0, H1, H2, H3, H4⟩, Hg⟩
  isplitr [Hg]
  · isplitl [H0]; · iexists _; iexact H0
    isplitl [H1]; · iexists _; iexact H1
    isplitl [H2]; · iexists _; iexact H2
    isplitl [H3]; · iexists _; iexact H3
    iexists _; iexact H4
  iexact Hg

/-! ## The run and the frame -/

-- the launch theorem's implicit arguments are found by unifying its conclusion with this one, which takes unfolding plain
-- definitions in a metavariable's type
set_option backward.isDefEq.respectTransparency.types false in
/-- The launch, every semaphore counter at zero at every final state. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution terminates, the arrays of the pipeline as the proof data have them. -/
theorem run : θ_run defs (onTc (τ := τ) (main (F := F))) (s₀ m ρ) (Pipeline.FramePost cfgs (dats m) 0 (V m)) :=
  (θ_run defs _ _).mono (fun _ h => h.1) (run_quiescent m ρ)

/-- The argument arrays end unchanged and the counters at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel3Ideal.Diff

end
-- ==== Proof.SameText.lean ====
/- The two attention calls' programs and their idealizations are one text: the definitions are equal at every reading of the floats, so
   the frames proved of the idealizations are the programs' own. -/
module

public import proofs.«01_k».proof.Defs
public import proofs.«01_k».proof.Proof.Gen.Kernel
public import proofs.«01_k».proof.Proof.Gen.Kernel3
public import proofs.«01_k».proof.Proof.MlaKernelIdealRun
public import proofs.«01_k».proof.Proof.DiffKernelIdealRun

@[expose] public section

set_option maxRecDepth 65536

noncomputable section

namespace Cert.SameText

open Idealize.ShloMosaic Idealize.SL.Sem

variable {F : FTy → Type} [FloatOps F]

theorem mla_body : Cert.Kernel.defs₀ (F := F) = Cert.KernelIdeal.defs₀ (F := F) := by
  unfold Cert.Kernel.defs₀ Cert.KernelIdeal.defs₀
  refine congrArg Defs.onTc ?_
  funext l a
  obtain ⟨l, hl⟩ := l
  obtain rfl : l = 0 := Nat.lt_one_iff.mp hl
  obtain ⟨t, s⟩ := a
  rfl

theorem mla_defs : Cert.Kernel.defs (F := F) = Cert.KernelIdeal.defs (F := F) :=
  congrArg (Pipeline.defs (Cert.Kernel.pcfgs (F := F))) mla_body

theorem diff_body : Cert.Kernel3.defs₀ (F := F) = Cert.Kernel3Ideal.defs₀ (F := F) := by
  unfold Cert.Kernel3.defs₀ Cert.Kernel3Ideal.defs₀
  refine congrArg Defs.onTc ?_
  funext l a
  obtain ⟨l, hl⟩ := l
  obtain rfl : l = 0 := Nat.lt_one_iff.mp hl
  obtain ⟨t, s⟩ := a
  rfl

theorem diff_defs : Cert.Kernel3.defs (F := F) = Cert.Kernel3Ideal.defs (F := F) :=
  congrArg (Pipeline.defs (Cert.Kernel3.pcfgs (F := F))) diff_body

/-- The attention kernel stops, leaving its arguments and counters as they were. -/
theorem frame_mla : Cert.quiescent_Kernel (hKernel := Cert.Kernel.Gen.facts) := by
  intro m g _
  rw [mla_defs]
  exact Cert.KernelIdeal.Mla.frame_claim (F := Bits) m g

/-- And the differential attention. -/
theorem frame_diff : Cert.quiescent_Kernel3 (hKernel3 := Cert.Kernel3.Gen.facts) := by
  intro m g _
  rw [diff_defs]
  exact Cert.Kernel3Ideal.Diff.frame_claim (F := Bits) m g

end Cert.SameText

end
-- ==== Proof.OnlineSoftmax.lean ====
/- The online softmax over the extended reals. A row of scores comes in `N` blocks of `K`; `runMax` is the largest score of the
   blocks seen, `runAcc` the sum of the weights `2^(s − runMax)` times a value, rescaled each time the maximum grows. For finite scores
   the quotient of the sum with the values by the sum with ones is the softmax (in base e, of the scores times log 2, shifted by any
   finite number) applied to the values. -/
module

public import Idealize.ShloMosaic.PureOps
public import Idealize.ShloMosaic.PureOps.Ideal
public import Mathlib.Data.EReal.Operations
public import Mathlib.Analysis.SpecialFunctions.Pow.Real

@[expose] public section

noncomputable section

namespace Cert.Online

open Idealize.ShloMosaic

variable {K : ℕ}

/-- The largest score of the first `n` blocks. -/
def runMax (s : ℕ → Fin K → EReal) : ℕ → EReal
  | 0 => ⊥
  | n + 1 => max (runMax s n) (Finset.univ.fold max ⊥ (s n))

/-- The weighted sum of the values of the first `n` blocks, relative to the largest score so far. -/
def runAcc (s v : ℕ → Fin K → EReal) : ℕ → EReal
  | 0 => 0
  | n + 1 => Ideal.exp2 (runMax s n - runMax s (n + 1)) * runAcc s v n + ∑ k, v n k * Ideal.exp2 (s n k - runMax s (n + 1))

/-- A number that is neither infinity. -/
def IsFin (x : EReal) : Prop := ∃ r : ℝ, x = r

theorem isFin_iff (x : EReal) : IsFin x ↔ x ≠ ⊤ ∧ x ≠ ⊥ :=
  ⟨fun ⟨r, h⟩ => h ▸ ⟨EReal.coe_ne_top r, EReal.coe_ne_bot r⟩, fun ⟨h, h'⟩ => ⟨x.toReal, (EReal.coe_toReal h h').symm⟩⟩

theorem IsFin.mul {x y : EReal} : IsFin x → IsFin y → IsFin (x * y)
  | ⟨r, hr⟩, ⟨u, hu⟩ => ⟨r * u, by rw [hr, hu, EReal.coe_mul]⟩

theorem IsFin.add {x y : EReal} : IsFin x → IsFin y → IsFin (x + y)
  | ⟨r, hr⟩, ⟨u, hu⟩ => ⟨r + u, by rw [hr, hu, EReal.coe_add]⟩

theorem IsFin.sum {ι : Type} (t : Finset ι) (f : ι → EReal) (h : ∀ i ∈ t, IsFin (f i)) : IsFin (∑ i ∈ t, f i) := by
  classical
  induction t using Finset.induction_on with
  | empty => exact ⟨0, by simp⟩
  | insert a t ha ih =>
    rw [Finset.sum_insert ha]
    exact (h a (Finset.mem_insert_self a t)).add (ih fun i hi => h i (Finset.mem_insert_of_mem hi))

theorem IsFin.max {x y : EReal} (hx : IsFin x) (hy : IsFin y) : IsFin (max x y) := by
  rcases max_choice x y with h | h <;> rw [h] <;> assumption

/-- The largest of finitely many finite numbers is finite. -/
theorem isFin_fold {ι : Type} [Fintype ι] [Nonempty ι] (f : ι → EReal) (h : ∀ i, IsFin (f i)) :
    IsFin (Finset.univ.fold max ⊥ f) := by
  refine (isFin_iff _).mpr ⟨?_, ?_⟩
  · exact ((Finset.fold_max_lt ⊤).mpr ⟨bot_lt_top, fun i _ => lt_top_iff_ne_top.mpr ((isFin_iff _).mp (h i)).1⟩).ne
  · exact ((Finset.lt_fold_max ⊥).mpr (Or.inr ⟨Classical.arbitrary ι, Finset.mem_univ _, bot_lt_iff_ne_bot.mpr ((isFin_iff _).mp (h _)).2⟩)).ne'

/-- A factor that is a nonnegative real goes into a finite sum. -/
theorem mul_sum {ι : Type} (t : Finset ι) (f : ι → EReal) (c : ℝ) (hc : 0 ≤ c) : (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (EReal.coe_nonneg.mpr hc) (EReal.coe_ne_top c) _ _

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem exp2_sub (a b : ℝ) : Ideal.exp2 ((a : EReal) - (b : EReal)) = ((2 : ℝ) ^ (a - b) : ℝ) := by
  rw [← EReal.coe_sub, Ideal.exp2_coe]; rfl

theorem exp_sub (a l b : ℝ) : Ideal.exp ((a : EReal) * (l : EReal) - (b : EReal)) = (Real.exp (a * l - b) : ℝ) := by
  rw [← EReal.coe_mul, ← EReal.coe_sub, Ideal.exp_coe]

variable [NeZero K]

theorem isFin_runMax (s : ℕ → Fin K → EReal) (hs : ∀ i k, IsFin (s i k)) : ∀ n, IsFin (runMax s (n + 1))
  | 0 => by
    show IsFin (max ⊥ _)
    rw [max_eq_right bot_le]; exact isFin_fold _ (hs 0)
  | n + 1 => (isFin_runMax s hs n).max (isFin_fold _ (hs (n + 1)))

/-- The accumulator is the weighted sum over every block seen, at the current maximum. -/
theorem runAcc_eq (s v : ℕ → Fin K → EReal) (hs : ∀ i k, IsFin (s i k)) :
    ∀ n, runAcc s v n = ∑ i ∈ Finset.range n, ∑ k, v i k * Ideal.exp2 (s i k - runMax s n)
  | 0 => by simp [runAcc]
  | n + 1 => by
    rw [Finset.sum_range_succ, runAcc]
    refine congrArg (· + _) ?_
    rw [runAcc_eq s v hs n]
    cases n with
    | zero => simp
    | succ n =>
      obtain ⟨a, ha⟩ := isFin_runMax s hs n
      obtain ⟨b, hb⟩ := isFin_runMax s hs (n + 1)
      rw [ha, hb, exp2_sub, mul_sum _ _ _ (Real.rpow_nonneg (by norm_num) _)]
      refine Finset.sum_congr rfl fun i _ => ?_
      rw [mul_sum _ _ _ (Real.rpow_nonneg (by norm_num) _)]
      refine Finset.sum_congr rfl fun k _ => ?_
      obtain ⟨r, hr⟩ := hs i k
      rw [hr, exp2_sub, exp2_sub, mul_left_comm, ← EReal.coe_mul, ← Real.rpow_add (by norm_num)]
      congr 3; ring

/-- Finite scores: the online softmax is the softmax. -/
theorem flash_eq (s v : ℕ → Fin K → EReal) (hs : ∀ i k, IsFin (s i k)) (N : ℕ) (M : EReal) (hM : IsFin M) :
    Ideal.div (runAcc s v (N + 1)) (runAcc s (fun _ _ => 1) (N + 1))
      = ∑ i : Fin (N + 1), ∑ k, v i k * Ideal.div (Ideal.exp (s i k * ((Real.log 2 : ℝ) : EReal) - M))
          (∑ i : Fin (N + 1), ∑ k, Ideal.exp (s i k * ((Real.log 2 : ℝ) : EReal) - M)) := by
  obtain ⟨a, ha⟩ := isFin_runMax s hs N
  obtain ⟨b, hb⟩ := hM
  choose r hr using hs
  have hs : ∀ i k, IsFin (s i k) := fun i k => ⟨r i k, hr i k⟩
  rw [runAcc_eq s v hs, runAcc_eq s _ hs, ha, hb]
  simp only [hr, exp2_sub, exp_sub, one_mul, ← coe_sum, Finset.sum_range]
  set E : ℝ := ∑ i : Fin (N + 1), ∑ k, (2 : ℝ) ^ (r i k - a) with hE
  set E' : ℝ := ∑ i : Fin (N + 1), ∑ k, Real.exp (r i k * Real.log 2 - b) with hE'
  set C : ℝ := Real.exp (a * Real.log 2 - b)
  have hC : 0 < C := Real.exp_pos _
  have hexp : ∀ x : ℝ, Real.exp (x * Real.log 2 - b) = (2 : ℝ) ^ (x - a) * C := fun x => by
    rw [Real.rpow_def_of_pos (by norm_num), ← Real.exp_add]; congr 1; ring
  have hE0 : 0 < E := Finset.sum_pos (fun i _ => Finset.sum_pos (fun k _ => Real.rpow_pos_of_pos (by norm_num) _) Finset.univ_nonempty) Finset.univ_nonempty
  have hEE : E' = E * C := by
    rw [hE, hE', Finset.sum_mul]
    refine Finset.sum_congr rfl fun i _ => ?_
    rw [Finset.sum_mul]
    exact Finset.sum_congr rfl fun k _ => hexp _
  have hE'0 : E' ≠ 0 := by rw [hEE]; exact (mul_pos hE0 hC).ne'
  have h1 : 0 ≤ 1 / E := one_div_nonneg.mpr hE0.le
  have key : ∀ x : ℝ, 1 / E * x = x * C * (1 / E') := fun x => by
    rw [hEE]; field_simp
  rw [Ideal.div_coe hE0.ne', mul_comm, mul_sum _ _ _ h1]
  refine Finset.sum_congr rfl fun i _ => ?_
  rw [mul_sum _ _ _ h1]
  refine Finset.sum_congr rfl fun k _ => ?_
  rw [Ideal.div_coe hE'0, mul_left_comm, ← EReal.coe_mul, ← EReal.coe_mul, hexp, key]

end Cert.Online

end
-- ==== Proof.MlaKernelIdealPay.lean ====
/- The attention kernel's values: each output block is, row by row, the online softmax of the scores of its queries applied to the
   values, and the blocks tile the output array. -/
module

public import proofs.«01_k».proof.Proof.MlaKernelIdealRun
public import proofs.«01_k».proof.Proof.OnlineSoftmax
public import Idealize.ShloMosaic.Lib.Pointwise
public import Idealize.ShloMosaic.Lib.Pipeline.ValueKit

@[expose] public section

set_option maxRecDepth 65536
noncomputable section
namespace Cert.KernelIdeal.Mla
open Idealize.ShloMosaic Idealize.ShloMosaic.TcCoe
open Cert.KernelIdeal Cert.KernelIdeal.Gen
open Cert.Online

theorem negInf : Ideal.ofBits .f32 0xFF800000#32 = ⊥ := by
  simp [Ideal.ofBits, Ideal.ieee]

theorem sc_at (k : FVec Ideal S1x512x128 .bf16) (q : FVec Ideal S1x128x1024 .bf16) (a : Fin 512) (r : Fin 1024) :
    sc (F := Ideal) k q (ix3 0 a r) = ∑ j : Fin 128, k (ix3 0 a j) * q (ix3 0 j r) := by
  pointwise [sc, k0_pay10, k0_pay9]
theorem scMax_at (k : FVec Ideal S1x512x128 .bf16) (q : FVec Ideal S1x128x1024 .bf16) (r : Fin 1024) :
    scMax (F := Ideal) k q (ix3 0 0 r) = Finset.univ.fold max ⊥ fun a : Fin 512 => ∑ j : Fin 128, k (ix3 0 a j) * q (ix3 0 j r) := by
  pointwise [scMax, k0_pay11, k0_pay9]
  rw [negInf]
theorem mNew_at (m : FVec Ideal S1x1024 .f32) (mc : FVec Ideal S1x1x1024 .f32) (r : Fin 1024) :
    mNew (F := Ideal) m mc (ix2 0 r) = max (m (ix2 0 r)) (mc (ix3 0 0 r)) := by
  pointwise [mNew, k0_pay16, k0_pay12]
theorem accNew_at (m : FVec Ideal S1x1024 .f32) (mc : FVec Ideal S1x1x1024 .f32) (s : FVec Ideal S1x512x1024 .f32)
  (v : FVec Ideal S1x512x80 .bf16) (a : FVec Ideal S80x1024 .f32) (d : Fin 80) (r : Fin 1024) :
    accNew (F := Ideal) m mc s v a (ix2 d r) = Ideal.exp2 (m (ix2 0 r) - max (m (ix2 0 r)) (mc (ix3 0 0 r))) * a (ix2 d r)
      + ∑ x : Fin 512, v (ix3 0 x d) * Ideal.exp2 (s (ix3 0 x r) - max (m (ix2 0 r)) (mc (ix3 0 0 r))) := by
  pointwise [accNew, k0_pay12, k0_pay13, k0_pay14, k0_pay15]
  rfl
theorem qT_at (q : FVec Ideal S1x1024x128 .bf16) (j : Fin 128) (r : Fin 1024) :
    qT (F := Ideal) q (ix3 0 j r) = q (ix3 0 r j) := by
  pointwise [qT, k0_pay6]
theorem outBlk_at (a : FVec Ideal S64x1024 .f32) (l : FVec Ideal S1x1024 .f32) (d : Fin 128) (r : Fin 1024) :
    outBlk (F := Ideal) a l (ix3 0 r d) = if h : (d : ℕ) < 64 then Ideal.div (a (ix2 ⟨d, h⟩ r)) (l (ix2 0 r)) else 0 := by
  pointwise [outBlk, k0_pay1, k0_pay119]
theorem m0_at (r : Fin 1024) : k0_pay7 (F := Ideal) (ix2 0 r) = ⊥ := by
  pointwise [k0_pay7]
  rw [negInf]
theorem a0_at (d : Fin 80) (r : Fin 1024) : k0_pay8 (F := Ideal) (ix2 d r) = 0 := by
  pointwise [k0_pay8]

/-- Key row `a` of block `n`. -/
def row (n : ℕ) (a : Fin 512) : Fin 8192 := ⟨512 * (n % 16) + a, by omega⟩

theorem kB_at (xk : FVec Ideal S1x8192x128 .bf16) (n : ℕ) (a : Fin 512) (j : Fin 128) :
    kB (F := Ideal) xk n (ix3 0 a j) = xk (ix3 0 (row n a) j) := by
  refine congrArg xk (funext fun i => Fin.ext ?_)
  fin_cases i
  · rfl
  · show 512 * (n % 16) + 1 * (a : ℕ) = 512 * (n % 16) + a
    omega
  · show 0 + 1 * (j : ℕ) = j
    omega
theorem vB_at (xv : FVec Ideal S1x8192x128 .bf16) (n : ℕ) (a : Fin 512) (d : Fin 80) :
    vB (F := Ideal) xv n (ix3 0 a d) = xv (ix3 0 (row n a) ⟨d, by omega⟩) := by
  refine congrArg xv (funext fun i => Fin.ext ?_)
  fin_cases i
  · rfl
  · show 512 * (n % 16) + 1 * (a : ℕ) = 512 * (n % 16) + a
    omega
  · show 0 + 1 * (d : ℕ) = d
    omega

/-- The scores of query `r`, by block. -/
def scores (q : FVec Ideal S1x128x1024 .bf16) (xk : FVec Ideal S1x8192x128 .bf16) (r : Fin 1024) (n : ℕ) (a : Fin 512) : EReal :=
  ∑ j : Fin 128, xk (ix3 0 (row n a) j) * q (ix3 0 j r)
/-- Lane `d` of the values, by block. -/
def vals (xv : FVec Ideal S1x8192x128 .bf16) (d : Fin 128) (n : ℕ) (a : Fin 512) : EReal := xv (ix3 0 (row n a) d)

theorem mAt_at (q : FVec Ideal S1x128x1024 .bf16) (xk : FVec Ideal S1x8192x128 .bf16) (r : Fin 1024) :
    ∀ n, mAt (F := Ideal) q xk n (ix2 0 r) = runMax (scores q xk r) n
  | 0 => m0_at r
  | n + 1 => by
    rw [mAt, mNew_at, mAt_at q xk r n, scMax_at, runMax]
    simp only [kB_at]; rfl
theorem aAt_at (q : FVec Ideal S1x128x1024 .bf16) (xk xv : FVec Ideal S1x8192x128 .bf16) (d : Fin 80) (r : Fin 1024) :
    ∀ n, aAt (F := Ideal) q xk xv n (ix2 d r) = runAcc (scores q xk r) (vals xv ⟨d, by omega⟩) n
  | 0 => a0_at d r
  | n + 1 => by
    rw [aAt, accNew_at, aAt_at q xk xv d r n, scMax_at, mAt_at, runAcc, runMax]
    simp only [kB_at, sc_at, vB_at]; rfl

theorem win_lo (a : FVec Ideal S80x1024 .f32) (d : Fin 64) (r : Fin 1024) :
    VecWindow.window (s := S80x1024) a ![0, 0] S64x1024.size inb_S80x1024_S64x1024_0_0 (ix2 d r) = a (ix2 ⟨d, by omega⟩ r) := by
  refine congrArg a (funext fun i => Fin.ext ?_)
  fin_cases i
  · show 0 + 1 * (d : ℕ) = d
    omega
  · show 0 + 1 * (r : ℕ) = r
    omega
theorem win_hi (a : FVec Ideal S80x1024 .f32) (r : Fin 1024) :
    VecWindow.window (s := S80x1024) a ![64, 0] S1x1024.size inb_S80x1024_S1x1024_64_0 (ix2 0 r) = a (ix2 64 r) := by
  refine congrArg a (funext fun i => Fin.ext ?_)
  fin_cases i
  · rfl
  · show 0 + 1 * (r : ℕ) = r
    omega

theorem outOf_at (q : FVec Ideal S1x128x1024 .bf16) (xk xv : FVec Ideal S1x8192x128 .bf16) (d : Fin 128) (r : Fin 1024) :
    outOf (F := Ideal) q xk xv (ix3 0 r d) = if (d : ℕ) < 64 then
      Ideal.div (runAcc (scores q xk r) (vals xv d) 16) (runAcc (scores q xk r) (vals xv 64) 16) else 0 := by
  rw [outOf, outBlk_at]
  split
  · next h =>
    refine congrArg₂ Ideal.div ?_ ?_
    · exact (win_lo _ ⟨d, h⟩ r).trans (aAt_at q xk xv ⟨d, by omega⟩ r 16)
    · exact (win_hi _ r).trans (aAt_at q xk xv 64 r 16)
  · rfl

end Cert.KernelIdeal.Mla

end
-- ==== Proof.MlaKernelIdealValue.lean ====
/- The array the attention kernel leaves: its output blocks, read in the argument arrays, tile it. -/
module

public import proofs.«01_k».proof.Proof.MlaKernelIdealPay

@[expose] public section

set_option maxRecDepth 65536

noncomputable section

namespace Cert.KernelIdeal.Mla

open Idealize.ShloMosaic Idealize.ShloMosaic.TcCoe
open Cert.KernelIdeal Cert.KernelIdeal.Gen
open Cert.Online

variable (m : (ℓ : Loc nD τ sig) → Buf (Elt Ideal) ℓ)

/-- Scores, values and the attention output over whole arrays: batch `b`, head `h`, query `p`, lane `d`. -/
def scoresA (Q K : FVec Ideal S8x8192x1024 .bf16) (b h : Fin 8) (p : Fin 8192) (n : ℕ) (a : Fin 512) : EReal :=
  ∑ j : Fin 128, K (ix3 b (row n a) ⟨h * 128 + j, by omega⟩) * Q (ix3 b p ⟨h * 128 + j, by omega⟩)
def valsA (W : FVec Ideal S8x8192x1024 .bf16) (b h : Fin 8) (d : Fin 128) (n : ℕ) (a : Fin 512) : EReal :=
  W (ix3 b (row n a) ⟨h * 128 + d, by omega⟩)
def attn (Q K W : FVec Ideal S8x8192x1024 .bf16) (b h : Fin 8) (p : Fin 8192) (d : Fin 128) : EReal :=
  if (d : ℕ) < 64 then
    Ideal.div (runAcc (scoresA Q K b h p) (valsA W b h d) 16) (runAcc (scoresA Q K b h p) (valsA W b h 64) 16) else 0
/-- The array the kernel leaves. -/
def attnArr (Q K W : FVec Ideal S8x8192x1024 .bf16) : FVec Ideal S8x8192x1024 .bf16 := fun i =>
  attn Q K W (i 0) ⟨(i 2 : ℕ) / 128, by have : (i 2 : ℕ) < 1024 := (i 2).isLt; omega⟩ (i 1) ⟨(i 2 : ℕ) % 128, by omega⟩

theorem idx : ∀ t : Fin cfg0.N, win0_0.index t = ![t.val / 64, t.val % 8, t.val / 8 % 8] ∧ win0_2.index t = ![t.val / 64, 0, t.val / 8 % 8]
    ∧ win0_3.index t = ![t.val / 64, 0, t.val / 8 % 8] ∧ win0_4.index t = ![t.val / 64, t.val % 8, t.val / 8 % 8] ∧ t.val < 512 :=
  (by decide +kernel : ∀ t : Fin grid0.N, _)

theorem qBlk_at (c : Dev nD) (t : Fin cfg0.N) (r : Fin 1024) (j : Fin 128) :
    qBlk m c t (ix3 0 r j) = argQ m c (ix3 ⟨t.val / 64, by have := (idx t).2.2.2.2; omega⟩ ⟨t.val % 8 * 1024 + r, by omega⟩ ⟨t.val / 8 % 8 * 128 + j, by omega⟩) := by
  unfold argQ
  blk_ext! [iblk, V, idx t]
theorem kBlk_at (c : Dev nD) (t : Fin cfg0.N) (p : Fin 8192) (j : Fin 128) :
    kBlk m c t (ix3 0 p j) = argK m c (ix3 ⟨t.val / 64, by have := (idx t).2.2.2.2; omega⟩ p ⟨t.val / 8 % 8 * 128 + j, by omega⟩) := by
  unfold argK
  blk_ext! [iblk, V, idx t]
theorem vBlk_at (c : Dev nD) (t : Fin cfg0.N) (p : Fin 8192) (j : Fin 128) :
    vBlk m c t (ix3 0 p j) = argV m c (ix3 ⟨t.val / 64, by have := (idx t).2.2.2.2; omega⟩ p ⟨t.val / 8 % 8 * 128 + j, by omega⟩) := by
  unfold argV
  blk_ext! [iblk, V, idx t]

theorem oBlk_at (c : Dev nD) (t : Fin cfg0.N) (r : Fin 1024) (d : Fin 128) :
    oBlk m c t (ix3 0 r d) = attn (argQ m c) (argK m c) (argV m c) ⟨t.val / 64, by have := (idx t).2.2.2.2; omega⟩ ⟨t.val / 8 % 8, by omega⟩
      ⟨t.val % 8 * 1024 + r, by omega⟩ d := by
  have hs : scores (qT (qBlk m c t)) (kBlk m c t) r = scoresA (argQ m c) (argK m c) ⟨t.val / 64, by have := (idx t).2.2.2.2; omega⟩ ⟨t.val / 8 % 8, by omega⟩
      ⟨t.val % 8 * 1024 + r, by omega⟩ := by
    funext n a
    refine Finset.sum_congr rfl fun j _ => ?_
    exact congrArg₂ (fun x y : EReal => x * y) (kBlk_at m c t _ j) ((qT_at _ j r).trans (qBlk_at m c t r j))
  have hv : ∀ d, vals (vBlk m c t) d = valsA (argV m c) ⟨t.val / 64, by have := (idx t).2.2.2.2; omega⟩ ⟨t.val / 8 % 8, by omega⟩ d := by
    intro d; funext n a; exact vBlk_at m c t _ d
  refine (outOf_at _ _ _ d r).trans ?_
  rw [hs, hv, hv]; rfl

theorem final (c : Dev nD) : (dats m 0 c).arrAt 4 (cfgs 0).N = attnArr (argQ m c) (argK m c) (argV m c) := by
  refine (dats m 0 c).arrAt_eq_of_covers 4 _ (by decide +kernel) fun t _ y => ?_
  blk_simp
  rw [after_4]
  obtain ⟨r, d, rfl⟩ : ∃ (r : Fin 1024) (d : Fin 128), y = ix3 0 r d := ⟨y 1, y 2, by
    refine (eq_ix3 y).trans ?_
    exact congrArg (fun z : Fin 1 => ix3 z (y 1) (y 2)) (Subsingleton.elim _ _)⟩
  refine (oBlk_at m c t r d).trans ?_
  unfold attnArr
  have h0 : ((win0_4.blk t).view.emb (ix3 0 r d) 0 : ℕ) = t.val / 64 := by blk_simp [idx t]; simp
  have h1 : ((win0_4.blk t).view.emb (ix3 0 r d) 1 : ℕ) = t.val % 8 * 1024 + r := by blk_simp [idx t]
  have h2 : ((win0_4.blk t).view.emb (ix3 0 r d) 2 : ℕ) = t.val / 8 % 8 * 128 + d := by blk_simp [idx t]
  have hd : (d : ℕ) < 128 := d.isLt
  have e0 := (Fin.ext h0 : (win0_4.blk t).view.emb (ix3 0 r d) 0 = (⟨t.val / 64, by have := (idx t).2.2.2.2; omega⟩ : Fin 8))
  have e1 := (Fin.ext h1 : (win0_4.blk t).view.emb (ix3 0 r d) 1 = (⟨t.val % 8 * 1024 + r, by omega⟩ : Fin 8192))
  exact (congr (congr (congr (congrArg (attn (argQ m c) (argK m c) (argV m c)) e0) (Fin.ext (by show _ / 128 = t.val / 8 % 8; rw [h2]; omega))) e1) (Fin.ext (by show _ % 128 = (d : ℕ); rw [h2]; omega))).symm

end Cert.KernelIdeal.Mla

end
-- ==== Proof.MlaReference.lean ====
/- The reference's attention read at an index: its scores, their softmax along the keys, and the weighted sum of the values. -/
module

public import proofs.«01_k».proof.Proof.Gen.ReferenceIdeal.Run
public import proofs.«01_k».proof.Proof.OnlineSoftmax
public import Idealize.ShloMosaic.Lib.Pointwise

@[expose] public section

set_option maxRecDepth 65536

noncomputable section

namespace Cert.ReferenceIdeal.Mla

open Idealize.ShloMosaic Idealize.ShloMosaic.TcCoe Idealize.ShloMosaic.StableHlo Idealize.SL Idealize.SL.Sem
open Cert.ReferenceIdeal Cert.ReferenceIdeal.Gen
open Cert.Online

/-- An argument by heads. -/
def heads (X : FVec Ideal S8x8192x1024 .bf16) : FVec Ideal S8x8192x8x128 .f32 :=
  shapeCast _ (extf .f32 X bitsLt_bf16_f32) shapeCasts_S8x8192x1024_S8x8192x8x128
/-- The scores, in base e. -/
def scoreArr (Q K : FVec Ideal S8x8192x8x128 .f32) : FVec Ideal S8x8x8192x8192 .f32 :=
  mulf (Host.dotGeneral dot_S8x8192x8x128_S8x8192x8x128_S8x8x8192x8192_3_3_1_1_02_02 none Q K) (broadcastInDim S8x8x8192x8192 ![] bcast_S_S8x8x8192x8192 (Host.log (constant S_ .f32 0x40000000#32)))
/-- Their maximum along the keys. -/
def maxArr (s : FVec Ideal S8x8x8192x8192 .f32) : FVec Ideal S8x8x8192 .f32 :=
  maximumf (broadcastInDim S8x8x8192 ![] bcast_S_S8x8x8192 (constant S_ .f32 0xFF800000#32)) (Host.reduce FloatOps.maximumf s (constant S_ .f32 0xFF800000#32) reducesTo_S8x8x8192x8192_S8x8x8192_d3 h_S_)
/-- A row's number at every key. -/
def spread (x : FVec Ideal S8x8x8192 .f32) : FVec Ideal S8x8x8192x8192 .f32 :=
  broadcastInDim S8x8x8192x8192 ![0, 1, 2, 3] bcast_S8x8x8192x1_S8x8x8192x8192_0_1_2_3 (broadcastInDim S8x8x8192x1 ![0, 1, 2] bcast_S8x8x8192_S8x8x8192x1_0_1_2 x)
/-- The exponentials. -/
def expArr (s : FVec Ideal S8x8x8192x8192 .f32) : FVec Ideal S8x8x8192x8192 .f32 := Host.exp (subf s (spread (maxArr s)))
/-- The softmax. -/
def probArr (e : FVec Ideal S8x8x8192x8192 .f32) : FVec Ideal S8x8x8192x8192 .f32 :=
  Host.divf e (spread (Host.reduceAdd e (constant S_ .f32 0x00000000#32) reducesTo_S8x8x8192x8192_S8x8x8192_d3 h_S_))
/-- The weighted values, back in the layout of the arguments. -/
def outArr (W : FVec Ideal S8x8192x8x128 .f32) (p : FVec Ideal S8x8x8192x8192 .f32) : FVec Ideal S8x8192x1024 .bf16 :=
  truncf .bf16 (shapeCast _ (pad S8x8192x8x128 ![0, 0, 0, 0] ![0, 0, 0, 64] ![0, 0, 0, 0] (transpose S8x8192x8x64 [0, 3, 1, 2] (Host.dotGeneral dot_S8x8192x8x64_S8x8x8192x8192_S8x8x64x8192_1_3_3_2_02_01 none (extractStridedSlice S8x8192x8x64 ![0, 0, 0, 0] W slices_S8x8192x8x128_S8x8192x8x64_0_0_0_0) p) transposes_S8x8x64x8192_S8x8192x8x64_0_3_1_2) (sitofp .f32 (constantI S_ 32 0#32)) pads_S8x8192x8x64_S8x8192x8x128_000_000_000_0640 h_S_) shapeCasts_S8x8192x8x128_S8x8192x1024) bitsLt_bf16_f32

/-- The reference's result, over its arguments. -/
def REF (Q K W : FVec Ideal S8x8192x1024 .bf16) : FVec Ideal S8x8192x1024 .bf16 :=
  outArr (heads W) (probArr (expArr (scoreArr (heads Q) (heads K))))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

theorem ofBits_two : Ideal.ofBits .f32 0x40000000#32 = ((2 : ℝ) : EReal) := by
  simp [Ideal.ofBits, Ideal.ieee]
  rw [← EReal.coe_mul]; norm_num
theorem negInf : Ideal.ofBits .f32 0xFF800000#32 = ⊥ := by
  simp [Ideal.ofBits, Ideal.ieee]

theorem heads_at (X : FVec Ideal S8x8192x1024 .bf16) (b : Fin 8) (p : Fin 8192) (h : Fin 8) (j : Fin 128) :
    heads X (ix4 b p h j) = X (ix3 b p ⟨h * 128 + j, by omega⟩) := by
  pointwise [heads]

theorem scoreArr_at (Q K : FVec Ideal S8x8192x8x128 .f32) (b h : Fin 8) (p k : Fin 8192) :
    scoreArr Q K (ix4 b h p k) = (∑ j : Fin 128, Q (ix4 b p h j) * K (ix4 b k h j)) * ((Real.log 2 : ℝ) : EReal) := by
  pointwise [scoreArr]
  rw [ofBits_two, Ideal.log_coe, if_neg (by norm_num)]

/-- The host's maximum over the last axis, from −∞. -/
theorem hostMax_at {n0 n1 n2 n3 : ℕ} (s : FVec Ideal ⟨4, ![n0, n1, n2, n3]⟩ .f32)
    (h : (⟨4, ![n0, n1, n2, n3]⟩ : Shape).ReducesTo [3] ⟨3, ![n0, n1, n2]⟩) (hu : 0 < S_.numel) (a : Fin n0) (b : Fin n1) (c : Fin n2) :
    Host.reduce (u := S_) FloatOps.maximumf s (constant S_ .f32 0xFF800000#32) h hu (ix3 a b c) = Finset.univ.fold max ⊥ fun k : Fin n3 => s (ix4 a b c k) := by
  pointwise
  rw [negInf]

theorem maxArr_at (s : FVec Ideal S8x8x8192x8192 .f32) (b h : Fin 8) (p : Fin 8192) :
    maxArr s (ix3 b h p) = Finset.univ.fold max ⊥ fun k : Fin 8192 => s (ix4 b h p k) := by
  unfold maxArr
  rw [maximumf_apply]
  refine (congrArg₂ max rfl (hostMax_at s _ _ b h p)).trans ?_
  show max (Ideal.ofBits .f32 0xFF800000#32) _ = _
  rw [negInf, max_eq_right bot_le]

theorem expArr_at (s : FVec Ideal S8x8x8192x8192 .f32) (b h : Fin 8) (p k : Fin 8192) :
    expArr s (ix4 b h p k) = Ideal.exp (s (ix4 b h p k) - maxArr s (ix3 b h p)) := by
  pointwise [expArr, spread]

theorem probArr_at (e : FVec Ideal S8x8x8192x8192 .f32) (b h : Fin 8) (p k : Fin 8192) :
    probArr e (ix4 b h p k) = Ideal.div (e (ix4 b h p k)) (∑ k' : Fin 8192, e (ix4 b h p k')) := by
  pointwise [probArr, spread]

theorem dite_and {p q : Prop} [Decidable p] [Decidable q] (hp : p) (f : p ∧ q → EReal) (a z z' : EReal) (hf : ∀ h, f h = a) (hz : z = z') :
    (if h : p ∧ q then f h else z) = if q then a else z' := by
  by_cases hq : q
  · rw [dif_pos ⟨hp, hq⟩, if_pos hq, hf]
  · rw [dif_neg fun h => hq h.2, if_neg hq, hz]

theorem outArr_at (W : FVec Ideal S8x8192x8x128 .f32) (q : FVec Ideal S8x8x8192x8192 .f32) (b : Fin 8) (p : Fin 8192) (x : Fin 1024) :
    outArr W q (ix3 b p x) = if (x : ℕ) % 128 < 64 then
      ∑ k : Fin 8192, W (ix4 b k ⟨x / 128, by omega⟩ ⟨x % 128, by omega⟩) * q (ix4 b ⟨x / 128, by omega⟩ p k) else 0 := by
  pointwise [outArr]
  refine dite_and (by omega) _ _ _ _ (fun _ => rfl) ?_
  show (((0#32 : BitVec 32).toInt : ℝ) : EReal) = 0
  simp

/-- The score of query `p` and key `k` in head `h`, in base two. -/
def score (Q K : FVec Ideal S8x8192x1024 .bf16) (b h : Fin 8) (p k : Fin 8192) : EReal :=
  ∑ j : Fin 128, Q (ix3 b p ⟨h * 128 + j, by omega⟩) * K (ix3 b k ⟨h * 128 + j, by omega⟩)

/-- The largest score of query `p`, in base e. -/
def top (Q K : FVec Ideal S8x8192x1024 .bf16) (b h : Fin 8) (p : Fin 8192) : EReal :=
  Finset.univ.fold max ⊥ fun k : Fin 8192 => score Q K b h p k * ((Real.log 2 : ℝ) : EReal)

/-- The reference's result read at an index. -/
theorem REF_at (Q K W : FVec Ideal S8x8192x1024 .bf16) (b : Fin 8) (p : Fin 8192) (h : Fin 8) (d : Fin 128) :
    REF Q K W (ix3 b p ⟨h * 128 + d, by omega⟩) = if (d : ℕ) < 64 then
      ∑ k : Fin 8192, W (ix3 b k ⟨h * 128 + d, by omega⟩) * Ideal.div (Ideal.exp (score Q K b h p k * ((Real.log 2 : ℝ) : EReal) - top Q K b h p))
        (∑ k' : Fin 8192, Ideal.exp (score Q K b h p k' * ((Real.log 2 : ℝ) : EReal) - top Q K b h p)) else 0 := by
  have h1 : (⟨(h * 128 + d : ℕ) / 128, by omega⟩ : Fin 8) = h := Fin.ext (by show (h * 128 + d : ℕ) / 128 = h; omega)
  have h2 : (⟨(h * 128 + d : ℕ) % 128, by omega⟩ : Fin 128) = d := Fin.ext (by show (h * 128 + d : ℕ) % 128 = d; omega)
  unfold REF
  rw [outArr_at]
  simp only [h1, h2]
  have h3 : (h * 128 + d : ℕ) % 128 = d := by omega
  simp only [h3, probArr_at, expArr_at, maxArr_at, scoreArr_at, heads_at, score, top]

end Cert.ReferenceIdeal.Mla

end
-- ==== Proof.MlaEqual.lean ====
/- The attention kernel's array is the reference's: for finite queries and keys, and ones in the lane after the values. -/
module

public import proofs.«01_k».proof.Proof.MlaKernelIdealValue
public import proofs.«01_k».proof.Proof.MlaReference
public import proofs.«01_k».proof.Pre_finite_with_ones

@[expose] public section

set_option maxRecDepth 65536

noncomputable section

namespace Cert.MlaEqual

open Idealize.ShloMosaic Idealize.ShloMosaic.TcCoe
open Cert.Online Cert.KernelIdeal.Mla
open Cert.ReferenceIdeal (S8x8192x1024)

/-- A sum over the keys, block by block. -/
theorem sum_keys (f : Fin 8192 → EReal) : ∑ k : Fin 8192, f k = ∑ i : Fin 16, ∑ a : Fin 512, f (row i a) := by
  rw [Fin.sum_univ_tiles 16 512 rfl f]
  refine Finset.sum_congr rfl fun i _ => Finset.sum_congr rfl fun a _ => congrArg f (Fin.ext ?_)
  show (i : ℕ) * 512 + a = 512 * (i % 16) + a
  omega

variable (Q K W : FVec Ideal S8x8192x1024 .bf16)

theorem score_eq (b h : Fin 8) (p : Fin 8192) (n : ℕ) (a : Fin 512) :
    Cert.ReferenceIdeal.Mla.score Q K b h p (row n a) = scoresA Q K b h p n a :=
  Finset.sum_congr rfl fun j _ => mul_comm _ _

theorem isFin_scores (hQ : ∀ i, IsFin (Q i)) (hK : ∀ i, IsFin (K i)) (b h : Fin 8) (p : Fin 8192) (n : ℕ) (a : Fin 512) :
    IsFin (scoresA Q K b h p n a) := IsFin.sum _ _ fun j _ => (hK _).mul (hQ _)

theorem isFin_top (hQ : ∀ i, IsFin (Q i)) (hK : ∀ i, IsFin (K i)) (b h : Fin 8) (p : Fin 8192) :
    IsFin (Cert.ReferenceIdeal.Mla.top Q K b h p) :=
  isFin_fold _ fun k => (IsFin.sum _ _ fun j _ => (hQ _).mul (hK _)).mul ⟨_, rfl⟩

theorem attn_eq (hQ : ∀ i, IsFin (Q i)) (hK : ∀ i, IsFin (K i))
    (hW : ∀ (b h : Fin 8) (p : Fin 8192), W (ix3 b p ⟨h * 128 + 64, by omega⟩) = 1) (b h : Fin 8) (p : Fin 8192) (d : Fin 128) :
    attn Q K W b h p d = Cert.ReferenceIdeal.Mla.REF Q K W (ix3 b p ⟨h * 128 + d, by omega⟩) := by
  refine Eq.trans ?_ (Cert.ReferenceIdeal.Mla.REF_at Q K W b p h d).symm
  unfold attn
  refine if_congr Iff.rfl ?_ rfl
  have hone : valsA W b h 64 = fun _ _ => 1 := by funext n a; exact hW b h _
  rw [hone]
  refine (flash_eq (scoresA Q K b h p) (valsA W b h d) (isFin_scores Q K hQ hK b h p) 15 _ (isFin_top Q K hQ hK b h p)).trans ?_
  rw [sum_keys, sum_keys]
  simp only [score_eq]
  rfl

theorem arr_eq (hQ : ∀ i, IsFin (Q i)) (hK : ∀ i, IsFin (K i))
    (hW : ∀ (b h : Fin 8) (p : Fin 8192), W (ix3 b p ⟨h * 128 + 64, by omega⟩) = 1) :
    attnArr Q K W = Cert.ReferenceIdeal.Mla.REF Q K W := by
  funext i
  obtain ⟨b, p, x, rfl⟩ : ∃ (b : Fin 8) (p : Fin 8192) (x : Fin 1024), i = ix3 b p x := ⟨i 0, i 1, i 2, eq_ix3 i⟩
  refine (attn_eq Q K W hQ hK hW b ⟨x / 128, by omega⟩ p ⟨x % 128, by omega⟩).trans ?_
  refine congrArg (fun y : Fin 1024 => Cert.ReferenceIdeal.Mla.REF Q K W (ix3 b p y)) (Fin.ext ?_)
  show (x : ℕ) / 128 * 128 + x % 128 = x
  omega

/-- The precondition's shapes agree. -/
theorem facts : Cert.Pre_finite_with_ones.Facts where
  bcast_S_S8x8192x1024 := by decide
  shapeCasts_S8x8192x1024_S8x8192x8x128 := by decide
  slices_S8x8192x8x128_S8x8192x8x1_0_0_0_64 := by decide
  bcast_S_S8x8192x8x1 := by decide
  bcast_S8x8192x8x1_S8x8192x8x128_0_1_2_3 := by decide

theorem ofBits_inf : Ideal.ofBits .bf16 0x7F80#16 = ⊤ := by simp [Ideal.ofBits, Ideal.ieee]

theorem isFin_of_abs {x : EReal} (h : max x (-x) < ⊤) : IsFin x := by
  refine (isFin_iff x).mpr ⟨fun e => ?_, fun e => ?_⟩ <;> subst e <;> simp at h

theorem bits_and {a b c : Bool} (e : IntOp.andi (IntOp.andi (BitVec.ofBool a) (BitVec.ofBool b)) (BitVec.ofBool c) = 1#1) :
    a = true ∧ b = true ∧ c = true := by
  revert e; cases a <;> cases b <;> cases c <;> decide

/-- The precondition read at an index. -/
theorem pre_at (H : letI := facts; Cert.Pre_finite_with_ones.fn (F := Ideal) Q K W = fun _ => 1#1) (b h : Fin 8) (p : Fin 8192) (j : Fin 128) :
    IsFin (Q (ix3 b p ⟨h * 128 + j, by omega⟩)) ∧ IsFin (K (ix3 b p ⟨h * 128 + j, by omega⟩)) ∧ W (ix3 b p ⟨h * 128 + 64, by omega⟩) = 1 := by
  have e := congrFun H (ix4 b p h j)
  unfold Cert.Pre_finite_with_ones.fn at e
  pointwise at e
  obtain ⟨h1, h2, h3⟩ := bits_and e
  have t1 := of_decide_eq_true h1
  have t2 := of_decide_eq_true h2
  rw [ofBits_inf] at t1 t2
  exact ⟨isFin_of_abs t1, isFin_of_abs t2, of_decide_eq_true h3⟩

/-- Under the precondition the kernel's array is the reference's. -/
theorem arr_eq_of_pre (H : letI := facts; Cert.Pre_finite_with_ones.fn (F := Ideal) Q K W = fun _ => 1#1) :
    attnArr Q K W = Cert.ReferenceIdeal.Mla.REF Q K W := by
  have at_idx : ∀ i : S8x8192x1024.Idx, ∃ (b h : Fin 8) (p : Fin 8192) (j : Fin 128), i = ix3 b p ⟨h * 128 + j, by omega⟩ := fun i => by
    obtain ⟨b, p, x, rfl⟩ : ∃ (b : Fin 8) (p : Fin 8192) (x : Fin 1024), i = ix3 b p x := ⟨i 0, i 1, i 2, eq_ix3 i⟩
    refine ⟨b, ⟨x / 128, by omega⟩, p, ⟨x % 128, by omega⟩, congrArg (ix3 b p) (Fin.ext ?_)⟩
    show (x : ℕ) = x / 128 * 128 + x % 128
    omega
  refine arr_eq Q K W (fun i => ?_) (fun i => ?_) fun b h p => (pre_at Q K W H b h p 0).2.2
  · obtain ⟨b, h, p, j, rfl⟩ := at_idx i
    exact (pre_at Q K W H b h p j).1
  · obtain ⟨b, h, p, j, rfl⟩ := at_idx i
    exact (pre_at Q K W H b h p j).2.1

end Cert.MlaEqual

end
-- ==== Proof.MoeKernelIdealPoint.lean ====
/- What one point of the mixture kernel leaves in its accumulator and its outputs, as values of the blocks it reads: the first point of
   a row block starts the accumulator with the shared expert, every point adds four experts to it, and the last one writes the layer norm. -/
module

public import proofs.«01_k».proof.Proof.Gen.Kernel2Ideal.Value

@[expose] public section

set_option maxRecDepth 65536

noncomputable section

namespace Cert.Kernel2Ideal.Moe

open Idealize.ShloMosaic Idealize.ShloMosaic.TcCoe
open Cert.Kernel2Ideal Cert.Kernel2Ideal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The first, second, third and fourth expert of a block of weights. -/
def w0 (w : Vec F S4x1024x256 .bf16) : Vec F S1x1024x256 .bf16 :=
  View.ld w (Rect.unit (s := S4x1024x256) ![0, 0, 0] S1x1024x256.size inb_S4x1024x256_S1x1024x256_0_0_0)
def w1 (w : Vec F S4x1024x256 .bf16) : Vec F S1x1024x256 .bf16 :=
  View.ld w (Rect.unit (s := S4x1024x256) ![1, 0, 0] S1x1024x256.size inb_S4x1024x256_S1x1024x256_1_0_0)
def w2 (w : Vec F S4x1024x256 .bf16) : Vec F S1x1024x256 .bf16 :=
  View.ld w (Rect.unit (s := S4x1024x256) ![2, 0, 0] S1x1024x256.size inb_S4x1024x256_S1x1024x256_2_0_0)
def w3 (w : Vec F S4x1024x256 .bf16) : Vec F S1x1024x256 .bf16 :=
  View.ld w (Rect.unit (s := S4x1024x256) ![3, 0, 0] S1x1024x256.size inb_S4x1024x256_S1x1024x256_3_0_0)

/-- The accumulator after a point: `acc` and the point's four experts. -/
def addExperts (xb : Vec F S1024x1024 .bf16) (g : Vec F S1x1024x4 .f32) (wg wu : Vec F S4x1024x256 .bf16) (wd : Vec F S1024x1024 .bf16)
    (acc : Vec F S1024x1024 .f32) : Vec F S1024x1024 .f32 :=
  k0_pay8 (k0_pay3 xb) (k0_pay5 g) (k0_pay6 xb g (w0 wg) (w0 wu)) (k0_pay7 xb g (w1 wg) (w1 wu)) (w2 wg) (w2 wu) (w3 wg) (w3 wu) acc wd

variable (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024x4 .f32) (harg4 : arg4.IsWhole)
    (arg5 : Memref sig .tc .vmem S4x1024x256 .bf16) (harg5 : arg5.IsWhole) (arg6 : Memref sig .tc .vmem S4x1024x256 .bf16) (harg6 : arg6.IsWhole) (arg7 : Memref sig .tc .vmem S1024x1024 .bf16) (harg7 : arg7.IsWhole)
    (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole)
    (arg14 : Memref sig .tc .vmem S1024x1024 .bf16) (harg14 : arg14.IsWhole) (arg15 : Memref sig .tc .vmem S1024x1024 .f32) (harg15 : arg15.IsWhole)
    (x0 : Vec F S1024x1024 .f32) (x1 : Vec F S1024x1024 .bf16) (x2 : Vec F S1x1024x4 .f32) (x3 : Vec F S4x1024x256 .bf16)
    (x4 : Vec F S4x1024x256 .bf16) (x5 : Vec F S1024x1024 .bf16) (x6 : Vec F S1024x256 .bf16) (x7 : Vec F S1024x256 .bf16)
    (x8 : Vec F S256x1024 .bf16) (x9 : Vec F S1x1024 .f32) (x10 : Vec F S1x1024 .f32)

/-- The first point: the shared expert, then four experts. -/
theorem first_acc (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1
      x0 x1 x2 x3 x4 x5 x6 x7 x8 x9 x10 = addExperts x1 x2 x3 x4 x5 (k0_pay4 x1 x6 x7 x8) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S1024x1024) hz, View.readCov_unit_zero (S := S1024x1024) _ hz]
  unfold addExperts w0 w1 w2 w3
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1024) hz, View.ld_unit_zero (S := S1x1024x4) hz3, View.ld_unit_zero (S := S1024x256) hz, View.ld_unit_zero (S := S256x1024) hz, View.ld_unit_zero (S := S1x1024) hz]

variable (xs0 : Vec F S1024x1024 .f32)

/-- A middle point: four experts more. -/
theorem middle_acc (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1
      x0 x1 x2 x3 x4 x5 x6 x7 x8 x9 x10 xs0 = addExperts x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_B
  dsimp only
  sl_unfold_words
  rw [View.canon_unit_zero (S := S1024x1024) hz]
  unfold addExperts w0 w1 w2 w3
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1024) hz, View.ld_unit_zero (S := S1x1024x4) hz3, View.ld_unit_zero (S := S1024x256) hz, View.ld_unit_zero (S := S256x1024) hz, View.ld_unit_zero (S := S1x1024) hz]

/-- The last point: the layer norm of the block and the accumulator with four experts more. -/
theorem last_out (hc0 : ¬cond0_0 i) (hc1 : cond0_1 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1
      x0 x1 x2 x3 x4 x5 x6 x7 x8 x9 x10 xs0 = k0_pay1 x0 (addExperts x1 x2 x3 x4 x5 xs0) x9 x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_C
  dsimp only
  sl_unfold_words
  rw [View.canon_unit_zero (S := S1024x1024) hz, View.readCov_unit_zero (S := S1024x1024) _ hz]
  unfold addExperts w0 w1 w2 w3
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1024) hz, View.ld_unit_zero (S := S1x1024x4) hz3, View.ld_unit_zero (S := S1024x256) hz, View.ld_unit_zero (S := S256x1024) hz, View.ld_unit_zero (S := S1x1024) hz]
theorem last_out16 (hc0 : ¬cond0_0 i) (hc1 : cond0_1 i) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1
      x0 x1 x2 x3 x4 x5 x6 x7 x8 x9 x10 xs0 = k0_pay2 x0 (addExperts x1 x2 x3 x4 x5 xs0) x9 x10 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_C
  dsimp only
  sl_unfold_words
  rw [View.canon_unit_zero (S := S1024x1024) hz, View.readCov_unit_zero (S := S1024x1024) _ hz]
  unfold addExperts w0 w1 w2 w3
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1024) hz, View.ld_unit_zero (S := S1x1024x4) hz3, View.ld_unit_zero (S := S1024x256) hz, View.ld_unit_zero (S := S256x1024) hz, View.ld_unit_zero (S := S1x1024) hz]

end Cert.Kernel2Ideal.Moe

end
-- ==== Proof.MoeKernelIdealPay.lean ====
/- The mixture kernel's arithmetic read at an index: an expert's hidden units, the weighted sum down, the shared expert, the layer norm. -/
module

public import proofs.«01_k».proof.Proof.MoeKernelIdealPoint
public import Idealize.ShloMosaic.Lib.Pointwise
public import Idealize.ShloMosaic.Lib.Pipeline.ValueKit

@[expose] public section

set_option maxRecDepth 65536

noncomputable section

namespace Cert.Kernel2Ideal.Moe

open Idealize.ShloMosaic Idealize.ShloMosaic.TcCoe
open Cert.Kernel2Ideal Cert.Kernel2Ideal.Gen

/-- One hidden unit: `silu (x · g) * (x · u)`. -/
def hidden {n : ℕ} (x g u : Fin n → EReal) : EReal :=
  (∑ d, x d * g d) * Ideal.logistic (∑ d, x d * g d) * ∑ d, x d * u d

/-- The layer norm of a row `z`, at `z j`. -/
def lnAt (z : Fin 1024 → EReal) (j : Fin 1024) (g b : EReal) : EReal :=
  (z j - Ideal.div (∑ i, z i) (Ideal.ofBits .f32 0x44800000#32))
    * Ideal.rsqrt (Ideal.div (∑ k, (z k - Ideal.div (∑ i, z i) (Ideal.ofBits .f32 0x44800000#32)) * (z k - Ideal.div (∑ i, z i) (Ideal.ofBits .f32 0x44800000#32)))
        (Ideal.ofBits .f32 0x44800000#32) + Ideal.ofBits .f32 0x3727C5AC#32) * g + b

theorem pay6_at (xb : FVec Ideal S1024x1024 .bf16) (g : FVec Ideal S1x1024x4 .f32) (wg wu : FVec Ideal S1x1024x256 .bf16) (r : Fin 1024) (k : Fin 256) :
    k0_pay6 (F := Ideal) xb g wg wu (ix2 r k) = hidden (fun d => xb (ix2 r d)) (fun d => wg (ix3 0 d k)) (fun d => wu (ix3 0 d k)) * g (ix3 0 r 0) := by
  pointwise [k0_pay6, k0_pay3, k0_pay5]
  rfl
theorem pay7_at (xb : FVec Ideal S1024x1024 .bf16) (g : FVec Ideal S1x1024x4 .f32) (wg wu : FVec Ideal S1x1024x256 .bf16) (r : Fin 1024) (k : Fin 256) :
    k0_pay7 (F := Ideal) xb g wg wu (ix2 r k) = hidden (fun d => xb (ix2 r d)) (fun d => wg (ix3 0 d k)) (fun d => wu (ix3 0 d k)) * g (ix3 0 r 1) := by
  pointwise [k0_pay7, k0_pay3, k0_pay5]
  rfl

/-- A sum over four columns of 256 laid side by side. -/
theorem sum_beside (A B C D : Fin 256 → EReal) (w : Fin 1024 → EReal) :
    ∑ x : Fin 1024, (if h : (x : ℕ) < 256 then A ⟨x, h⟩ else if h : (x : ℕ) - 256 < 256 then B ⟨x - 256, h⟩
        else if h : (x : ℕ) - 256 - 256 < 256 then C ⟨x - 256 - 256, h⟩ else D ⟨x - 256 - 256 - 256, by omega⟩) * w x
      = ∑ e : Fin 4, ∑ k : Fin 256, (![A, B, C, D] e) k * w ⟨e * 256 + k, by omega⟩ := by
  rw [Fin.sum_univ_tiles 4 256 rfl]
  refine Finset.sum_congr rfl fun e _ => Finset.sum_congr rfl fun k _ => congrArg (fun y : EReal => y * w ⟨e * 256 + k, by omega⟩) ?_
  have hk : (k : ℕ) < 256 := k.isLt
  fin_cases e
  · refine (dif_pos (by show 0 * 256 + (k : ℕ) < 256; omega)).trans (congrArg A (Fin.ext ?_))
    show 0 * 256 + (k : ℕ) = k
    omega
  · refine (dif_neg (by show ¬ 1 * 256 + (k : ℕ) < 256; omega)).trans ((dif_pos (by show 1 * 256 + (k : ℕ) - 256 < 256; omega)).trans (congrArg B (Fin.ext ?_)))
    show 1 * 256 + (k : ℕ) - 256 = k
    omega
  · refine (dif_neg (by show ¬ 2 * 256 + (k : ℕ) < 256; omega)).trans ((dif_neg (by show ¬ 2 * 256 + (k : ℕ) - 256 < 256; omega)).trans
      ((dif_pos (by show 2 * 256 + (k : ℕ) - 256 - 256 < 256; omega)).trans (congrArg C (Fin.ext ?_))))
    show 2 * 256 + (k : ℕ) - 256 - 256 = k
    omega
  · refine (dif_neg (by show ¬ 3 * 256 + (k : ℕ) < 256; omega)).trans ((dif_neg (by show ¬ 3 * 256 + (k : ℕ) - 256 < 256; omega)).trans
      ((dif_neg (by show ¬ 3 * 256 + (k : ℕ) - 256 - 256 < 256; omega)).trans (congrArg D (Fin.ext ?_))))
    show 3 * 256 + (k : ℕ) - 256 - 256 - 256 = k
    omega

theorem w0_at (w : FVec Ideal S4x1024x256 .bf16) (d : Fin 1024) (k : Fin 256) : w0 (F := Ideal) w (ix3 0 d k) = w (ix3 0 d k) := by
  refine congrArg w (funext fun i => Fin.ext ?_)
  fin_cases i
  · rfl
  · show 0 + 1 * (d : ℕ) = d
    omega
  · show 0 + 1 * (k : ℕ) = k
    omega
theorem w1_at (w : FVec Ideal S4x1024x256 .bf16) (d : Fin 1024) (k : Fin 256) : w1 (F := Ideal) w (ix3 0 d k) = w (ix3 1 d k) := by
  refine congrArg w (funext fun i => Fin.ext ?_)
  fin_cases i
  · rfl
  · show 0 + 1 * (d : ℕ) = d
    omega
  · show 0 + 1 * (k : ℕ) = k
    omega
theorem w2_at (w : FVec Ideal S4x1024x256 .bf16) (d : Fin 1024) (k : Fin 256) : w2 (F := Ideal) w (ix3 0 d k) = w (ix3 2 d k) := by
  refine congrArg w (funext fun i => Fin.ext ?_)
  fin_cases i
  · rfl
  · show 0 + 1 * (d : ℕ) = d
    omega
  · show 0 + 1 * (k : ℕ) = k
    omega
theorem w3_at (w : FVec Ideal S4x1024x256 .bf16) (d : Fin 1024) (k : Fin 256) : w3 (F := Ideal) w (ix3 0 d k) = w (ix3 3 d k) := by
  refine congrArg w (funext fun i => Fin.ext ?_)
  fin_cases i
  · rfl
  · show 0 + 1 * (d : ℕ) = d
    omega
  · show 0 + 1 * (k : ℕ) = k
    omega

/-- What the four experts of a block add at `(r, j)`. -/
def experts (xb : FVec Ideal S1024x1024 .bf16) (g : FVec Ideal S1x1024x4 .f32) (wg wu : FVec Ideal S4x1024x256 .bf16) (wd : FVec Ideal S1024x1024 .bf16)
    (r j : Fin 1024) : EReal :=
  ∑ e : Fin 4, ∑ k : Fin 256, hidden (fun d => xb (ix2 r d)) (fun d => wg (ix3 e d k)) (fun d => wu (ix3 e d k)) * g (ix3 0 r e) * wd (ix2 ⟨e * 256 + k, by omega⟩ j)

theorem addExperts_at (xb : FVec Ideal S1024x1024 .bf16) (g : FVec Ideal S1x1024x4 .f32) (wg wu : FVec Ideal S4x1024x256 .bf16) (wd : FVec Ideal S1024x1024 .bf16)
    (acc : FVec Ideal S1024x1024 .f32) (r j : Fin 1024) :
    addExperts (F := Ideal) xb g wg wu wd acc (ix2 r j) = acc (ix2 r j) + experts xb g wg wu wd r j := by
  pointwise [addExperts, k0_pay8, k0_pay3, k0_pay5]
  refine congrArg (acc (ix2 r j) + ·) (Eq.trans (sum_beside
    (fun k => k0_pay6 (F := Ideal) xb g (w0 (F := Ideal) wg) (w0 (F := Ideal) wu) (ix2 r k))
    (fun k => k0_pay7 (F := Ideal) xb g (w1 (F := Ideal) wg) (w1 (F := Ideal) wu) (ix2 r k))
    (fun k => hidden (fun d => xb (ix2 r d)) (fun d => w2 (F := Ideal) wg (ix3 0 d k)) (fun d => w2 (F := Ideal) wu (ix3 0 d k)) * g (ix3 0 r 2))
    (fun k => hidden (fun d => xb (ix2 r d)) (fun d => w3 (F := Ideal) wg (ix3 0 d k)) (fun d => w3 (F := Ideal) wu (ix3 0 d k)) * g (ix3 0 r 3))
    (fun x => wd (ix2 x j))) ?_)
  refine Finset.sum_congr rfl fun e _ => Finset.sum_congr rfl fun k _ => congrArg (fun y : EReal => y * wd (ix2 ⟨e * 256 + k, by omega⟩ j)) ?_
  fin_cases e
  · refine (pay6_at _ _ _ _ r k).trans ?_
    simp only [w0_at]; rfl
  · refine (pay7_at _ _ _ _ r k).trans ?_
    simp only [w1_at]; rfl
  · show hidden _ _ _ * _ = _
    simp only [w2_at]; rfl
  · show hidden _ _ _ * _ = _
    simp only [w3_at]; rfl

theorem pay4_at (xb : FVec Ideal S1024x1024 .bf16) (wg wu : FVec Ideal S1024x256 .bf16) (wd : FVec Ideal S256x1024 .bf16) (r j : Fin 1024) :
    k0_pay4 (F := Ideal) xb wg wu wd (ix2 r j)
      = ∑ k : Fin 256, hidden (fun d => xb (ix2 r d)) (fun d => wg (ix2 d k)) (fun d => wu (ix2 d k)) * wd (ix2 k j) := by
  pointwise [k0_pay4, k0_pay3]
  rfl

theorem pay1_at (x acc : FVec Ideal S1024x1024 .f32) (g b : FVec Ideal S1x1024 .f32) (r j : Fin 1024) :
    k0_pay1 (F := Ideal) x acc g b (ix2 r j)
      = lnAt (fun k => Ideal.ofBits .f32 0x3FB504F3#32 * x (ix2 r k) + acc (ix2 r k)) j (g (ix2 0 j)) (b (ix2 0 j)) := by
  pointwise [k0_pay1]
  rfl

theorem pay2_at (x acc : FVec Ideal S1024x1024 .f32) (g b : FVec Ideal S1x1024 .f32) (r j : Fin 1024) :
    k0_pay2 (F := Ideal) x acc g b (ix2 r j) = k0_pay1 (F := Ideal) x acc g b (ix2 r j) := by
  pointwise [k0_pay2]

end Cert.Kernel2Ideal.Moe

end
-- ==== Proof.MoeKernelIdealBlocks.lean ====
/- The blocks the mixture kernel reads at a point, in the argument arrays. -/
module

public import proofs.«01_k».proof.Proof.MoeKernelIdealPay
public import Idealize.ShloMosaic.Lib.StableHlo.Run

@[expose] public section

set_option maxRecDepth 65536

noncomputable section

namespace Cert.Kernel2Ideal.Moe

open Idealize.ShloMosaic Idealize.ShloMosaic.TcCoe
open Cert.Kernel2Ideal Cert.Kernel2Ideal.Gen

variable (m : (ℓ : Loc nD τ sig) → Buf (Elt Ideal) ℓ) (c : Dev nD)

/-- The arguments: the stream, the gates, the experts' and the shared expert's weights, the layer norm's gain and bias. -/
def argX : FVec Ideal S65536x1024 .f32 := m ((c.tc : Thread nD τ).loc main_arg0)
def argG : FVec Ideal S16x65536 .f32 := m ((c.tc : Thread nD τ).loc main_arg1)
def argWg : FVec Ideal S16x1024x256 .f32 := m ((c.tc : Thread nD τ).loc main_arg2)
def argWu : FVec Ideal S16x1024x256 .f32 := m ((c.tc : Thread nD τ).loc main_arg3)
def argWd : FVec Ideal S16x256x1024 .f32 := m ((c.tc : Thread nD τ).loc main_arg4)
def argSg : FVec Ideal S1024x256 .f32 := m ((c.tc : Thread nD τ).loc main_arg5)
def argSu : FVec Ideal S1024x256 .f32 := m ((c.tc : Thread nD τ).loc main_arg6)
def argSd : FVec Ideal S256x1024 .f32 := m ((c.tc : Thread nD τ).loc main_arg7)
def argLg : FVec Ideal S1024 .f32 := m ((c.tc : Thread nD τ).loc main_arg8)
def argLb : FVec Ideal S1024 .f32 := m ((c.tc : Thread nD τ).loc main_arg9)

/-- What the host prepares of them. -/
theorem V_v0 : V m c main_v0 = truncf .bf16 (argX m c) bitsLt_bf16_f32 := by
  unfold_abbrev_sides; unfold argX; unfold hostOps0; after_results_simp
theorem V_v1 : V m c main_v1 = truncf .bf16 (argWg m c) bitsLt_bf16_f32 := by
  unfold_abbrev_sides; unfold argWg; unfold hostOps0; after_results_simp
theorem V_v2 : V m c main_v2 = truncf .bf16 (argWu m c) bitsLt_bf16_f32 := by
  unfold_abbrev_sides; unfold argWu; unfold hostOps0; after_results_simp
theorem V_v4 : V m c main_v4 = truncf .bf16 (shapeCast S4096x1024 (argWd m c) shapeCasts_S16x256x1024_S4096x1024) bitsLt_bf16_f32 := by
  unfold_abbrev_sides; unfold argWd; unfold hostOps0; after_results_simp; rfl
theorem V_v5 : V m c main_v5 = truncf .bf16 (argSg m c) bitsLt_bf16_f32 := by
  unfold_abbrev_sides; unfold argSg; unfold hostOps0; after_results_simp
theorem V_v6 : V m c main_v6 = truncf .bf16 (argSu m c) bitsLt_bf16_f32 := by
  unfold_abbrev_sides; unfold argSu; unfold hostOps0; after_results_simp
theorem V_v7 : V m c main_v7 = truncf .bf16 (argSd m c) bitsLt_bf16_f32 := by
  unfold_abbrev_sides; unfold argSd; unfold hostOps0; after_results_simp
theorem V_v9 : V m c main_v9 = transpose S4x65536x4 [0, 2, 1] (shapeCast S4x4x65536 (argG m c) shapeCasts_S16x65536_S4x4x65536) transposes_S4x4x65536_S4x65536x4_0_2_1 := by
  unfold_abbrev_sides; unfold argG; unfold hostOps0; after_results_simp; rfl
theorem V_v10 : V m c main_v10 = shapeCast S1x1024 (argLg m c) shapeCasts_S1024_S1x1024 := by
  unfold_abbrev_sides; unfold argLg; unfold hostOps0; after_results_simp; rfl
theorem V_v11 : V m c main_v11 = shapeCast S1x1024 (argLb m c) shapeCasts_S1024_S1x1024 := by
  unfold_abbrev_sides; unfold argLb; unfold hostOps0; after_results_simp; rfl

theorem idx : ∀ t : Fin cfg0.N, win0_0.index t = ![t.val / 4, 0] ∧ win0_1.index t = ![t.val / 4, 0] ∧ win0_2.index t = ![t.val % 4, t.val / 4, 0]
    ∧ win0_3.index t = ![t.val % 4, 0, 0] ∧ win0_4.index t = ![t.val % 4, 0, 0] ∧ win0_5.index t = ![t.val % 4, 0]
    ∧ win0_6.index t = ![0, 0] ∧ win0_7.index t = ![0, 0] ∧ win0_8.index t = ![0, 0] ∧ win0_9.index t = ![0, 0] ∧ win0_10.index t = ![0, 0]
    ∧ win0_11.index t = ![t.val / 4, 0] ∧ win0_12.index t = ![t.val / 4, 0] ∧ t.val < 256 :=
  (by decide +kernel : ∀ t : Fin grid0.N, _)

theorem blk_lt (t : Fin cfg0.N) : t.val / 4 < 64 := by have := (idx t).2.2.2.2.2.2.2.2.2.2.2.2.2; omega

variable (t : Fin cfg0.N)

/-- Row `r` of the point's block. -/
def row (r : Fin 1024) : Fin 65536 := ⟨t.val / 4 * 1024 + r, by have := blk_lt t; omega⟩
/-- Expert `e` of the point's four. -/
def expert (e : Fin 4) : Fin 16 := ⟨t.val % 4 * 4 + e, by omega⟩

theorem x_at (r j : Fin 1024) : iblk m c 0 t (ix2 r j) = argX m c (ix2 (row t r) j) := by
  have h : iblk m c 0 t (ix2 r j) = V m c main_arg0 (ix2 (row t r) j) := by
    unfold row; blk_ext! [iblk, idx t]
  rw [h, V_main_arg0]; rfl
theorem xb_at (r j : Fin 1024) : iblk m c 1 t (ix2 r j) = argX m c (ix2 (row t r) j) := by
  have h : iblk m c 1 t (ix2 r j) = V m c main_v0 (ix2 (row t r) j) := by
    unfold row; blk_ext! [iblk, idx t]
  rw [h, V_v0]; rfl
theorem g_at (r : Fin 1024) (e : Fin 4) : iblk m c 2 t (ix3 0 r e) = argG m c (ix2 (expert t e) (row t r)) := by
  have h : iblk m c 2 t (ix3 0 r e) = V m c main_v9 (ix3 (⟨t.val % 4, by omega⟩ : Fin 4) (row t r) e) := by
    unfold row; blk_ext! [iblk, idx t]
  rw [h, V_v9]
  unfold expert
  pointwise
theorem wg_at (e : Fin 4) (d : Fin 1024) (k : Fin 256) : iblk m c 3 t (ix3 e d k) = argWg m c (ix3 (expert t e) d k) := by
  have h : iblk m c 3 t (ix3 e d k) = V m c main_v1 (ix3 (expert t e) d k) := by
    unfold expert; blk_ext! [iblk, idx t]
  rw [h, V_v1]; rfl
theorem wu_at (e : Fin 4) (d : Fin 1024) (k : Fin 256) : iblk m c 4 t (ix3 e d k) = argWu m c (ix3 (expert t e) d k) := by
  have h : iblk m c 4 t (ix3 e d k) = V m c main_v2 (ix3 (expert t e) d k) := by
    unfold expert; blk_ext! [iblk, idx t]
  rw [h, V_v2]; rfl
theorem wd_at (e : Fin 4) (k : Fin 256) (j : Fin 1024) :
    iblk m c 5 t (ix2 ⟨e * 256 + k, by omega⟩ j) = argWd m c (ix3 (expert t e) k j) := by
  have h : iblk m c 5 t (ix2 ⟨e * 256 + k, by omega⟩ j) = V m c main_v4 (ix2 (⟨t.val % 4 * 1024 + (e * 256 + k), by omega⟩ : Fin 4096) j) := by
    blk_ext! [iblk, idx t]
  rw [h, V_v4]
  pointwise
  refine congrArg (fun x : Fin 16 => argWd m c (ix3 x k j)) (Fin.ext ?_)
  show (t.val % 4 * 1024 + ((e : ℕ) * 256 + k)) / 256 = t.val % 4 * 4 + e
  omega
theorem sg_at (d : Fin 1024) (k : Fin 256) : iblk m c 6 t (ix2 d k) = argSg m c (ix2 d k) := by
  have h : iblk m c 6 t (ix2 d k) = V m c main_v5 (ix2 d k) := by blk_ext! [iblk, idx t]
  rw [h, V_v5]; rfl
theorem su_at (d : Fin 1024) (k : Fin 256) : iblk m c 7 t (ix2 d k) = argSu m c (ix2 d k) := by
  have h : iblk m c 7 t (ix2 d k) = V m c main_v6 (ix2 d k) := by blk_ext! [iblk, idx t]
  rw [h, V_v6]; rfl
theorem sd_at (k : Fin 256) (j : Fin 1024) : iblk m c 8 t (ix2 k j) = argSd m c (ix2 k j) := by
  have h : iblk m c 8 t (ix2 k j) = V m c main_v7 (ix2 k j) := by blk_ext! [iblk, idx t]
  rw [h, V_v7]; rfl
theorem lg_at (j : Fin 1024) : iblk m c 9 t (ix2 0 j) = argLg m c (ix1 j) := by
  have h : iblk m c 9 t (ix2 0 j) = V m c main_v10 (ix2 (0 : Fin 1) j) := by blk_ext! [iblk, idx t]
  rw [h, V_v10]
  pointwise
theorem lb_at (j : Fin 1024) : iblk m c 10 t (ix2 0 j) = argLb m c (ix1 j) := by
  have h : iblk m c 10 t (ix2 0 j) = V m c main_v11 (ix2 (0 : Fin 1) j) := by blk_ext! [iblk, idx t]
  rw [h, V_v11]
  pointwise

end Cert.Kernel2Ideal.Moe

end
-- ==== Proof.MoeKernelIdealValue.lean ====
/- The arrays the mixture kernel leaves: over a row block's four points the accumulator gathers the shared expert and the sixteen
   experts, and the row blocks tile the output arrays. -/
module

public import proofs.«01_k».proof.Proof.MoeKernelIdealBlocks

@[expose] public section

set_option maxRecDepth 65536

noncomputable section

namespace Cert.Kernel2Ideal.Moe

open Idealize.ShloMosaic Idealize.ShloMosaic.TcCoe
open Cert.Kernel2Ideal Cert.Kernel2Ideal.Gen

section arrays
variable (X : FVec Ideal S65536x1024 .f32) (G : FVec Ideal S16x65536 .f32) (Wg Wu : FVec Ideal S16x1024x256 .f32) (Wd : FVec Ideal S16x256x1024 .f32)
  (Sg Su : FVec Ideal S1024x256 .f32) (Sd : FVec Ideal S256x1024 .f32) (Lg Lb : FVec Ideal S1024 .f32)

/-- The shared expert at token `p`. -/
def shared (p : Fin 65536) (j : Fin 1024) : EReal :=
  ∑ k : Fin 256, hidden (fun d => X (ix2 p d)) (fun d => Sg (ix2 d k)) (fun d => Su (ix2 d k)) * Sd (ix2 k j)
/-- Hidden unit `k` of expert `e` at token `p`. -/
def hiddenA (p : Fin 65536) (e : Fin 16) (k : Fin 256) : EReal :=
  hidden (fun d => X (ix2 p d)) (fun d => Wg (ix3 e d k)) (fun d => Wu (ix3 e d k))
/-- What the experts `4 n` to `4 n + 3` add at token `p`. -/
def four (n : ℕ) (p : Fin 65536) (j : Fin 1024) : EReal :=
  ∑ e : Fin 4, ∑ k : Fin 256, hiddenA X Wg Wu p ⟨n % 4 * 4 + e, by omega⟩ k * G (ix2 ⟨n % 4 * 4 + e, by omega⟩ p) * Wd (ix3 ⟨n % 4 * 4 + e, by omega⟩ k j)
/-- The accumulator after `n` such fours. -/
def accA (p : Fin 65536) (j : Fin 1024) : ℕ → EReal
  | 0 => shared X Sg Su Sd p j
  | n + 1 => accA p j n + four X G Wg Wu Wd n p j
/-- The result at token `p`. -/
def outA (p : Fin 65536) (j : Fin 1024) : EReal :=
  lnAt (fun k => Ideal.ofBits .f32 0x3FB504F3#32 * X (ix2 p k) + accA X G Wg Wu Wd Sg Su Sd p k 4) j (Lg (ix1 j)) (Lb (ix1 j))
/-- The arrays the kernel leaves. -/
def outArr : FVec Ideal S65536x1024 .f32 := fun i => outA X G Wg Wu Wd Sg Su Sd Lg Lb (i 0) (i 1)
def outArr16 : FVec Ideal S65536x1024 .bf16 := fun i => outA X G Wg Wu Wd Sg Su Sd Lg Lb (i 0) (i 1)
end arrays

theorem hidden_congr {n : ℕ} {x x' g g' u u' : Fin n → EReal} (hx : ∀ d, x d = x' d) (hg : ∀ d, g d = g' d) (hu : ∀ d, u d = u' d) :
    hidden x g u = hidden x' g' u' := by
  rw [funext hx, funext hg, funext hu]

variable (m : (ℓ : Loc nD τ sig) → Buf (Elt Ideal) ℓ) (c : Dev nD)

/-- `four`, `accA` and `outA` over the arguments. -/
abbrev fourM (n : ℕ) (p : Fin 65536) (j : Fin 1024) : EReal := four (argX m c) (argG m c) (argWg m c) (argWu m c) (argWd m c) n p j
abbrev accM (p : Fin 65536) (j : Fin 1024) (n : ℕ) : EReal :=
  accA (argX m c) (argG m c) (argWg m c) (argWu m c) (argWd m c) (argSg m c) (argSu m c) (argSd m c) p j n
abbrev outM (p : Fin 65536) (j : Fin 1024) : EReal :=
  outA (argX m c) (argG m c) (argWg m c) (argWu m c) (argWd m c) (argSg m c) (argSu m c) (argSd m c) (argLg m c) (argLb m c) p j

theorem experts_blk (t : Fin cfg0.N) (r j : Fin 1024) :
    experts (iblk m c 1 t) (iblk m c 2 t) (iblk m c 3 t) (iblk m c 4 t) (iblk m c 5 t) r j = fourM m c (t.val % 4) (row t r) j := by
  have h4 : t.val % 4 % 4 = t.val % 4 := by omega
  unfold experts fourM four
  refine Finset.sum_congr rfl fun e _ => Finset.sum_congr rfl fun k _ => ?_
  have he : (⟨t.val % 4 % 4 * 4 + e, by omega⟩ : Fin 16) = expert t e := Fin.ext (by show t.val % 4 % 4 * 4 + (e : ℕ) = t.val % 4 * 4 + e; omega)
  rw [he]
  exact congrArg₂ (fun x y : EReal => x * y) (congrArg₂ (fun x y : EReal => x * y)
    (hidden_congr (fun d => xb_at m c t r d) (fun d => wg_at m c t e d k) (fun d => wu_at m c t e d k)) (g_at m c t r e)) (wd_at m c t e k j)

theorem shared_blk (t : Fin cfg0.N) (r j : Fin 1024) :
    k0_pay4 (F := Ideal) (iblk m c 1 t) (iblk m c 6 t) (iblk m c 7 t) (iblk m c 8 t) (ix2 r j) = accM m c (row t r) j 0 := by
  refine (pay4_at _ _ _ _ r j).trans ?_
  unfold accM accA shared
  refine Finset.sum_congr rfl fun k _ => ?_
  exact congrArg₂ (fun x y : EReal => x * y)
    (hidden_congr (fun d => xb_at m c t r d) (fun d => sg_at m c t d k) (fun d => su_at m c t d k)) (sd_at m c t k j)

/-- One point's accumulation, given the accumulator before it. -/
theorem step_at (t : Fin cfg0.N) (acc : FVec Ideal S1024x1024 .f32) (r j : Fin 1024) (h : acc (ix2 r j) = accM m c (row t r) j (t.val % 4)) :
    addExperts (F := Ideal) (iblk m c 1 t) (iblk m c 2 t) (iblk m c 3 t) (iblk m c 4 t) (iblk m c 5 t) acc (ix2 r j)
      = accM m c (row t r) j (t.val % 4 + 1) :=
  (addExperts_at _ _ _ _ _ _ r j).trans (congrArg₂ (fun x y : EReal => x + y) h (experts_blk m c t r j))

/-- The accumulator after a point that is not the last of its row block. -/
theorem acc_at : ∀ (n : ℕ) (h : n < cfg0.N) (_ : ¬n % 4 = 3) (r j : Fin 1024),
    (outsAt0 m c n h).2.2 (ix2 r j) = accM m c (row ⟨n, h⟩ r) j (n % 4 + 1) := by
  intro n
  induction n with
  | zero =>
    intro h h3 r j
    refine (congrFun (congrArg (fun o => o.2.2) (outsAt0_A m c ⟨0, h⟩ (Nat.zero_mod 4) h3)) (ix2 r j)).trans ?_
    dsimp only
    rw [first_acc]
    exact step_at m c ⟨0, h⟩ _ r j (shared_blk m c ⟨0, h⟩ r j)
  | succ n ih =>
    intro h h3 r j
    by_cases h0 : (n + 1) % 4 = 0
    · refine (congrFun (congrArg (fun o => o.2.2) (outsAt0_A m c ⟨n + 1, h⟩ h0 h3)) (ix2 r j)).trans ?_
      dsimp only
      rw [first_acc]
      refine step_at m c ⟨n + 1, h⟩ _ r j ((shared_blk m c ⟨n + 1, h⟩ r j).trans ?_)
      show accM m c _ j 0 = accM m c _ j ((n + 1) % 4)
      rw [h0]
    · refine (congrFun (congrArg (fun o => o.2.2) (outsAt0_B m c ⟨n + 1, h⟩ h0 h3)) (ix2 r j)).trans ?_
      dsimp only
      rw [middle_acc]
      refine step_at m c ⟨n + 1, h⟩ _ r j ((ih (Nat.lt_of_succ_lt h) (by omega) r j).trans ?_)
      have e1 : row ⟨n, Nat.lt_of_succ_lt h⟩ r = row ⟨n + 1, h⟩ r := Fin.ext (by show n / 4 * 1024 + (r : ℕ) = (n + 1) / 4 * 1024 + r; omega)
      have e2 : n % 4 + 1 = (n + 1) % 4 := by omega
      show accM m c _ j (n % 4 + 1) = accM m c _ j ((n + 1) % 4)
      rw [e1, e2]

/-- The accumulator the last point of a row block finds. -/
theorem before_last (t : Fin cfg0.N) (h3 : t.val % 4 = 3) (r j : Fin 1024) :
    (outsAt0 m c (t.val - 1) (Nat.lt_of_le_of_lt (Nat.sub_le _ _) t.isLt)).2.2 (ix2 r j) = accM m c (row t r) j (t.val % 4) := by
  refine (acc_at m c (t.val - 1) _ (by omega) r j).trans ?_
  have e1 : row ⟨t.val - 1, Nat.lt_of_le_of_lt (Nat.sub_le _ _) t.isLt⟩ r = row t r := Fin.ext (by show (t.val - 1) / 4 * 1024 + (r : ℕ) = t.val / 4 * 1024 + r; omega)
  have e2 : (t.val - 1) % 4 + 1 = t.val % 4 := by omega
  rw [e1, e2]

/-- What the last point of a row block writes. -/
theorem out_blk (t : Fin cfg0.N) (h3 : t.val % 4 = 3) (acc : FVec Ideal S1024x1024 .f32) (hacc : ∀ r j, acc (ix2 r j) = accM m c (row t r) j (t.val % 4))
    (r j : Fin 1024) :
    k0_pay1 (F := Ideal) (iblk m c 0 t) (addExperts (F := Ideal) (iblk m c 1 t) (iblk m c 2 t) (iblk m c 3 t) (iblk m c 4 t) (iblk m c 5 t) acc)
      (iblk m c 9 t) (iblk m c 10 t) (ix2 r j) = outM m c (row t r) j := by
  refine (pay1_at _ _ _ _ r j).trans ?_
  have hz : ∀ k : Fin 1024, Ideal.ofBits .f32 0x3FB504F3#32 * iblk m c 0 t (ix2 r k)
      + addExperts (F := Ideal) (iblk m c 1 t) (iblk m c 2 t) (iblk m c 3 t) (iblk m c 4 t) (iblk m c 5 t) acc (ix2 r k)
      = Ideal.ofBits .f32 0x3FB504F3#32 * argX m c (ix2 (row t r) k) + accM m c (row t r) k 4 := fun k =>
    congrArg₂ (fun x y : EReal => x + y) (congrArg (fun x : EReal => Ideal.ofBits .f32 0x3FB504F3#32 * x) (x_at m c t r k))
      ((step_at m c t acc r k (hacc r k)).trans (by rw [h3]))
  rw [funext hz]
  exact congrArg₂ (lnAt _ j) (lg_at m c t j) (lb_at m c t j)

theorem after_32 (t : Fin cfg0.N) (h3 : t.val % 4 = 3) (r j : Fin 1024) :
    (outsAt0 m c t.val t.isLt).1 (ix2 r j) = outM m c (row t r) j := by
  rw [outsAt0_C m c t (by omega) h3]
  dsimp only
  rw [last_out]
  exact out_blk m c t h3 _ (before_last m c t h3) r j
theorem after_16 (t : Fin cfg0.N) (h3 : t.val % 4 = 3) (r j : Fin 1024) :
    (outsAt0 m c t.val t.isLt).2.1 (ix2 r j) = outM m c (row t r) j := by
  rw [outsAt0_C m c t (by omega) h3]
  dsimp only
  rw [last_out16]
  exact (pay2_at _ _ _ _ r j).trans (out_blk m c t h3 _ (before_last m c t h3) r j)

theorem final_32 : (dats m 0 c).arrAt 11 (cfgs 0).N
    = outArr (argX m c) (argG m c) (argWg m c) (argWu m c) (argWd m c) (argSg m c) (argSu m c) (argSd m c) (argLg m c) (argLb m c) := by
  refine (dats m 0 c).arrAt_eq_of_covers 11 _ (by decide +kernel) fun t hf y => ?_
  blk_simp
  rw [after0_11]
  have h3 : t.val % 4 = 3 := (flush0_11 t).mp hf
  obtain ⟨r, j, rfl⟩ : ∃ (r j : Fin 1024), y = ix2 r j := ⟨y 0, y 1, eq_ix2 y⟩
  refine (after_32 m c t h3 r j).trans ?_
  unfold outArr row
  have e0 : ((win0_11.blk t).view.emb (ix2 r j) 0 : ℕ) = t.val / 4 * 1024 + r := by blk_simp [idx t]
  have e1 : ((win0_11.blk t).view.emb (ix2 r j) 1 : ℕ) = j := by blk_simp [idx t]
  exact congrArg₂ (outM m c) (Fin.ext e0.symm) (Fin.ext e1.symm)
theorem final_16 : (dats m 0 c).arrAt 12 (cfgs 0).N
    = outArr16 (argX m c) (argG m c) (argWg m c) (argWu m c) (argWd m c) (argSg m c) (argSu m c) (argSd m c) (argLg m c) (argLb m c) := by
  refine (dats m 0 c).arrAt_eq_of_covers 12 _ (by decide +kernel) fun t hf y => ?_
  blk_simp
  rw [after0_12]
  have h3 : t.val % 4 = 3 := (flush0_12 t).mp hf
  obtain ⟨r, j, rfl⟩ : ∃ (r j : Fin 1024), y = ix2 r j := ⟨y 0, y 1, eq_ix2 y⟩
  refine (after_16 m c t h3 r j).trans ?_
  unfold outArr16 row
  have e0 : ((win0_12.blk t).view.emb (ix2 r j) 0 : ℕ) = t.val / 4 * 1024 + r := by blk_simp [idx t]
  have e1 : ((win0_12.blk t).view.emb (ix2 r j) 1 : ℕ) = j := by blk_simp [idx t]
  exact congrArg₂ (outM m c) (Fin.ext e0.symm) (Fin.ext e1.symm)

end Cert.Kernel2Ideal.Moe

end
-- ==== Proof.MoeReference.lean ====
/- The reference's mixture of experts read at an index: the experts' hidden units, their weighted sum, the shared expert, the layer norm. -/
module

public import proofs.«01_k».proof.Proof.Gen.Reference2Ideal.Run
public import Idealize.ShloMosaic.Lib.Pointwise

@[expose] public section

set_option maxRecDepth 65536

noncomputable section

namespace Cert.Reference2Ideal.Moe

open Idealize.ShloMosaic Idealize.ShloMosaic.TcCoe Idealize.ShloMosaic.StableHlo Idealize.SL Idealize.SL.Sem
open Cert.Reference2Ideal Cert.Reference2Ideal.Gen

/-- `x · w` for every expert. -/
def up (w : FVec Ideal S16x1024x256 .f32) (x : FVec Ideal S65536x1024 .f32) : FVec Ideal S16x65536x256 .f32 :=
  transpose S16x65536x256 [0, 2, 1] (Host.dotGeneral dot_S16x1024x256_S65536x1024_S16x256x65536_1_1_02_0_n_n none w x) transposes_S16x256x65536_S16x65536x256_0_2_1
def silu16 (h : FVec Ideal S16x65536x256 .f32) : FVec Ideal S16x65536x256 .f32 :=
  mulf h (Host.divf (broadcastInDim S16x65536x256 ![] bcast_S_S16x65536x256 (constant S_ .f32 0x3F800000#32)) (addf (broadcastInDim S16x65536x256 ![] bcast_S_S16x65536x256 (constant S_ .f32 0x3F800000#32)) (Host.exp (Host.negf h))))
/-- Every expert's result. -/
def expertOut (hid : FVec Ideal S16x65536x256 .f32) (wd : FVec Ideal S16x256x1024 .f32) : FVec Ideal S16x65536x1024 .f32 :=
  Host.dotGeneral dot_S16x65536x256_S16x256x1024_S16x65536x1024_2_1_1_2_0_0 none hid wd
/-- The sum of the experts, each times its gate. -/
def routed (g : FVec Ideal S16x65536 .f32) (y : FVec Ideal S16x65536x1024 .f32) : FVec Ideal S65536x1024 .f32 :=
  Host.reduceAdd (mulf (broadcastInDim S16x65536x1024 ![0, 1, 2] bcast_S16x65536x1_S16x65536x1024_0_1_2 (broadcastInDim S16x65536x1 ![0, 1] bcast_S16x65536_S16x65536x1_0_1 g)) y) (constant S_ .f32 0x00000000#32) reducesTo_S16x65536x1024_S65536x1024_d0 h_S_
def silu1 (h : FVec Ideal S65536x256 .f32) : FVec Ideal S65536x256 .f32 :=
  mulf h (Host.divf (broadcastInDim S65536x256 ![] bcast_S_S65536x256 (constant S_ .f32 0x3F800000#32)) (addf (broadcastInDim S65536x256 ![] bcast_S_S65536x256 (constant S_ .f32 0x3F800000#32)) (Host.exp (Host.negf h))))
def up1 (w : FVec Ideal S1024x256 .f32) (x : FVec Ideal S65536x1024 .f32) : FVec Ideal S65536x256 .f32 :=
  Host.dotGeneral dot_S65536x1024_S1024x256_S65536x256_1_0_0_1_n_n none x w
def down1 (wd : FVec Ideal S256x1024 .f32) (h : FVec Ideal S65536x256 .f32) : FVec Ideal S65536x1024 .f32 :=
  Host.dotGeneral dot_S65536x256_S256x1024_S65536x1024_1_0_0_1_n_n none h wd
/-- The stream before the layer norm. -/
def pre (x y : FVec Ideal S65536x1024 .f32) : FVec Ideal S65536x1024 .f32 :=
  addf (mulf (broadcastInDim S65536x1024 ![] bcast_S_S65536x1024 (constant S_ .f32 0x3FB504F3#32)) x) y
/-- A row's mean. -/
def mean (z : FVec Ideal S65536x1024 .f32) : FVec Ideal S65536x1 .f32 :=
  Host.divf (broadcastInDim S65536x1 ![0] bcast_S65536_S65536x1_0 (Host.reduceAdd z (constant S_ .f32 0x00000000#32) reducesTo_S65536x1024_S65536_d1 h_S_)) (broadcastInDim S65536x1 ![] bcast_S_S65536x1 (constant S_ .f32 0x44800000#32))
/-- A row less its mean. -/
def centred (z : FVec Ideal S65536x1024 .f32) : FVec Ideal S65536x1024 .f32 :=
  subf z (broadcastInDim S65536x1024 ![0, 1] bcast_S65536x1_S65536x1024_0_1 (mean z))
def lnOf (d : FVec Ideal S65536x1024 .f32) (v : FVec Ideal S65536x1 .f32) (g b : FVec Ideal S1024 .f32) : FVec Ideal S65536x1024 .f32 :=
  addf (mulf (mulf d (broadcastInDim S65536x1024 ![0, 1] bcast_S65536x1_S65536x1024_0_1 (Host.rsqrt (addf v (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 g))) (broadcastInDim S65536x1024 ![0, 1] bcast_S1x1024_S65536x1024_0_1 (broadcastInDim S1x1024 ![1] bcast_S1024_S1x1024_1 b))

variable (x : FVec Ideal S65536x1024 .f32) (g : FVec Ideal S16x65536 .f32) (wg wu : FVec Ideal S16x1024x256 .f32) (wd : FVec Ideal S16x256x1024 .f32)
  (sg su : FVec Ideal S1024x256 .f32) (sd : FVec Ideal S256x1024 .f32) (lg lb : FVec Ideal S1024 .f32)

/-- What the layer norm is taken of, and the reference's result. -/
def stream : FVec Ideal S65536x1024 .f32 :=
  pre x (addf (routed g (expertOut (mulf (silu16 (up wg x)) (up wu x)) wd)) (down1 sd (mulf (silu1 (up1 sg x)) (up1 su x))))
def REF : FVec Ideal S65536x1024 .f32 :=
  lnOf (centred (stream x g wg wu wd sg su sd)) (mean (mulf (centred (stream x g wg wu wd sg su sd)) (centred (stream x g wg wu wd sg su sd)))) lg lb
def REF16 : FVec Ideal S65536x1024 .bf16 := truncf .bf16 (REF x g wg wu wd sg su sd lg lb) bitsLt_bf16_f32

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v44) = REF16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.Reference2Ideal.Value.run m ρ

theorem up_at (w : FVec Ideal S16x1024x256 .f32) (e : Fin 16) (t : Fin 65536) (k : Fin 256) :
    up w x (ix3 e t k) = ∑ d : Fin 1024, w (ix3 e d k) * x (ix2 t d) := by
  pointwise [up]
theorem silu16_at (h : FVec Ideal S16x65536x256 .f32) (e : Fin 16) (t : Fin 65536) (k : Fin 256) :
    silu16 h (ix3 e t k) = h (ix3 e t k) * Ideal.logistic (h (ix3 e t k)) := by
  pointwise [silu16]
  rfl
theorem expertOut_at (hid : FVec Ideal S16x65536x256 .f32) (e : Fin 16) (t : Fin 65536) (j : Fin 1024) :
    expertOut hid wd (ix3 e t j) = ∑ k : Fin 256, hid (ix3 e t k) * wd (ix3 e k j) := by
  pointwise [expertOut]
theorem routed_at (y : FVec Ideal S16x65536x1024 .f32) (t : Fin 65536) (j : Fin 1024) :
    routed g y (ix2 t j) = ∑ e : Fin 16, g (ix2 e t) * y (ix3 e t j) := by
  pointwise [routed]
theorem silu1_at (h : FVec Ideal S65536x256 .f32) (t : Fin 65536) (k : Fin 256) :
    silu1 h (ix2 t k) = h (ix2 t k) * Ideal.logistic (h (ix2 t k)) := by
  pointwise [silu1]
  rfl
theorem up1_at (w : FVec Ideal S1024x256 .f32) (t : Fin 65536) (k : Fin 256) :
    up1 w x (ix2 t k) = ∑ d : Fin 1024, x (ix2 t d) * w (ix2 d k) := by
  pointwise [up1]
theorem down1_at (h : FVec Ideal S65536x256 .f32) (t : Fin 65536) (j : Fin 1024) :
    down1 sd h (ix2 t j) = ∑ k : Fin 256, h (ix2 t k) * sd (ix2 k j) := by
  pointwise [down1]
theorem pre_at (y : FVec Ideal S65536x1024 .f32) (t : Fin 65536) (j : Fin 1024) :
    pre x y (ix2 t j) = Ideal.ofBits .f32 0x3FB504F3#32 * x (ix2 t j) + y (ix2 t j) := by
  pointwise [pre]
theorem mean_at (z : FVec Ideal S65536x1024 .f32) (t : Fin 65536) :
    mean z (ix2 t 0) = Ideal.div (∑ i : Fin 1024, z (ix2 t i)) (Ideal.ofBits .f32 0x44800000#32) := by
  pointwise [mean]
theorem centred_at (z : FVec Ideal S65536x1024 .f32) (t : Fin 65536) (j : Fin 1024) :
    centred z (ix2 t j) = z (ix2 t j) - mean z (ix2 t 0) := by
  pointwise [centred]
theorem lnOf_at (d : FVec Ideal S65536x1024 .f32) (v : FVec Ideal S65536x1 .f32) (t : Fin 65536) (j : Fin 1024) :
    lnOf d v lg lb (ix2 t j) = d (ix2 t j) * Ideal.rsqrt (v (ix2 t 0) + Ideal.ofBits .f32 0x3727C5AC#32) * lg (ix1 j) + lb (ix1 j) := by
  pointwise [lnOf]

end Cert.Reference2Ideal.Moe

end
-- ==== Proof.MoeEqual.lean ====
/- The mixture kernel's arrays are the reference's: a gate that is finite and not negative goes into the sum over an expert's hidden
   units, and the sixteen experts are four fours. -/
module

public import proofs.«01_k».proof.Proof.MoeKernelIdealValue
public import proofs.«01_k».proof.Proof.MoeReference
public import proofs.«01_k».proof.Pre_nonneg_gates

@[expose] public section

set_option maxRecDepth 65536

noncomputable section

namespace Cert.MoeEqual

open Idealize.ShloMosaic Idealize.ShloMosaic.TcCoe
open Cert.Kernel2Ideal.Moe Cert.Reference2Ideal.Moe
open Cert.Reference2Ideal (S65536x1024 S16x65536 S16x1024x256 S16x256x1024 S1024x256 S256x1024 S1024 S16x65536x256)

/-- A finite factor that is not negative goes into a sum. -/
theorem mul_sum_fin {ι : Type} (s : Finset ι) (g : EReal) (h0 : 0 ≤ g) (h1 : g ≠ ⊤) (f : ι → EReal) : g * ∑ k ∈ s, f k = ∑ k ∈ s, g * f k := by
  classical
  induction s using Finset.induction_on with
  | empty => simp
  | insert a s ha ih => rw [Finset.sum_insert ha, Finset.sum_insert ha, EReal.left_distrib_of_nonneg_of_ne_top h0 h1, ih]

variable (X : FVec Ideal S65536x1024 .f32) (G : FVec Ideal S16x65536 .f32) (Wg Wu : FVec Ideal S16x1024x256 .f32) (Wd : FVec Ideal S16x256x1024 .f32)
  (Sg Su : FVec Ideal S1024x256 .f32) (Sd : FVec Ideal S256x1024 .f32) (Lg Lb : FVec Ideal S1024 .f32)

theorem hidden_at (e : Fin 16) (p : Fin 65536) (k : Fin 256) :
    (mulf (silu16 (up Wg X)) (up Wu X) : FVec Ideal S16x65536x256 .f32) (ix3 e p k) = hiddenA X Wg Wu p e k := by
  show silu16 (up Wg X) (ix3 e p k) * up Wu X (ix3 e p k) = _
  rw [silu16_at, up_at, up_at]
  simp only [mul_comm (Wg _), mul_comm (Wu _)]
  rfl

theorem shared_at (p : Fin 65536) (j : Fin 1024) : down1 Sd (mulf (silu1 (up1 Sg X)) (up1 Su X)) (ix2 p j) = shared X Sg Su Sd p j := by
  rw [down1_at]
  refine Finset.sum_congr rfl fun k _ => congrArg (fun x : EReal => x * Sd (ix2 k j)) ?_
  show silu1 (up1 Sg X) (ix2 p k) * up1 Su X (ix2 p k) = _
  rw [silu1_at, up1_at, up1_at]
  rfl

/-- The experts' sum, four by four. -/
theorem routed_eq (h0 : ∀ e p, 0 ≤ G (ix2 e p)) (h1 : ∀ e p, G (ix2 e p) ≠ ⊤) (p : Fin 65536) (j : Fin 1024) :
    routed G (expertOut (mulf (silu16 (up Wg X)) (up Wu X)) Wd) (ix2 p j)
      = four X G Wg Wu Wd 0 p j + four X G Wg Wu Wd 1 p j + four X G Wg Wu Wd 2 p j + four X G Wg Wu Wd 3 p j := by
  rw [routed_at, Fin.sum_univ_tiles 4 4 rfl, Fin.sum_univ_four]
  have h : ∀ e : Fin 16, G (ix2 e p) * expertOut (mulf (silu16 (up Wg X)) (up Wu X)) Wd (ix3 e p j)
      = ∑ k : Fin 256, hiddenA X Wg Wu p e k * G (ix2 e p) * Wd (ix3 e k j) := by
    intro e
    rw [expertOut_at, mul_sum_fin _ _ (h0 e p) (h1 e p)]
    refine Finset.sum_congr rfl fun k _ => ?_
    rw [hidden_at, mul_comm (hiddenA X Wg Wu p e k) (G (ix2 e p)), mul_assoc]
  simp only [h]
  rfl

theorem stream_at (h0 : ∀ e p, 0 ≤ G (ix2 e p)) (h1 : ∀ e p, G (ix2 e p) ≠ ⊤) (p : Fin 65536) (j : Fin 1024) :
    stream X G Wg Wu Wd Sg Su Sd (ix2 p j) = Ideal.ofBits .f32 0x3FB504F3#32 * X (ix2 p j) + accA X G Wg Wu Wd Sg Su Sd p j 4 := by
  unfold stream
  rw [pre_at]
  refine congrArg (fun x : EReal => Ideal.ofBits .f32 0x3FB504F3#32 * X (ix2 p j) + x) ?_
  show routed G (expertOut (mulf (silu16 (up Wg X)) (up Wu X)) Wd) (ix2 p j) + down1 Sd (mulf (silu1 (up1 Sg X)) (up1 Su X)) (ix2 p j)
    = shared X Sg Su Sd p j + four X G Wg Wu Wd 0 p j + four X G Wg Wu Wd 1 p j + four X G Wg Wu Wd 2 p j + four X G Wg Wu Wd 3 p j
  rw [routed_eq X G Wg Wu Wd h0 h1, shared_at, add_comm]
  simp only [add_assoc]

theorem ref_at (h0 : ∀ e p, 0 ≤ G (ix2 e p)) (h1 : ∀ e p, G (ix2 e p) ≠ ⊤) (p : Fin 65536) (j : Fin 1024) :
    outA X G Wg Wu Wd Sg Su Sd Lg Lb p j = REF X G Wg Wu Wd Sg Su Sd Lg Lb (ix2 p j) := by
  unfold REF
  rw [lnOf_at, mean_at]
  have hc : ∀ k : Fin 1024, centred (stream X G Wg Wu Wd Sg Su Sd) (ix2 p k)
      = (Ideal.ofBits .f32 0x3FB504F3#32 * X (ix2 p k) + accA X G Wg Wu Wd Sg Su Sd p k 4)
        - Ideal.div (∑ i : Fin 1024, (Ideal.ofBits .f32 0x3FB504F3#32 * X (ix2 p i) + accA X G Wg Wu Wd Sg Su Sd p i 4)) (Ideal.ofBits .f32 0x44800000#32) := fun k => by
    rw [centred_at, mean_at]
    simp only [stream_at X G Wg Wu Wd Sg Su Sd h0 h1]
  have hm : ∀ k : Fin 1024, (mulf (centred (stream X G Wg Wu Wd Sg Su Sd)) (centred (stream X G Wg Wu Wd Sg Su Sd)) : FVec Ideal S65536x1024 .f32) (ix2 p k)
      = centred (stream X G Wg Wu Wd Sg Su Sd) (ix2 p k) * centred (stream X G Wg Wu Wd Sg Su Sd) (ix2 p k) := fun k => rfl
  simp only [hm, hc]
  rfl

/-- The side conditions of the precondition's operations. -/
theorem facts : Cert.Pre_nonneg_gates.Facts where
  bcast_S_S16x65536 := by decide

theorem ofBits_inf : Ideal.ofBits .f32 0x7F800000#32 = ⊤ := by simp [Ideal.ofBits, Ideal.ieee]
theorem bits_and {a b : Bool} (e : IntOp.andi (BitVec.ofBool a) (BitVec.ofBool b) = 1#1) : a = true ∧ b = true := by
  revert e; cases a <;> cases b <;> decide

/-- The precondition read at an index. -/
theorem gate_at (H : letI := facts; Cert.Pre_nonneg_gates.fn (F := Ideal) X G Wg Wu Wd Sg Su Sd Lg Lb = fun _ => 1#1) (e : Fin 16) (p : Fin 65536) :
    0 ≤ G (ix2 e p) ∧ G (ix2 e p) ≠ ⊤ := by
  have h := congrFun H (ix2 e p)
  unfold Cert.Pre_nonneg_gates.fn at h
  pointwise at h
  obtain ⟨h1, h2⟩ := bits_and h
  have t1 := of_decide_eq_true h1
  have t2 := of_decide_eq_true h2
  rw [ofBits_inf] at t2
  exact ⟨t1, t2.ne⟩

theorem arr_eq (H : letI := facts; Cert.Pre_nonneg_gates.fn (F := Ideal) X G Wg Wu Wd Sg Su Sd Lg Lb = fun _ => 1#1) :
    outArr X G Wg Wu Wd Sg Su Sd Lg Lb = REF X G Wg Wu Wd Sg Su Sd Lg Lb := by
  funext i
  obtain ⟨p, j, rfl⟩ : ∃ (p : Fin 65536) (j : Fin 1024), i = ix2 p j := ⟨i 0, i 1, eq_ix2 i⟩
  exact ref_at X G Wg Wu Wd Sg Su Sd Lg Lb (fun e p => (gate_at X G Wg Wu Wd Sg Su Sd Lg Lb H e p).1) (fun e p => (gate_at X G Wg Wu Wd Sg Su Sd Lg Lb H e p).2) p j

theorem arr_eq16 (H : letI := facts; Cert.Pre_nonneg_gates.fn (F := Ideal) X G Wg Wu Wd Sg Su Sd Lg Lb = fun _ => 1#1) :
    outArr16 X G Wg Wu Wd Sg Su Sd Lg Lb = REF16 X G Wg Wu Wd Sg Su Sd Lg Lb :=
  arr_eq X G Wg Wu Wd Sg Su Sd Lg Lb H

end Cert.MoeEqual

end
-- ==== Proof.DiffFormula.lean ====
/- The differential attention's formulas over the extended reals, as the kernel and the reference both end in them: the weight of the
   second map and the norm of a row; and the difference of two averages as the average by the difference of the maps. -/
module

public import proofs.«01_k».proof.Proof.OnlineSoftmax

@[expose] public section

noncomputable section

namespace Cert.Diff

open Idealize.ShloMosaic
open Cert.Online

/-- The weight of the second map, from four vectors: the difference of two exponentials of dot products, and the layer's constant. -/
def weight (a b c d : Fin 128 → EReal) : EReal :=
  Ideal.exp (∑ x, a x * b x) - Ideal.exp (∑ x, c x * d x) + Ideal.ofBits .f32 0x3E4CCCCD#32

/-- Lane `d` of a row divided by the root of the mean of its squares, times a scale and the layer's constant. -/
def normed (o : Fin 128 → EReal) (g : EReal) (d : Fin 128) : EReal :=
  o d * Ideal.rsqrt (Ideal.div (∑ x, o x * o x) (Ideal.ofBits .f32 0x43000000#32) + Ideal.ofBits .f32 0x358637BD#32) * g * Ideal.ofBits .f32 0x3F4CCCCD#32

theorem isFin_sub {x y : EReal} : IsFin x → IsFin y → IsFin (x - y)
  | ⟨r, hr⟩, ⟨u, hu⟩ => ⟨r - u, by rw [hr, hu, EReal.coe_sub]⟩

theorem isFin_exp {x : EReal} : IsFin x → IsFin (Ideal.exp x)
  | ⟨r, hr⟩ => ⟨Real.exp r, by rw [hr, Ideal.exp_coe]⟩

theorem isFin_init : IsFin (Ideal.ofBits .f32 0x3E4CCCCD#32) := by
  simp [Ideal.ofBits, Ideal.ieee]
  exact IsFin.mul ⟨_, rfl⟩ ⟨_, rfl⟩

theorem isFin_weight (a b c d : Fin 128 → EReal) (ha : ∀ x, IsFin (a x)) (hb : ∀ x, IsFin (b x)) (hc : ∀ x, IsFin (c x)) (hd : ∀ x, IsFin (d x)) :
    IsFin (weight a b c d) :=
  IsFin.add (isFin_sub (isFin_exp (IsFin.sum _ _ fun x _ => (ha x).mul (hb x))) (isFin_exp (IsFin.sum _ _ fun x _ => (hc x).mul (hd x)))) isFin_init

/-- A softmax of finite scores is finite. -/
theorem isFin_prob {ι : Type} [Fintype ι] [Nonempty ι] (s : ι → EReal) (hs : ∀ i, IsFin (s i)) (M : EReal) (hM : IsFin M) (k : ι) :
    IsFin (Ideal.div (Ideal.exp (s k * ((Real.log 2 : ℝ) : EReal) - M)) (∑ i, Ideal.exp (s i * ((Real.log 2 : ℝ) : EReal) - M))) := by
  obtain ⟨b, hb⟩ := hM
  choose r hr using hs
  rw [hb]
  simp only [hr, exp_sub, ← coe_sum]
  have h0 : (∑ i, Real.exp (r i * Real.log 2 - b)) ≠ 0 := (Finset.sum_pos (fun i _ => Real.exp_pos _) Finset.univ_nonempty).ne'
  rw [Ideal.div_coe h0]
  exact IsFin.mul ⟨_, rfl⟩ ⟨_, rfl⟩

/-- The average by a difference of maps is the difference of the averages. -/
theorem sum_sub {ι : Type} [Fintype ι] (v x y : ι → EReal) (l : EReal) (hv : ∀ i, IsFin (v i)) (hx : ∀ i, IsFin (x i)) (hy : ∀ i, IsFin (y i))
    (hl : IsFin l) : ∑ i, v i * (x i - l * y i) = ∑ i, v i * x i - l * ∑ i, v i * y i := by
  choose v' hv using hv
  choose x' hx using hx
  choose y' hy using hy
  obtain ⟨l', hl⟩ := hl
  simp only [hv, hx, hy, hl, ← EReal.coe_mul, ← EReal.coe_sub, ← coe_sum]
  refine congrArg _ ?_
  rw [Finset.mul_sum, ← Finset.sum_sub_distrib]
  exact Finset.sum_congr rfl fun i _ => by ring

/-- A sum over 128 lanes whose second factor is kept in the first 64 only, -/
theorem sum_lo (k q : Fin 128 → EReal) : ∑ j : Fin 128, k j * (if (j : ℕ) < 64 then q j else 0) = ∑ d : Fin 64, k ⟨d, by omega⟩ * q ⟨d, by omega⟩ := by
  rw [Fin.sum_univ_add (a := 64) (b := 64) (fun j : Fin 128 => k j * (if (j : ℕ) < 64 then q j else 0))]
  refine (congrArg₂ (· + ·) (Finset.sum_congr rfl fun d _ => ?_) (Finset.sum_eq_zero fun d _ => ?_)).trans (add_zero _)
  · exact congrArg (k ⟨d, by omega⟩ * ·) (if_pos d.isLt)
  · exact (congrArg (_ * ·) (if_neg (by show ¬ 64 + (d : ℕ) < 64; omega))).trans (mul_zero _)

/-- and in the last 64 only. -/
theorem sum_hi (k q : Fin 128 → EReal) : ∑ j : Fin 128, k j * (if 64 ≤ (j : ℕ) then q j else 0) = ∑ d : Fin 64, k ⟨64 + d, by omega⟩ * q ⟨64 + d, by omega⟩ := by
  rw [Fin.sum_univ_add (a := 64) (b := 64) (fun j : Fin 128 => k j * (if 64 ≤ (j : ℕ) then q j else 0))]
  refine (congrArg₂ (· + ·) (Finset.sum_eq_zero fun d _ => ?_) (Finset.sum_congr rfl fun d _ => ?_)).trans (zero_add _)
  · exact (congrArg (_ * ·) (if_neg (by show ¬ 64 ≤ (d : ℕ); omega))).trans (mul_zero _)
  · exact congrArg (k ⟨64 + d, by omega⟩ * ·) (if_pos (by show 64 ≤ 64 + (d : ℕ); omega))

end Cert.Diff

end
-- ==== Proof.DiffKernelIdealPay.lean ====
/- The differential attention's values: each output block is, row by row, the online softmax of the scores of its queries applied to the
   values, for two maps; their weighted difference is normed. -/
module

public import proofs.«01_k».proof.Proof.DiffKernelIdealRun
public import proofs.«01_k».proof.Proof.DiffFormula
public import Idealize.ShloMosaic.Lib.Pointwise
public import Idealize.ShloMosaic.Lib.Pipeline.ValueKit

@[expose] public section

set_option maxRecDepth 65536
noncomputable section
namespace Cert.Kernel3Ideal.Diff
open Idealize.ShloMosaic Idealize.ShloMosaic.TcCoe
open Cert.Kernel3Ideal Cert.Kernel3Ideal.Gen
open Cert.Online Cert.Diff

theorem negInf : Ideal.ofBits .f32 0xFF800000#32 = ⊥ := by
  simp [Ideal.ofBits, Ideal.ieee]

theorem sc_at (k : FVec Ideal S1x512x128 .bf16) (q : FVec Ideal S1x128x1024 .bf16) (a : Fin 512) (r : Fin 1024) :
    sc (F := Ideal) k q (ix3 0 a r) = ∑ j : Fin 128, k (ix3 0 a j) * q (ix3 0 j r) := by
  pointwise [sc, k0_pay11, k0_pay10]
theorem scMax_at (k : FVec Ideal S1x512x128 .bf16) (q : FVec Ideal S1x128x1024 .bf16) (r : Fin 1024) :
    scMax (F := Ideal) k q (ix3 0 0 r) = Finset.univ.fold max ⊥ fun a : Fin 512 => ∑ j : Fin 128, k (ix3 0 a j) * q (ix3 0 j r) := by
  pointwise [scMax, k0_pay12, k0_pay10]
  rw [negInf]
theorem mNew_at (m : FVec Ideal S1x1024 .f32) (mc : FVec Ideal S1x1x1024 .f32) (r : Fin 1024) :
    mNew (F := Ideal) m mc (ix2 0 r) = max (m (ix2 0 r)) (mc (ix3 0 0 r)) := by
  pointwise [mNew, k0_pay16, k0_pay14, k0_pay13]
theorem accNew_at (m : FVec Ideal S1x1024 .f32) (mc : FVec Ideal S1x1x1024 .f32) (s : FVec Ideal S1x512x1024 .f32)
  (v : FVec Ideal S1x512x144 .bf16) (a : FVec Ideal S144x1024 .f32) (d : Fin 144) (r : Fin 1024) :
    accNew (F := Ideal) m mc s v a (ix2 d r) = Ideal.exp2 (m (ix2 0 r) - max (m (ix2 0 r)) (mc (ix3 0 0 r))) * a (ix2 d r)
      + ∑ x : Fin 512, v (ix3 0 x d) * Ideal.exp2 (s (ix3 0 x r) - max (m (ix2 0 r)) (mc (ix3 0 0 r))) := by
  pointwise [accNew, k0_pay15, k0_pay14, k0_pay13]
  rfl
theorem slt_at : ∀ j : Fin 128, IntOp.cmpi .slt (BitVec.ofNat 32 (j : ℕ)) 64#32 = if (j : ℕ) < 64 then 1#1 else 0#1 := by decide
theorem sge_at : ∀ j : Fin 128, IntOp.cmpi .sge (BitVec.ofNat 32 (j : ℕ)) 64#32 = if 64 ≤ (j : ℕ) then 1#1 else 0#1 := by decide
/-- The first half of the transposed queries keeps the first map's lanes, -/
theorem qT_lo (q : FVec Ideal S1x512x128 .bf16) (j : Fin 128) (r : Fin 512) :
    qT (F := Ideal) q (ix3 0 j ⟨r, by omega⟩) = if (j : ℕ) < 64 then q (ix3 0 r j) else 0 := by
  pointwise [qT, k0_pay6]
  rw [slt_at]
  split <;> rfl
/-- the second half the second map's. -/
theorem qT_hi (q : FVec Ideal S1x512x128 .bf16) (j : Fin 128) (r : Fin 512) :
    qT (F := Ideal) q (ix3 0 j ⟨512 + r, by omega⟩) = if 64 ≤ (j : ℕ) then q (ix3 0 r j) else 0 := by
  pointwise [qT, k0_pay6]
  rw [sge_at]
  split <;> rfl
/-- A row of the four vectors. -/
def lane (L : FVec Ideal S8x128 .f32) (r : Fin 8) (x : Fin 128) : EReal := L (ix2 r x)
theorem outBlk_at (a : FVec Ideal S128x1024 .f32) (l : FVec Ideal S1x1024 .f32) (lm : FVec Ideal S8x128 .f32) (g : FVec Ideal S128x1 .f32)
    (d : Fin 128) (r : Fin 512) :
    outBlk (F := Ideal) a l lm g (ix3 0 r d) = normed (fun x => Ideal.div (a (ix2 x ⟨r, by omega⟩)) (l (ix2 0 ⟨r, by omega⟩))
      - weight (lane lm 0) (lane lm 1) (lane lm 2) (lane lm 3) * Ideal.div (a (ix2 x ⟨512 + r, by omega⟩)) (l (ix2 0 ⟨512 + r, by omega⟩))) (g (ix2 d 0)) d := by
  pointwise [outBlk, k0_pay1, k0_pay120]
  rfl
theorem m0_at (r : Fin 1024) : k0_pay8 (F := Ideal) k0_pay7 (ix2 0 r) = ⊥ := by
  pointwise [k0_pay8, k0_pay7]
  rw [negInf]
theorem a0_at (d : Fin 144) (r : Fin 1024) : k0_pay9 (F := Ideal) (ix2 d r) = 0 := by
  pointwise [k0_pay9]

/-- Key row `a` of block `n`. -/
def row (n : ℕ) (a : Fin 512) : Fin 8192 := ⟨512 * (n % 16) + a, by omega⟩

theorem kB_at (xk : FVec Ideal S1x8192x128 .bf16) (n : ℕ) (a : Fin 512) (j : Fin 128) :
    kB (F := Ideal) xk n (ix3 0 a j) = xk (ix3 0 (row n a) j) := by
  refine congrArg xk (funext fun i => Fin.ext ?_)
  fin_cases i
  · rfl
  · show 512 * (n % 16) + 1 * (a : ℕ) = 512 * (n % 16) + a
    omega
  · show 0 + 1 * (j : ℕ) = j
    omega
theorem vB_at (xv : FVec Ideal S1x8192x256 .bf16) (n : ℕ) (a : Fin 512) (d : Fin 144) :
    vB (F := Ideal) xv n (ix3 0 a d) = xv (ix3 0 (row n a) ⟨d, by omega⟩) := by
  refine congrArg xv (funext fun i => Fin.ext ?_)
  fin_cases i
  · rfl
  · show 512 * (n % 16) + 1 * (a : ℕ) = 512 * (n % 16) + a
    omega
  · show 0 + 1 * (d : ℕ) = d
    omega

/-- The scores of query `r`, by block. -/
def scores (q : FVec Ideal S1x128x1024 .bf16) (xk : FVec Ideal S1x8192x128 .bf16) (r : Fin 1024) (n : ℕ) (a : Fin 512) : EReal :=
  ∑ j : Fin 128, xk (ix3 0 (row n a) j) * q (ix3 0 j r)
/-- Lane `d` of the values, by block. -/
def vals (xv : FVec Ideal S1x8192x256 .bf16) (d : Fin 256) (n : ℕ) (a : Fin 512) : EReal := xv (ix3 0 (row n a) d)

theorem mAt_at (q : FVec Ideal S1x128x1024 .bf16) (xk : FVec Ideal S1x8192x128 .bf16) (r : Fin 1024) :
    ∀ n, mAt (F := Ideal) q xk n (ix2 0 r) = runMax (scores q xk r) n
  | 0 => m0_at r
  | n + 1 => by
    rw [mAt, mNew_at, mAt_at q xk r n, scMax_at, runMax]
    simp only [kB_at]; rfl
theorem aAt_at (q : FVec Ideal S1x128x1024 .bf16) (xk : FVec Ideal S1x8192x128 .bf16) (xv : FVec Ideal S1x8192x256 .bf16) (d : Fin 144) (r : Fin 1024) :
    ∀ n, aAt (F := Ideal) q xk xv n (ix2 d r) = runAcc (scores q xk r) (vals xv ⟨d, by omega⟩) n
  | 0 => a0_at d r
  | n + 1 => by
    rw [aAt, accNew_at, aAt_at q xk xv d r n, scMax_at, mAt_at, runAcc, runMax]
    simp only [kB_at, sc_at, vB_at]; rfl

theorem scores_lo (q : FVec Ideal S1x512x128 .bf16) (xk : FVec Ideal S1x8192x128 .bf16) (r : Fin 512) (n : ℕ) (a : Fin 512) :
    scores (qT (F := Ideal) q) xk ⟨r, by omega⟩ n a = ∑ d : Fin 64, xk (ix3 0 (row n a) ⟨d, by omega⟩) * q (ix3 0 r ⟨d, by omega⟩) := by
  unfold scores
  simp only [qT_lo]
  exact sum_lo (fun j => xk (ix3 0 (row n a) j)) fun j => q (ix3 0 r j)
theorem scores_hi (q : FVec Ideal S1x512x128 .bf16) (xk : FVec Ideal S1x8192x128 .bf16) (r : Fin 512) (n : ℕ) (a : Fin 512) :
    scores (qT (F := Ideal) q) xk ⟨512 + r, by omega⟩ n a = ∑ d : Fin 64, xk (ix3 0 (row n a) ⟨64 + d, by omega⟩) * q (ix3 0 r ⟨64 + d, by omega⟩) := by
  unfold scores
  simp only [qT_hi]
  exact sum_hi (fun j => xk (ix3 0 (row n a) j)) fun j => q (ix3 0 r j)

theorem win_lo (a : FVec Ideal S144x1024 .f32) (d : Fin 128) (r : Fin 1024) :
    VecWindow.window (s := S144x1024) a ![0, 0] S128x1024.size inb_S144x1024_S128x1024_0_0 (ix2 d r) = a (ix2 ⟨d, by omega⟩ r) := by
  refine congrArg a (funext fun i => Fin.ext ?_)
  fin_cases i
  · show 0 + 1 * (d : ℕ) = d
    omega
  · show 0 + 1 * (r : ℕ) = r
    omega
theorem win_hi (a : FVec Ideal S144x1024 .f32) (r : Fin 1024) :
    VecWindow.window (s := S144x1024) a ![128, 0] S1x1024.size inb_S144x1024_S1x1024_128_0 (ix2 0 r) = a (ix2 ⟨128, by omega⟩ r) := by
  refine congrArg a (funext fun i => Fin.ext ?_)
  fin_cases i
  · rfl
  · show 0 + 1 * (r : ℕ) = r
    omega

/-- The lane after the values, as the kernel sums it. -/
theorem sum_at (q : FVec Ideal S1x128x1024 .bf16) (xk : FVec Ideal S1x8192x128 .bf16) (xv : FVec Ideal S1x8192x256 .bf16) (r : Fin 1024) :
    aAt (F := Ideal) q xk xv 16 (ix2 ⟨128, by omega⟩ r) = runAcc (scores q xk r) (vals xv ⟨128, by omega⟩) 16 :=
  aAt_at q xk xv ⟨128, by omega⟩ r 16

/-- Lane `d` of the values averaged by the map of row `r`. -/
def ratio (q : FVec Ideal S1x128x1024 .bf16) (xk : FVec Ideal S1x8192x128 .bf16) (xv : FVec Ideal S1x8192x256 .bf16) (r : Fin 1024) (d : Fin 128) : EReal :=
  Ideal.div (runAcc (scores q xk r) (vals xv ⟨d, by omega⟩) 16) (runAcc (scores q xk r) (vals xv ⟨128, by omega⟩) 16)

theorem outOf_at (q : FVec Ideal S1x128x1024 .bf16) (xk : FVec Ideal S1x8192x128 .bf16) (xv : FVec Ideal S1x8192x256 .bf16) (lm : FVec Ideal S8x128 .f32) (g : FVec Ideal S128x1 .f32)
    (d : Fin 128) (r : Fin 512) :
    outOf (F := Ideal) q xk xv lm g (ix3 0 r d) = normed (fun x => ratio q xk xv ⟨r, by omega⟩ x
      - weight (lane lm 0) (lane lm 1) (lane lm 2) (lane lm 3) * ratio q xk xv ⟨512 + r, by omega⟩ x) (g (ix2 d 0)) d := by
  rw [outOf, outBlk_at]
  have h (x : Fin 128) (r : Fin 1024) : Ideal.div (VecWindow.window (s := S144x1024) (aAt (F := Ideal) q xk xv 16) ![0, 0] S128x1024.size inb_S144x1024_S128x1024_0_0 (ix2 x r))
      (VecWindow.window (s := S144x1024) (aAt (F := Ideal) q xk xv 16) ![128, 0] S1x1024.size inb_S144x1024_S1x1024_128_0 (ix2 0 r)) = ratio q xk xv r x :=
    congrArg₂ Ideal.div ((win_lo (aAt (F := Ideal) q xk xv 16) x r).trans (aAt_at q xk xv ⟨x, by omega⟩ r 16)) ((win_hi (aAt (F := Ideal) q xk xv 16) r).trans (sum_at q xk xv r))
  exact congrArg (fun o => normed o (g (ix2 d 0)) d) (funext fun x => congrArg₂ (fun y z : EReal => y - weight (lane lm 0) (lane lm 1) (lane lm 2) (lane lm 3) * z) (h x _) (h x _))

end Cert.Kernel3Ideal.Diff

end
-- ==== Proof.DiffKernelIdealValue.lean ====
/- The array the differential attention leaves: its output blocks, read in the argument arrays, tile it. -/
module

public import proofs.«01_k».proof.Proof.DiffKernelIdealPay

@[expose] public section

set_option maxRecDepth 65536

noncomputable section

namespace Cert.Kernel3Ideal.Diff

open Idealize.ShloMosaic Idealize.ShloMosaic.TcCoe
open Cert.Kernel3Ideal Cert.Kernel3Ideal.Gen
open Cert.Online Cert.Diff

variable (m : (ℓ : Loc nD τ sig) → Buf (Elt Ideal) ℓ)

/-- Scores, values and one map's average over the whole array: batch `b`, head `h`, map `w`, query `p`, lane `x`. -/
def scoresA (X : FVec Ideal S8x8192x2048 .bf16) (b : Fin 8) (h : Fin 4) (w : Fin 2) (p : Fin 8192) (n : ℕ) (a : Fin 512) : EReal :=
  ∑ j : Fin 64, X (ix3 b (row n a) ⟨512 + (h * 128 + w * 64 + j), by omega⟩) * X (ix3 b p ⟨h * 128 + w * 64 + j, by omega⟩)
def valsA (X : FVec Ideal S8x8192x2048 .bf16) (b : Fin 8) (h : Fin 4) (x : Fin 256) (n : ℕ) (a : Fin 512) : EReal :=
  X (ix3 b (row n a) ⟨1024 + (h * 256 + x), by omega⟩)
def mapOut (X : FVec Ideal S8x8192x2048 .bf16) (b : Fin 8) (h : Fin 4) (w : Fin 2) (p : Fin 8192) (x : Fin 128) : EReal :=
  Ideal.div (runAcc (scoresA X b h w p) (valsA X b h ⟨x, by omega⟩) 16) (runAcc (scoresA X b h w p) (valsA X b h ⟨128, by omega⟩) 16)
/-- The difference of the two maps' averages, normed. -/
def diff (X : FVec Ideal S8x8192x2048 .bf16) (L : FVec Ideal S8x128 .f32) (G : FVec Ideal S128x1 .f32) (b : Fin 8) (h : Fin 4) (p : Fin 8192) (d : Fin 128) : EReal :=
  normed (fun x => mapOut X b h 0 p x - weight (lane L 0) (lane L 1) (lane L 2) (lane L 3) * mapOut X b h 1 p x) (G (ix2 d 0)) d
/-- The array the kernel leaves. -/
def diffArr (X : FVec Ideal S8x8192x2048 .bf16) (L : FVec Ideal S8x128 .f32) (G : FVec Ideal S128x1 .f32) : FVec Ideal S8x8192x512 .bf16 := fun i =>
  diff X L G (i 0) ⟨(i 2 : ℕ) / 128, by have : (i 2 : ℕ) < 512 := (i 2).isLt; omega⟩ (i 1) ⟨(i 2 : ℕ) % 128, by omega⟩

/-- The four vectors' array and the norm's scale. -/
def argL (c : Dev nD) : FVec Ideal S8x128 .f32 := m ((c.tc : Thread nD τ).loc main_arg1)
def argG (c : Dev nD) : FVec Ideal S128x1 .f32 := m ((c.tc : Thread nD τ).loc main_arg2)

theorem idx : ∀ t : Fin cfg0.N, win0_0.index t = ![t.val / 64, t.val % 16, t.val / 16 % 4] ∧ win0_2.index t = ![t.val / 64, 0, 4 + t.val / 16 % 4]
    ∧ win0_3.index t = ![t.val / 64, 0, 4 + t.val / 16 % 4] ∧ win0_4.index t = ![0, 0] ∧ win0_5.index t = ![0, 0]
    ∧ win0_6.index t = ![t.val / 64, t.val % 16, t.val / 16 % 4] ∧ t.val < 512 :=
  (by decide +kernel : ∀ t : Fin grid0.N, _)

theorem qBlk_at (c : Dev nD) (t : Fin cfg0.N) (r : Fin 512) (j : Fin 128) :
    qBlk m c t (ix3 0 r j) = argH m c (ix3 ⟨t.val / 64, by have := (idx t).2.2.2.2.2.2; omega⟩ ⟨t.val % 16 * 512 + r, by omega⟩ ⟨t.val / 16 % 4 * 128 + j, by omega⟩) := by
  unfold argH
  blk_ext! [iblk, V, idx t]
theorem kBlk_at (c : Dev nD) (t : Fin cfg0.N) (p : Fin 8192) (j : Fin 128) :
    kBlk m c t (ix3 0 p j) = argH m c (ix3 ⟨t.val / 64, by have := (idx t).2.2.2.2.2.2; omega⟩ p ⟨(4 + t.val / 16 % 4) * 128 + j, by omega⟩) := by
  unfold argH
  blk_ext! [iblk, V, idx t]
theorem vBlk_at (c : Dev nD) (t : Fin cfg0.N) (p : Fin 8192) (j : Fin 256) :
    vBlk m c t (ix3 0 p j) = argH m c (ix3 ⟨t.val / 64, by have := (idx t).2.2.2.2.2.2; omega⟩ p ⟨(4 + t.val / 16 % 4) * 256 + j, by omega⟩) := by
  unfold argH
  blk_ext! [iblk, V, idx t]
theorem lBlk_at (c : Dev nD) (t : Fin cfg0.N) (r : Fin 8) (x : Fin 128) : lBlk m c t (ix2 r x) = argL m c (ix2 r x) := by
  unfold argL
  blk_ext! [iblk, V, idx t]
theorem gBlk_at (c : Dev nD) (t : Fin cfg0.N) (d : Fin 128) : gBlk m c t (ix2 d 0) = argG m c (ix2 d 0) := by
  unfold argG
  blk_ext! [iblk, V, idx t]

theorem oBlk_at (c : Dev nD) (t : Fin cfg0.N) (r : Fin 512) (d : Fin 128) :
    oBlk m c t (ix3 0 r d) = diff (argH m c) (argL m c) (argG m c) ⟨t.val / 64, by have := (idx t).2.2.2.2.2.2; omega⟩ ⟨t.val / 16 % 4, by omega⟩
      ⟨t.val % 16 * 512 + r, by omega⟩ d := by
  have h0 : scores (qT (qBlk m c t)) (kBlk m c t) ⟨r, by omega⟩ = scoresA (argH m c) ⟨t.val / 64, by have := (idx t).2.2.2.2.2.2; omega⟩ ⟨t.val / 16 % 4, by omega⟩ 0
      ⟨t.val % 16 * 512 + r, by omega⟩ := by
    funext n a
    refine (scores_lo _ _ r n a).trans (Finset.sum_congr rfl fun j _ => congrArg₂ (fun x y : EReal => x * y) ((kBlk_at m c t _ _).trans ?_) ((qBlk_at m c t r _).trans ?_))
    · exact congrArg (fun y => argH m c (ix3 _ _ y)) (Fin.ext (by show (4 + t.val / 16 % 4) * 128 + (j : ℕ) = 512 + (t.val / 16 % 4 * 128 + 0 * 64 + j); omega))
    · exact congrArg (fun y => argH m c (ix3 _ _ y)) (Fin.ext (by show t.val / 16 % 4 * 128 + (j : ℕ) = t.val / 16 % 4 * 128 + 0 * 64 + j; omega))
  have h1 : scores (qT (qBlk m c t)) (kBlk m c t) ⟨512 + r, by omega⟩ = scoresA (argH m c) ⟨t.val / 64, by have := (idx t).2.2.2.2.2.2; omega⟩ ⟨t.val / 16 % 4, by omega⟩ 1
      ⟨t.val % 16 * 512 + r, by omega⟩ := by
    funext n a
    refine (scores_hi _ _ r n a).trans (Finset.sum_congr rfl fun j _ => congrArg₂ (fun x y : EReal => x * y) ((kBlk_at m c t _ _).trans ?_) ((qBlk_at m c t r _).trans ?_))
    · exact congrArg (fun y => argH m c (ix3 _ _ y)) (Fin.ext (by show (4 + t.val / 16 % 4) * 128 + (64 + (j : ℕ)) = 512 + (t.val / 16 % 4 * 128 + 1 * 64 + j); omega))
    · exact congrArg (fun y => argH m c (ix3 _ _ y)) (Fin.ext (by show t.val / 16 % 4 * 128 + (64 + (j : ℕ)) = t.val / 16 % 4 * 128 + 1 * 64 + j; omega))
  have hv : ∀ x, vals (vBlk m c t) x = valsA (argH m c) ⟨t.val / 64, by have := (idx t).2.2.2.2.2.2; omega⟩ ⟨t.val / 16 % 4, by omega⟩ x := by
    intro x; funext n a
    exact (vBlk_at m c t _ x).trans (congrArg (fun y => argH m c (ix3 _ _ y)) (Fin.ext (by show (4 + t.val / 16 % 4) * 256 + (x : ℕ) = 1024 + (t.val / 16 % 4 * 256 + x); omega)))
  have hl : ∀ r, lane (lBlk m c t) r = lane (argL m c) r := fun r => funext fun x => lBlk_at m c t r x
  refine (outOf_at _ _ _ _ _ d r).trans ?_
  unfold diff mapOut ratio
  rw [h0, h1, hl, hl, hl, hl, gBlk_at]
  simp only [hv]

theorem final (c : Dev nD) : (dats m 0 c).arrAt 6 (cfgs 0).N = diffArr (argH m c) (argL m c) (argG m c) := by
  refine (dats m 0 c).arrAt_eq_of_covers 6 _ (by decide +kernel) fun t _ y => ?_
  blk_simp
  rw [after_6]
  obtain ⟨r, d, rfl⟩ : ∃ (r : Fin 512) (d : Fin 128), y = ix3 0 r d := ⟨y 1, y 2, by
    refine (eq_ix3 y).trans ?_
    exact congrArg (fun z : Fin 1 => ix3 z (y 1) (y 2)) (Subsingleton.elim _ _)⟩
  refine (oBlk_at m c t r d).trans ?_
  unfold diffArr
  have h0 : ((win0_6.blk t).view.emb (ix3 0 r d) 0 : ℕ) = t.val / 64 := by blk_simp [idx t]; simp
  have h1 : ((win0_6.blk t).view.emb (ix3 0 r d) 1 : ℕ) = t.val % 16 * 512 + r := by blk_simp [idx t]
  have h2 : ((win0_6.blk t).view.emb (ix3 0 r d) 2 : ℕ) = t.val / 16 % 4 * 128 + d := by blk_simp [idx t]
  have hd : (d : ℕ) < 128 := d.isLt
  have e0 := (Fin.ext h0 : (win0_6.blk t).view.emb (ix3 0 r d) 0 = (⟨t.val / 64, by have := (idx t).2.2.2.2.2.2; omega⟩ : Fin 8))
  have e1 := (Fin.ext h1 : (win0_6.blk t).view.emb (ix3 0 r d) 1 = (⟨t.val % 16 * 512 + r, by omega⟩ : Fin 8192))
  exact (congr (congr (congr (congrArg (diff (argH m c) (argL m c) (argG m c)) e0) (Fin.ext (by show _ / 128 = t.val / 16 % 4; rw [h2]; omega))) e1) (Fin.ext (by show _ % 128 = (d : ℕ); rw [h2]; omega))).symm

end Cert.Kernel3Ideal.Diff

end
-- ==== Proof.DiffReference.lean ====
/- The reference's differential attention read at an index: per head and map the scores and their softmax, the difference of the two
   maps, the average of the values, the norm. -/
module

public import proofs.«01_k».proof.Proof.Gen.Reference3Ideal.Run
public import proofs.«01_k».proof.Proof.DiffFormula
public import Idealize.ShloMosaic.Lib.Pointwise

@[expose] public section

set_option maxRecDepth 65536

noncomputable section

namespace Cert.Reference3Ideal.Diff

open Idealize.ShloMosaic Idealize.ShloMosaic.TcCoe Idealize.ShloMosaic.StableHlo Idealize.SL Idealize.SL.Sem
open Cert.Reference3Ideal Cert.Reference3Ideal.Gen
open Cert.Online Cert.Diff

/-- The queries and the keys by head and map, the values by head. -/
def queries (X : FVec Ideal S8x8192x2048 .bf16) : FVec Ideal S8x8192x4x2x64 .f32 :=
  shapeCast _ (extractStridedSlice S8x8192x512 ![0, 0, 0] (extf .f32 X bitsLt_bf16_f32) slices_S8x8192x2048_S8x8192x512_0_0_0) shapeCasts_S8x8192x512_S8x8192x4x2x64
def keys (X : FVec Ideal S8x8192x2048 .bf16) : FVec Ideal S8x8192x4x2x64 .f32 :=
  shapeCast _ (extractStridedSlice S8x8192x512 ![0, 0, 512] (extf .f32 X bitsLt_bf16_f32) slices_S8x8192x2048_S8x8192x512_0_0_512) shapeCasts_S8x8192x512_S8x8192x4x2x64
def values (X : FVec Ideal S8x8192x2048 .bf16) : FVec Ideal S8x8192x4x128 .f32 :=
  extractStridedSlice S8x8192x4x128 ![0, 0, 0, 0] (shapeCast S8x8192x4x256 (extractStridedSlice S8x8192x1024 ![0, 0, 1024] (extf .f32 X bitsLt_bf16_f32) slices_S8x8192x2048_S8x8192x1024_0_0_1024) shapeCasts_S8x8192x1024_S8x8192x4x256) slices_S8x8192x4x256_S8x8192x4x128_0_0_0_0
/-- The scores, in base e. -/
def scoreArr (Q K : FVec Ideal S8x8192x4x2x64 .f32) : FVec Ideal S8x4x2x8192x8192 .f32 :=
  mulf (Host.dotGeneral dot_S8x8192x4x2x64_S8x8192x4x2x64_S8x4x2x8192x8192_4_4_1_1_023_023 none Q K) (broadcastInDim S8x4x2x8192x8192 ![] bcast_S_S8x4x2x8192x8192 (Host.log (constant S_ .f32 0x40000000#32)))
/-- Their maximum along the keys. -/
def maxArr (s : FVec Ideal S8x4x2x8192x8192 .f32) : FVec Ideal S8x4x2x8192 .f32 :=
  maximumf (broadcastInDim S8x4x2x8192 ![] bcast_S_S8x4x2x8192 (constant S_ .f32 0xFF800000#32)) (Host.reduce FloatOps.maximumf s (constant S_ .f32 0xFF800000#32) reducesTo_S8x4x2x8192x8192_S8x4x2x8192_d4 h_S_)
/-- A row's number at every key. -/
def spread (x : FVec Ideal S8x4x2x8192 .f32) : FVec Ideal S8x4x2x8192x8192 .f32 :=
  broadcastInDim S8x4x2x8192x8192 ![0, 1, 2, 3, 4] bcast_S8x4x2x8192x1_S8x4x2x8192x8192_0_1_2_3_4 (broadcastInDim S8x4x2x8192x1 ![0, 1, 2, 3] bcast_S8x4x2x8192_S8x4x2x8192x1_0_1_2_3 x)
/-- The exponentials. -/
def expArr (s : FVec Ideal S8x4x2x8192x8192 .f32) : FVec Ideal S8x4x2x8192x8192 .f32 := Host.exp (subf s (spread (maxArr s)))
/-- The softmax of each map. -/
def probArr (e : FVec Ideal S8x4x2x8192x8192 .f32) : FVec Ideal S8x4x2x8192x8192 .f32 :=
  Host.divf e (spread (Host.reduceAdd e (constant S_ .f32 0x00000000#32) reducesTo_S8x4x2x8192x8192_S8x4x2x8192_d4 h_S_))
/-- The weight of the second map. -/
def lamArr (L : FVec Ideal S8x128 .f32) : FVec Ideal S_ .f32 :=
  addf (subf (Host.exp (Host.reduceAdd (mulf (shapeCast S128 (extractStridedSlice S1x128 ![0, 0] L slices_S8x128_S1x128_0_0) shapeCasts_S1x128_S128) (shapeCast S128 (extractStridedSlice S1x128 ![1, 0] L slices_S8x128_S1x128_1_0) shapeCasts_S1x128_S128)) (constant S_ .f32 0x00000000#32) reducesTo_S128_S_d0 h_S_))
    (Host.exp (Host.reduceAdd (mulf (shapeCast S128 (extractStridedSlice S1x128 ![2, 0] L slices_S8x128_S1x128_2_0) shapeCasts_S1x128_S128) (shapeCast S128 (extractStridedSlice S1x128 ![3, 0] L slices_S8x128_S1x128_3_0) shapeCasts_S1x128_S128)) (constant S_ .f32 0x00000000#32) reducesTo_S128_S_d0 h_S_)))
    (constant S_ .f32 0x3E4CCCCD#32)
/-- The difference of the maps. -/
def mapArr (l : FVec Ideal S_ .f32) (p : FVec Ideal S8x4x2x8192x8192 .f32) : FVec Ideal S8x4x8192x8192 .f32 :=
  subf (shapeCast _ (extractStridedSlice S8x4x1x8192x8192 ![0, 0, 0, 0, 0] p slices_S8x4x2x8192x8192_S8x4x1x8192x8192_0_0_0_0_0) shapeCasts_S8x4x1x8192x8192_S8x4x8192x8192)
    (mulf (broadcastInDim S8x4x8192x8192 ![] bcast_S_S8x4x8192x8192 l) (shapeCast _ (extractStridedSlice S8x4x1x8192x8192 ![0, 0, 1, 0, 0] p slices_S8x4x2x8192x8192_S8x4x1x8192x8192_0_0_1_0_0) shapeCasts_S8x4x1x8192x8192_S8x4x8192x8192))
/-- The values averaged by it. -/
def avgArr (W : FVec Ideal S8x8192x4x128 .f32) (a : FVec Ideal S8x4x8192x8192 .f32) : FVec Ideal S8x8192x4x128 .f32 :=
  transpose S8x8192x4x128 [0, 3, 1, 2] (Host.dotGeneral dot_S8x8192x4x128_S8x4x8192x8192_S8x4x128x8192_1_3_3_2_02_01 none W a) transposes_S8x4x128x8192_S8x8192x4x128_0_3_1_2
/-- The norm, in the result's layout. -/
def outArr (o : FVec Ideal S8x8192x4x128 .f32) (G : FVec Ideal S128x1 .f32) : FVec Ideal S8x8192x512 .bf16 :=
  truncf .bf16 (shapeCast _ (mulf (mulf (mulf o (broadcastInDim S8x8192x4x128 ![0, 1, 2, 3] bcast_S8x8192x4x1_S8x8192x4x128_0_1_2_3 (Host.rsqrt (addf (Host.divf (broadcastInDim S8x8192x4x1 ![0, 1, 2] bcast_S8x8192x4_S8x8192x4x1_0_1_2 (Host.reduceAdd (mulf o o) (constant S_ .f32 0x00000000#32) reducesTo_S8x8192x4x128_S8x8192x4_d3 h_S_)) (broadcastInDim S8x8192x4x1 ![] bcast_S_S8x8192x4x1 (constant S_ .f32 0x43000000#32))) (broadcastInDim S8x8192x4x1 ![] bcast_S_S8x8192x4x1 (constant S_ .f32 0x358637BD#32))))))
    (broadcastInDim S8x8192x4x128 ![0, 1, 2, 3] bcast_S1x1x1x128_S8x8192x4x128_0_1_2_3 (broadcastInDim S1x1x1x128 ![3] bcast_S128_S1x1x1x128_3 (shapeCast S128 G shapeCasts_S128x1_S128)))) (broadcastInDim S8x8192x4x128 ![] bcast_S_S8x8192x4x128 (constant S_ .f32 0x3F4CCCCD#32))) shapeCasts_S8x8192x4x128_S8x8192x512) bitsLt_bf16_f32

/-- The reference's result, over its arguments. -/
def REF (X : FVec Ideal S8x8192x2048 .bf16) (L : FVec Ideal S8x128 .f32) (G : FVec Ideal S128x1 .f32) : FVec Ideal S8x8192x512 .bf16 :=
  outArr (avgArr (values X) (mapArr (lamArr L) (probArr (expArr (scoreArr (queries X) (keys X)))))) G

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference3Ideal.Value.run m ρ

theorem ofBits_two : Ideal.ofBits .f32 0x40000000#32 = ((2 : ℝ) : EReal) := by
  simp [Ideal.ofBits, Ideal.ieee]
  rw [← EReal.coe_mul]; norm_num
theorem negInf : Ideal.ofBits .f32 0xFF800000#32 = ⊥ := by
  simp [Ideal.ofBits, Ideal.ieee]

theorem queries_at (X : FVec Ideal S8x8192x2048 .bf16) (b : Fin 8) (p : Fin 8192) (h : Fin 4) (m : Fin 2) (j : Fin 64) :
    queries X (ix5 b p h m j) = X (ix3 b p ⟨h * 128 + m * 64 + j, by omega⟩) := by
  pointwise [queries]
theorem keys_at (X : FVec Ideal S8x8192x2048 .bf16) (b : Fin 8) (p : Fin 8192) (h : Fin 4) (m : Fin 2) (j : Fin 64) :
    keys X (ix5 b p h m j) = X (ix3 b p ⟨512 + (h * 128 + m * 64 + j), by omega⟩) := by
  pointwise [keys]
theorem values_at (X : FVec Ideal S8x8192x2048 .bf16) (b : Fin 8) (p : Fin 8192) (h : Fin 4) (d : Fin 128) :
    values X (ix4 b p h d) = X (ix3 b p ⟨1024 + (h * 256 + d), by omega⟩) := by
  pointwise [values]

theorem scoreArr_at (Q K : FVec Ideal S8x8192x4x2x64 .f32) (b : Fin 8) (h : Fin 4) (m : Fin 2) (p k : Fin 8192) :
    scoreArr Q K (ix5 b h m p k) = (∑ j : Fin 64, Q (ix5 b p h m j) * K (ix5 b k h m j)) * ((Real.log 2 : ℝ) : EReal) := by
  pointwise [scoreArr]
  rw [ofBits_two, Ideal.log_coe, if_neg (by norm_num)]

/-- The host's maximum over the last axis, from −∞. -/
theorem hostMax_at {n0 n1 n2 n3 n4 : ℕ} (s : FVec Ideal ⟨5, ![n0, n1, n2, n3, n4]⟩ .f32)
    (h : (⟨5, ![n0, n1, n2, n3, n4]⟩ : Shape).ReducesTo [4] ⟨4, ![n0, n1, n2, n3]⟩) (hu : 0 < S_.numel) (a : Fin n0) (b : Fin n1) (c : Fin n2) (d : Fin n3) :
    Host.reduce (u := S_) FloatOps.maximumf s (constant S_ .f32 0xFF800000#32) h hu (ix4 a b c d) = Finset.univ.fold max ⊥ fun k : Fin n4 => s (ix5 a b c d k) := by
  pointwise
  rw [negInf]

theorem maxArr_at (s : FVec Ideal S8x4x2x8192x8192 .f32) (b : Fin 8) (h : Fin 4) (m : Fin 2) (p : Fin 8192) :
    maxArr s (ix4 b h m p) = Finset.univ.fold max ⊥ fun k : Fin 8192 => s (ix5 b h m p k) := by
  unfold maxArr
  rw [maximumf_apply]
  refine (congrArg₂ max rfl (hostMax_at s _ _ b h m p)).trans ?_
  show max (Ideal.ofBits .f32 0xFF800000#32) _ = _
  rw [negInf, max_eq_right bot_le]

theorem expArr_at (s : FVec Ideal S8x4x2x8192x8192 .f32) (b : Fin 8) (h : Fin 4) (m : Fin 2) (p k : Fin 8192) :
    expArr s (ix5 b h m p k) = Ideal.exp (s (ix5 b h m p k) - maxArr s (ix4 b h m p)) := by
  pointwise [expArr, spread]

theorem probArr_at (e : FVec Ideal S8x4x2x8192x8192 .f32) (b : Fin 8) (h : Fin 4) (m : Fin 2) (p k : Fin 8192) :
    probArr e (ix5 b h m p k) = Ideal.div (e (ix5 b h m p k)) (∑ k' : Fin 8192, e (ix5 b h m p k')) := by
  pointwise [probArr, spread]

/-- A row of the four vectors. -/
def vec (L : FVec Ideal S8x128 .f32) (r : Fin 8) (x : Fin 128) : EReal := L (ix2 r x)

theorem lamArr_at (L : FVec Ideal S8x128 .f32) : lamArr L ix0 = weight (vec L 0) (vec L 1) (vec L 2) (vec L 3) := by
  pointwise [lamArr]
  rfl

theorem mapArr_at (l : FVec Ideal S_ .f32) (q : FVec Ideal S8x4x2x8192x8192 .f32) (b : Fin 8) (h : Fin 4) (p k : Fin 8192) :
    mapArr l q (ix4 b h p k) = q (ix5 b h 0 p k) - l ix0 * q (ix5 b h 1 p k) := by
  pointwise [mapArr]

theorem avgArr_at (W : FVec Ideal S8x8192x4x128 .f32) (a : FVec Ideal S8x4x8192x8192 .f32) (b : Fin 8) (p : Fin 8192) (h : Fin 4) (d : Fin 128) :
    avgArr W a (ix4 b p h d) = ∑ k : Fin 8192, W (ix4 b k h d) * a (ix4 b h p k) := by
  pointwise [avgArr]

theorem outArr_at (o : FVec Ideal S8x8192x4x128 .f32) (G : FVec Ideal S128x1 .f32) (b : Fin 8) (p : Fin 8192) (h : Fin 4) (d : Fin 128) :
    outArr o G (ix3 b p ⟨h * 128 + d, by omega⟩) = normed (fun x => o (ix4 b p h x)) (G (ix2 d 0)) d := by
  pointwise [outArr]
  rfl

/-- The score of query `p` and key `k` in head `h` and map `m`, in base two. -/
def score (X : FVec Ideal S8x8192x2048 .bf16) (b : Fin 8) (h : Fin 4) (m : Fin 2) (p k : Fin 8192) : EReal :=
  ∑ j : Fin 64, X (ix3 b p ⟨h * 128 + m * 64 + j, by omega⟩) * X (ix3 b k ⟨512 + (h * 128 + m * 64 + j), by omega⟩)

/-- The largest score of query `p`, in base e. -/
def top (X : FVec Ideal S8x8192x2048 .bf16) (b : Fin 8) (h : Fin 4) (m : Fin 2) (p : Fin 8192) : EReal :=
  Finset.univ.fold max ⊥ fun k : Fin 8192 => score X b h m p k * ((Real.log 2 : ℝ) : EReal)

/-- The probability of key `k`. -/
def prob (X : FVec Ideal S8x8192x2048 .bf16) (b : Fin 8) (h : Fin 4) (m : Fin 2) (p k : Fin 8192) : EReal :=
  Ideal.div (Ideal.exp (score X b h m p k * ((Real.log 2 : ℝ) : EReal) - top X b h m p)) (∑ k' : Fin 8192, Ideal.exp (score X b h m p k' * ((Real.log 2 : ℝ) : EReal) - top X b h m p))

/-- The reference's result read at an index. -/
theorem REF_at (X : FVec Ideal S8x8192x2048 .bf16) (L : FVec Ideal S8x128 .f32) (G : FVec Ideal S128x1 .f32) (b : Fin 8) (p : Fin 8192) (h : Fin 4) (d : Fin 128) :
    REF X L G (ix3 b p ⟨h * 128 + d, by omega⟩) = normed (fun x => ∑ k : Fin 8192, X (ix3 b k ⟨1024 + (h * 256 + x), by omega⟩)
      * (prob X b h 0 p k - weight (vec L 0) (vec L 1) (vec L 2) (vec L 3) * prob X b h 1 p k)) (G (ix2 d 0)) d := by
  unfold REF
  rw [outArr_at]
  simp only [avgArr_at, mapArr_at, lamArr_at, values_at, probArr_at, expArr_at, maxArr_at, scoreArr_at, queries_at, keys_at, prob, score, top]

end Cert.Reference3Ideal.Diff

end
-- ==== Proof.DiffEqual.lean ====
/- The differential attention's array is the reference's: for finite queries, keys, values and weight vectors, and ones in the lane after
   the values. -/
module

public import proofs.«01_k».proof.Proof.DiffKernelIdealValue
public import proofs.«01_k».proof.Proof.DiffReference
public import proofs.«01_k».proof.Pre_finite_maps

@[expose] public section

set_option maxRecDepth 65536

noncomputable section

namespace Cert.DiffEqual

open Idealize.ShloMosaic Idealize.ShloMosaic.TcCoe
open Cert.Online Cert.Diff Cert.Kernel3Ideal.Diff
open Cert.Reference3Ideal (S8x8192x2048 S8x128 S128x1 S8x8192x512)

/-- A sum over the keys, block by block. -/
theorem sum_keys (f : Fin 8192 → EReal) : ∑ k : Fin 8192, f k = ∑ i : Fin 16, ∑ a : Fin 512, f (row i a) := by
  rw [Fin.sum_univ_tiles 16 512 rfl f]
  refine Finset.sum_congr rfl fun i _ => Finset.sum_congr rfl fun a _ => congrArg f (Fin.ext ?_)
  show (i : ℕ) * 512 + a = 512 * (i % 16) + a
  omega

variable (X : FVec Ideal S8x8192x2048 .bf16) (L : FVec Ideal S8x128 .f32) (G : FVec Ideal S128x1 .f32)

/-- What the equality takes: finite queries, keys, values and weight vectors, and ones in the lane after the values. -/
structure Good : Prop where
  q : ∀ (b : Fin 8) (p : Fin 8192) (h : Fin 4) (j : Fin 128), IsFin (X (ix3 b p ⟨h * 128 + j, by omega⟩))
  k : ∀ (b : Fin 8) (p : Fin 8192) (h : Fin 4) (j : Fin 128), IsFin (X (ix3 b p ⟨512 + (h * 128 + j), by omega⟩))
  v : ∀ (b : Fin 8) (p : Fin 8192) (h : Fin 4) (j : Fin 128), IsFin (X (ix3 b p ⟨1024 + (h * 256 + j), by omega⟩))
  one : ∀ (b : Fin 8) (p : Fin 8192) (h : Fin 4), X (ix3 b p ⟨1024 + (h * 256 + 128), by omega⟩) = 1
  lam : ∀ (r : Fin 4) (j : Fin 128), IsFin (L (ix2 ⟨r, by omega⟩ j))

variable {X L}

theorem Good.q' (g : Good X L) (b : Fin 8) (p : Fin 8192) (h : Fin 4) (w : Fin 2) (j : Fin 64) : IsFin (X (ix3 b p ⟨h * 128 + w * 64 + j, by omega⟩)) :=
  (congrArg (fun y => IsFin (X (ix3 b p y))) (Fin.ext (by show (h : ℕ) * 128 + (w * 64 + j) = h * 128 + w * 64 + j; omega))).mp (g.q b p h ⟨w * 64 + j, by omega⟩)
theorem Good.k' (g : Good X L) (b : Fin 8) (p : Fin 8192) (h : Fin 4) (w : Fin 2) (j : Fin 64) : IsFin (X (ix3 b p ⟨512 + (h * 128 + w * 64 + j), by omega⟩)) :=
  (congrArg (fun y => IsFin (X (ix3 b p y))) (Fin.ext (by show 512 + ((h : ℕ) * 128 + (w * 64 + j)) = 512 + (h * 128 + w * 64 + j); omega))).mp (g.k b p h ⟨w * 64 + j, by omega⟩)

theorem Good.weight (g : Good X L) : IsFin (weight (lane L 0) (lane L 1) (lane L 2) (lane L 3)) :=
  isFin_weight _ _ _ _ (g.lam 0) (g.lam 1) (g.lam 2) (g.lam 3)

theorem score_eq (b : Fin 8) (h : Fin 4) (w : Fin 2) (p : Fin 8192) (n : ℕ) (a : Fin 512) :
    Cert.Reference3Ideal.Diff.score X b h w p (row n a) = scoresA X b h w p n a :=
  Finset.sum_congr rfl fun j _ => mul_comm _ _

theorem isFin_score (g : Good X L) (b : Fin 8) (h : Fin 4) (w : Fin 2) (p k : Fin 8192) : IsFin (Cert.Reference3Ideal.Diff.score X b h w p k) :=
  IsFin.sum _ _ fun j _ => (g.q' b p h w j).mul (g.k' b k h w j)

theorem isFin_top (g : Good X L) (b : Fin 8) (h : Fin 4) (w : Fin 2) (p : Fin 8192) : IsFin (Cert.Reference3Ideal.Diff.top X b h w p) :=
  isFin_fold _ fun k => (isFin_score g b h w p k).mul ⟨_, rfl⟩

/-- One map's average, block by block and at once. -/
theorem map_eq (g : Good X L) (b : Fin 8) (h : Fin 4) (w : Fin 2) (p : Fin 8192) (x : Fin 128) :
    mapOut X b h w p x = ∑ k : Fin 8192, X (ix3 b k ⟨1024 + (h * 256 + x), by omega⟩) * Cert.Reference3Ideal.Diff.prob X b h w p k := by
  unfold mapOut Cert.Reference3Ideal.Diff.prob
  have hone : valsA X b h ⟨128, by omega⟩ = fun _ _ => 1 := by funext n a; exact g.one b _ h
  rw [hone]
  refine (flash_eq (scoresA X b h w p) (valsA X b h ⟨x, by omega⟩) (fun n a => score_eq (X := X) b h w p n a ▸ isFin_score g b h w p (row n a)) 15 _ (isFin_top g b h w p)).trans ?_
  rw [sum_keys, sum_keys]
  simp only [score_eq]
  rfl

theorem diff_eq (g : Good X L) (b : Fin 8) (h : Fin 4) (p : Fin 8192) (d : Fin 128) :
    diff X L G b h p d = Cert.Reference3Ideal.Diff.REF X L G (ix3 b p ⟨h * 128 + d, by omega⟩) := by
  refine Eq.trans ?_ (Cert.Reference3Ideal.Diff.REF_at X L G b p h d).symm
  unfold diff
  refine congrArg (fun o => normed o (G (ix2 d 0)) d) (funext fun x => ?_)
  rw [map_eq g, map_eq g]
  exact (sum_sub _ _ _ _ (fun k => g.v b k h x) (fun k => isFin_prob _ (isFin_score g b h 0 p) _ (isFin_top g b h 0 p) k)
    (fun k => isFin_prob _ (isFin_score g b h 1 p) _ (isFin_top g b h 1 p) k) g.weight).symm

theorem arr_eq (g : Good X L) : diffArr X L G = Cert.Reference3Ideal.Diff.REF X L G := by
  funext i
  obtain ⟨b, p, x, rfl⟩ : ∃ (b : Fin 8) (p : Fin 8192) (x : Fin 512), i = ix3 b p x := ⟨i 0, i 1, i 2, eq_ix3 i⟩
  refine (diff_eq G g b ⟨x / 128, by omega⟩ p ⟨x % 128, by omega⟩).trans ?_
  refine congrArg (fun y : Fin 512 => Cert.Reference3Ideal.Diff.REF X L G (ix3 b p y)) (Fin.ext ?_)
  show (x : ℕ) / 128 * 128 + x % 128 = x
  omega

/-- The precondition's shapes agree. -/
theorem facts : Cert.Pre_finite_maps.Facts where
  slices_S8x8192x2048_S8x8192x512_0_0_0 := by decide
  shapeCasts_S8x8192x512_S8x8192x4x128 := by decide
  slices_S8x8192x2048_S8x8192x512_0_0_512 := by decide
  slices_S8x8192x2048_S8x8192x1024_0_0_1024 := by decide
  shapeCasts_S8x8192x1024_S8x8192x4x256 := by decide
  bcast_S_S8x8192x4x128 := by decide
  slices_S8x8192x4x256_S8x8192x4x128_0_0_0_0 := by decide
  slices_S8x8192x4x256_S8x8192x4x1_0_0_0_128 := by decide
  bcast_S_S8x8192x4x1 := by decide
  bcast_S8x8192x4x1_S8x8192x4x128_0_1_2_3 := by decide
  slices_S8x128_S4x128_0_0 := by decide
  bcast_S_S4x128 := by decide
  bcast_S4x128_S1x1x4x128_2_3 := by decide
  bcast_S1x1x4x128_S8x8192x4x128_0_1_2_3 := by decide

theorem ofBits_inf : Ideal.ofBits .bf16 0x7F80#16 = ⊤ := by simp [Ideal.ofBits, Ideal.ieee]
theorem ofBits_inf32 : Ideal.ofBits .f32 0x7F800000#32 = ⊤ := by simp [Ideal.ofBits, Ideal.ieee]

theorem isFin_of_abs {x : EReal} (h : max x (-x) < ⊤) : IsFin x := by
  refine (isFin_iff x).mpr ⟨fun e => ?_, fun e => ?_⟩ <;> subst e <;> simp at h

theorem bits_and {a b c d e : Bool} (h : IntOp.andi (IntOp.andi (IntOp.andi (IntOp.andi (BitVec.ofBool a) (BitVec.ofBool b)) (BitVec.ofBool c)) (BitVec.ofBool d)) (BitVec.ofBool e) = 1#1) :
    a = true ∧ b = true ∧ c = true ∧ d = true ∧ e = true := by
  revert h; cases a <;> cases b <;> cases c <;> cases d <;> cases e <;> decide

/-- The precondition read at an index. -/
theorem pre_at (H : letI := facts; Cert.Pre_finite_maps.fn (F := Ideal) X L G = fun _ => 1#1) (b : Fin 8) (p : Fin 8192) (h : Fin 4) (j : Fin 128) :
    IsFin (X (ix3 b p ⟨h * 128 + j, by omega⟩)) ∧ IsFin (X (ix3 b p ⟨512 + (h * 128 + j), by omega⟩)) ∧ IsFin (X (ix3 b p ⟨1024 + (h * 256 + j), by omega⟩))
      ∧ X (ix3 b p ⟨1024 + (h * 256 + 128), by omega⟩) = 1 ∧ IsFin (L (ix2 ⟨h, by omega⟩ j)) := by
  have e := congrFun H (ix4 b p h j)
  unfold Cert.Pre_finite_maps.fn Cert.Pre_finite_maps.fn_part1 at e
  pointwise at e
  obtain ⟨h1, h2, h3, h4, h5⟩ := bits_and e
  have t1 := of_decide_eq_true h1
  have t2 := of_decide_eq_true h2
  have t3 := of_decide_eq_true h3
  have t5 := of_decide_eq_true h5
  rw [ofBits_inf] at t1 t2 t3
  rw [ofBits_inf32] at t5
  exact ⟨isFin_of_abs t1, isFin_of_abs t2, isFin_of_abs t3, of_decide_eq_true h4, isFin_of_abs t5⟩

/-- Under the precondition the kernel's array is the reference's. -/
theorem arr_eq_of_pre (H : letI := facts; Cert.Pre_finite_maps.fn (F := Ideal) X L G = fun _ => 1#1) :
    diffArr X L G = Cert.Reference3Ideal.Diff.REF X L G :=
  arr_eq G
    { q := fun b p h j => (pre_at G H b p h j).1
      k := fun b p h j => (pre_at G H b p h j).2.1
      v := fun b p h j => (pre_at G H b p h j).2.2.1
      one := fun b p h => (pre_at G H b p h 0).2.2.2.1
      lam := fun r j => (pre_at G H 0 0 r j).2.2.2.2 }

end Cert.DiffEqual

end
-- ==== Proof.ProjKernelIdealPoint.lean ====
/- What one point of the input projection leaves in its gate columns, as values of the blocks it reads. -/
module

public import proofs.«01_k».proof.Proof.Gen.Kernel4Ideal.Value
public import Idealize.ShloMosaic.Lib.Pointwise
public import Idealize.ShloMosaic.Lib.Pipeline.ValueKit

@[expose] public section

set_option maxRecDepth 65536

noncomputable section

namespace Cert.Kernel4Ideal.Proj

open Idealize.ShloMosaic Idealize.ShloMosaic.TcCoe
open Cert.Kernel4Ideal Cert.Kernel4Ideal.Gen

theorem hz : (![0, 0] : Fin 2 → Nat) = fun _ => 0 := funext fun a => by fin_cases a <;> rfl

/-- The rows of a block times 512 columns of the weights, the bias, the logistic function. -/
def gateBlk (x : FVec Ideal S256x1024 .bf16) (w : FVec Ideal S1024x512 .bf16) (b : FVec Ideal S1x512 .f32) : FVec Ideal S256x512 .bf16 :=
  k0_pay158 (F := Ideal) x w b

theorem pay_153 (x w b) : k0_pay153 (F := Ideal) (k0_pay151 x w) (k0_pay152 b) = gateBlk x w b := rfl
theorem pay_154 (x w b) : k0_pay154 (F := Ideal) x w b = gateBlk x w b := rfl
theorem pay_155 (x w b) : k0_pay155 (F := Ideal) x w b = gateBlk x w b := rfl
theorem pay_156 (x w b) : k0_pay156 (F := Ideal) x w b = gateBlk x w b := rfl
theorem pay_157 (x w b) : k0_pay157 (F := Ideal) x w b = gateBlk x w b := rfl
theorem pay_158 (x w b) : k0_pay158 (F := Ideal) x w b = gateBlk x w b := rfl

/-- The gates of a block of rows. -/
def gateAt (x : FVec Ideal S256x1024 .bf16) (w : FVec Ideal S1024x8448 .bf16) (b : FVec Ideal S1x3072 .f32) (r : Fin 256) (j : Fin 3072) : EReal :=
  Ideal.logistic ((∑ d : Fin 1024, x (ix2 r d) * w (ix2 d ⟨5376 + j, by omega⟩)) + b (ix2 0 j))
def gateRows (x : FVec Ideal S256x1024 .bf16) (w : FVec Ideal S1024x8448 .bf16) (b : FVec Ideal S1x3072 .f32) : FVec Ideal S256x3072 .bf16 :=
  fun i => gateAt x w b (i 0) (i 1)

theorem gateBlk_at (x : FVec Ideal S256x1024 .bf16) (w : FVec Ideal S1024x512 .bf16) (b : FVec Ideal S1x512 .f32) (r : Fin 256) (j : Fin 512) :
    gateBlk x w b (ix2 r j) = Ideal.logistic ((∑ d : Fin 1024, x (ix2 r d) * w (ix2 d j)) + b (ix2 0 j)) := by
  pointwise [gateBlk, k0_pay158]

/-- Columns of an array, loaded from column `o`. -/
theorem ld_cols {n m k : ℕ} {e : EltTy} (X : (⟨2, ![n, m]⟩ : Shape).Idx → Elt Ideal e) (o : ℕ)
    (h : ∀ a, (![0, o] : Fin 2 → Nat) a + (![n, k] : Fin 2 → Nat) a ≤ (![n, m] : Fin 2 → Nat) a) (r : Fin n) (j : Fin k) (hj : o + j.val < m) :
    View.ld (Val := Elt Ideal) (e' := e) X (Rect.unit (s := ⟨2, ![n, m]⟩) ![0, o] ![n, k] h) (ix2 r j) = X (ix2 r ⟨o + j, hj⟩) := by
  refine congrArg X (funext fun a => Fin.ext ?_)
  fin_cases a
  · show 0 + 1 * (r : ℕ) = r
    omega
  · show o + 1 * (j : ℕ) = o + j
    omega
/-- Where a column stored from column `o` stands. -/
theorem emb_cols {n m k : ℕ} (o : ℕ) (h : ∀ a, (![0, o] : Fin 2 → Nat) a + (![n, k] : Fin 2 → Nat) a ≤ (![n, m] : Fin 2 → Nat) a)
    (r : Fin n) (j : Fin k) (hj : o + j.val < m) :
    (Rect.unit (s := ⟨2, ![n, m]⟩) ![0, o] ![n, k] h).emb (ix2 r j) = ix2 r ⟨o + j, hj⟩ := by
  refine funext fun a => Fin.ext ?_
  fin_cases a
  · show 0 + 1 * (r : ℕ) = r
    omega
  · show o + 1 * (j : ℕ) = o + j
    omega

/-- The 512 columns stored at column `o` are the gates there. -/
theorem gate_piece (x : FVec Ideal S256x1024 .bf16) (w : FVec Ideal S1024x8448 .bf16) (b : FVec Ideal S1x3072 .f32) (o p : ℕ) (hp : p = 5376 + o)
    (hw : ∀ a, (![0, p] : Fin 2 → Nat) a + (![1024, 512] : Fin 2 → Nat) a ≤ (![1024, 8448] : Fin 2 → Nat) a)
    (hb : ∀ a, (![0, o] : Fin 2 → Nat) a + (![1, 512] : Fin 2 → Nat) a ≤ (![1, 3072] : Fin 2 → Nat) a)
    (ho : ∀ a, (![0, o] : Fin 2 → Nat) a + (![256, 512] : Fin 2 → Nat) a ≤ (![256, 3072] : Fin 2 → Nat) a) (z : S256x512.Idx) :
    gateBlk x (View.ld (Val := Elt Ideal) (e' := .bf16) w (Rect.unit (s := S1024x8448) ![0, p] ![1024, 512] hw))
        (View.ld (Val := Elt Ideal) (e' := .f32) b (Rect.unit (s := S1x3072) ![0, o] ![1, 512] hb)) z
      = gateRows x w b ((Rect.unit (s := S256x3072) ![0, o] ![256, 512] ho).emb z) := by
  subst hp
  have hj : o + 512 ≤ 3072 := ho 1
  obtain ⟨r, j, rfl⟩ : ∃ (r : Fin 256) (j : Fin 512), z = ix2 r j := ⟨z 0, z 1, eq_ix2 z⟩
  have hz : o + (j : ℕ) < 3072 := by omega
  refine (gateBlk_at _ _ _ _ _).trans (Eq.trans ?_ (congrArg (gateRows x w b) (emb_cols o ho r j hz)).symm)
  show _ = gateAt x w b r ⟨o + j, hz⟩
  unfold gateAt
  refine congrArg Ideal.logistic (congrArg₂ (fun x y : EReal => x + y) (Finset.sum_congr rfl fun d _ => congrArg (x (ix2 r d) * ·) ?_) ?_)
  · refine (ld_cols (e := .bf16) w (5376 + o) hw d j (by omega)).trans (congrArg (fun i => w (ix2 d i)) (Fin.ext ?_))
    show 5376 + o + (j : ℕ) = 5376 + (o + j)
    omega
  · exact ld_cols (e := .f32) b o hb 0 j hz

variable (c : Dev nD) (i : grid0.Coords) (arg2 : Memref sig .tc .vmem S256x1024 .bf16) (harg2 : arg2.IsWhole) (arg3 : Memref sig .tc .vmem S1024x8448 .bf16) (harg3 : arg3.IsWhole) (arg4 : Memref sig .tc .vmem S1x3072 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2048 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S1x1x256x1024 .bf16) (harg18 : arg18.IsWhole) (arg19 : Memref sig .tc .vmem S1x4x64x1024 .bf16) (harg19 : arg19.IsWhole) (arg20 : Memref sig .tc .vmem S1x16x16x1024 .bf16) (harg20 : arg20.IsWhole) (arg21 : Memref sig .tc .vmem S256x3072 .bf16) (harg21 : arg21.IsWhole) (arg22 : Memref sig .tc .vmem S4x256x128 .f32) (harg22 : arg22.IsWhole)
    (x0 : Vec Ideal S256x1024 .bf16) (x1 : Vec Ideal S1024x8448 .bf16) (x2 : Vec Ideal S1x3072 .f32) (x3 : Vec Ideal S256x128 .f32) (x4 : Vec Ideal S256x128 .f32) (x5 : Vec Ideal S256x128 .f32) (x6 : Vec Ideal S256x128 .f32) (x7 : Vec Ideal S1x384 .f32) (x8 : Vec Ideal S1x256 .f32) (x9 : Vec Ideal S384x1024 .bf16) (x10 : Vec Ideal S256x1024 .bf16) (x11 : Vec Ideal S256x1024 .bf16)

theorem gates_out : out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = gateRows x0 x1 x2 := by
  unfold out0_A_19
  rw [View.read_writes_eq_canon _ _ _ (cover0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11)]
  funext y
  refine View.canon_apply_of_pieces _ _ ?_ y (cover0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 y)
  unfold kernelRun0_A
  dsimp only
  sl_unfold_words
  simp only [View.readAt_eq_ld, harg2.read_unread, harg3.read_unread, harg4.read_unread, View.ld_unit_zero (S := S256x1024) hz]
  simp only [pay_153, pay_154, pay_155, pay_156, pay_157, pay_158]
  intro p hp
  simp only [List.mem_cons, List.not_mem_nil, or_false] at hp
  obtain rfl | rfl | rfl | rfl | rfl | rfl := hp
  · exact gate_piece x0 x1 x2 2560 7936 (by decide) _ _ (by decide)
  · exact gate_piece x0 x1 x2 2048 7424 (by decide) _ _ (by decide)
  · exact gate_piece x0 x1 x2 1536 6912 (by decide) _ _ (by decide)
  · exact gate_piece x0 x1 x2 1024 6400 (by decide) _ _ (by decide)
  · exact gate_piece x0 x1 x2 512 5888 (by decide) _ _ (by decide)
  · exact gate_piece x0 x1 x2 0 5376 (by decide) _ _ (by decide)

end Cert.Kernel4Ideal.Proj

end
-- ==== Proof.ProjKernelIdealHeads.lean ====
/- What one point of the input projection leaves in its first result, as values of the blocks it reads: the differential attention's
   rotated queries and keys, and its values with a one behind each head's. -/
module

public import proofs.«01_k».proof.Proof.ProjKernelIdealPoint
public import Idealize.ShloMosaic.Lib.KernelVsHost

@[expose] public section

set_option maxRecDepth 65536

noncomputable section

namespace Cert.Kernel4Ideal.Proj

open Idealize.ShloMosaic Idealize.ShloMosaic.TcCoe
open Cert.Kernel4Ideal Cert.Kernel4Ideal.Gen

/-- Two arrays of 128 columns side by side. -/
def pair (a b : FVec Ideal S256x128 .f32) : FVec Ideal S256x256 .bf16 :=
  truncf .bf16 (concatenate S256x256 1 [⟨S256x128, a⟩, ⟨S256x128, b⟩] concatenates_S256x128_S256x128_S256x256_d1) bitsLt_bf16_f32
def lo (y : FVec Ideal S256x256 .f32) : FVec Ideal S256x128 .f32 := extractStridedSlice S256x128 ![0, 0] y slices_S256x256_o0_0_S256x128
def hi (y : FVec Ideal S256x256 .f32) : FVec Ideal S256x128 .f32 := extractStridedSlice S256x128 ![0, 128] y slices_S256x256_o0_128_S256x128
/-- 128 columns rotated: each times its cosine, plus its partner times its sine. -/
def tile (y cs sn : FVec Ideal S256x128 .f32) : FVec Ideal S256x128 .f32 :=
  addf (mulf y cs) (mulf (select k0_pay6 (dynamicRotate 1 120#32 none y rotates_S256x128_d1) (dynamicRotate 1 8#32 none y rotates_S256x128_d1)) sn)
def scaled (y : FVec Ideal S256x128 .f32) : FVec Ideal S256x128 .f32 := mulf y (broadcast S256x128 (Scalar.ofBits .f32 0x3E38AA3B#32))
/-- 256 columns of the queries, and of the keys. -/
def queryBlk (x : FVec Ideal S256x1024 .bf16) (w : FVec Ideal S1024x256 .bf16) (cs sn : FVec Ideal S256x128 .f32) : FVec Ideal S256x256 .bf16 :=
  pair (scaled (tile (lo (k0_pay7 x w)) cs sn)) (scaled (tile (hi (k0_pay7 x w)) cs sn))
def keyBlk (x : FVec Ideal S256x1024 .bf16) (w : FVec Ideal S1024x256 .bf16) (cs sn : FVec Ideal S256x128 .f32) : FVec Ideal S256x256 .bf16 :=
  pair (tile (lo (k0_pay7 x w)) cs sn) (tile (hi (k0_pay7 x w)) cs sn)
/-- 128 of the values' columns. -/
def valueBlk (o : ℕ) (h : S256x512.Slices ![0, o] S256x128) (x : FVec Ideal S256x1024 .bf16) (w : FVec Ideal S1024x512 .bf16) : FVec Ideal S256x128 .bf16 :=
  truncf .bf16 (extractStridedSlice S256x128 ![0, o] (k0_pay18 (F := Ideal) x w) h) bitsLt_bf16_f32
/-- A one and 127 zeros in every row. -/
def oneBlk : FVec Ideal S256x128 .bf16 := k0_pay20 (F := Ideal) (k0_pay19 (iota .tc S256x128 32 [1] iota_S256x128_d1_w32))

theorem pay_11 (x w cs sn) : k0_pay11 (F := Ideal) (k0_pay4 cs) (k0_pay5 sn) k0_pay6 (k0_pay8 x cs sn w) (k0_pay9 x w) (k0_pay10 x w)
    = queryBlk x w (k0_pay4 cs) (k0_pay5 sn) := rfl
theorem pay_12 (x w cs sn) : k0_pay12 (F := Ideal) x cs sn k0_pay6 w = queryBlk x w cs sn := rfl
theorem pay_16 (x w cs sn) : k0_pay16 (F := Ideal) cs sn k0_pay6 (k0_pay13 x w) (k0_pay14 x w) (k0_pay15 x w) = keyBlk x w cs sn := rfl
theorem pay_17 (x w cs sn) : k0_pay17 (F := Ideal) x cs sn k0_pay6 w = keyBlk x w cs sn := rfl
theorem pay_21 (x w) : k0_pay21 (F := Ideal) (k0_pay18 x w) = valueBlk 0 slices_S256x512_o0_0_S256x128 x w := rfl
theorem pay_22 (x w) : k0_pay22 (F := Ideal) (k0_pay18 x w) = valueBlk 128 slices_S256x512_o0_128_S256x128 x w := rfl
theorem pay_23 (x w) : k0_pay23 (F := Ideal) (k0_pay18 x w) = valueBlk 256 slices_S256x512_o0_256_S256x128 x w := rfl
theorem pay_24 (x w) : k0_pay24 (F := Ideal) (k0_pay18 x w) = valueBlk 384 slices_S256x512_o0_384_S256x128 x w := rfl
theorem pay_4 (cs : FVec Ideal S256x128 .f32) : k0_pay4 cs = cs := by
  funext i
  obtain ⟨r, l, rfl⟩ : ∃ (r : Fin 256) (l : Fin 128), i = ix2 r l := ⟨i 0, i 1, eq_ix2 i⟩
  pointwise [k0_pay4]
theorem pay_5 (sn : FVec Ideal S256x128 .f32) : k0_pay5 sn = sn := by
  funext i
  obtain ⟨r, l, rfl⟩ : ∃ (r : Fin 256) (l : Fin 128), i = ix2 r l := ⟨i 0, i 1, eq_ix2 i⟩
  pointwise [k0_pay5]

/-- A row times a column of the packed weights. -/
def acc (x : FVec Ideal S256x1024 .bf16) (w : FVec Ideal S1024x8448 .bf16) (r : Fin 256) (q : Fin 8448) : EReal :=
  ∑ d : Fin 1024, x (ix2 r d) * w (ix2 d q)
/-- A column of the queries or keys, rotated: the first 8 of 64 take the columns 8 further, the others the columns 8 before. -/
def rotAt (x : FVec Ideal S256x1024 .bf16) (w : FVec Ideal S1024x8448 .bf16) (cs sn : FVec Ideal S256x128 .f32) (r : Fin 256) (q : Fin 5376) : EReal :=
  acc x w r ⟨q, by omega⟩ * cs (ix2 r ⟨q % 128, by omega⟩)
    + (if (q : ℕ) % 64 < 8 then acc x w r ⟨q + 8, by omega⟩ else acc x w r ⟨q - 8, by omega⟩) * sn (ix2 r ⟨q % 128, by omega⟩)
/-- A column of the result. -/
def headAt (x : FVec Ideal S256x1024 .bf16) (w : FVec Ideal S1024x8448 .bf16) (cs sn : FVec Ideal S256x128 .f32) (r : Fin 256) (q : Fin 2048) : EReal :=
  if h : (q : ℕ) < 1024 then
    if (q : ℕ) < 512 then rotAt x w cs sn r ⟨q, by omega⟩ * Ideal.ofBits .f32 0x3E38AA3B#32 else rotAt x w cs sn r ⟨q, by omega⟩
  else if (q : ℕ) % 256 < 128 then acc x w r ⟨1024 + (q - 1024) / 256 * 128 + q % 256, by omega⟩
  else if (q : ℕ) % 256 = 128 then 1 else 0
def headRows (x : FVec Ideal S256x1024 .bf16) (w : FVec Ideal S1024x8448 .bf16) (cs sn : FVec Ideal S256x128 .f32) : FVec Ideal S256x2048 .bf16 :=
  fun i => headAt x w cs sn (i 0) (i 1)

theorem mask_at (r : Fin 256) (l : Fin 128) : k0_pay6 (ix2 r l) = if (l : ℕ) % 64 < 8 then 1#1 else 0#1 := by
  pointwise [k0_pay6]
  revert l
  decide
theorem rot_at (n k : ℕ) (hn : n < 128) (hk : k + n = 128) (y : FVec Ideal S256x128 .f32) (r : Fin 256) (l : Fin 128) :
    dynamicRotate 1 (BitVec.ofNat 32 n) none y rotates_S256x128_d1 (ix2 r l) = y (ix2 r ⟨((l : ℕ) + k) % 128, by omega⟩) := by
  refine dynamicRotate_apply 1 _ y _ _ _ fun b => ?_
  have e : (BitVec.ofNat 32 n).toNat = n := by rw [BitVec.toNat_ofNat]; omega
  rw [e]
  fin_cases b
  · rfl
  · show ((l : ℕ) + k) % 128 = ((l : ℕ) + 128 - n % 128) % 128
    omega

theorem tile_at (y cs sn : FVec Ideal S256x128 .f32) (r : Fin 256) (l : Fin 128) :
    tile y cs sn (ix2 r l) = y (ix2 r l) * cs (ix2 r l)
      + (if (l : ℕ) % 64 < 8 then y (ix2 r ⟨((l : ℕ) + 8) % 128, by omega⟩) else y (ix2 r ⟨((l : ℕ) + 120) % 128, by omega⟩)) * sn (ix2 r l) := by
  show y (ix2 r l) * cs (ix2 r l) + (select k0_pay6 (dynamicRotate 1 (BitVec.ofNat 32 120) none y rotates_S256x128_d1)
    (dynamicRotate 1 (BitVec.ofNat 32 8) none y rotates_S256x128_d1) (ix2 r l)) * sn (ix2 r l) = _
  refine congrArg (fun z : EReal => y (ix2 r l) * cs (ix2 r l) + z * sn (ix2 r l)) ?_
  show Scalar.select (k0_pay6 (ix2 r l)) _ _ = _
  rw [mask_at, rot_at 120 8 (by decide) rfl, rot_at 8 120 (by decide) rfl]
  split <;> rfl

/-- 128 columns that are the row times the weights from column `o`, rotated. -/
theorem tile_col (x : FVec Ideal S256x1024 .bf16) (w : FVec Ideal S1024x8448 .bf16) (cs sn y : FVec Ideal S256x128 .f32) (o : ℕ) (ho : o % 128 = 0)
    (hb : o + 128 ≤ 5376) (r : Fin 256) (hy : ∀ l : Fin 128, y (ix2 r l) = acc x w r ⟨o + l, by omega⟩) (l : Fin 128) :
    tile y cs sn (ix2 r l) = rotAt x w cs sn r ⟨o + l, by omega⟩ := by
  rw [tile_at, hy, hy, hy]
  unfold rotAt
  have e1 : (o + (l : ℕ)) % 128 = l := by omega
  have e2 : (o + (l : ℕ)) % 64 = l % 64 := by omega
  simp only [e1, e2]
  refine congrArg (fun z : EReal => acc x w r ⟨o + l, by omega⟩ * cs (ix2 r l) + z * sn (ix2 r l)) ?_
  split
  · exact congrArg (acc x w r) (Fin.ext (by show o + ((l : ℕ) + 8) % 128 = o + l + 8; omega))
  · exact congrArg (acc x w r) (Fin.ext (by show o + ((l : ℕ) + 120) % 128 = o + l - 8; omega))

/-- Arrays laid side by side, read in the `k`-th of them, which begins at column `pre`. -/
theorem beside_at {α : Type} {n m w : ℕ} (xs : List ((s : Shape) × (s.Idx → α))) (h : Shape.Concatenates (xs.map (·.1)) ⟨2, ![n, m]⟩ 1)
    (d : Fin n) (q : Fin m) (k : ℕ) (hk : k < xs.length) (x : (⟨2, ![n, w]⟩ : Shape).Idx → α) (hx : xs[k] = ⟨⟨2, ![n, w]⟩, x⟩) (pre : ℕ)
    (ss : List Shape) (hss : xs.map (·.1) = ss)
    (hpre : ((ss.take k).map fun s => if h : s.rank = 2 then s.size ((1 : Fin 2).cast h.symm) else 0).sum = pre)
    (j : Fin w) (hj : pre + (j : ℕ) = q) :
    concatenate ⟨2, ![n, m]⟩ 1 xs h (ix2 d q) = x (ix2 d j) := by
  refine concatenate_apply_piece (t := ⟨2, ![n, m]⟩) 1 xs h (ix2 d q) k hk ⟨2, ![n, w]⟩ x hx rfl pre (by rw [List.map_take, hss]; exact hpre) (ix2 d j) (fun b hb => ?_) hj
  fin_cases b
  · rfl
  · exact absurd rfl hb

theorem pair_at (a b : FVec Ideal S256x128 .f32) (r : Fin 256) (j : Fin 256) :
    pair a b (ix2 r j) = if h : (j : ℕ) < 128 then a (ix2 r ⟨j, h⟩) else b (ix2 r ⟨j - 128, by omega⟩) := by
  show concatenate S256x256 1 [⟨S256x128, a⟩, ⟨S256x128, b⟩] concatenates_S256x128_S256x128_S256x256_d1 (ix2 r j) = _
  split
  · rename_i h
    exact beside_at [⟨S256x128, a⟩, ⟨S256x128, b⟩] concatenates_S256x128_S256x128_S256x256_d1 r j 0 (by show 0 < 2; omega) a rfl 0 [S256x128, S256x128] rfl (by decide) ⟨j, h⟩ (by show 0 + (j : ℕ) = j; omega)
  · rename_i h
    exact beside_at [⟨S256x128, a⟩, ⟨S256x128, b⟩] concatenates_S256x128_S256x128_S256x256_d1 r j 1 (by show 1 < 2; omega) b rfl 128 [S256x128, S256x128] rfl (by decide) ⟨j - 128, by omega⟩ (by show 128 + ((j : ℕ) - 128) = j; omega)

theorem mm_at (x : FVec Ideal S256x1024 .bf16) (w : FVec Ideal S1024x256 .bf16) (r : Fin 256) (j : Fin 256) :
    k0_pay7 (F := Ideal) x w (ix2 r j) = ∑ d : Fin 1024, x (ix2 r d) * w (ix2 d j) := by
  pointwise [k0_pay7]
theorem mm512_at (x : FVec Ideal S256x1024 .bf16) (w : FVec Ideal S1024x512 .bf16) (r : Fin 256) (j : Fin 512) :
    k0_pay18 (F := Ideal) x w (ix2 r j) = ∑ d : Fin 1024, x (ix2 r d) * w (ix2 d j) := by
  pointwise [k0_pay18]
theorem lo_at (y : FVec Ideal S256x256 .f32) (r : Fin 256) (l : Fin 128) : lo y (ix2 r l) = y (ix2 r ⟨l, by omega⟩) := by pointwise [lo]
theorem hi_at (y : FVec Ideal S256x256 .f32) (r : Fin 256) (l : Fin 128) : hi y (ix2 r l) = y (ix2 r ⟨128 + l, by omega⟩) := by pointwise [hi]
theorem one_at (r : Fin 256) (l : Fin 128) : oneBlk (ix2 r l) = if (l : ℕ) = 0 then (1 : EReal) else 0 := by
  pointwise [oneBlk, k0_pay20, k0_pay19]
  have e : ∀ l : Fin 128, (BitVec.setWidth 32 (IntOp.cmpi CmpIPredicate.eq (BitVec.ofNat 32 (l : ℕ)) 0#32)).toInt = if (l : ℕ) = 0 then 1 else 0 := by decide
  show ((((BitVec.setWidth 32 (IntOp.cmpi CmpIPredicate.eq (BitVec.ofNat 32 (l : ℕ)) 0#32)).toInt : ℤ) : ℝ) : EReal) = _
  rw [e l]
  split <;> norm_num

section Pieces
variable (x : FVec Ideal S256x1024 .bf16) (w : FVec Ideal S1024x8448 .bf16) (cs sn : FVec Ideal S256x128 .f32)

/-- 256 rotated columns of the product with the weights from column `o`. -/
theorem tiles_at (o : ℕ) (ho : o % 128 = 0) (hb : o + 256 ≤ 5376)
    (hw : ∀ a, (![0, o] : Fin 2 → Nat) a + (![1024, 256] : Fin 2 → Nat) a ≤ (![1024, 8448] : Fin 2 → Nat) a) (r : Fin 256) (l : Fin 128) :
    tile (lo (k0_pay7 (F := Ideal) x (View.ld (Val := Elt Ideal) (e' := .bf16) w (Rect.unit (s := S1024x8448) ![0, o] ![1024, 256] hw)))) cs sn (ix2 r l)
        = rotAt x w cs sn r ⟨o + l, by omega⟩
      ∧ tile (hi (k0_pay7 (F := Ideal) x (View.ld (Val := Elt Ideal) (e' := .bf16) w (Rect.unit (s := S1024x8448) ![0, o] ![1024, 256] hw)))) cs sn (ix2 r l)
        = rotAt x w cs sn r ⟨o + 128 + l, by omega⟩ := by
  have hm : ∀ j : Fin 256, k0_pay7 (F := Ideal) x (View.ld (Val := Elt Ideal) (e' := .bf16) w (Rect.unit (s := S1024x8448) ![0, o] ![1024, 256] hw)) (ix2 r j)
      = acc x w r ⟨o + j, by omega⟩ := fun j =>
    (mm_at _ _ r j).trans (Finset.sum_congr rfl fun d _ => congrArg (x (ix2 r d) * ·) (ld_cols (e := .bf16) w o hw d j (by omega)))
  refine ⟨tile_col x w cs sn _ o ho (by omega) r (fun l => ?_) l, tile_col x w cs sn _ (o + 128) (by omega) (by omega) r (fun l => ?_) l⟩
  · exact (lo_at _ r l).trans (hm _)
  · exact (hi_at _ r l).trans ((hm _).trans (congrArg (acc x w r) (Fin.ext (by show o + (128 + (l : ℕ)) = o + 128 + l; omega))))

theorem query_at (o : ℕ) (ho : o % 128 = 0) (hb : o + 256 ≤ 5376)
    (hw : ∀ a, (![0, o] : Fin 2 → Nat) a + (![1024, 256] : Fin 2 → Nat) a ≤ (![1024, 8448] : Fin 2 → Nat) a) (r j : Fin 256) :
    queryBlk x (View.ld (Val := Elt Ideal) (e' := .bf16) w (Rect.unit (s := S1024x8448) ![0, o] ![1024, 256] hw)) cs sn (ix2 r j)
      = rotAt x w cs sn r ⟨o + j, by omega⟩ * Ideal.ofBits .f32 0x3E38AA3B#32 := by
  unfold queryBlk
  rw [pair_at]
  split
  · exact congrArg (· * Ideal.ofBits .f32 0x3E38AA3B#32) (tiles_at x w cs sn o ho (by omega) hw r _).1
  · refine congrArg (· * Ideal.ofBits .f32 0x3E38AA3B#32) ((tiles_at x w cs sn o ho (by omega) hw r _).2.trans (congrArg (rotAt x w cs sn r) (Fin.ext ?_)))
    show o + 128 + ((j : ℕ) - 128) = o + j
    omega

theorem key_at (o : ℕ) (ho : o % 128 = 0) (hb : o + 256 ≤ 5376)
    (hw : ∀ a, (![0, o] : Fin 2 → Nat) a + (![1024, 256] : Fin 2 → Nat) a ≤ (![1024, 8448] : Fin 2 → Nat) a) (r j : Fin 256) :
    keyBlk x (View.ld (Val := Elt Ideal) (e' := .bf16) w (Rect.unit (s := S1024x8448) ![0, o] ![1024, 256] hw)) cs sn (ix2 r j)
      = rotAt x w cs sn r ⟨o + j, by omega⟩ := by
  unfold keyBlk
  rw [pair_at]
  split
  · exact (tiles_at x w cs sn o ho (by omega) hw r _).1
  · refine (tiles_at x w cs sn o ho (by omega) hw r _).2.trans (congrArg (rotAt x w cs sn r) (Fin.ext ?_))
    show o + 128 + ((j : ℕ) - 128) = o + j
    omega

theorem query_piece (o : ℕ) (ho : o % 128 = 0) (hb : o + 256 ≤ 512)
    (hw : ∀ a, (![0, o] : Fin 2 → Nat) a + (![1024, 256] : Fin 2 → Nat) a ≤ (![1024, 8448] : Fin 2 → Nat) a)
    (hq : ∀ a, (![0, o] : Fin 2 → Nat) a + (![256, 256] : Fin 2 → Nat) a ≤ (![256, 2048] : Fin 2 → Nat) a) (z : S256x256.Idx) :
    queryBlk x (View.ld (Val := Elt Ideal) (e' := .bf16) w (Rect.unit (s := S1024x8448) ![0, o] ![1024, 256] hw)) cs sn z
      = headRows x w cs sn ((Rect.unit (s := S256x2048) ![0, o] ![256, 256] hq).emb z) := by
  obtain ⟨r, j, rfl⟩ : ∃ (r : Fin 256) (j : Fin 256), z = ix2 r j := ⟨z 0, z 1, eq_ix2 z⟩
  refine Eq.trans ?_ (congrArg (headRows x w cs sn) (emb_cols o hq r j (by omega))).symm
  show _ = headAt x w cs sn r ⟨o + j, by omega⟩
  unfold headAt
  rw [query_at x w cs sn o ho (by omega) hw, dif_pos (show o + (j : ℕ) < 1024 by omega), if_pos (show o + (j : ℕ) < 512 by omega)]

theorem key_piece (o : ℕ) (ho : o % 128 = 0) (ha : 512 ≤ o) (hb : o + 256 ≤ 1024)
    (hw : ∀ a, (![0, o] : Fin 2 → Nat) a + (![1024, 256] : Fin 2 → Nat) a ≤ (![1024, 8448] : Fin 2 → Nat) a)
    (hq : ∀ a, (![0, o] : Fin 2 → Nat) a + (![256, 256] : Fin 2 → Nat) a ≤ (![256, 2048] : Fin 2 → Nat) a) (z : S256x256.Idx) :
    keyBlk x (View.ld (Val := Elt Ideal) (e' := .bf16) w (Rect.unit (s := S1024x8448) ![0, o] ![1024, 256] hw)) cs sn z
      = headRows x w cs sn ((Rect.unit (s := S256x2048) ![0, o] ![256, 256] hq).emb z) := by
  obtain ⟨r, j, rfl⟩ : ∃ (r : Fin 256) (j : Fin 256), z = ix2 r j := ⟨z 0, z 1, eq_ix2 z⟩
  refine Eq.trans ?_ (congrArg (headRows x w cs sn) (emb_cols o hq r j (by omega))).symm
  show _ = headAt x w cs sn r ⟨o + j, by omega⟩
  unfold headAt
  rw [key_at x w cs sn o ho (by omega) hw, dif_pos (show o + (j : ℕ) < 1024 by omega), if_neg (show ¬ o + (j : ℕ) < 512 by omega)]

/-- Head `h`'s values. -/
theorem value_piece (h : ℕ) (hh : h < 4) (o p : ℕ) (hp : p = 128 * h) (ho : o = 1024 + 256 * h) (hs : S256x512.Slices ![0, p] S256x128)
    (hw : ∀ a, (![0, 1024] : Fin 2 → Nat) a + (![1024, 512] : Fin 2 → Nat) a ≤ (![1024, 8448] : Fin 2 → Nat) a)
    (hq : ∀ a, (![0, o] : Fin 2 → Nat) a + (![256, 128] : Fin 2 → Nat) a ≤ (![256, 2048] : Fin 2 → Nat) a) (z : S256x128.Idx) :
    valueBlk p hs x (View.ld (Val := Elt Ideal) (e' := .bf16) w (Rect.unit (s := S1024x8448) ![0, 1024] ![1024, 512] hw)) z
      = headRows x w cs sn ((Rect.unit (s := S256x2048) ![0, o] ![256, 128] hq).emb z) := by
  subst hp ho
  obtain ⟨r, l, rfl⟩ : ∃ (r : Fin 256) (l : Fin 128), z = ix2 r l := ⟨z 0, z 1, eq_ix2 z⟩
  refine Eq.trans ?_ (congrArg (headRows x w cs sn) (emb_cols (1024 + 256 * h) hq r l (by omega))).symm
  show _ = headAt x w cs sn r ⟨1024 + 256 * h + l, by omega⟩
  unfold valueBlk headAt
  rw [dif_neg (show ¬ 1024 + 256 * h + (l : ℕ) < 1024 by omega), if_pos (show (1024 + 256 * h + (l : ℕ)) % 256 < 128 by omega)]
  have e : extractStridedSlice S256x128 ![0, 128 * h] (k0_pay18 (F := Ideal) x (View.ld (Val := Elt Ideal) (e' := .bf16) w (Rect.unit (s := S1024x8448) ![0, 1024] ![1024, 512] hw))) hs (ix2 r l)
      = k0_pay18 (F := Ideal) x (View.ld (Val := Elt Ideal) (e' := .bf16) w (Rect.unit (s := S1024x8448) ![0, 1024] ![1024, 512] hw)) (ix2 r ⟨128 * h + l, by omega⟩) := by
    pointwise
  refine e.trans ((mm512_at _ _ r _).trans (Finset.sum_congr rfl fun d _ => congrArg (x (ix2 r d) * ·) ?_))
  refine (ld_cols (e := .bf16) w 1024 hw d ⟨128 * h + l, by omega⟩ (by show 1024 + (128 * h + (l : ℕ)) < 8448; omega)).trans (congrArg (fun q => w (ix2 d q)) (Fin.ext ?_))
  show 1024 + (128 * h + (l : ℕ)) = 1024 + (1024 + 256 * h + l - 1024) / 256 * 128 + (1024 + 256 * h + l) % 256
  omega

theorem one_piece (h : ℕ) (hh : h < 4) (o : ℕ) (ho : o = 1152 + 256 * h)
    (hq : ∀ a, (![0, o] : Fin 2 → Nat) a + (![256, 128] : Fin 2 → Nat) a ≤ (![256, 2048] : Fin 2 → Nat) a) (z : S256x128.Idx) :
    oneBlk z = headRows x w cs sn ((Rect.unit (s := S256x2048) ![0, o] ![256, 128] hq).emb z) := by
  subst ho
  obtain ⟨r, l, rfl⟩ : ∃ (r : Fin 256) (l : Fin 128), z = ix2 r l := ⟨z 0, z 1, eq_ix2 z⟩
  refine Eq.trans ?_ (congrArg (headRows x w cs sn) (emb_cols (1152 + 256 * h) hq r l (by omega))).symm
  show _ = headAt x w cs sn r ⟨1152 + 256 * h + l, by omega⟩
  unfold headAt
  rw [one_at, dif_neg (show ¬ 1152 + 256 * h + (l : ℕ) < 1024 by omega), if_neg (show ¬ (1152 + 256 * h + (l : ℕ)) % 256 < 128 by omega)]
  by_cases hl : (l : ℕ) = 0
  · rw [if_pos hl, if_pos (show (1152 + 256 * h + (l : ℕ)) % 256 = 128 by omega)]
  · rw [if_neg hl, if_neg (show ¬ (1152 + 256 * h + (l : ℕ)) % 256 = 128 by omega)]
end Pieces

variable (c : Dev nD) (i : grid0.Coords) (arg2 : Memref sig .tc .vmem S256x1024 .bf16) (harg2 : arg2.IsWhole) (arg3 : Memref sig .tc .vmem S1024x8448 .bf16) (harg3 : arg3.IsWhole) (arg4 : Memref sig .tc .vmem S1x3072 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2048 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S1x1x256x1024 .bf16) (harg18 : arg18.IsWhole) (arg19 : Memref sig .tc .vmem S1x4x64x1024 .bf16) (harg19 : arg19.IsWhole) (arg20 : Memref sig .tc .vmem S1x16x16x1024 .bf16) (harg20 : arg20.IsWhole) (arg21 : Memref sig .tc .vmem S256x3072 .bf16) (harg21 : arg21.IsWhole) (arg22 : Memref sig .tc .vmem S4x256x128 .f32) (harg22 : arg22.IsWhole)
    (x0 : Vec Ideal S256x1024 .bf16) (x1 : Vec Ideal S1024x8448 .bf16) (x2 : Vec Ideal S1x3072 .f32) (x3 : Vec Ideal S256x128 .f32) (x4 : Vec Ideal S256x128 .f32) (x5 : Vec Ideal S256x128 .f32) (x6 : Vec Ideal S256x128 .f32) (x7 : Vec Ideal S1x384 .f32) (x8 : Vec Ideal S1x256 .f32) (x9 : Vec Ideal S384x1024 .bf16) (x10 : Vec Ideal S256x1024 .bf16) (x11 : Vec Ideal S256x1024 .bf16)

theorem heads_out : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = headRows x0 x1 x3 x4 := by
  unfold out0_A_12
  rw [View.read_writes_eq_canon _ _ _ (cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11)]
  funext y
  refine View.canon_apply_of_pieces _ _ ?_ y (cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 y)
  unfold kernelRun0_A
  dsimp only
  sl_unfold_words
  simp only [View.readAt_eq_ld, harg2.read_unread, harg3.read_unread, harg5.read_unread, harg6.read_unread, View.ld_unit_zero (S := S256x1024) hz]
  simp only [View.ld_unit_zero (S := S256x128) hz, pay_11, pay_12, pay_16, pay_17, pay_21, pay_22, pay_23, pay_24]
  simp only [pay_4, pay_5]
  intro p hp
  simp only [List.mem_cons, List.not_mem_nil, or_false] at hp
  obtain rfl | rfl | rfl | rfl | rfl | rfl | rfl | rfl | rfl | rfl | rfl | rfl := hp
  · exact one_piece x0 x1 x3 x4 3 (by decide) 1920 rfl (by decide)
  · exact value_piece x0 x1 x3 x4 3 (by decide) 1792 384 rfl rfl _ _ (by decide)
  · exact one_piece x0 x1 x3 x4 2 (by decide) 1664 rfl (by decide)
  · exact value_piece x0 x1 x3 x4 2 (by decide) 1536 256 rfl rfl _ _ (by decide)
  · exact one_piece x0 x1 x3 x4 1 (by decide) 1408 rfl (by decide)
  · exact value_piece x0 x1 x3 x4 1 (by decide) 1280 128 rfl rfl _ _ (by decide)
  · exact one_piece x0 x1 x3 x4 0 (by decide) 1152 rfl (by decide)
  · exact value_piece x0 x1 x3 x4 0 (by decide) 1024 0 rfl rfl _ _ (by decide)
  · exact key_piece x0 x1 x3 x4 768 (by decide) (by decide) (by decide) _ (by decide)
  · exact key_piece x0 x1 x3 x4 512 (by decide) (by decide) (by decide) _ (by decide)
  · exact query_piece x0 x1 x3 x4 256 (by decide) (by decide) _ (by decide)
  · exact query_piece x0 x1 x3 x4 0 (by decide) (by decide) _ (by decide)

end Cert.Kernel4Ideal.Proj

end
-- ==== Proof.ProjKernelIdealBlocks.lean ====
/- The blocks the input projection reads at a point, in the argument arrays. -/
module

public import proofs.«01_k».proof.Proof.ProjKernelIdealHeads
public import Idealize.ShloMosaic.Lib.StableHlo.RunClose

@[expose] public section

set_option maxRecDepth 65536

noncomputable section

namespace Cert.Kernel4Ideal.Proj

open Idealize.ShloMosaic Idealize.ShloMosaic.TcCoe
open Idealize.ShloMosaic.StableHlo
open Cert.Kernel4Ideal Cert.Kernel4Ideal.Gen

variable (m : (ℓ : Loc nD τ sig) → Buf (Elt Ideal) ℓ) (c : Dev nD)

/-- The arguments read: the stream, the weights, the gates' bias, the cosines and the sines. -/
def argX : FVec Ideal S65536x1024 .bf16 := m ((c.tc : Thread nD τ).loc main_arg0)
def argW : FVec Ideal S1024x8352 .f32 := m ((c.tc : Thread nD τ).loc main_arg1)
def argB : FVec Ideal S3072 .f32 := m ((c.tc : Thread nD τ).loc main_arg2)
def argC : FVec Ideal S65536x8 .f32 := m ((c.tc : Thread nD τ).loc main_arg3)
def argS : FVec Ideal S65536x8 .f32 := m ((c.tc : Thread nD τ).loc main_arg4)

/-- A table of 128 columns: twice 8 columns, 8 columns, 48 columns. -/
def tablePieces (a b : FVec Ideal S65536x8 .f32) (e : FVec Ideal S65536x48 .f32) : List ((s : Shape) × (s.Idx → Ideal .f32)) :=
  [⟨S65536x8, a⟩, ⟨S65536x8, b⟩, ⟨S65536x48, e⟩, ⟨S65536x8, a⟩, ⟨S65536x8, b⟩, ⟨S65536x48, e⟩]
def table (a b : FVec Ideal S65536x8 .f32) (e : FVec Ideal S65536x48 .f32) : FVec Ideal S65536x128 .f32 :=
  concatenate S65536x128 1 (tablePieces a b e) concatenates_S65536x8_S65536x8_S65536x48_S65536x8_S65536x8_S65536x48_S65536x128_d1
/-- The table of cosines and that of sines. -/
def cosTable (C : FVec Ideal S65536x8 .f32) : FVec Ideal S65536x128 .f32 :=
  table C C (broadcastInDim S65536x48 ![] bcast_S_S65536x48 (constant S_ .f32 0x3F800000#32))
def sinTable (S : FVec Ideal S65536x8 .f32) : FVec Ideal S65536x128 .f32 :=
  table (Host.negf S) S (broadcastInDim S65536x48 ![] bcast_S_S65536x48 (constant S_ .f32 0x00000000#32))

theorem V_v1 : V m c main_v1 = cosTable (argC m c) := by
  unfold cosTable table tablePieces argC
  unfold_abbrev_sides
  unfold hostOps0 hostOps0_1 hostOps0_2 hostOps0_3 hostOps0_4 hostOps0_5 hostOps0_6
  simp only [List.flatten_cons, List.flatten_nil, List.append_nil, List.cons_append, List.nil_append]
  after_results_entrywise (rounds := 2) []
theorem V_v4 : V m c main_v4 = sinTable (argS m c) := by
  unfold sinTable table tablePieces argS
  unfold_abbrev_sides
  unfold hostOps0 hostOps0_1 hostOps0_2 hostOps0_3 hostOps0_4 hostOps0_5 hostOps0_6
  simp only [List.flatten_cons, List.flatten_nil, List.append_nil, List.cons_append, List.nil_append]
  after_results_entrywise (rounds := 2) []

/-- The 32 columns of the latent attention's shared key, with zeros around them. -/
def ropeKeys (W : FVec Ideal S1024x8352 .f32) : FVec Ideal S1024x128 .f32 :=
  concatenate S1024x128 1 [⟨S1024x64, broadcastInDim S1024x64 ![] bcast_S_S1024x64 (constant S_ .f32 0x00000000#32)⟩, ⟨S1024x32, extractStridedSlice S1024x32 ![0, 2176] W slices_S1024x8352_S1024x32_0_2176⟩,
    ⟨S1024x32, broadcastInDim S1024x32 ![] bcast_S_S1024x32 (constant S_ .f32 0x00000000#32)⟩] concatenates_S1024x64_S1024x32_S1024x32_S1024x128_d1
/-- The packed weights' pieces, side by side in this order. -/
def pieces (W : FVec Ideal S1024x8352 .f32) : List ((s : Shape) × (s.Idx → Ideal .f32)) :=
  [⟨S1024x512, extractStridedSlice S1024x512 ![0, 0] W slices_S1024x8352_S1024x512_0_0⟩,
    ⟨S1024x512, extractStridedSlice S1024x512 ![0, 512] W slices_S1024x8352_S1024x512_0_512⟩,
    ⟨S1024x512, extractStridedSlice S1024x512 ![0, 1024] W slices_S1024x8352_S1024x512_0_1024⟩,
    ⟨S1024x256, extractStridedSlice S1024x256 ![0, 1920] W slices_S1024x8352_S1024x256_0_1920⟩,
    ⟨S1024x128, ropeKeys W⟩,
    ⟨S1024x384, extractStridedSlice S1024x384 ![0, 1536] W slices_S1024x8352_S1024x384_0_1536⟩,
    ⟨S1024x256, extractStridedSlice S1024x256 ![0, 0] (extractStridedSlice S1024x768 ![0, 2208] W slices_S1024x8352_S1024x768_0_2208) slices_S1024x768_S1024x256_0_0⟩,
    ⟨S1024x256, extractStridedSlice S1024x256 ![0, 0] (extractStridedSlice S1024x768 ![0, 2976] W slices_S1024x8352_S1024x768_0_2976) slices_S1024x768_S1024x256_0_0⟩,
    ⟨S1024x512, extractStridedSlice S1024x512 ![0, 0] (extractStridedSlice S1024x1536 ![0, 3744] W slices_S1024x8352_S1024x1536_0_3744) slices_S1024x1536_S1024x512_0_0⟩,
    ⟨S1024x256, extractStridedSlice S1024x256 ![0, 256] (extractStridedSlice S1024x768 ![0, 2208] W slices_S1024x8352_S1024x768_0_2208) slices_S1024x768_S1024x256_0_256⟩,
    ⟨S1024x256, extractStridedSlice S1024x256 ![0, 256] (extractStridedSlice S1024x768 ![0, 2976] W slices_S1024x8352_S1024x768_0_2976) slices_S1024x768_S1024x256_0_256⟩,
    ⟨S1024x512, extractStridedSlice S1024x512 ![0, 512] (extractStridedSlice S1024x1536 ![0, 3744] W slices_S1024x8352_S1024x1536_0_3744) slices_S1024x1536_S1024x512_0_512⟩,
    ⟨S1024x256, extractStridedSlice S1024x256 ![0, 512] (extractStridedSlice S1024x768 ![0, 2208] W slices_S1024x8352_S1024x768_0_2208) slices_S1024x768_S1024x256_0_512⟩,
    ⟨S1024x256, extractStridedSlice S1024x256 ![0, 512] (extractStridedSlice S1024x768 ![0, 2976] W slices_S1024x8352_S1024x768_0_2976) slices_S1024x768_S1024x256_0_512⟩,
    ⟨S1024x512, extractStridedSlice S1024x512 ![0, 1024] (extractStridedSlice S1024x1536 ![0, 3744] W slices_S1024x8352_S1024x1536_0_3744) slices_S1024x1536_S1024x512_0_1024⟩,
    ⟨S1024x3072, extractStridedSlice S1024x3072 ![0, 5280] W slices_S1024x8352_S1024x3072_0_5280⟩]
/-- The weights as the host packs them. -/
def packed (W : FVec Ideal S1024x8352 .f32) : FVec Ideal S1024x8448 .bf16 :=
  truncf (F := Ideal) (φ := .f32) .bf16 (concatenate S1024x8448 1 (pieces W) concatenates_S1024x512_S1024x512_S1024x512_S1024x256_S1024x128_S1024x384_S1024x256_S1024x256_S1024x512_S1024x256_S1024x256_S1024x512_S1024x256_S1024x256_S1024x512_S1024x3072_S1024x8448_d1) bitsLt_bf16_f32

theorem V_v28 : V m c main_v28 = packed (argW m c) := by
  unfold packed pieces ropeKeys argW
  unfold_abbrev_sides
  unfold hostOps0 hostOps0_1 hostOps0_2 hostOps0_3 hostOps0_4 hostOps0_5 hostOps0_6
  simp only [List.flatten_cons, List.flatten_nil, List.append_nil, List.cons_append, List.nil_append]
  after_results_entrywise (rounds := 2) []
theorem V_v29 : V m c main_v29 = shapeCast S1x3072 (argB m c) shapeCasts_S3072_S1x3072 := by
  unfold_abbrev_sides; unfold argB
  unfold hostOps0 hostOps0_1 hostOps0_2 hostOps0_3 hostOps0_4 hostOps0_5 hostOps0_6
  simp only [List.flatten_cons, List.flatten_nil, List.append_nil, List.cons_append, List.nil_append]
  after_results_simp
  rfl

theorem idx : ∀ t : Fin cfg0.N, win0_0.index t = ![t.val, 0] ∧ win0_1.index t = ![0, 0] ∧ win0_2.index t = ![0, 0]
    ∧ win0_19.index t = ![t.val, 0] ∧ t.val < 256 ∧ win0_3.index t = ![t.val, 0] ∧ win0_4.index t = ![t.val, 0] ∧ win0_12.index t = ![t.val, 0]
    ∧ win0_16.index t = ![t.val / 32, 0, t.val % 32, 0] :=
  (by decide +kernel : ∀ t : Fin grid0.N, _)

variable (t : Fin cfg0.N)

/-- Row `r` of the point's block. -/
def row (r : Fin 256) : Fin 65536 := ⟨t.val * 256 + r, by have := (idx t).2.2.2.2.1; omega⟩

theorem x_at (r : Fin 256) (j : Fin 1024) : iblk m c 0 t (ix2 r j) = argX m c (ix2 (row t r) j) := by
  have h : iblk m c 0 t (ix2 r j) = V m c main_arg0 (ix2 (row t r) j) := by
    unfold row; blk_ext! [iblk, idx t]
  rw [h, V_main_arg0]; rfl
theorem w_at (d : Fin 1024) (j : Fin 8448) : iblk m c 1 t (ix2 d j) = packed (argW m c) (ix2 d j) := by
  have h : iblk m c 1 t (ix2 d j) = V m c main_v28 (ix2 d j) := by blk_ext! [iblk, idx t]
  rw [h, V_v28]
theorem b_at (j : Fin 3072) : iblk m c 2 t (ix2 0 j) = argB m c (ix1 j) := by
  have h : iblk m c 2 t (ix2 0 j) = V m c main_v29 (ix2 (0 : Fin 1) j) := by blk_ext! [iblk, idx t]
  rw [h, V_v29]
  pointwise

theorem cos_at (r : Fin 256) (j : Fin 128) : iblk m c 3 t (ix2 r j) = cosTable (argC m c) (ix2 (row t r) j) := by
  have h : iblk m c 3 t (ix2 r j) = V m c main_v1 (ix2 (row t r) j) := by
    unfold row; blk_ext! [iblk, idx t]
  rw [h, V_v1]
theorem sin_at (r : Fin 256) (j : Fin 128) : iblk m c 4 t (ix2 r j) = sinTable (argS m c) (ix2 (row t r) j) := by
  have h : iblk m c 4 t (ix2 r j) = V m c main_v4 (ix2 (row t r) j) := by
    unfold row; blk_ext! [iblk, idx t]
  rw [h, V_v4]

/-- The shapes of the packed pieces. -/
def packedShapes : List Shape :=
  [S1024x512, S1024x512, S1024x512, S1024x256, S1024x128, S1024x384, S1024x256, S1024x256, S1024x512, S1024x256, S1024x256, S1024x512,
    S1024x256, S1024x256, S1024x512, S1024x3072]
/-- The gates' columns of the packed weights. -/
theorem packed_gate (W : FVec Ideal S1024x8352 .f32) (d : Fin 1024) (j : Fin 3072) :
    packed W (ix2 d ⟨5376 + j, by omega⟩) = W (ix2 d ⟨5280 + j, by omega⟩) := by
  have h := beside_at (pieces W) concatenates_S1024x512_S1024x512_S1024x512_S1024x256_S1024x128_S1024x384_S1024x256_S1024x256_S1024x512_S1024x256_S1024x256_S1024x512_S1024x256_S1024x256_S1024x512_S1024x3072_S1024x8448_d1 d ⟨5376 + j, by omega⟩ 15 (by show 15 < 16; omega)
    (extractStridedSlice S1024x3072 ![0, 5280] W slices_S1024x8352_S1024x3072_0_5280) rfl 5376 packedShapes rfl (by decide) j rfl
  refine Eq.trans ?_ (h.trans ?_)
  · rfl
  · pointwise

/-- The gates over the arguments. -/
def gateA (X : FVec Ideal S65536x1024 .bf16) (W : FVec Ideal S1024x8352 .f32) (B : FVec Ideal S3072 .f32) (p : Fin 65536) (j : Fin 3072) : EReal :=
  Ideal.logistic ((∑ d : Fin 1024, X (ix2 p d) * W (ix2 d ⟨5280 + j, by omega⟩)) + B (ix1 j))
def gateArr (X : FVec Ideal S65536x1024 .bf16) (W : FVec Ideal S1024x8352 .f32) (B : FVec Ideal S3072 .f32) : FVec Ideal S65536x3072 .bf16 :=
  fun i => gateA X W B (i 0) (i 1)

theorem gate_blk (r : Fin 256) (j : Fin 3072) :
    gateRows (iblk m c 0 t) (iblk m c 1 t) (iblk m c 2 t) (ix2 r j) = gateA (argX m c) (argW m c) (argB m c) (row t r) j := by
  show gateAt _ _ _ r j = _
  unfold gateAt gateA
  exact congrArg Ideal.logistic (congrArg₂ (fun x y : EReal => x + y)
    (Finset.sum_congr rfl fun d _ => congrArg₂ (fun x y : EReal => x * y) (x_at m c t r d) ((w_at m c t d _).trans (packed_gate _ d j))) (b_at m c t j))

/-- The gates' array after the run. -/
theorem final_gates : (dats m 0 c).arrAt 19 (cfgs 0).N = gateArr (argX m c) (argW m c) (argB m c) := by
  refine (dats m 0 c).arrAt_eq_of_covers 19 _ (by decide +kernel) fun t hf y => ?_
  obtain ⟨r, j, rfl⟩ : ∃ (r : Fin 256) (j : Fin 3072), y = ix2 r j := ⟨y 0, y 1, eq_ix2 y⟩
  blk_simp
  rw [after0_19]
  unfold outsAt0
  dsimp only
  rw [gates_out]
  refine (gate_blk m c t r j).trans ?_
  unfold gateArr row
  have e0 : ((win0_19.blk t).view.emb (ix2 r j) 0 : ℕ) = t.val * 256 + r := by blk_simp [idx t]
  have e1 : ((win0_19.blk t).view.emb (ix2 r j) 1 : ℕ) = j := by blk_simp [idx t]
  exact congrArg₂ (gateA (argX m c) (argW m c) (argB m c)) (Fin.ext e0.symm) (Fin.ext e1.symm)

/-- A table read at a column. -/
theorem table_at (a b : FVec Ideal S65536x8 .f32) (e : FVec Ideal S65536x48 .f32) (p : Fin 65536) (l : Fin 128) :
    table a b e (ix2 p l) = if h : (l : ℕ) % 64 < 8 then a (ix2 p ⟨l % 64, h⟩)
      else if h' : (l : ℕ) % 64 < 16 then b (ix2 p ⟨l % 64 - 8, by omega⟩) else e (ix2 p ⟨l % 64 - 16, by omega⟩) := by
  have H (w : ℕ) := beside_at (w := w) (tablePieces a b e) concatenates_S65536x8_S65536x8_S65536x48_S65536x8_S65536x8_S65536x48_S65536x128_d1 p l
  have hl : (tablePieces a b e).map (·.1) = [S65536x8, S65536x8, S65536x48, S65536x8, S65536x8, S65536x48] := rfl
  unfold table
  by_cases h2 : (l : ℕ) < 64
  · split
    · exact H _ 0 (by show 0 < 6; omega) a rfl 0 _ hl (by decide) _ (by show 0 + (l : ℕ) % 64 = l; omega)
    · split
      · exact H _ 1 (by show 1 < 6; omega) b rfl 8 _ hl (by decide) _ (by show 8 + ((l : ℕ) % 64 - 8) = l; omega)
      · exact H _ 2 (by show 2 < 6; omega) e rfl 16 _ hl (by decide) _ (by show 16 + ((l : ℕ) % 64 - 16) = l; omega)
  · split
    · exact H _ 3 (by show 3 < 6; omega) a rfl 64 _ hl (by decide) _ (by show 64 + (l : ℕ) % 64 = l; omega)
    · split
      · exact H _ 4 (by show 4 < 6; omega) b rfl 72 _ hl (by decide) _ (by show 72 + ((l : ℕ) % 64 - 8) = l; omega)
      · exact H _ 5 (by show 5 < 6; omega) e rfl 80 _ hl (by decide) _ (by show 80 + ((l : ℕ) % 64 - 16) = l; omega)

/-- The queries', keys' and values' columns of the packed weights. -/
theorem packed_head (W : FVec Ideal S1024x8352 .f32) (d : Fin 1024) (q : ℕ) (hq : q < 1536) :
    packed W (ix2 d ⟨q, by omega⟩) = W (ix2 d ⟨q, by omega⟩) := by
  have H (w : ℕ) := beside_at (w := w) (pieces W) concatenates_S1024x512_S1024x512_S1024x512_S1024x256_S1024x128_S1024x384_S1024x256_S1024x256_S1024x512_S1024x256_S1024x256_S1024x512_S1024x256_S1024x256_S1024x512_S1024x3072_S1024x8448_d1 d ⟨q, by omega⟩
  by_cases h1 : q < 512
  · refine (H _ 0 (by show 0 < 16; omega) _ rfl 0 packedShapes rfl (by decide) ⟨q, by omega⟩ (by show 0 + q = q; omega)).trans ?_
    pointwise
  · by_cases h2 : q < 1024
    · refine (H _ 1 (by show 1 < 16; omega) _ rfl 512 packedShapes rfl (by decide) ⟨q - 512, by omega⟩ (by show 512 + (q - 512) = q; omega)).trans ?_
      pointwise
      exact congrArg (fun z => W (ix2 d z)) (Fin.ext (by show 512 + (q - 512) = q; omega))
    · refine (H _ 2 (by show 2 < 16; omega) _ rfl 1024 packedShapes rfl (by decide) ⟨q - 1024, by omega⟩ (by show 1024 + (q - 1024) = q; omega)).trans ?_
      pointwise
      exact congrArg (fun z => W (ix2 d z)) (Fin.ext (by show 1024 + (q - 1024) = q; omega))

section Formula
variable (X : FVec Ideal S65536x1024 .bf16) (W : FVec Ideal S1024x8352 .f32) (C S : FVec Ideal S65536x8 .f32)

/-- A row times a column of the weights. -/
def accA (p : Fin 65536) (q : Fin 8352) : EReal := ∑ d : Fin 1024, X (ix2 p d) * W (ix2 d q)
/-- Column `q` of the queries or keys over the arguments, the `l`-th of its head's 64: the first 8 and the next 8 are rotated in pairs. -/
def rotA (p : Fin 65536) (q : Fin 5280) (l : Fin 64) : EReal :=
  if h : (l : ℕ) < 8 then accA X W p ⟨q, by omega⟩ * C (ix2 p ⟨l, h⟩) - accA X W p ⟨q + 8, by omega⟩ * S (ix2 p ⟨l, h⟩)
  else if h' : (l : ℕ) < 16 then
    accA X W p ⟨q, by omega⟩ * C (ix2 p ⟨l - 8, by omega⟩) + accA X W p ⟨q - 8, by omega⟩ * S (ix2 p ⟨l - 8, by omega⟩)
  else accA X W p ⟨q, by omega⟩
/-- A column of the first result over the arguments. -/
def headA (p : Fin 65536) (q : Fin 2048) : EReal :=
  if h : (q : ℕ) < 1024 then
    if (q : ℕ) < 512 then rotA X W C S p ⟨q, by omega⟩ ⟨q % 64, by omega⟩ * Ideal.ofBits .f32 0x3E38AA3B#32 else rotA X W C S p ⟨q, by omega⟩ ⟨q % 64, by omega⟩
  else if (q : ℕ) % 256 < 128 then accA X W p ⟨1024 + (q - 1024) / 256 * 128 + q % 256, by omega⟩
  else if (q : ℕ) % 256 = 128 then 1 else 0
def headArr : FVec Ideal S65536x2048 .bf16 := fun i => headA X W C S (i 0) (i 1)

theorem cosTable_at (p : Fin 65536) (l : Fin 128) : cosTable C (ix2 p l) = if h : (l : ℕ) % 64 < 8 then C (ix2 p ⟨l % 64, h⟩)
      else if h' : (l : ℕ) % 64 < 16 then C (ix2 p ⟨l % 64 - 8, by omega⟩) else 1 := by
  unfold cosTable
  rw [table_at]
  split
  · rfl
  · split
    · rfl
    · pointwise
theorem sinTable_at (p : Fin 65536) (l : Fin 128) : sinTable S (ix2 p l) = if h : (l : ℕ) % 64 < 8 then - S (ix2 p ⟨l % 64, h⟩)
      else if h' : (l : ℕ) % 64 < 16 then S (ix2 p ⟨l % 64 - 8, by omega⟩) else 0 := by
  unfold sinTable
  rw [table_at]
  split
  · rfl
  · split
    · rfl
    · pointwise
end Formula

theorem acc_blk (r : Fin 256) (q : ℕ) (hq : q < 1536) :
    acc (iblk m c 0 t) (iblk m c 1 t) r ⟨q, by omega⟩ = accA (argX m c) (argW m c) (row t r) ⟨q, by omega⟩ :=
  Finset.sum_congr rfl fun d _ => congrArg₂ (fun x y : EReal => x * y) (x_at m c t r d) ((w_at m c t d _).trans (packed_head _ d q hq))

/-- A rotated column of the point's block is one over the arguments, where the packed columns it takes are the weights'. -/
theorem rot_blk (r : Fin 256) (q : Fin 5376) (q' : Fin 5280)
    (h0 : acc (iblk m c 0 t) (iblk m c 1 t) r ⟨q, by omega⟩ = accA (argX m c) (argW m c) (row t r) ⟨q', by omega⟩)
    (h1 : (q : ℕ) % 64 < 8 → acc (iblk m c 0 t) (iblk m c 1 t) r ⟨q + 8, by omega⟩ = accA (argX m c) (argW m c) (row t r) ⟨q' + 8, by omega⟩)
    (h2 : ¬ (q : ℕ) % 64 < 8 → acc (iblk m c 0 t) (iblk m c 1 t) r ⟨q - 8, by omega⟩ = accA (argX m c) (argW m c) (row t r) ⟨q' - 8, by omega⟩) :
    rotAt (iblk m c 0 t) (iblk m c 1 t) (iblk m c 3 t) (iblk m c 4 t) r q
      = rotA (argX m c) (argW m c) (argC m c) (argS m c) (row t r) q' ⟨q % 64, by omega⟩ := by
  unfold rotAt rotA
  rw [cos_at m c t r, sin_at m c t r, cosTable_at, sinTable_at]
  have e : (q : ℕ) % 128 % 64 = q % 64 := by omega
  simp only [e]
  rw [h0]
  split
  · rename_i h
    rw [h1 h, mul_neg, ← sub_eq_add_neg]
  · rename_i h
    split
    · rw [h2 h]
    · rw [mul_one, mul_zero, add_zero]

theorem head_blk (r : Fin 256) (q : Fin 2048) : headRows (iblk m c 0 t) (iblk m c 1 t) (iblk m c 3 t) (iblk m c 4 t) (ix2 r q)
    = headA (argX m c) (argW m c) (argC m c) (argS m c) (row t r) q := by
  show headAt _ _ _ _ r q = _
  unfold headAt headA
  split
  · rename_i h
    rw [rot_blk m c t r ⟨q, by omega⟩ ⟨q, by omega⟩ (acc_blk m c t r q.val (by omega)) (fun _ => acc_blk m c t r (q.val + 8) (by omega))
      (fun _ => acc_blk m c t r (q.val - 8) (by omega))]
  · split
    · exact acc_blk m c t r _ (by omega)
    · rfl

/-- The first result's array after the run. -/
theorem final_heads : (dats m 0 c).arrAt 12 (cfgs 0).N = headArr (argX m c) (argW m c) (argC m c) (argS m c) := by
  refine (dats m 0 c).arrAt_eq_of_covers 12 _ (by decide +kernel) fun t hf y => ?_
  obtain ⟨r, j, rfl⟩ : ∃ (r : Fin 256) (j : Fin 2048), y = ix2 r j := ⟨y 0, y 1, eq_ix2 y⟩
  blk_simp
  rw [after0_12]
  unfold outsAt0
  dsimp only
  rw [heads_out]
  refine (head_blk m c t r j).trans ?_
  unfold headArr row
  have e0 : ((win0_12.blk t).view.emb (ix2 r j) 0 : ℕ) = t.val * 256 + r := by blk_simp [idx t]
  have e1 : ((win0_12.blk t).view.emb (ix2 r j) 1 : ℕ) = j := by blk_simp [idx t]
  exact congrArg₂ (headA (argX m c) (argW m c) (argC m c) (argS m c)) (Fin.ext e0.symm) (Fin.ext e1.symm)

end Cert.Kernel4Ideal.Proj

end
-- ==== Proof.ProjEqual.lean ====
/- Two of the reference's results read at an index: the gates, the sigmoid of a row's product with the gates' columns plus the bias; and the
   differential attention's queries, keys and values, the first two rotated; and that the kernel's are these. -/
module

public import proofs.«01_k».proof.Proof.Gen.Reference4Ideal.Run
public import proofs.«01_k».proof.Proof.ProjKernelIdealBlocks
public import Idealize.ShloMosaic.Lib.Pointwise

@[expose] public section

set_option maxRecDepth 65536

noncomputable section

namespace Cert.Reference4Ideal.Proj

open Idealize.ShloMosaic Idealize.ShloMosaic.TcCoe Idealize.ShloMosaic.StableHlo Idealize.SL Idealize.SL.Sem
open Cert.Reference4Ideal Cert.Reference4Ideal.Gen

/-- The projection of every row. -/
def proj (X : FVec Ideal S65536x1024 .bf16) (W : FVec Ideal S1024x8352 .f32) : FVec Ideal S65536x8352 .f32 :=
  Host.dotGeneral dot_S65536x1024_S1024x8352_S65536x8352_1_0_0_1_n_n none (extf .f32 X bitsLt_bf16_f32) W
/-- The gates' columns with the bias. -/
def biased (h : FVec Ideal S65536x8352 .f32) (B : FVec Ideal S3072 .f32) : FVec Ideal S65536x3072 .f32 :=
  addf (extractStridedSlice S65536x3072 ![0, 5280] h slices_S65536x8352_S65536x3072_0_5280) (broadcastInDim S65536x3072 ![0, 1] bcast_S1x3072_S65536x3072_0_1 (broadcastInDim S1x3072 ![1] bcast_S3072_S1x3072_1 B))
def sigmoid (z : FVec Ideal S65536x3072 .f32) : FVec Ideal S65536x3072 .f32 :=
  Host.divf (broadcastInDim S65536x3072 ![] bcast_S_S65536x3072 (constant S_ .f32 0x3F800000#32)) (addf (broadcastInDim S65536x3072 ![] bcast_S_S65536x3072 (constant S_ .f32 0x3F800000#32)) (Host.exp (Host.negf z)))
/-- The reference's result. -/
def REF (X : FVec Ideal S65536x1024 .bf16) (W : FVec Ideal S1024x8352 .f32) (B : FVec Ideal S3072 .f32) : FVec Ideal S65536x3072 .bf16 :=
  truncf .bf16 (sigmoid (biased (proj X W) B)) bitsLt_bf16_f32

variable (X : FVec Ideal S65536x1024 .bf16) (W : FVec Ideal S1024x8352 .f32) (B : FVec Ideal S3072 .f32)

theorem proj_at (p : Fin 65536) (j : Fin 8352) : proj X W (ix2 p j) = ∑ d : Fin 1024, X (ix2 p d) * W (ix2 d j) := by
  pointwise [proj]
theorem biased_at (h : FVec Ideal S65536x8352 .f32) (p : Fin 65536) (j : Fin 3072) :
    biased h B (ix2 p j) = h (ix2 p ⟨5280 + j, by omega⟩) + B (ix1 j) := by
  pointwise [biased]
theorem sigmoid_at (z : FVec Ideal S65536x3072 .f32) (p : Fin 65536) (j : Fin 3072) : sigmoid z (ix2 p j) = Ideal.logistic (z (ix2 p j)) := by
  pointwise [sigmoid]; rfl

/-- The kernel's gates are the reference's. -/
theorem gates_eq : Cert.Kernel4Ideal.Proj.gateArr X W B = REF X W B := by
  funext i
  obtain ⟨p, j, rfl⟩ : ∃ (p : Fin 65536) (j : Fin 3072), i = ix2 p j := ⟨i 0, i 1, eq_ix2 i⟩
  show _ = sigmoid (biased (proj X W) B) (ix2 p j)
  rw [sigmoid_at, biased_at, proj_at]
  rfl

/-- 512 columns as eight heads of 64. -/
def heads (y : FVec Ideal S65536x512 .f32) : FVec Ideal S65536x8x64 .f32 := shapeCast _ y shapeCasts_S65536x512_S65536x8x64
def first (a : FVec Ideal S65536x8x64 .f32) : FVec Ideal S65536x8x8 .f32 := extractStridedSlice S65536x8x8 ![0, 0, 0] a slices_S65536x8x64_S65536x8x8_0_0_0
def second (a : FVec Ideal S65536x8x64 .f32) : FVec Ideal S65536x8x8 .f32 := extractStridedSlice S65536x8x8 ![0, 0, 8] a slices_S65536x8x64_S65536x8x8_0_0_8
def rest (a : FVec Ideal S65536x8x64 .f32) : FVec Ideal S65536x8x48 .f32 := extractStridedSlice S65536x8x48 ![0, 0, 16] a slices_S65536x8x64_S65536x8x48_0_0_16
/-- The rotation's cosines or sines, the same for every head. -/
def forHeads (C : FVec Ideal S65536x8 .f32) : FVec Ideal S65536x8x8 .f32 :=
  broadcastInDim S65536x8x8 ![0, 1, 2] bcast_S65536x1x8_S65536x8x8_0_1_2 (broadcastInDim S65536x1x8 ![0, 2] bcast_S65536x8_S65536x1x8_0_2 C)
def rotPieces (a : FVec Ideal S65536x8x64 .f32) (C S : FVec Ideal S65536x8 .f32) : List ((s : Shape) × (s.Idx → Ideal .f32)) :=
  [⟨S65536x8x8, subf (mulf (first a) (forHeads C)) (mulf (second a) (forHeads S))⟩,
    ⟨S65536x8x8, addf (mulf (second a) (forHeads C)) (mulf (first a) (forHeads S))⟩, ⟨S65536x8x48, rest a⟩]
/-- The heads rotated. -/
def rotHeads (a : FVec Ideal S65536x8x64 .f32) (C S : FVec Ideal S65536x8 .f32) : FVec Ideal S65536x8x64 .f32 :=
  concatenate S65536x8x64 2 (rotPieces a C S) concatenates_S65536x8x8_S65536x8x8_S65536x8x48_S65536x8x64_d2
def rotated (y : FVec Ideal S65536x512 .f32) (C S : FVec Ideal S65536x8 .f32) : FVec Ideal S65536x512 .f32 :=
  shapeCast _ (rotHeads (heads y) C S) shapeCasts_S65536x8x64_S65536x512
def valuePieces (y : FVec Ideal S65536x512 .f32) : List ((s : Shape) × (s.Idx → Ideal .f32)) :=
  [⟨S65536x4x128, shapeCast _ y shapeCasts_S65536x512_S65536x4x128⟩,
    ⟨S65536x4x1, broadcastInDim S65536x4x1 ![] bcast_S_S65536x4x1 (constant S_ .f32 0x3F800000#32)⟩,
    ⟨S65536x4x127, broadcastInDim S65536x4x127 ![] bcast_S_S65536x4x127 (constant S_ .f32 0x00000000#32)⟩]
/-- The values, each head's with a one and zeros behind. -/
def values (y : FVec Ideal S65536x512 .f32) : FVec Ideal S65536x1024 .f32 :=
  shapeCast _ (concatenate S65536x4x256 2 (valuePieces y) concatenates_S65536x4x128_S65536x4x1_S65536x4x127_S65536x4x256_d2) shapeCasts_S65536x4x256_S65536x1024
def headPieces (h : FVec Ideal S65536x8352 .f32) (C S : FVec Ideal S65536x8 .f32) : List ((s : Shape) × (s.Idx → Ideal .f32)) :=
  [⟨S65536x512, mulf (rotated (extractStridedSlice S65536x512 ![0, 0] h slices_S65536x8352_S65536x512_0_0) C S) (broadcastInDim S65536x512 ![] bcast_S_S65536x512 (constant S_ .f32 0x3E38AA3B#32))⟩,
    ⟨S65536x512, rotated (extractStridedSlice S65536x512 ![0, 512] h slices_S65536x8352_S65536x512_0_512) C S⟩,
    ⟨S65536x1024, values (extractStridedSlice S65536x512 ![0, 1024] h slices_S65536x8352_S65536x512_0_1024)⟩]
/-- The reference's first result. -/
def HEADS (C S : FVec Ideal S65536x8 .f32) : FVec Ideal S65536x2048 .bf16 :=
  truncf (F := Ideal) (φ := .f32) .bf16 (concatenate S65536x2048 1 (headPieces (proj X W) C S) concatenates_S65536x512_S65536x512_S65536x1024_S65536x2048_d1) bitsLt_bf16_f32
/-- What the reference's run leaves in its first result. -/
theorem res_heads (m : (ℓ : Loc nD τ sig) → Buf (Elt Ideal) ℓ) (c : Dev nD) : Cert.Reference4Ideal.Value.res_main_v99 (F := Ideal) m c
    = HEADS (m ((c.tc : Thread nD τ).loc main_arg0)) (m ((c.tc : Thread nD τ).loc main_arg1)) (m ((c.tc : Thread nD τ).loc main_arg3)) (m ((c.tc : Thread nD τ).loc main_arg4)) := by
  unfold Cert.Reference4Ideal.Value.res_main_v99 HEADS headPieces values valuePieces rotated rotHeads rotPieces first second rest forHeads heads proj
  rfl

/-- Arrays laid side by side along the last of three axes, read in the `k`-th of them, which begins at column `pre`. -/
theorem beside3_at {α : Type} {n g v w : ℕ} (xs : List ((s : Shape) × (s.Idx → α))) (h : Shape.Concatenates (xs.map (·.1)) ⟨3, ![n, g, v]⟩ 2)
    (p : Fin n) (u : Fin g) (q : Fin v) (k : ℕ) (hk : k < xs.length) (x : (⟨3, ![n, g, w]⟩ : Shape).Idx → α) (hx : xs[k] = ⟨⟨3, ![n, g, w]⟩, x⟩) (pre : ℕ)
    (ss : List Shape) (hss : xs.map (·.1) = ss)
    (hpre : ((ss.take k).map fun s => if h : s.rank = 3 then s.size ((2 : Fin 3).cast h.symm) else 0).sum = pre)
    (j : Fin w) (hj : pre + (j : ℕ) = q) :
    concatenate ⟨3, ![n, g, v]⟩ 2 xs h (ix3 p u q) = x (ix3 p u j) := by
  refine concatenate_apply_piece (t := ⟨3, ![n, g, v]⟩) 2 xs h (ix3 p u q) k hk ⟨3, ![n, g, w]⟩ x hx rfl pre (by rw [List.map_take, hss]; exact hpre) (ix3 p u j) (fun b hb => ?_) hj
  fin_cases b
  · rfl
  · rfl
  · exact absurd rfl hb

theorem heads_at (y : FVec Ideal S65536x512 .f32) (p : Fin 65536) (u : Fin 8) (l : Fin 64) : heads y (ix3 p u l) = y (ix2 p ⟨u * 64 + l, by omega⟩) := by
  pointwise [heads]
theorem first_at (a : FVec Ideal S65536x8x64 .f32) (p : Fin 65536) (u : Fin 8) (l : Fin 8) : first a (ix3 p u l) = a (ix3 p u ⟨l, by omega⟩) := by
  pointwise [first]
theorem second_at (a : FVec Ideal S65536x8x64 .f32) (p : Fin 65536) (u : Fin 8) (l : Fin 8) : second a (ix3 p u l) = a (ix3 p u ⟨8 + l, by omega⟩) := by
  pointwise [second]
theorem rest_at (a : FVec Ideal S65536x8x64 .f32) (p : Fin 65536) (u : Fin 8) (l : Fin 48) : rest a (ix3 p u l) = a (ix3 p u ⟨16 + l, by omega⟩) := by
  pointwise [rest]
theorem forHeads_at (C : FVec Ideal S65536x8 .f32) (p : Fin 65536) (u : Fin 8) (l : Fin 8) : forHeads C (ix3 p u l) = C (ix2 p l) := by
  pointwise [forHeads]
theorem flat_at (a : FVec Ideal S65536x8x64 .f32) (p : Fin 65536) (q : Fin 512) :
    shapeCast S65536x512 a shapeCasts_S65536x8x64_S65536x512 (ix2 p q) = a (ix3 p ⟨q / 64, by omega⟩ ⟨q % 64, by omega⟩) := by
  pointwise
theorem flat4_at (a : FVec Ideal S65536x4x256 .f32) (p : Fin 65536) (q : Fin 1024) :
    shapeCast S65536x1024 a shapeCasts_S65536x4x256_S65536x1024 (ix2 p q) = a (ix3 p ⟨q / 256, by omega⟩ ⟨q % 256, by omega⟩) := by
  pointwise
theorem split4_at (y : FVec Ideal S65536x512 .f32) (p : Fin 65536) (u : Fin 4) (l : Fin 128) :
    shapeCast S65536x4x128 y shapeCasts_S65536x512_S65536x4x128 (ix3 p u l) = y (ix2 p ⟨u * 128 + l, by omega⟩) := by
  pointwise

/-- A rotated column. -/
theorem rotated_at (y : FVec Ideal S65536x512 .f32) (C S : FVec Ideal S65536x8 .f32) (p : Fin 65536) (q : Fin 512) :
    rotated y C S (ix2 p q) = if h : (q : ℕ) % 64 < 8 then y (ix2 p q) * C (ix2 p ⟨q % 64, h⟩) - y (ix2 p ⟨q + 8, by omega⟩) * S (ix2 p ⟨q % 64, h⟩)
      else if h' : (q : ℕ) % 64 < 16 then y (ix2 p q) * C (ix2 p ⟨q % 64 - 8, by omega⟩) + y (ix2 p ⟨q - 8, by omega⟩) * S (ix2 p ⟨q % 64 - 8, by omega⟩)
      else y (ix2 p q) := by
  unfold rotated
  rw [flat_at]
  have H (w : ℕ) := beside3_at (w := w) (rotPieces (heads y) C S) concatenates_S65536x8x8_S65536x8x8_S65536x8x48_S65536x8x64_d2 p ⟨q / 64, by omega⟩ ⟨q % 64, by omega⟩
  have hl : (rotPieces (heads y) C S).map (·.1) = [S65536x8x8, S65536x8x8, S65536x8x48] := rfl
  have at_ (a b : Fin 512) (e : (a : ℕ) = b) : y (ix2 p a) = y (ix2 p b) := congrArg (fun z => y (ix2 p z)) (Fin.ext e)
  unfold rotHeads
  split
  · rename_i h
    refine (H _ 0 (by show 0 < 3; omega) _ rfl 0 _ hl (by decide) ⟨q % 64, h⟩ (by show 0 + (q : ℕ) % 64 = q % 64; omega)).trans ?_
    show first _ _ * forHeads _ _ - second _ _ * forHeads _ _ = _
    rw [first_at, second_at, forHeads_at, forHeads_at, heads_at, heads_at]
    exact congrArg₂ (fun a b : EReal => a * C (ix2 p ⟨q % 64, h⟩) - b * S (ix2 p ⟨q % 64, h⟩))
      (at_ _ q (by show (q : ℕ) / 64 * 64 + q % 64 = q; omega)) (at_ _ ⟨q + 8, by omega⟩ (by show (q : ℕ) / 64 * 64 + (8 + q % 64) = q + 8; omega))
  · split
    · rename_i h h'
      refine (H _ 1 (by show 1 < 3; omega) _ rfl 8 _ hl (by decide) ⟨q % 64 - 8, by omega⟩ (by show 8 + ((q : ℕ) % 64 - 8) = q % 64; omega)).trans ?_
      show second _ _ * forHeads _ _ + first _ _ * forHeads _ _ = _
      rw [first_at, second_at, forHeads_at, forHeads_at, heads_at, heads_at]
      exact congrArg₂ (fun a b : EReal => a * C (ix2 p ⟨q % 64 - 8, by omega⟩) + b * S (ix2 p ⟨q % 64 - 8, by omega⟩))
        (at_ _ q (by show (q : ℕ) / 64 * 64 + (8 + (q % 64 - 8)) = q; omega)) (at_ _ ⟨q - 8, by omega⟩ (by show (q : ℕ) / 64 * 64 + (q % 64 - 8) = q - 8; omega))
    · rename_i h h'
      refine (H _ 2 (by show 2 < 3; omega) _ rfl 16 _ hl (by decide) ⟨q % 64 - 16, by omega⟩ (by show 16 + ((q : ℕ) % 64 - 16) = q % 64; omega)).trans ?_
      rw [rest_at, heads_at]
      exact at_ _ q (by show (q : ℕ) / 64 * 64 + (16 + (q % 64 - 16)) = q; omega)

/-- A column of the values with their ones. -/
theorem values_at (y : FVec Ideal S65536x512 .f32) (p : Fin 65536) (q : Fin 1024) :
    values y (ix2 p q) = if h : (q : ℕ) % 256 < 128 then y (ix2 p ⟨q / 256 * 128 + q % 256, by omega⟩) else if (q : ℕ) % 256 = 128 then 1 else 0 := by
  unfold values
  rw [flat4_at]
  have H (w : ℕ) := beside3_at (w := w) (valuePieces y) concatenates_S65536x4x128_S65536x4x1_S65536x4x127_S65536x4x256_d2 p ⟨q / 256, by omega⟩ ⟨q % 256, by omega⟩
  have hl : (valuePieces y).map (·.1) = [S65536x4x128, S65536x4x1, S65536x4x127] := rfl
  split
  · rename_i h
    exact (H _ 0 (by show 0 < 3; omega) _ rfl 0 _ hl (by decide) ⟨q % 256, h⟩ (by show 0 + (q : ℕ) % 256 = q % 256; omega)).trans (split4_at _ _ _ _)
  · split
    · rename_i h h'
      refine (H _ 1 (by show 1 < 3; omega) _ rfl 128 _ hl (by decide) ⟨0, by omega⟩ (by show 128 + 0 = (q : ℕ) % 256; omega)).trans ?_
      pointwise
    · rename_i h h'
      refine (H _ 2 (by show 2 < 3; omega) _ rfl 129 _ hl (by decide) ⟨q % 256 - 129, by omega⟩ (by show 129 + ((q : ℕ) % 256 - 129) = q % 256; omega)).trans ?_
      pointwise

theorem cols_at (o : ℕ) (ho : o + 512 ≤ 8352) (h : S65536x8352.Slices ![0, o] S65536x512) (p : Fin 65536) (q : Fin 512) :
    extractStridedSlice S65536x512 ![0, o] (proj X W) h (ix2 p q) = Cert.Kernel4Ideal.Proj.accA X W p ⟨o + q, by omega⟩ := by
  have e : extractStridedSlice S65536x512 ![0, o] (proj X W) h (ix2 p q) = proj X W (ix2 p ⟨o + q, by omega⟩) := by pointwise
  exact e.trans (proj_at X W p _)

/-- Rotated columns of the projection, from column `o`. -/
theorem rotated_cols (C S : FVec Ideal S65536x8 .f32) (o : ℕ) (hb : o + 512 ≤ 1024) (h : S65536x8352.Slices ![0, o] S65536x512) (p : Fin 65536) (q : Fin 512) :
    rotated (extractStridedSlice S65536x512 ![0, o] (proj X W) h) C S (ix2 p q) = Cert.Kernel4Ideal.Proj.rotA X W C S p ⟨o + q, by omega⟩ ⟨q % 64, by omega⟩ := by
  rw [rotated_at]
  unfold Cert.Kernel4Ideal.Proj.rotA
  simp only [cols_at X W o (by omega)]
  have at_ (a b : Fin 8352) (e : (a : ℕ) = b) : Cert.Kernel4Ideal.Proj.accA X W p a = Cert.Kernel4Ideal.Proj.accA X W p b := congrArg _ (Fin.ext e)
  split
  · rw [at_ ⟨o + (q + 8), by omega⟩ ⟨o + q + 8, by omega⟩ (by show o + ((q : ℕ) + 8) = o + q + 8; omega)]
  · split
    · rw [at_ ⟨o + (q - 8), by omega⟩ ⟨o + q - 8, by omega⟩ (by show o + ((q : ℕ) - 8) = o + q - 8; omega)]
    · rfl

/-- The kernel's queries, keys and values are the reference's. -/
theorem heads_eq (C S : FVec Ideal S65536x8 .f32) : Cert.Kernel4Ideal.Proj.headArr X W C S = HEADS X W C S := by
  funext i
  obtain ⟨p, q, rfl⟩ : ∃ (p : Fin 65536) (q : Fin 2048), i = ix2 p q := ⟨i 0, i 1, eq_ix2 i⟩
  show Cert.Kernel4Ideal.Proj.headA X W C S p q = concatenate S65536x2048 1 (headPieces (proj X W) C S) concatenates_S65536x512_S65536x512_S65536x1024_S65536x2048_d1 (ix2 p q)
  have H (w : ℕ) := Cert.Kernel4Ideal.Proj.beside_at (w := w) (headPieces (proj X W) C S) concatenates_S65536x512_S65536x512_S65536x1024_S65536x2048_d1 p q
  have hl : (headPieces (proj X W) C S).map (·.1) = [S65536x512, S65536x512, S65536x1024] := rfl
  unfold Cert.Kernel4Ideal.Proj.headA
  split
  · rename_i h
    split
    · rename_i h'
      refine Eq.symm ((H _ 0 (by show 0 < 3; omega) _ rfl 0 _ hl (by decide) ⟨q, h'⟩ (by show 0 + (q : ℕ) = q; omega)).trans ?_)
      show rotated _ C S (ix2 p ⟨q, h'⟩) * _ = _
      rw [rotated_cols X W C S 0 (by decide)]
      exact congrArg (· * Ideal.ofBits .f32 0x3E38AA3B#32) (congrArg (Cert.Kernel4Ideal.Proj.rotA X W C S p · _) (Fin.ext (by show 0 + (q : ℕ) = q; omega)))
    · rename_i h'
      refine Eq.symm ((H _ 1 (by show 1 < 3; omega) _ rfl 512 _ hl (by decide) ⟨q - 512, by omega⟩ (by show 512 + ((q : ℕ) - 512) = q; omega)).trans ?_)
      rw [rotated_cols X W C S 512 (by decide)]
      exact congrArg₂ (Cert.Kernel4Ideal.Proj.rotA X W C S p) (Fin.ext (by show 512 + ((q : ℕ) - 512) = q; omega)) (Fin.ext (by show ((q : ℕ) - 512) % 64 = q % 64; omega))
  · rename_i h
    refine Eq.symm ((H _ 2 (by show 2 < 3; omega) _ rfl 1024 _ hl (by decide) ⟨q - 1024, by omega⟩ (by show 1024 + ((q : ℕ) - 1024) = q; omega)).trans ?_)
    rw [values_at]
    have e : ((q : ℕ) - 1024) % 256 = q % 256 := by omega
    simp only [e]
    split
    · rw [cols_at X W 1024 (by decide)]
      exact congrArg (Cert.Kernel4Ideal.Proj.accA X W p) (Fin.ext (by show 1024 + (((q : ℕ) - 1024) / 256 * 128 + q % 256) = 1024 + (q - 1024) / 256 * 128 + q % 256; omega))
    · rfl

end Cert.Reference4Ideal.Proj

end
-- ==== Proof.ProjKernelIdealDilated.lean ====
/- What one point of the input projection leaves in its fifth result, as values of the blocks it reads: the first dilated group's rotated
   queries and keys and its values. -/
module

public import proofs.«01_k».proof.Proof.ProjKernelIdealHeads

@[expose] public section

set_option maxRecDepth 65536

noncomputable section

namespace Cert.Kernel4Ideal.Proj

open Idealize.ShloMosaic Idealize.ShloMosaic.TcCoe
open Cert.Kernel4Ideal Cert.Kernel4Ideal.Gen

theorem pay_30 (x w cs sn) : k0_pay30 (F := Ideal) cs sn k0_pay6 (k0_pay26 x w) (k0_pay27 x w) (k0_pay28 x w) (k0_pay29 x w)
    = shapeCast S1x1x256x256 (queryBlk x w cs sn) shapeCasts_S256x256_S1x1x256x256 := rfl
theorem pay_32 (x w cs sn) : k0_pay32 (F := Ideal) (k0_pay31 x cs sn k0_pay6 w)
    = shapeCast S1x1x256x256 (keyBlk x w cs sn) shapeCasts_S256x256_S1x1x256x256 := rfl
theorem pay_33 (x w) : k0_pay33 (F := Ideal) x w
    = shapeCast S1x1x256x512 (truncf .bf16 (k0_pay18 (F := Ideal) x w) bitsLt_bf16_f32) shapeCasts_S256x512_S1x1x256x512 := rfl

/-- A column of the result: the queries rotated and scaled, the keys rotated, the values. -/
def dilAt (x : FVec Ideal S256x1024 .bf16) (w : FVec Ideal S1024x8448 .bf16) (cs sn : FVec Ideal S256x128 .f32) (r : Fin 256) (j : Fin 1024) : EReal :=
  if (j : ℕ) < 256 then rotAt x w cs sn r ⟨2304 + j, by omega⟩ * Ideal.ofBits .f32 0x3E38AA3B#32
  else if (j : ℕ) < 512 then rotAt x w cs sn r ⟨2304 + j, by omega⟩ else acc x w r ⟨2304 + j, by omega⟩
def dilRows (x : FVec Ideal S256x1024 .bf16) (w : FVec Ideal S1024x8448 .bf16) (cs sn : FVec Ideal S256x128 .f32) : FVec Ideal S1x1x256x1024 .bf16 :=
  fun i => dilAt x w cs sn (i 2) (i 3)

theorem cast256_at (y : FVec Ideal S256x256 .bf16) (r j : Fin 256) :
    shapeCast S1x1x256x256 y shapeCasts_S256x256_S1x1x256x256 (ix4 0 0 r j) = y (ix2 r j) := by
  pointwise
theorem cast512_at (y : FVec Ideal S256x512 .bf16) (r : Fin 256) (j : Fin 512) :
    shapeCast S1x1x256x512 y shapeCasts_S256x512_S1x1x256x512 (ix4 0 0 r j) = y (ix2 r j) := by
  pointwise
/-- Where columns stored from column `o` stand. -/
theorem emb_dil {k : ℕ} (o : ℕ) (h : ∀ a, (![0, 0, 0, o] : Fin 4 → Nat) a + (![1, 1, 256, k] : Fin 4 → Nat) a ≤ (![1, 1, 256, 1024] : Fin 4 → Nat) a)
    (r : Fin 256) (j : Fin k) (hj : o + j.val < 1024) :
    (Rect.unit (s := S1x1x256x1024) ![0, 0, 0, o] ![1, 1, 256, k] h).emb (ix4 (0 : Fin 1) (0 : Fin 1) r j) = ix4 (0 : Fin 1) (0 : Fin 1) r ⟨o + j, hj⟩ := by
  refine funext fun a => Fin.ext ?_
  fin_cases a
  · rfl
  · rfl
  · show 0 + 1 * (r : ℕ) = r
    omega
  · show o + 1 * (j : ℕ) = o + j
    omega
theorem idx_dil {k : ℕ} (z : (⟨4, ![1, 1, 256, k]⟩ : Shape).Idx) : ∃ (r : Fin 256) (j : Fin k), z = ix4 (0 : Fin 1) (0 : Fin 1) r j :=
  ⟨z 2, z 3, (eq_ix4 z).trans (by
    rw [show z 0 = (0 : Fin 1) from Subsingleton.elim (α := Fin 1) _ _, show z 1 = (0 : Fin 1) from Subsingleton.elim (α := Fin 1) _ _])⟩

section Pieces
variable (x : FVec Ideal S256x1024 .bf16) (w : FVec Ideal S1024x8448 .bf16) (cs sn : FVec Ideal S256x128 .f32)

theorem dil_query (hw : ∀ a, (![0, 2304] : Fin 2 → Nat) a + (![1024, 256] : Fin 2 → Nat) a ≤ (![1024, 8448] : Fin 2 → Nat) a)
    (hq : ∀ a, (![0, 0, 0, 0] : Fin 4 → Nat) a + (![1, 1, 256, 256] : Fin 4 → Nat) a ≤ (![1, 1, 256, 1024] : Fin 4 → Nat) a) (z : S1x1x256x256.Idx) :
    shapeCast S1x1x256x256 (queryBlk x (View.ld (Val := Elt Ideal) (e' := .bf16) w (Rect.unit (s := S1024x8448) ![0, 2304] ![1024, 256] hw)) cs sn) shapeCasts_S256x256_S1x1x256x256 z
      = dilRows x w cs sn ((Rect.unit (s := S1x1x256x1024) ![0, 0, 0, 0] ![1, 1, 256, 256] hq).emb z) := by
  obtain ⟨r, j, rfl⟩ := idx_dil z
  refine Eq.trans ?_ (congrArg (dilRows x w cs sn) (emb_dil 0 hq r j (by omega))).symm
  refine (cast256_at _ r j).trans ((query_at x w cs sn 2304 (by decide) (by decide) hw r j).trans ?_)
  show _ = dilAt x w cs sn r ⟨0 + j, by omega⟩
  unfold dilAt
  rw [if_pos (show 0 + (j : ℕ) < 256 by omega)]
  exact congrArg (· * Ideal.ofBits .f32 0x3E38AA3B#32) (congrArg (rotAt x w cs sn r) (Fin.ext (by show 2304 + (j : ℕ) = 2304 + (0 + j); omega)))

theorem dil_key (hw : ∀ a, (![0, 2560] : Fin 2 → Nat) a + (![1024, 256] : Fin 2 → Nat) a ≤ (![1024, 8448] : Fin 2 → Nat) a)
    (hq : ∀ a, (![0, 0, 0, 256] : Fin 4 → Nat) a + (![1, 1, 256, 256] : Fin 4 → Nat) a ≤ (![1, 1, 256, 1024] : Fin 4 → Nat) a) (z : S1x1x256x256.Idx) :
    shapeCast S1x1x256x256 (keyBlk x (View.ld (Val := Elt Ideal) (e' := .bf16) w (Rect.unit (s := S1024x8448) ![0, 2560] ![1024, 256] hw)) cs sn) shapeCasts_S256x256_S1x1x256x256 z
      = dilRows x w cs sn ((Rect.unit (s := S1x1x256x1024) ![0, 0, 0, 256] ![1, 1, 256, 256] hq).emb z) := by
  obtain ⟨r, j, rfl⟩ := idx_dil z
  refine Eq.trans ?_ (congrArg (dilRows x w cs sn) (emb_dil 256 hq r j (by omega))).symm
  refine (cast256_at _ r j).trans ((key_at x w cs sn 2560 (by decide) (by decide) hw r j).trans ?_)
  show _ = dilAt x w cs sn r ⟨256 + j, by omega⟩
  unfold dilAt
  rw [if_neg (show ¬ 256 + (j : ℕ) < 256 by omega), if_pos (show 256 + (j : ℕ) < 512 by omega)]
  exact congrArg (rotAt x w cs sn r) (Fin.ext (by show 2560 + (j : ℕ) = 2304 + (256 + j); omega))

theorem dil_value (hw : ∀ a, (![0, 2816] : Fin 2 → Nat) a + (![1024, 512] : Fin 2 → Nat) a ≤ (![1024, 8448] : Fin 2 → Nat) a)
    (hq : ∀ a, (![0, 0, 0, 512] : Fin 4 → Nat) a + (![1, 1, 256, 512] : Fin 4 → Nat) a ≤ (![1, 1, 256, 1024] : Fin 4 → Nat) a) (z : S1x1x256x512.Idx) :
    shapeCast S1x1x256x512 (truncf .bf16 (k0_pay18 (F := Ideal) x (View.ld (Val := Elt Ideal) (e' := .bf16) w (Rect.unit (s := S1024x8448) ![0, 2816] ![1024, 512] hw))) bitsLt_bf16_f32 : FVec Ideal S256x512 .bf16)
        shapeCasts_S256x512_S1x1x256x512 z
      = dilRows x w cs sn ((Rect.unit (s := S1x1x256x1024) ![0, 0, 0, 512] ![1, 1, 256, 512] hq).emb z) := by
  obtain ⟨r, j, rfl⟩ := idx_dil z
  refine Eq.trans ?_ (congrArg (dilRows x w cs sn) (emb_dil 512 hq r j (by omega))).symm
  refine (cast512_at _ r j).trans ((mm512_at _ _ r j).trans ?_)
  show _ = dilAt x w cs sn r ⟨512 + j, by omega⟩
  unfold dilAt
  rw [if_neg (show ¬ 512 + (j : ℕ) < 256 by omega), if_neg (show ¬ 512 + (j : ℕ) < 512 by omega)]
  refine Finset.sum_congr rfl fun d _ => congrArg (x (ix2 r d) * ·) ?_
  exact (ld_cols (e := .bf16) w 2816 hw d j (by omega)).trans (congrArg (fun q => w (ix2 d q)) (Fin.ext (by show 2816 + (j : ℕ) = 2304 + (512 + j); omega)))
end Pieces

variable (c : Dev nD) (i : grid0.Coords) (arg2 : Memref sig .tc .vmem S256x1024 .bf16) (harg2 : arg2.IsWhole) (arg3 : Memref sig .tc .vmem S1024x8448 .bf16) (harg3 : arg3.IsWhole) (arg4 : Memref sig .tc .vmem S1x3072 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2048 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S1x1x256x1024 .bf16) (harg18 : arg18.IsWhole) (arg19 : Memref sig .tc .vmem S1x4x64x1024 .bf16) (harg19 : arg19.IsWhole) (arg20 : Memref sig .tc .vmem S1x16x16x1024 .bf16) (harg20 : arg20.IsWhole) (arg21 : Memref sig .tc .vmem S256x3072 .bf16) (harg21 : arg21.IsWhole) (arg22 : Memref sig .tc .vmem S4x256x128 .f32) (harg22 : arg22.IsWhole)
    (x0 : Vec Ideal S256x1024 .bf16) (x1 : Vec Ideal S1024x8448 .bf16) (x2 : Vec Ideal S1x3072 .f32) (x3 : Vec Ideal S256x128 .f32) (x4 : Vec Ideal S256x128 .f32) (x5 : Vec Ideal S256x128 .f32) (x6 : Vec Ideal S256x128 .f32) (x7 : Vec Ideal S1x384 .f32) (x8 : Vec Ideal S1x256 .f32) (x9 : Vec Ideal S384x1024 .bf16) (x10 : Vec Ideal S256x1024 .bf16) (x11 : Vec Ideal S256x1024 .bf16)

theorem dil_out : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = dilRows x0 x1 x3 x4 := by
  unfold out0_A_16
  rw [View.read_writes_eq_canon _ _ _ (cover0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11)]
  funext y
  refine View.canon_apply_of_pieces _ _ ?_ y (cover0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 y)
  unfold kernelRun0_A
  dsimp only
  sl_unfold_words
  simp only [View.readAt_eq_ld, harg2.read_unread, harg3.read_unread, harg5.read_unread, harg6.read_unread, View.ld_unit_zero (S := S256x1024) hz]
  simp only [View.ld_unit_zero (S := S256x128) hz, pay_30, pay_32, pay_33]
  simp only [pay_4, pay_5]
  intro p hp
  simp only [List.mem_cons, List.not_mem_nil, or_false] at hp
  obtain rfl | rfl | rfl := hp
  · exact dil_value x0 x1 x3 x4 _ (by decide)
  · exact dil_key x0 x1 x3 x4 _ (by decide)
  · exact dil_query x0 x1 x3 x4 _ (by decide)

end Cert.Kernel4Ideal.Proj

end
-- ==== Proof.ProjKernelIdealDilatedBlocks.lean ====
/- The dilated attention's first group in the argument arrays: its columns of the packed weights, and the array after the run. -/
module

public import proofs.«01_k».proof.Proof.ProjKernelIdealBlocks
public import proofs.«01_k».proof.Proof.ProjKernelIdealDilated

@[expose] public section

set_option maxRecDepth 65536

noncomputable section

namespace Cert.Kernel4Ideal.Proj

open Idealize.ShloMosaic Idealize.ShloMosaic.TcCoe
open Idealize.ShloMosaic.StableHlo
open Cert.Kernel4Ideal Cert.Kernel4Ideal.Gen

variable (m : (ℓ : Loc nD τ sig) → Buf (Elt Ideal) ℓ) (c : Dev nD) (t : Fin cfg0.N)

/-- The first dilated group's queries in the packed weights. -/
theorem packed_dilQuery (W : FVec Ideal S1024x8352 .f32) (d : Fin 1024) (q q' : ℕ) (h1 : 2304 ≤ q) (h2 : q < 2560) (e : q' = 2208 + (q - 2304)) :
    packed W (ix2 d ⟨q, by omega⟩) = W (ix2 d ⟨q', by omega⟩) := by
  have H (w : ℕ) := beside_at (w := w) (pieces W) concatenates_S1024x512_S1024x512_S1024x512_S1024x256_S1024x128_S1024x384_S1024x256_S1024x256_S1024x512_S1024x256_S1024x256_S1024x512_S1024x256_S1024x256_S1024x512_S1024x3072_S1024x8448_d1 d ⟨q, by omega⟩
  refine (H _ 6 (by show 6 < 16; omega) _ rfl 2304 packedShapes rfl (by decide) ⟨q - 2304, by omega⟩ (by show 2304 + (q - 2304) = q; omega)).trans ?_
  subst e
  pointwise
theorem acc_dilQuery (r : Fin 256) (q q' : ℕ) (h1 : 2304 ≤ q) (h2 : q < 2560) (e : q' = 2208 + (q - 2304)) :
    acc (iblk m c 0 t) (iblk m c 1 t) r ⟨q, by omega⟩ = accA (argX m c) (argW m c) (row t r) ⟨q', by omega⟩ :=
  Finset.sum_congr rfl fun d _ => congrArg₂ (fun x y : EReal => x * y) (x_at m c t r d) ((w_at m c t d _).trans (packed_dilQuery _ d q q' h1 h2 e))
/-- Its keys. -/
theorem packed_dilKey (W : FVec Ideal S1024x8352 .f32) (d : Fin 1024) (q q' : ℕ) (h1 : 2560 ≤ q) (h2 : q < 2816) (e : q' = 2976 + (q - 2560)) :
    packed W (ix2 d ⟨q, by omega⟩) = W (ix2 d ⟨q', by omega⟩) := by
  have H (w : ℕ) := beside_at (w := w) (pieces W) concatenates_S1024x512_S1024x512_S1024x512_S1024x256_S1024x128_S1024x384_S1024x256_S1024x256_S1024x512_S1024x256_S1024x256_S1024x512_S1024x256_S1024x256_S1024x512_S1024x3072_S1024x8448_d1 d ⟨q, by omega⟩
  refine (H _ 7 (by show 7 < 16; omega) _ rfl 2560 packedShapes rfl (by decide) ⟨q - 2560, by omega⟩ (by show 2560 + (q - 2560) = q; omega)).trans ?_
  subst e
  pointwise
theorem acc_dilKey (r : Fin 256) (q q' : ℕ) (h1 : 2560 ≤ q) (h2 : q < 2816) (e : q' = 2976 + (q - 2560)) :
    acc (iblk m c 0 t) (iblk m c 1 t) r ⟨q, by omega⟩ = accA (argX m c) (argW m c) (row t r) ⟨q', by omega⟩ :=
  Finset.sum_congr rfl fun d _ => congrArg₂ (fun x y : EReal => x * y) (x_at m c t r d) ((w_at m c t d _).trans (packed_dilKey _ d q q' h1 h2 e))
/-- Its values. -/
theorem packed_dilValue (W : FVec Ideal S1024x8352 .f32) (d : Fin 1024) (q q' : ℕ) (h1 : 2816 ≤ q) (h2 : q < 3328) (e : q' = 3744 + (q - 2816)) :
    packed W (ix2 d ⟨q, by omega⟩) = W (ix2 d ⟨q', by omega⟩) := by
  have H (w : ℕ) := beside_at (w := w) (pieces W) concatenates_S1024x512_S1024x512_S1024x512_S1024x256_S1024x128_S1024x384_S1024x256_S1024x256_S1024x512_S1024x256_S1024x256_S1024x512_S1024x256_S1024x256_S1024x512_S1024x3072_S1024x8448_d1 d ⟨q, by omega⟩
  refine (H _ 8 (by show 8 < 16; omega) _ rfl 2816 packedShapes rfl (by decide) ⟨q - 2816, by omega⟩ (by show 2816 + (q - 2816) = q; omega)).trans ?_
  subst e
  pointwise
theorem acc_dilValue (r : Fin 256) (q q' : ℕ) (h1 : 2816 ≤ q) (h2 : q < 3328) (e : q' = 3744 + (q - 2816)) :
    acc (iblk m c 0 t) (iblk m c 1 t) r ⟨q, by omega⟩ = accA (argX m c) (argW m c) (row t r) ⟨q', by omega⟩ :=
  Finset.sum_congr rfl fun d _ => congrArg₂ (fun x y : EReal => x * y) (x_at m c t r d) ((w_at m c t d _).trans (packed_dilValue _ d q q' h1 h2 e))

section Formula
variable (X : FVec Ideal S65536x1024 .bf16) (W : FVec Ideal S1024x8352 .f32) (C S : FVec Ideal S65536x8 .f32)
/-- A column of the first dilated group over the arguments: queries, keys, values. -/
def dilA (p : Fin 65536) (j : Fin 1024) : EReal :=
  if (j : ℕ) < 256 then rotA X W C S p ⟨2208 + j, by omega⟩ ⟨j % 64, by omega⟩ * Ideal.ofBits .f32 0x3E38AA3B#32
  else if (j : ℕ) < 512 then rotA X W C S p ⟨2976 + (j - 256), by omega⟩ ⟨j % 64, by omega⟩
  else accA X W p ⟨3744 + (j - 512), by omega⟩
/-- The result's array: row `s` of batch `b` is the stream's row `b * 8192 + s`. -/
def dilArr : FVec Ideal S8x1x8192x1024 .bf16 := fun i =>
  dilA X W C S ⟨(i 0).val * 8192 + (i 2).val, by have h0 : (i 0).val < 8 := (i 0).isLt; have h2 : (i 2).val < 8192 := (i 2).isLt; omega⟩ (i 3)
end Formula

theorem dil_blk (r : Fin 256) (j : Fin 1024) : dilAt (iblk m c 0 t) (iblk m c 1 t) (iblk m c 3 t) (iblk m c 4 t) r j
    = dilA (argX m c) (argW m c) (argC m c) (argS m c) (row t r) j := by
  have lane (o : ℕ) (ho : o % 64 = 0) (q' : Fin 5280) (h : (o + (j : ℕ)) % 64 < 64) :
      rotA (argX m c) (argW m c) (argC m c) (argS m c) (row t r) q' ⟨(o + j) % 64, h⟩
        = rotA (argX m c) (argW m c) (argC m c) (argS m c) (row t r) q' ⟨j % 64, by omega⟩ :=
    congrArg _ (Fin.ext (by show (o + (j : ℕ)) % 64 = j % 64; omega))
  unfold dilAt dilA
  split
  · rename_i h
    refine congrArg (· * Ideal.ofBits .f32 0x3E38AA3B#32) (Eq.trans (rot_blk m c t r ⟨2304 + j, by omega⟩ ⟨2208 + j, by omega⟩ ?_ ?_ ?_) (lane 2304 (by decide) _ _))
    · exact acc_dilQuery m c t r (2304 + j) (2208 + j) (by omega) (by omega) (by omega)
    · intro h'
      have h'' : (2304 + (j : ℕ)) % 64 < 8 := h'
      exact acc_dilQuery m c t r (2304 + j + 8) (2208 + j + 8) (by omega) (by omega) (by omega)
    · intro h'
      have h'' : ¬ (2304 + (j : ℕ)) % 64 < 8 := h'
      exact acc_dilQuery m c t r (2304 + j - 8) (2208 + j - 8) (by omega) (by omega) (by omega)
  · rename_i h0
    split
    · rename_i h
      refine Eq.trans (rot_blk m c t r ⟨2304 + j, by omega⟩ ⟨2976 + (j - 256), by omega⟩ ?_ ?_ ?_) (lane 2304 (by decide) _ _)
      · exact acc_dilKey m c t r (2304 + j) (2976 + (j - 256)) (by omega) (by omega) (by omega)
      · intro h'
        have h'' : (2304 + (j : ℕ)) % 64 < 8 := h'
        exact acc_dilKey m c t r (2304 + j + 8) (2976 + (j - 256) + 8) (by omega) (by omega) (by omega)
      · intro h'
        have h'' : ¬ (2304 + (j : ℕ)) % 64 < 8 := h'
        exact acc_dilKey m c t r (2304 + j - 8) (2976 + (j - 256) - 8) (by omega) (by omega) (by omega)
    · rename_i h
      exact acc_dilValue m c t r (2304 + j) (3744 + (j - 512)) (by omega) (by omega) (by omega)

/-- The fifth result's array after the run. -/
theorem final_dil : (dats m 0 c).arrAt 16 (cfgs 0).N = dilArr (argX m c) (argW m c) (argC m c) (argS m c) := by
  refine (dats m 0 c).arrAt_eq_of_covers 16 _ (by decide +kernel) fun t hf y => ?_
  obtain ⟨r, j, rfl⟩ : ∃ (r : Fin 256) (j : Fin 1024), y = ix4 (0 : Fin 1) (0 : Fin 1) r j := idx_dil y
  blk_simp
  rw [after0_16]
  unfold outsAt0
  dsimp only
  rw [dil_out]
  refine (dil_blk m c t r j).trans ?_
  unfold dilArr row
  have e0 : ((win0_16.blk t).view.emb (ix4 (0 : Fin 1) (0 : Fin 1) r j) 0 : ℕ) = t.val / 32 := by
    blk_simp [idx t]
    rfl
  have e2 : ((win0_16.blk t).view.emb (ix4 (0 : Fin 1) (0 : Fin 1) r j) 2 : ℕ) = t.val % 32 * 256 + r := by blk_simp [idx t]
  have e3 : ((win0_16.blk t).view.emb (ix4 (0 : Fin 1) (0 : Fin 1) r j) 3 : ℕ) = j := by blk_simp [idx t]
  refine congrArg₂ (dilA (argX m c) (argW m c) (argC m c) (argS m c)) (Fin.ext ?_) (Fin.ext e3.symm)
  refine Eq.trans (b := t.val / 32 * 8192 + (t.val % 32 * 256 + r)) (by show t.val * 256 + (r : ℕ) = _; omega) ?_
  exact (congrArg₂ (fun a b : ℕ => a * 8192 + b) e0 e2).symm

end Cert.Kernel4Ideal.Proj

end
-- ==== Proof.ProjEqualDilated.lean ====
/- The reference's fifth result read at an index: the dilated attention's first group, its queries and keys rotated, its values; and that
   the kernel's array is this. -/
module

public import proofs.«01_k».proof.Proof.ProjEqual
public import proofs.«01_k».proof.Proof.ProjKernelIdealDilatedBlocks

@[expose] public section

set_option maxRecDepth 65536

noncomputable section

namespace Cert.Reference4Ideal.Proj

open Idealize.ShloMosaic Idealize.ShloMosaic.TcCoe Idealize.ShloMosaic.StableHlo Idealize.SL Idealize.SL.Sem
open Cert.Reference4Ideal Cert.Reference4Ideal.Gen

variable (X : FVec Ideal S65536x1024 .bf16) (W : FVec Ideal S1024x8352 .f32)

/-- 768 columns as twelve heads of 64. -/
def heads12 (y : FVec Ideal S65536x768 .f32) : FVec Ideal S65536x12x64 .f32 := shapeCast _ y shapeCasts_S65536x768_S65536x12x64
def first12 (a : FVec Ideal S65536x12x64 .f32) : FVec Ideal S65536x12x8 .f32 := extractStridedSlice S65536x12x8 ![0, 0, 0] a slices_S65536x12x64_S65536x12x8_0_0_0
def second12 (a : FVec Ideal S65536x12x64 .f32) : FVec Ideal S65536x12x8 .f32 := extractStridedSlice S65536x12x8 ![0, 0, 8] a slices_S65536x12x64_S65536x12x8_0_0_8
def rest12 (a : FVec Ideal S65536x12x64 .f32) : FVec Ideal S65536x12x48 .f32 := extractStridedSlice S65536x12x48 ![0, 0, 16] a slices_S65536x12x64_S65536x12x48_0_0_16
/-- The rotation's cosines or sines, the same for every head. -/
def forHeads12 (C : FVec Ideal S65536x8 .f32) : FVec Ideal S65536x12x8 .f32 :=
  broadcastInDim S65536x12x8 ![0, 1, 2] bcast_S65536x1x8_S65536x12x8_0_1_2 (broadcastInDim S65536x1x8 ![0, 2] bcast_S65536x8_S65536x1x8_0_2 C)
def rotPieces12 (a : FVec Ideal S65536x12x64 .f32) (C S : FVec Ideal S65536x8 .f32) : List ((s : Shape) × (s.Idx → Ideal .f32)) :=
  [⟨S65536x12x8, subf (mulf (first12 a) (forHeads12 C)) (mulf (second12 a) (forHeads12 S))⟩,
    ⟨S65536x12x8, addf (mulf (second12 a) (forHeads12 C)) (mulf (first12 a) (forHeads12 S))⟩, ⟨S65536x12x48, rest12 a⟩]
/-- The heads rotated. -/
def rotHeads12 (a : FVec Ideal S65536x12x64 .f32) (C S : FVec Ideal S65536x8 .f32) : FVec Ideal S65536x12x64 .f32 :=
  concatenate S65536x12x64 2 (rotPieces12 a C S) concatenates_S65536x12x8_S65536x12x8_S65536x12x48_S65536x12x64_d2
def rotated12 (y : FVec Ideal S65536x768 .f32) (C S : FVec Ideal S65536x8 .f32) : FVec Ideal S65536x768 .f32 :=
  shapeCast _ (rotHeads12 (heads12 y) C S) shapeCasts_S65536x12x64_S65536x768
/-- The first group's columns of rotated heads. -/
def group (y : FVec Ideal S65536x768 .f32) : FVec Ideal S65536x256 .f32 := extractStridedSlice S65536x256 ![0, 0] y slices_S65536x768_S65536x256_0_0
def groupValues (y : FVec Ideal S65536x1536 .f32) : FVec Ideal S65536x512 .f32 := extractStridedSlice S65536x512 ![0, 0] y slices_S65536x1536_S65536x512_0_0
def dilPieces (h : FVec Ideal S65536x8352 .f32) (C S : FVec Ideal S65536x8 .f32) : List ((s : Shape) × (s.Idx → Ideal .f32)) :=
  [⟨S65536x256, mulf (group (rotated12 (extractStridedSlice S65536x768 ![0, 2208] h slices_S65536x8352_S65536x768_0_2208) C S)) (broadcastInDim S65536x256 ![] bcast_S_S65536x256 (constant S_ .f32 0x3E38AA3B#32))⟩,
    ⟨S65536x256, group (rotated12 (extractStridedSlice S65536x768 ![0, 2976] h slices_S65536x8352_S65536x768_0_2976) C S)⟩,
    ⟨S65536x512, groupValues (extractStridedSlice S65536x1536 ![0, 3744] h slices_S65536x8352_S65536x1536_0_3744)⟩]
def dilRows (h : FVec Ideal S65536x8352 .f32) (C S : FVec Ideal S65536x8 .f32) : FVec Ideal S65536x1024 .f32 :=
  concatenate S65536x1024 1 (dilPieces h C S) concatenates_S65536x256_S65536x256_S65536x512_S65536x1024_d1
/-- The reference's fifth result. -/
def DIL (C S : FVec Ideal S65536x8 .f32) : FVec Ideal S8x1x8192x1024 .bf16 :=
  truncf (F := Ideal) (φ := .f32) .bf16 (shapeCast S8x1x8192x1024 (dilRows (proj X W) C S) shapeCasts_S65536x1024_S8x1x8192x1024) bitsLt_bf16_f32
/-- What the reference's run leaves in its second returned array. -/
theorem res_dil (m : (ℓ : Loc nD τ sig) → Buf (Elt Ideal) ℓ) (c : Dev nD) : Cert.Reference4Ideal.Value.res_main_v100 (F := Ideal) m c
    = DIL (m ((c.tc : Thread nD τ).loc main_arg0)) (m ((c.tc : Thread nD τ).loc main_arg1)) (m ((c.tc : Thread nD τ).loc main_arg3)) (m ((c.tc : Thread nD τ).loc main_arg4)) := by
  unfold Cert.Reference4Ideal.Value.res_main_v100 DIL dilRows dilPieces group groupValues rotated12 rotHeads12 rotPieces12 first12 second12 rest12 forHeads12 heads12 proj
  rfl

theorem heads12_at (y : FVec Ideal S65536x768 .f32) (p : Fin 65536) (u : Fin 12) (l : Fin 64) : heads12 y (ix3 p u l) = y (ix2 p ⟨u * 64 + l, by omega⟩) := by
  pointwise [heads12]
theorem first12_at (a : FVec Ideal S65536x12x64 .f32) (p : Fin 65536) (u : Fin 12) (l : Fin 8) : first12 a (ix3 p u l) = a (ix3 p u ⟨l, by omega⟩) := by
  pointwise [first12]
theorem second12_at (a : FVec Ideal S65536x12x64 .f32) (p : Fin 65536) (u : Fin 12) (l : Fin 8) : second12 a (ix3 p u l) = a (ix3 p u ⟨8 + l, by omega⟩) := by
  pointwise [second12]
theorem rest12_at (a : FVec Ideal S65536x12x64 .f32) (p : Fin 65536) (u : Fin 12) (l : Fin 48) : rest12 a (ix3 p u l) = a (ix3 p u ⟨16 + l, by omega⟩) := by
  pointwise [rest12]
theorem forHeads12_at (C : FVec Ideal S65536x8 .f32) (p : Fin 65536) (u : Fin 12) (l : Fin 8) : forHeads12 C (ix3 p u l) = C (ix2 p l) := by
  pointwise [forHeads12]
theorem flat12_at (a : FVec Ideal S65536x12x64 .f32) (p : Fin 65536) (q : Fin 768) :
    shapeCast S65536x768 a shapeCasts_S65536x12x64_S65536x768 (ix2 p q) = a (ix3 p ⟨q / 64, by omega⟩ ⟨q % 64, by omega⟩) := by
  pointwise
/-- A rotated column. -/
theorem rotated12_at (y : FVec Ideal S65536x768 .f32) (C S : FVec Ideal S65536x8 .f32) (p : Fin 65536) (q : Fin 768) :
    rotated12 y C S (ix2 p q) = if h : (q : ℕ) % 64 < 8 then y (ix2 p q) * C (ix2 p ⟨q % 64, h⟩) - y (ix2 p ⟨q + 8, by omega⟩) * S (ix2 p ⟨q % 64, h⟩)
      else if h' : (q : ℕ) % 64 < 16 then y (ix2 p q) * C (ix2 p ⟨q % 64 - 8, by omega⟩) + y (ix2 p ⟨q - 8, by omega⟩) * S (ix2 p ⟨q % 64 - 8, by omega⟩)
      else y (ix2 p q) := by
  unfold rotated12
  rw [flat12_at]
  have H (w : ℕ) := beside3_at (w := w) (rotPieces12 (heads12 y) C S) concatenates_S65536x12x8_S65536x12x8_S65536x12x48_S65536x12x64_d2 p ⟨q / 64, by omega⟩ ⟨q % 64, by omega⟩
  have hl : (rotPieces12 (heads12 y) C S).map (·.1) = [S65536x12x8, S65536x12x8, S65536x12x48] := rfl
  have at_ (a b : Fin 768) (e : (a : ℕ) = b) : y (ix2 p a) = y (ix2 p b) := congrArg (fun z => y (ix2 p z)) (Fin.ext e)
  unfold rotHeads12
  split
  · rename_i h
    refine (H _ 0 (by show 0 < 3; omega) _ rfl 0 _ hl (by decide) ⟨q % 64, h⟩ (by show 0 + (q : ℕ) % 64 = q % 64; omega)).trans ?_
    show first12 _ _ * forHeads12 _ _ - second12 _ _ * forHeads12 _ _ = _
    rw [first12_at, second12_at, forHeads12_at, forHeads12_at, heads12_at, heads12_at]
    exact congrArg₂ (fun a b : EReal => a * C (ix2 p ⟨q % 64, h⟩) - b * S (ix2 p ⟨q % 64, h⟩))
      (at_ _ q (by show (q : ℕ) / 64 * 64 + q % 64 = q; omega)) (at_ _ ⟨q + 8, by omega⟩ (by show (q : ℕ) / 64 * 64 + (8 + q % 64) = q + 8; omega))
  · split
    · rename_i h h'
      refine (H _ 1 (by show 1 < 3; omega) _ rfl 8 _ hl (by decide) ⟨q % 64 - 8, by omega⟩ (by show 8 + ((q : ℕ) % 64 - 8) = q % 64; omega)).trans ?_
      show second12 _ _ * forHeads12 _ _ + first12 _ _ * forHeads12 _ _ = _
      rw [first12_at, second12_at, forHeads12_at, forHeads12_at, heads12_at, heads12_at]
      exact congrArg₂ (fun a b : EReal => a * C (ix2 p ⟨q % 64 - 8, by omega⟩) + b * S (ix2 p ⟨q % 64 - 8, by omega⟩))
        (at_ _ q (by show (q : ℕ) / 64 * 64 + (8 + (q % 64 - 8)) = q; omega)) (at_ _ ⟨q - 8, by omega⟩ (by show (q : ℕ) / 64 * 64 + (q % 64 - 8) = q - 8; omega))
    · rename_i h h'
      refine (H _ 2 (by show 2 < 3; omega) _ rfl 16 _ hl (by decide) ⟨q % 64 - 16, by omega⟩ (by show 16 + ((q : ℕ) % 64 - 16) = q % 64; omega)).trans ?_
      rw [rest12_at, heads12_at]
      exact at_ _ q (by show (q : ℕ) / 64 * 64 + (16 + (q % 64 - 16)) = q; omega)

theorem cols12_at (o : ℕ) (ho : o + 768 ≤ 8352) (h : S65536x8352.Slices ![0, o] S65536x768) (p : Fin 65536) (q : Fin 768) :
    extractStridedSlice S65536x768 ![0, o] (proj X W) h (ix2 p q) = Cert.Kernel4Ideal.Proj.accA X W p ⟨o + q, by omega⟩ := by
  have e : extractStridedSlice S65536x768 ![0, o] (proj X W) h (ix2 p q) = proj X W (ix2 p ⟨o + q, by omega⟩) := by pointwise
  exact e.trans (proj_at X W p _)

/-- Rotated columns of the projection, from column `o`. -/
theorem rotated12_cols (C S : FVec Ideal S65536x8 .f32) (o : ℕ) (hb : o + 768 ≤ 5280) (h : S65536x8352.Slices ![0, o] S65536x768) (p : Fin 65536) (q : Fin 768) :
    rotated12 (extractStridedSlice S65536x768 ![0, o] (proj X W) h) C S (ix2 p q) = Cert.Kernel4Ideal.Proj.rotA X W C S p ⟨o + q, by omega⟩ ⟨q % 64, by omega⟩ := by
  rw [rotated12_at]
  unfold Cert.Kernel4Ideal.Proj.rotA
  simp only [cols12_at X W o (by omega)]
  have at_ (a b : Fin 8352) (e : (a : ℕ) = b) : Cert.Kernel4Ideal.Proj.accA X W p a = Cert.Kernel4Ideal.Proj.accA X W p b := congrArg _ (Fin.ext e)
  split
  · rw [at_ ⟨o + (q + 8), by omega⟩ ⟨o + q + 8, by omega⟩ (by show o + ((q : ℕ) + 8) = o + q + 8; omega)]
  · split
    · rw [at_ ⟨o + (q - 8), by omega⟩ ⟨o + q - 8, by omega⟩ (by show o + ((q : ℕ) - 8) = o + q - 8; omega)]
    · rfl

theorem group_at (y : FVec Ideal S65536x768 .f32) (p : Fin 65536) (j : Fin 256) : group y (ix2 p j) = y (ix2 p ⟨j, by omega⟩) := by
  pointwise [group]
theorem groupValues_at (o : ℕ) (ho : o + 1536 ≤ 8352) (h : S65536x8352.Slices ![0, o] S65536x1536) (p : Fin 65536) (j : Fin 512) :
    groupValues (extractStridedSlice S65536x1536 ![0, o] (proj X W) h) (ix2 p j) = Cert.Kernel4Ideal.Proj.accA X W p ⟨o + j, by omega⟩ := by
  have e : groupValues (extractStridedSlice S65536x1536 ![0, o] (proj X W) h) (ix2 p j) = proj X W (ix2 p ⟨o + j, by omega⟩) := by
    pointwise [groupValues]
  exact e.trans (proj_at X W p _)
theorem trunc_at {s : Shape} (y : FVec Ideal s .f32) (h : FTy.bits .bf16 < FTy.bits .f32) (i : s.Idx) : (truncf (F := Ideal) (φ := .f32) .bf16 y h : FVec Ideal s .bf16) i = y i := rfl
theorem batches_at (y : FVec Ideal S65536x1024 .f32) (b : Fin 8) (s : Fin 8192) (j : Fin 1024) :
    shapeCast S8x1x8192x1024 y shapeCasts_S65536x1024_S8x1x8192x1024 (ix4 b (0 : Fin 1) s j) = y (ix2 ⟨b * 8192 + s, by omega⟩ j) := by
  pointwise
theorem DIL_at (C S : FVec Ideal S65536x8 .f32) (b : Fin 8) (s : Fin 8192) (j : Fin 1024) :
    DIL X W C S (ix4 b (0 : Fin 1) s j) = dilRows (proj X W) C S (ix2 ⟨b * 8192 + s, by omega⟩ j) := by
  unfold DIL
  exact (trunc_at _ _ _).trans (batches_at _ b s j)
theorem dilArr_at (C S : FVec Ideal S65536x8 .f32) (b : Fin 8) (s : Fin 8192) (j : Fin 1024) :
    Cert.Kernel4Ideal.Proj.dilArr X W C S (ix4 b (0 : Fin 1) s j) = Cert.Kernel4Ideal.Proj.dilA X W C S ⟨b * 8192 + s, by omega⟩ j := by
  unfold Cert.Kernel4Ideal.Proj.dilArr
  exact congrArg₂ (Cert.Kernel4Ideal.Proj.dilA X W C S) (Fin.ext (congrArg₂ (fun x y : ℕ => x * 8192 + y) rfl rfl)) rfl

theorem dilRows_at (C S : FVec Ideal S65536x8 .f32) (p : Fin 65536) (j : Fin 1024) : dilRows (proj X W) C S (ix2 p j) = Cert.Kernel4Ideal.Proj.dilA X W C S p j := by
  have H (w : ℕ) := Cert.Kernel4Ideal.Proj.beside_at (w := w) (dilPieces (proj X W) C S) concatenates_S65536x256_S65536x256_S65536x512_S65536x1024_d1 p j
  have hl : (dilPieces (proj X W) C S).map (·.1) = [S65536x256, S65536x256, S65536x512] := rfl
  unfold dilRows Cert.Kernel4Ideal.Proj.dilA
  split
  · rename_i h
    refine (H _ 0 (by show 0 < 3; omega) _ rfl 0 _ hl (by decide) ⟨j, h⟩ (by show 0 + (j : ℕ) = j; omega)).trans ?_
    show group _ (ix2 p ⟨j, h⟩) * _ = _
    rw [group_at, rotated12_cols X W C S 2208 (by decide)]
    rfl
  · rename_i h
    split
    · rename_i h'
      refine (H _ 1 (by show 1 < 3; omega) _ rfl 256 _ hl (by decide) ⟨j - 256, by omega⟩ (by show 256 + ((j : ℕ) - 256) = j; omega)).trans ?_
      rw [group_at, rotated12_cols X W C S 2976 (by decide)]
      exact congrArg (Cert.Kernel4Ideal.Proj.rotA X W C S p _) (Fin.ext (by show ((j : ℕ) - 256) % 64 = j % 64; omega))
    · refine (H _ 2 (by show 2 < 3; omega) _ rfl 512 _ hl (by decide) ⟨j - 512, by omega⟩ (by show 512 + ((j : ℕ) - 512) = j; omega)).trans ?_
      rw [groupValues_at X W 3744 (by decide)]

/-- The kernel's first dilated group is the reference's. -/
theorem dil_eq (C S : FVec Ideal S65536x8 .f32) : Cert.Kernel4Ideal.Proj.dilArr X W C S = DIL X W C S := by
  funext i
  obtain ⟨b, s, j, rfl⟩ : ∃ (b : Fin 8) (s : Fin 8192) (j : Fin 1024), i = ix4 b (0 : Fin 1) s j :=
    ⟨i 0, i 2, i 3, (eq_ix4 i).trans (by rw [show i 1 = (0 : Fin 1) from Subsingleton.elim (α := Fin 1) _ _])⟩
  exact (dilArr_at X W C S b s j).trans ((DIL_at X W C S b s j).trans (dilRows_at X W C S _ j)).symm

end Cert.Reference4Ideal.Proj

end
-- ==== Proof.lean ====
/- The certificate's proof: for the latent attention, the mixture, the differential attention and the input projection the frames, the
   reference's run, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.SameText
public import proofs.«01_k».proof.Proof.MlaEqual
public import proofs.«01_k».proof.Proof.MoeEqual
public import proofs.«01_k».proof.Proof.DiffEqual
public import proofs.«01_k».proof.Proof.ProjEqualDilated
public import Idealize.ShloMosaic.Lib.Claim
public import Idealize.ShloMosaic.Adequacy
public import Idealize.ShloMosaic.Init

@[expose] public section

set_option maxRecDepth 65536

noncomputable section

namespace Cert.Proof

open Idealize.ShloMosaic Idealize.SL.Sem

/-- The reference stops, leaving its arguments and counters as they were. -/
theorem frame_reference : Cert.quiescent_ReferenceIdeal (hReferenceIdeal := Cert.ReferenceIdeal.Gen.facts) := by
  intro m g _
  hlo_run
  · exact fun _ => ⟨trivial, trivial, trivial⟩
  · exact sem_eq_zero_of_no_sems (by decide : Cert.ReferenceIdeal.sig.nSem + Cert.ReferenceIdeal.sig.nDmaSem = 0) _

/-- Under the precondition the idealized kernel's result is the reference's. -/
theorem algebraic_mla : Cert.algebraic_KernelIdeal_ReferenceIdeal_pre_finite_with_ones (hKernelIdeal := Cert.KernelIdeal.Gen.facts)
    (hReferenceIdeal := Cert.ReferenceIdeal.Gen.facts) (hPre_finite_with_ones := Cert.MlaEqual.facts) := by
  pair_intro
  · run_from Cert.KernelIdeal.Mla.run m g
  · run_from Cert.ReferenceIdeal.Mla.run m' g'
    exact ((Cert.KernelIdeal.Mla.final m c).trans (Cert.MlaEqual.arr_eq_of_pre _ _ _ (hpre c))).symm

/-- The mixture's reference stops, leaving its arguments and counters as they were. -/
theorem frame_reference2 : Cert.quiescent_Reference2Ideal (hReference2Ideal := Cert.Reference2Ideal.Gen.facts) := by
  intro m g _
  hlo_run
  · exact fun _ => ⟨trivial, trivial, trivial, trivial, trivial, trivial, trivial, trivial, trivial, trivial⟩
  · exact sem_eq_zero_of_no_sems (by decide : Cert.Reference2Ideal.sig.nSem + Cert.Reference2Ideal.sig.nDmaSem = 0) _

/-- Under the precondition the idealized mixture kernel's two results are the reference's. -/
theorem algebraic_moe : Cert.algebraic_Kernel2Ideal_Reference2Ideal_pre_nonneg_gates (hKernel2Ideal := Cert.Kernel2Ideal.Gen.facts)
    (hReference2Ideal := Cert.Reference2Ideal.Gen.facts) (hPre_nonneg_gates := Cert.MoeEqual.facts) := by
  pair_intro
  · run_from Cert.Kernel2Ideal.Value.run_blocks m g
  · run_from Cert.Reference2Ideal.Moe.run m' g'
    · exact ((Cert.Kernel2Ideal.Moe.final_32 m c).trans (Cert.MoeEqual.arr_eq _ _ _ _ _ _ _ _ _ _ (hpre c))).symm
    · exact ((Cert.Kernel2Ideal.Moe.final_16 m c).trans (Cert.MoeEqual.arr_eq16 _ _ _ _ _ _ _ _ _ _ (hpre c))).symm

/-- The differential attention's reference stops, leaving its arguments and counters as they were. -/
theorem frame_reference3 : Cert.quiescent_Reference3Ideal (hReference3Ideal := Cert.Reference3Ideal.Gen.facts) := by
  intro m g _
  hlo_run
  · exact fun _ => ⟨trivial, trivial, trivial⟩
  · exact sem_eq_zero_of_no_sems (by decide : Cert.Reference3Ideal.sig.nSem + Cert.Reference3Ideal.sig.nDmaSem = 0) _

/-- Under the precondition the idealized differential attention's result is the reference's. -/
theorem algebraic_diff : Cert.algebraic_Kernel3Ideal_Reference3Ideal_pre_finite_maps (hKernel3Ideal := Cert.Kernel3Ideal.Gen.facts)
    (hReference3Ideal := Cert.Reference3Ideal.Gen.facts) (hPre_finite_maps := Cert.DiffEqual.facts) := by
  pair_intro
  · run_from Cert.Kernel3Ideal.Diff.run m g
  · run_from Cert.Reference3Ideal.Diff.run m' g'
    exact ((Cert.Kernel3Ideal.Diff.final m c).trans (Cert.DiffEqual.arr_eq_of_pre _ (hpre c))).symm

/-- The input projection's reference stops, leaving its arguments and counters as they were. -/
theorem frame_reference4 : Cert.quiescent_Reference4Ideal (hReference4Ideal := Cert.Reference4Ideal.Gen.facts) := by
  intro m g _
  hlo_run
  · exact fun _ => ⟨trivial, trivial, trivial, trivial, trivial, trivial, trivial, trivial, trivial, trivial, trivial⟩
  · exact sem_eq_zero_of_no_sems (by decide : Cert.Reference4Ideal.sig.nSem + Cert.Reference4Ideal.sig.nDmaSem = 0) _

/-- The idealized input projection's three results are the reference's. -/
theorem algebraic_proj : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    · obtain ⟨h0, h1, -, h3, h4, -⟩ := hagree c
      rw [Cert.Reference4Ideal.Proj.res_heads, h0, h1, h3, h4]
      exact ((Cert.Kernel4Ideal.Proj.final_heads m c).trans (Cert.Reference4Ideal.Proj.heads_eq _ _ _ _)).symm
    · obtain ⟨h0, h1, -, h3, h4, -⟩ := hagree c
      rw [Cert.Reference4Ideal.Proj.res_dil, h0, h1, h3, h4]
      exact ((Cert.Kernel4Ideal.Proj.final_dil m c).trans (Cert.Reference4Ideal.Proj.dil_eq _ _ _ _)).symm
    · exact ((Cert.Kernel4Ideal.Proj.final_gates m c).trans (Cert.Reference4Ideal.Proj.gates_eq _ _ _)).symm

/-- The certificate's claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.MlaEqual.facts, Cert.MoeEqual.facts, Cert.DiffEqual.facts,
    Cert.SameText.frame_mla, fun m g _ => Cert.KernelIdeal.Mla.frame_claim m g, fun m g _ => Cert.KernelIdeal.Mla.frame_claim m g,
    frame_reference, fun m g _ => frame_reference m g trivial,
    fun m g _ => Cert.Kernel2.Gen.frame m g, fun m g _ => Cert.Kernel2Ideal.Gen.frame m g, fun m g _ => Cert.Kernel2Ideal.Gen.frame m g,
    frame_reference2, fun m g _ => frame_reference2 m g trivial,
    Cert.SameText.frame_diff, fun m g _ => Cert.Kernel3Ideal.Diff.frame_claim m g, fun m g _ => Cert.Kernel3Ideal.Diff.frame_claim m g,
    frame_reference3, fun m g _ => frame_reference3 m g trivial,
    fun m g _ => Cert.Kernel4.Gen.frame m g, fun m g _ => Cert.Kernel4Ideal.Gen.frame m g, frame_reference4,
    trivial, algebraic_mla, trivial, algebraic_moe, trivial, algebraic_diff, trivial, algebraic_proj⟩

end Cert.Proof

end
